-- ==== Defs.lean ====
def Pre_MlpBwd (m : (ℓ : Loc Cert.MlpBwd.nD Cert.MlpBwd.τ Cert.MlpBwd.sig) → Buf (Elt Bits) ℓ) : Prop :=
  True

def Pre_MlpBwdIdeal (m : (ℓ : Loc Cert.MlpBwdIdeal.nD Cert.MlpBwdIdeal.τ Cert.MlpBwdIdeal.sig) → Buf (Elt Ideal) ℓ) : Prop :=
  True

def Pre_MlpBwdRefIdeal (m : (ℓ : Loc Cert.MlpBwdRefIdeal.nD Cert.MlpBwdRefIdeal.τ Cert.MlpBwdRefIdeal.sig) → Buf (Elt Ideal) ℓ) : Prop :=
  True

def Pre_MlpFwd (m : (ℓ : Loc Cert.MlpFwd.nD Cert.MlpFwd.τ Cert.MlpFwd.sig) → Buf (Elt Bits) ℓ) : Prop :=
  True

def Pre_MlpFwdIdeal (m : (ℓ : Loc Cert.MlpFwdIdeal.nD Cert.MlpFwdIdeal.τ Cert.MlpFwdIdeal.sig) → Buf (Elt Ideal) ℓ) : Prop :=
  True

def Pre_MlpFwdRefIdeal (m : (ℓ : Loc Cert.MlpFwdRefIdeal.nD Cert.MlpFwdRefIdeal.τ Cert.MlpFwdRefIdeal.sig) → Buf (Elt Ideal) ℓ) : Prop :=
  True

def Pre_MlpInBwd (m : (ℓ : Loc Cert.MlpInBwd.nD Cert.MlpInBwd.τ Cert.MlpInBwd.sig) → Buf (Elt Bits) ℓ) : Prop :=
  True

def Pre_MlpInBwdIdeal (m : (ℓ : Loc Cert.MlpInBwdIdeal.nD Cert.MlpInBwdIdeal.τ Cert.MlpInBwdIdeal.sig) → Buf (Elt Ideal) ℓ) : Prop :=
  True

def Pre_MlpInBwdRefIdeal (m : (ℓ : Loc Cert.MlpInBwdRefIdeal.nD Cert.MlpInBwdRefIdeal.τ Cert.MlpInBwdRefIdeal.sig) → Buf (Elt Ideal) ℓ) : Prop :=
  True

def Pre_InWgrad (m : (ℓ : Loc Cert.InWgrad.nD Cert.InWgrad.τ Cert.InWgrad.sig) → Buf (Elt Bits) ℓ) : Prop :=
  True

def Pre_InWgradIdeal (m : (ℓ : Loc Cert.InWgradIdeal.nD Cert.InWgradIdeal.τ Cert.InWgradIdeal.sig) → Buf (Elt Ideal) ℓ) : Prop :=
  True

def Pre_InWgradRefIdeal (m : (ℓ : Loc Cert.InWgradRefIdeal.nD Cert.InWgradRefIdeal.τ Cert.InWgradRefIdeal.sig) → Buf (Elt Ideal) ℓ) : Prop :=
  True

def Pre_OutWgrad (m : (ℓ : Loc Cert.OutWgrad.nD Cert.OutWgrad.τ Cert.OutWgrad.sig) → Buf (Elt Bits) ℓ) : Prop :=
  True

def Pre_OutWgradIdeal (m : (ℓ : Loc Cert.OutWgradIdeal.nD Cert.OutWgradIdeal.τ Cert.OutWgradIdeal.sig) → Buf (Elt Ideal) ℓ) : Prop :=
  True

def Pre_OutWgradRefIdeal (m : (ℓ : Loc Cert.OutWgradRefIdeal.nD Cert.OutWgradRefIdeal.τ Cert.OutWgradRefIdeal.sig) → Buf (Elt Ideal) ℓ) : Prop :=
  True

def Pre_InBwd (m : (ℓ : Loc Cert.InBwd.nD Cert.InBwd.τ Cert.InBwd.sig) → Buf (Elt Bits) ℓ) : Prop :=
  True

def Pre_InBwdIdeal (m : (ℓ : Loc Cert.InBwdIdeal.nD Cert.InBwdIdeal.τ Cert.InBwdIdeal.sig) → Buf (Elt Ideal) ℓ) : Prop :=
  True

def Pre_InBwdRefIdeal (m : (ℓ : Loc Cert.InBwdRefIdeal.nD Cert.InBwdRefIdeal.τ Cert.InBwdRefIdeal.sig) → Buf (Elt Ideal) ℓ) : Prop :=
  True

def Pre_OutBwd (m : (ℓ : Loc Cert.OutBwd.nD Cert.OutBwd.τ Cert.OutBwd.sig) → Buf (Elt Bits) ℓ) : Prop :=
  True

def Pre_OutBwdIdeal (m : (ℓ : Loc Cert.OutBwdIdeal.nD Cert.OutBwdIdeal.τ Cert.OutBwdIdeal.sig) → Buf (Elt Ideal) ℓ) : Prop :=
  True

def Pre_OutBwdRefIdeal (m : (ℓ : Loc Cert.OutBwdRefIdeal.nD Cert.OutBwdRefIdeal.τ Cert.OutBwdRefIdeal.sig) → Buf (Elt Ideal) ℓ) : Prop :=
  True

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjRefIdeal (m : (ℓ : Loc Cert.OutProjRefIdeal.nD Cert.OutProjRefIdeal.τ Cert.OutProjRefIdeal.sig) → Buf (Elt Ideal) ℓ) : Prop :=
  True

def Pre_PreMix (m : (ℓ : Loc Cert.PreMix.nD Cert.PreMix.τ Cert.PreMix.sig) → Buf (Elt Bits) ℓ) : Prop :=
  True

def Pre_PreMixIdeal (m : (ℓ : Loc Cert.PreMixIdeal.nD Cert.PreMixIdeal.τ Cert.PreMixIdeal.sig) → Buf (Elt Ideal) ℓ) : Prop :=
  True

def Pre_PreMixRefIdeal (m : (ℓ : Loc Cert.PreMixRefIdeal.nD Cert.PreMixRefIdeal.τ Cert.PreMixRefIdeal.sig) → Buf (Elt Ideal) ℓ) : Prop :=
  True

def Pre_PostMix (m : (ℓ : Loc Cert.PostMix.nD Cert.PostMix.τ Cert.PostMix.sig) → Buf (Elt Bits) ℓ) : Prop :=
  True

def Pre_PostMixIdeal (m : (ℓ : Loc Cert.PostMixIdeal.nD Cert.PostMixIdeal.τ Cert.PostMixIdeal.sig) → Buf (Elt Ideal) ℓ) : Prop :=
  True

def Pre_PostMixRefIdeal (m : (ℓ : Loc Cert.PostMixRefIdeal.nD Cert.PostMixRefIdeal.τ Cert.PostMixRefIdeal.sig) → Buf (Elt Ideal) ℓ) : Prop :=
  True

def Pre_LossHead (m : (ℓ : Loc Cert.LossHead.nD Cert.LossHead.τ Cert.LossHead.sig) → Buf (Elt Bits) ℓ) : Prop :=
  True

def Pre_LossHeadIdeal (m : (ℓ : Loc Cert.LossHeadIdeal.nD Cert.LossHeadIdeal.τ Cert.LossHeadIdeal.sig) → Buf (Elt Ideal) ℓ) : Prop :=
  True

def Pre_LossHeadRefIdeal (m : (ℓ : Loc Cert.LossHeadRefIdeal.nD Cert.LossHeadRefIdeal.τ Cert.LossHeadRefIdeal.sig) → Buf (Elt Ideal) ℓ) : Prop :=
  True

def Pre_AdamIn (m : (ℓ : Loc Cert.AdamIn.nD Cert.AdamIn.τ Cert.AdamIn.sig) → Buf (Elt Bits) ℓ) : Prop :=
  True

def Pre_AdamInIdeal (m : (ℓ : Loc Cert.AdamInIdeal.nD Cert.AdamInIdeal.τ Cert.AdamInIdeal.sig) → Buf (Elt Ideal) ℓ) : Prop :=
  True

def Pre_AdamInRefIdeal (m : (ℓ : Loc Cert.AdamInRefIdeal.nD Cert.AdamInRefIdeal.τ Cert.AdamInRefIdeal.sig) → Buf (Elt Ideal) ℓ) : Prop :=
  True

def Pre_AdamOut (m : (ℓ : Loc Cert.AdamOut.nD Cert.AdamOut.τ Cert.AdamOut.sig) → Buf (Elt Bits) ℓ) : Prop :=
  True

def Pre_AdamOutIdeal (m : (ℓ : Loc Cert.AdamOutIdeal.nD Cert.AdamOutIdeal.τ Cert.AdamOutIdeal.sig) → Buf (Elt Ideal) ℓ) : Prop :=
  True

def Pre_AdamOutRefIdeal (m : (ℓ : Loc Cert.AdamOutRefIdeal.nD Cert.AdamOutRefIdeal.τ Cert.AdamOutRefIdeal.sig) → Buf (Elt Ideal) ℓ) : Prop :=
  True

def Pre_AdamMlpIn (m : (ℓ : Loc Cert.AdamMlpIn.nD Cert.AdamMlpIn.τ Cert.AdamMlpIn.sig) → Buf (Elt Bits) ℓ) : Prop :=
  True

def Pre_AdamMlpInIdeal (m : (ℓ : Loc Cert.AdamMlpInIdeal.nD Cert.AdamMlpInIdeal.τ Cert.AdamMlpInIdeal.sig) → Buf (Elt Ideal) ℓ) : Prop :=
  True

def Pre_AdamMlpInRefIdeal (m : (ℓ : Loc Cert.AdamMlpInRefIdeal.nD Cert.AdamMlpInRefIdeal.τ Cert.AdamMlpInRefIdeal.sig) → Buf (Elt Ideal) ℓ) : Prop :=
  True

def Pre_AdamMlpOut (m : (ℓ : Loc Cert.AdamMlpOut.nD Cert.AdamMlpOut.τ Cert.AdamMlpOut.sig) → Buf (Elt Bits) ℓ) : Prop :=
  True

def Pre_AdamMlpOutIdeal (m : (ℓ : Loc Cert.AdamMlpOutIdeal.nD Cert.AdamMlpOutIdeal.τ Cert.AdamMlpOutIdeal.sig) → Buf (Elt Ideal) ℓ) : Prop :=
  True

def Pre_AdamMlpOutRefIdeal (m : (ℓ : Loc Cert.AdamMlpOutRefIdeal.nD Cert.AdamMlpOutRefIdeal.τ Cert.AdamMlpOutRefIdeal.sig) → Buf (Elt Ideal) ℓ) : Prop :=
  True

def Pre_AdamGlu (m : (ℓ : Loc Cert.AdamGlu.nD Cert.AdamGlu.τ Cert.AdamGlu.sig) → Buf (Elt Bits) ℓ) : Prop :=
  True

def Pre_AdamGluIdeal (m : (ℓ : Loc Cert.AdamGluIdeal.nD Cert.AdamGluIdeal.τ Cert.AdamGluIdeal.sig) → Buf (Elt Ideal) ℓ) : Prop :=
  True

def Pre_AdamGluRefIdeal (m : (ℓ : Loc Cert.AdamGluRefIdeal.nD Cert.AdamGluRefIdeal.τ Cert.AdamGluRefIdeal.sig) → Buf (Elt Ideal) ℓ) : Prop :=
  True

def Pre_AdamSmall (m : (ℓ : Loc Cert.AdamSmall.nD Cert.AdamSmall.τ Cert.AdamSmall.sig) → Buf (Elt Bits) ℓ) : Prop :=
  True

def Pre_AdamSmallIdeal (m : (ℓ : Loc Cert.AdamSmallIdeal.nD Cert.AdamSmallIdeal.τ Cert.AdamSmallIdeal.sig) → Buf (Elt Ideal) ℓ) : Prop :=
  True

def Pre_AdamSmallRefIdeal (m : (ℓ : Loc Cert.AdamSmallRefIdeal.nD Cert.AdamSmallRefIdeal.τ Cert.AdamSmallRefIdeal.sig) → Buf (Elt Ideal) ℓ) : Prop :=
  True

def Pre_AdaBwd (m : (ℓ : Loc Cert.AdaBwd.nD Cert.AdaBwd.τ Cert.AdaBwd.sig) → Buf (Elt Bits) ℓ) : Prop :=
  True

def Pre_AdaBwdIdeal (m : (ℓ : Loc Cert.AdaBwdIdeal.nD Cert.AdaBwdIdeal.τ Cert.AdaBwdIdeal.sig) → Buf (Elt Ideal) ℓ) : Prop :=
  True

def Pre_AdaBwdRefIdeal (m : (ℓ : Loc Cert.AdaBwdRefIdeal.nD Cert.AdaBwdRefIdeal.τ Cert.AdaBwdRefIdeal.sig) → Buf (Elt Ideal) ℓ) : Prop :=
  True

def Pre_SmallSum (m : (ℓ : Loc Cert.SmallSum.nD Cert.SmallSum.τ Cert.SmallSum.sig) → Buf (Elt Bits) ℓ) : Prop :=
  True

def Pre_SmallSumIdeal (m : (ℓ : Loc Cert.SmallSumIdeal.nD Cert.SmallSumIdeal.τ Cert.SmallSumIdeal.sig) → Buf (Elt Ideal) ℓ) : Prop :=
  True

def Pre_SmallSumRefIdeal (m : (ℓ : Loc Cert.SmallSumRefIdeal.nD Cert.SmallSumRefIdeal.τ Cert.SmallSumRefIdeal.sig) → Buf (Elt Ideal) ℓ) : Prop :=
  True

def quiescent_MlpBwd [hMlpBwd : Cert.MlpBwd.Facts] : Prop :=
  ∀ (m : (ℓ : Loc Cert.MlpBwd.nD Cert.MlpBwd.τ Cert.MlpBwd.sig) → Buf (Elt Bits) ℓ) (g : Dev Cert.MlpBwd.nD → PrngReg), Pre_MlpBwd m →
    θ_run (Cert.MlpBwd.defs (F := Bits)) (onTc (τ := Cert.MlpBwd.τ) (Cert.MlpBwd.main (F := Bits))) ⟨m, fun _ => 0, g⟩ (fun r => (∀ c : Dev Cert.MlpBwd.nD,
      r.2.mem ((c.tc : Thread Cert.MlpBwd.nD Cert.MlpBwd.τ).loc Cert.MlpBwd.main_arg0) = m ((c.tc : Thread Cert.MlpBwd.nD Cert.MlpBwd.τ).loc Cert.MlpBwd.main_arg0)
      ∧ r.2.mem ((c.tc : Thread Cert.MlpBwd.nD Cert.MlpBwd.τ).loc Cert.MlpBwd.main_arg1) = m ((c.tc : Thread Cert.MlpBwd.nD Cert.MlpBwd.τ).loc Cert.MlpBwd.main_arg1)
      ∧ r.2.mem ((c.tc : Thread Cert.MlpBwd.nD Cert.MlpBwd.τ).loc Cert.MlpBwd.main_arg2) = m ((c.tc : Thread Cert.MlpBwd.nD Cert.MlpBwd.τ).loc Cert.MlpBwd.main_arg2)
      ∧ r.2.mem ((c.tc : Thread Cert.MlpBwd.nD Cert.MlpBwd.τ).loc Cert.MlpBwd.main_arg3) = m ((c.tc : Thread Cert.MlpBwd.nD Cert.MlpBwd.τ).loc Cert.MlpBwd.main_arg3))
      ∧ r.2.sem = fun _ => 0)

def quiescent_MlpBwdIdeal [hMlpBwdIdeal : Cert.MlpBwdIdeal.Facts] : Prop :=
  ∀ (m : (ℓ : Loc Cert.MlpBwdIdeal.nD Cert.MlpBwdIdeal.τ Cert.MlpBwdIdeal.sig) → Buf (Elt Ideal) ℓ) (g : Dev Cert.MlpBwdIdeal.nD → PrngReg), Pre_MlpBwdIdeal m →
    θ_run (Cert.MlpBwdIdeal.defs (F := Ideal)) (onTc (τ := Cert.MlpBwdIdeal.τ) (Cert.MlpBwdIdeal.main (F := Ideal))) ⟨m, fun _ => 0, g⟩ (fun r => (∀ c : Dev Cert.MlpBwdIdeal.nD,
      r.2.mem ((c.tc : Thread Cert.MlpBwdIdeal.nD Cert.MlpBwdIdeal.τ).loc Cert.MlpBwdIdeal.main_arg0) = m ((c.tc : Thread Cert.MlpBwdIdeal.nD Cert.MlpBwdIdeal.τ).loc Cert.MlpBwdIdeal.main_arg0)
      ∧ r.2.mem ((c.tc : Thread Cert.MlpBwdIdeal.nD Cert.MlpBwdIdeal.τ).loc Cert.MlpBwdIdeal.main_arg1) = m ((c.tc : Thread Cert.MlpBwdIdeal.nD Cert.MlpBwdIdeal.τ).loc Cert.MlpBwdIdeal.main_arg1)
      ∧ r.2.mem ((c.tc : Thread Cert.MlpBwdIdeal.nD Cert.MlpBwdIdeal.τ).loc Cert.MlpBwdIdeal.main_arg2) = m ((c.tc : Thread Cert.MlpBwdIdeal.nD Cert.MlpBwdIdeal.τ).loc Cert.MlpBwdIdeal.main_arg2)
      ∧ r.2.mem ((c.tc : Thread Cert.MlpBwdIdeal.nD Cert.MlpBwdIdeal.τ).loc Cert.MlpBwdIdeal.main_arg3) = m ((c.tc : Thread Cert.MlpBwdIdeal.nD Cert.MlpBwdIdeal.τ).loc Cert.MlpBwdIdeal.main_arg3))
      ∧ r.2.sem = fun _ => 0)

def quiescent_MlpBwdRefIdeal [hMlpBwdRefIdeal : Cert.MlpBwdRefIdeal.Facts] : Prop :=
  ∀ (m : (ℓ : Loc Cert.MlpBwdRefIdeal.nD Cert.MlpBwdRefIdeal.τ Cert.MlpBwdRefIdeal.sig) → Buf (Elt Ideal) ℓ) (g : Dev Cert.MlpBwdRefIdeal.nD → PrngReg), Pre_MlpBwdRefIdeal m →
    θ_run (Cert.MlpBwdRefIdeal.defs (F := Ideal)) (onTc (τ := Cert.MlpBwdRefIdeal.τ) (Cert.MlpBwdRefIdeal.main (F := Ideal))) ⟨m, fun _ => 0, g⟩ (fun r => (∀ c : Dev Cert.MlpBwdRefIdeal.nD,
      r.2.mem ((c.tc : Thread Cert.MlpBwdRefIdeal.nD Cert.MlpBwdRefIdeal.τ).loc Cert.MlpBwdRefIdeal.main_arg0) = m ((c.tc : Thread Cert.MlpBwdRefIdeal.nD Cert.MlpBwdRefIdeal.τ).loc Cert.MlpBwdRefIdeal.main_arg0)
      ∧ r.2.mem ((c.tc : Thread Cert.MlpBwdRefIdeal.nD Cert.MlpBwdRefIdeal.τ).loc Cert.MlpBwdRefIdeal.main_arg1) = m ((c.tc : Thread Cert.MlpBwdRefIdeal.nD Cert.MlpBwdRefIdeal.τ).loc Cert.MlpBwdRefIdeal.main_arg1)
      ∧ r.2.mem ((c.tc : Thread Cert.MlpBwdRefIdeal.nD Cert.MlpBwdRefIdeal.τ).loc Cert.MlpBwdRefIdeal.main_arg2) = m ((c.tc : Thread Cert.MlpBwdRefIdeal.nD Cert.MlpBwdRefIdeal.τ).loc Cert.MlpBwdRefIdeal.main_arg2)
      ∧ r.2.mem ((c.tc : Thread Cert.MlpBwdRefIdeal.nD Cert.MlpBwdRefIdeal.τ).loc Cert.MlpBwdRefIdeal.main_arg3) = m ((c.tc : Thread Cert.MlpBwdRefIdeal.nD Cert.MlpBwdRefIdeal.τ).loc Cert.MlpBwdRefIdeal.main_arg3))
      ∧ r.2.sem = fun _ => 0)

def quiescent_MlpFwd [hMlpFwd : Cert.MlpFwd.Facts] : Prop :=
  ∀ (m : (ℓ : Loc Cert.MlpFwd.nD Cert.MlpFwd.τ Cert.MlpFwd.sig) → Buf (Elt Bits) ℓ) (g : Dev Cert.MlpFwd.nD → PrngReg), Pre_MlpFwd m →
    θ_run (Cert.MlpFwd.defs (F := Bits)) (onTc (τ := Cert.MlpFwd.τ) (Cert.MlpFwd.main (F := Bits))) ⟨m, fun _ => 0, g⟩ (fun r => (∀ c : Dev Cert.MlpFwd.nD,
      r.2.mem ((c.tc : Thread Cert.MlpFwd.nD Cert.MlpFwd.τ).loc Cert.MlpFwd.main_arg0) = m ((c.tc : Thread Cert.MlpFwd.nD Cert.MlpFwd.τ).loc Cert.MlpFwd.main_arg0)
      ∧ r.2.mem ((c.tc : Thread Cert.MlpFwd.nD Cert.MlpFwd.τ).loc Cert.MlpFwd.main_arg1) = m ((c.tc : Thread Cert.MlpFwd.nD Cert.MlpFwd.τ).loc Cert.MlpFwd.main_arg1)
      ∧ r.2.mem ((c.tc : Thread Cert.MlpFwd.nD Cert.MlpFwd.τ).loc Cert.MlpFwd.main_arg2) = m ((c.tc : Thread Cert.MlpFwd.nD Cert.MlpFwd.τ).loc Cert.MlpFwd.main_arg2))
      ∧ r.2.sem = fun _ => 0)

def quiescent_MlpFwdIdeal [hMlpFwdIdeal : Cert.MlpFwdIdeal.Facts] : Prop :=
  ∀ (m : (ℓ : Loc Cert.MlpFwdIdeal.nD Cert.MlpFwdIdeal.τ Cert.MlpFwdIdeal.sig) → Buf (Elt Ideal) ℓ) (g : Dev Cert.MlpFwdIdeal.nD → PrngReg), Pre_MlpFwdIdeal m →
    θ_run (Cert.MlpFwdIdeal.defs (F := Ideal)) (onTc (τ := Cert.MlpFwdIdeal.τ) (Cert.MlpFwdIdeal.main (F := Ideal))) ⟨m, fun _ => 0, g⟩ (fun r => (∀ c : Dev Cert.MlpFwdIdeal.nD,
      r.2.mem ((c.tc : Thread Cert.MlpFwdIdeal.nD Cert.MlpFwdIdeal.τ).loc Cert.MlpFwdIdeal.main_arg0) = m ((c.tc : Thread Cert.MlpFwdIdeal.nD Cert.MlpFwdIdeal.τ).loc Cert.MlpFwdIdeal.main_arg0)
      ∧ r.2.mem ((c.tc : Thread Cert.MlpFwdIdeal.nD Cert.MlpFwdIdeal.τ).loc Cert.MlpFwdIdeal.main_arg1) = m ((c.tc : Thread Cert.MlpFwdIdeal.nD Cert.MlpFwdIdeal.τ).loc Cert.MlpFwdIdeal.main_arg1)
      ∧ r.2.mem ((c.tc : Thread Cert.MlpFwdIdeal.nD Cert.MlpFwdIdeal.τ).loc Cert.MlpFwdIdeal.main_arg2) = m ((c.tc : Thread Cert.MlpFwdIdeal.nD Cert.MlpFwdIdeal.τ).loc Cert.MlpFwdIdeal.main_arg2))
      ∧ r.2.sem = fun _ => 0)

def quiescent_MlpFwdRefIdeal [hMlpFwdRefIdeal : Cert.MlpFwdRefIdeal.Facts] : Prop :=
  ∀ (m : (ℓ : Loc Cert.MlpFwdRefIdeal.nD Cert.MlpFwdRefIdeal.τ Cert.MlpFwdRefIdeal.sig) → Buf (Elt Ideal) ℓ) (g : Dev Cert.MlpFwdRefIdeal.nD → PrngReg), Pre_MlpFwdRefIdeal m →
    θ_run (Cert.MlpFwdRefIdeal.defs (F := Ideal)) (onTc (τ := Cert.MlpFwdRefIdeal.τ) (Cert.MlpFwdRefIdeal.main (F := Ideal))) ⟨m, fun _ => 0, g⟩ (fun r => (∀ c : Dev Cert.MlpFwdRefIdeal.nD,
      r.2.mem ((c.tc : Thread Cert.MlpFwdRefIdeal.nD Cert.MlpFwdRefIdeal.τ).loc Cert.MlpFwdRefIdeal.main_arg0) = m ((c.tc : Thread Cert.MlpFwdRefIdeal.nD Cert.MlpFwdRefIdeal.τ).loc Cert.MlpFwdRefIdeal.main_arg0)
      ∧ r.2.mem ((c.tc : Thread Cert.MlpFwdRefIdeal.nD Cert.MlpFwdRefIdeal.τ).loc Cert.MlpFwdRefIdeal.main_arg1) = m ((c.tc : Thread Cert.MlpFwdRefIdeal.nD Cert.MlpFwdRefIdeal.τ).loc Cert.MlpFwdRefIdeal.main_arg1)
      ∧ r.2.mem ((c.tc : Thread Cert.MlpFwdRefIdeal.nD Cert.MlpFwdRefIdeal.τ).loc Cert.MlpFwdRefIdeal.main_arg2) = m ((c.tc : Thread Cert.MlpFwdRefIdeal.nD Cert.MlpFwdRefIdeal.τ).loc Cert.MlpFwdRefIdeal.main_arg2))
      ∧ r.2.sem = fun _ => 0)

def quiescent_MlpInBwd [hMlpInBwd : Cert.MlpInBwd.Facts] : Prop :=
  ∀ (m : (ℓ : Loc Cert.MlpInBwd.nD Cert.MlpInBwd.τ Cert.MlpInBwd.sig) → Buf (Elt Bits) ℓ) (g : Dev Cert.MlpInBwd.nD → PrngReg), Pre_MlpInBwd m →
    θ_run (Cert.MlpInBwd.defs (F := Bits)) (onTc (τ := Cert.MlpInBwd.τ) (Cert.MlpInBwd.main (F := Bits))) ⟨m, fun _ => 0, g⟩ (fun r => (∀ c : Dev Cert.MlpInBwd.nD,
      r.2.mem ((c.tc : Thread Cert.MlpInBwd.nD Cert.MlpInBwd.τ).loc Cert.MlpInBwd.main_arg0) = m ((c.tc : Thread Cert.MlpInBwd.nD Cert.MlpInBwd.τ).loc Cert.MlpInBwd.main_arg0)
      ∧ r.2.mem ((c.tc : Thread Cert.MlpInBwd.nD Cert.MlpInBwd.τ).loc Cert.MlpInBwd.main_arg1) = m ((c.tc : Thread Cert.MlpInBwd.nD Cert.MlpInBwd.τ).loc Cert.MlpInBwd.main_arg1))
      ∧ r.2.sem = fun _ => 0)

def quiescent_MlpInBwdIdeal [hMlpInBwdIdeal : Cert.MlpInBwdIdeal.Facts] : Prop :=
  ∀ (m : (ℓ : Loc Cert.MlpInBwdIdeal.nD Cert.MlpInBwdIdeal.τ Cert.MlpInBwdIdeal.sig) → Buf (Elt Ideal) ℓ) (g : Dev Cert.MlpInBwdIdeal.nD → PrngReg), Pre_MlpInBwdIdeal m →
    θ_run (Cert.MlpInBwdIdeal.defs (F := Ideal)) (onTc (τ := Cert.MlpInBwdIdeal.τ) (Cert.MlpInBwdIdeal.main (F := Ideal))) ⟨m, fun _ => 0, g⟩ (fun r => (∀ c : Dev Cert.MlpInBwdIdeal.nD,
      r.2.mem ((c.tc : Thread Cert.MlpInBwdIdeal.nD Cert.MlpInBwdIdeal.τ).loc Cert.MlpInBwdIdeal.main_arg0) = m ((c.tc : Thread Cert.MlpInBwdIdeal.nD Cert.MlpInBwdIdeal.τ).loc Cert.MlpInBwdIdeal.main_arg0)
      ∧ r.2.mem ((c.tc : Thread Cert.MlpInBwdIdeal.nD Cert.MlpInBwdIdeal.τ).loc Cert.MlpInBwdIdeal.main_arg1) = m ((c.tc : Thread Cert.MlpInBwdIdeal.nD Cert.MlpInBwdIdeal.τ).loc Cert.MlpInBwdIdeal.main_arg1))
      ∧ r.2.sem = fun _ => 0)

def quiescent_MlpInBwdRefIdeal [hMlpInBwdRefIdeal : Cert.MlpInBwdRefIdeal.Facts] : Prop :=
  ∀ (m : (ℓ : Loc Cert.MlpInBwdRefIdeal.nD Cert.MlpInBwdRefIdeal.τ Cert.MlpInBwdRefIdeal.sig) → Buf (Elt Ideal) ℓ) (g : Dev Cert.MlpInBwdRefIdeal.nD → PrngReg), Pre_MlpInBwdRefIdeal m →
    θ_run (Cert.MlpInBwdRefIdeal.defs (F := Ideal)) (onTc (τ := Cert.MlpInBwdRefIdeal.τ) (Cert.MlpInBwdRefIdeal.main (F := Ideal))) ⟨m, fun _ => 0, g⟩ (fun r => (∀ c : Dev Cert.MlpInBwdRefIdeal.nD,
      r.2.mem ((c.tc : Thread Cert.MlpInBwdRefIdeal.nD Cert.MlpInBwdRefIdeal.τ).loc Cert.MlpInBwdRefIdeal.main_arg0) = m ((c.tc : Thread Cert.MlpInBwdRefIdeal.nD Cert.MlpInBwdRefIdeal.τ).loc Cert.MlpInBwdRefIdeal.main_arg0)
      ∧ r.2.mem ((c.tc : Thread Cert.MlpInBwdRefIdeal.nD Cert.MlpInBwdRefIdeal.τ).loc Cert.MlpInBwdRefIdeal.main_arg1) = m ((c.tc : Thread Cert.MlpInBwdRefIdeal.nD Cert.MlpInBwdRefIdeal.τ).loc Cert.MlpInBwdRefIdeal.main_arg1))
      ∧ r.2.sem = fun _ => 0)

def quiescent_InWgrad [hInWgrad : Cert.InWgrad.Facts] : Prop :=
  ∀ (m : (ℓ : Loc Cert.InWgrad.nD Cert.InWgrad.τ Cert.InWgrad.sig) → Buf (Elt Bits) ℓ) (g : Dev Cert.InWgrad.nD → PrngReg), Pre_InWgrad m →
    θ_run (Cert.InWgrad.defs (F := Bits)) (onTc (τ := Cert.InWgrad.τ) (Cert.InWgrad.main (F := Bits))) ⟨m, fun _ => 0, g⟩ (fun r => (∀ c : Dev Cert.InWgrad.nD,
      r.2.mem ((c.tc : Thread Cert.InWgrad.nD Cert.InWgrad.τ).loc Cert.InWgrad.main_arg0) = m ((c.tc : Thread Cert.InWgrad.nD Cert.InWgrad.τ).loc Cert.InWgrad.main_arg0)
      ∧ r.2.mem ((c.tc : Thread Cert.InWgrad.nD Cert.InWgrad.τ).loc Cert.InWgrad.main_arg1) = m ((c.tc : Thread Cert.InWgrad.nD Cert.InWgrad.τ).loc Cert.InWgrad.main_arg1))
      ∧ r.2.sem = fun _ => 0)

def quiescent_InWgradIdeal [hInWgradIdeal : Cert.InWgradIdeal.Facts] : Prop :=
  ∀ (m : (ℓ : Loc Cert.InWgradIdeal.nD Cert.InWgradIdeal.τ Cert.InWgradIdeal.sig) → Buf (Elt Ideal) ℓ) (g : Dev Cert.InWgradIdeal.nD → PrngReg), Pre_InWgradIdeal m →
    θ_run (Cert.InWgradIdeal.defs (F := Ideal)) (onTc (τ := Cert.InWgradIdeal.τ) (Cert.InWgradIdeal.main (F := Ideal))) ⟨m, fun _ => 0, g⟩ (fun r => (∀ c : Dev Cert.InWgradIdeal.nD,
      r.2.mem ((c.tc : Thread Cert.InWgradIdeal.nD Cert.InWgradIdeal.τ).loc Cert.InWgradIdeal.main_arg0) = m ((c.tc : Thread Cert.InWgradIdeal.nD Cert.InWgradIdeal.τ).loc Cert.InWgradIdeal.main_arg0)
      ∧ r.2.mem ((c.tc : Thread Cert.InWgradIdeal.nD Cert.InWgradIdeal.τ).loc Cert.InWgradIdeal.main_arg1) = m ((c.tc : Thread Cert.InWgradIdeal.nD Cert.InWgradIdeal.τ).loc Cert.InWgradIdeal.main_arg1))
      ∧ r.2.sem = fun _ => 0)

def quiescent_InWgradRefIdeal [hInWgradRefIdeal : Cert.InWgradRefIdeal.Facts] : Prop :=
  ∀ (m : (ℓ : Loc Cert.InWgradRefIdeal.nD Cert.InWgradRefIdeal.τ Cert.InWgradRefIdeal.sig) → Buf (Elt Ideal) ℓ) (g : Dev Cert.InWgradRefIdeal.nD → PrngReg), Pre_InWgradRefIdeal m →
    θ_run (Cert.InWgradRefIdeal.defs (F := Ideal)) (onTc (τ := Cert.InWgradRefIdeal.τ) (Cert.InWgradRefIdeal.main (F := Ideal))) ⟨m, fun _ => 0, g⟩ (fun r => (∀ c : Dev Cert.InWgradRefIdeal.nD,
      r.2.mem ((c.tc : Thread Cert.InWgradRefIdeal.nD Cert.InWgradRefIdeal.τ).loc Cert.InWgradRefIdeal.main_arg0) = m ((c.tc : Thread Cert.InWgradRefIdeal.nD Cert.InWgradRefIdeal.τ).loc Cert.InWgradRefIdeal.main_arg0)
      ∧ r.2.mem ((c.tc : Thread Cert.InWgradRefIdeal.nD Cert.InWgradRefIdeal.τ).loc Cert.InWgradRefIdeal.main_arg1) = m ((c.tc : Thread Cert.InWgradRefIdeal.nD Cert.InWgradRefIdeal.τ).loc Cert.InWgradRefIdeal.main_arg1))
      ∧ r.2.sem = fun _ => 0)

def quiescent_OutWgrad [hOutWgrad : Cert.OutWgrad.Facts] : Prop :=
  ∀ (m : (ℓ : Loc Cert.OutWgrad.nD Cert.OutWgrad.τ Cert.OutWgrad.sig) → Buf (Elt Bits) ℓ) (g : Dev Cert.OutWgrad.nD → PrngReg), Pre_OutWgrad m →
    θ_run (Cert.OutWgrad.defs (F := Bits)) (onTc (τ := Cert.OutWgrad.τ) (Cert.OutWgrad.main (F := Bits))) ⟨m, fun _ => 0, g⟩ (fun r => (∀ c : Dev Cert.OutWgrad.nD,
      r.2.mem ((c.tc : Thread Cert.OutWgrad.nD Cert.OutWgrad.τ).loc Cert.OutWgrad.main_arg0) = m ((c.tc : Thread Cert.OutWgrad.nD Cert.OutWgrad.τ).loc Cert.OutWgrad.main_arg0)
      ∧ r.2.mem ((c.tc : Thread Cert.OutWgrad.nD Cert.OutWgrad.τ).loc Cert.OutWgrad.main_arg1) = m ((c.tc : Thread Cert.OutWgrad.nD Cert.OutWgrad.τ).loc Cert.OutWgrad.main_arg1))
      ∧ r.2.sem = fun _ => 0)

def quiescent_OutWgradIdeal [hOutWgradIdeal : Cert.OutWgradIdeal.Facts] : Prop :=
  ∀ (m : (ℓ : Loc Cert.OutWgradIdeal.nD Cert.OutWgradIdeal.τ Cert.OutWgradIdeal.sig) → Buf (Elt Ideal) ℓ) (g : Dev Cert.OutWgradIdeal.nD → PrngReg), Pre_OutWgradIdeal m →
    θ_run (Cert.OutWgradIdeal.defs (F := Ideal)) (onTc (τ := Cert.OutWgradIdeal.τ) (Cert.OutWgradIdeal.main (F := Ideal))) ⟨m, fun _ => 0, g⟩ (fun r => (∀ c : Dev Cert.OutWgradIdeal.nD,
      r.2.mem ((c.tc : Thread Cert.OutWgradIdeal.nD Cert.OutWgradIdeal.τ).loc Cert.OutWgradIdeal.main_arg0) = m ((c.tc : Thread Cert.OutWgradIdeal.nD Cert.OutWgradIdeal.τ).loc Cert.OutWgradIdeal.main_arg0)
      ∧ r.2.mem ((c.tc : Thread Cert.OutWgradIdeal.nD Cert.OutWgradIdeal.τ).loc Cert.OutWgradIdeal.main_arg1) = m ((c.tc : Thread Cert.OutWgradIdeal.nD Cert.OutWgradIdeal.τ).loc Cert.OutWgradIdeal.main_arg1))
      ∧ r.2.sem = fun _ => 0)

def quiescent_OutWgradRefIdeal [hOutWgradRefIdeal : Cert.OutWgradRefIdeal.Facts] : Prop :=
  ∀ (m : (ℓ : Loc Cert.OutWgradRefIdeal.nD Cert.OutWgradRefIdeal.τ Cert.OutWgradRefIdeal.sig) → Buf (Elt Ideal) ℓ) (g : Dev Cert.OutWgradRefIdeal.nD → PrngReg), Pre_OutWgradRefIdeal m →
    θ_run (Cert.OutWgradRefIdeal.defs (F := Ideal)) (onTc (τ := Cert.OutWgradRefIdeal.τ) (Cert.OutWgradRefIdeal.main (F := Ideal))) ⟨m, fun _ => 0, g⟩ (fun r => (∀ c : Dev Cert.OutWgradRefIdeal.nD,
      r.2.mem ((c.tc : Thread Cert.OutWgradRefIdeal.nD Cert.OutWgradRefIdeal.τ).loc Cert.OutWgradRefIdeal.main_arg0) = m ((c.tc : Thread Cert.OutWgradRefIdeal.nD Cert.OutWgradRefIdeal.τ).loc Cert.OutWgradRefIdeal.main_arg0)
      ∧ r.2.mem ((c.tc : Thread Cert.OutWgradRefIdeal.nD Cert.OutWgradRefIdeal.τ).loc Cert.OutWgradRefIdeal.main_arg1) = m ((c.tc : Thread Cert.OutWgradRefIdeal.nD Cert.OutWgradRefIdeal.τ).loc Cert.OutWgradRefIdeal.main_arg1))
      ∧ r.2.sem = fun _ => 0)

def quiescent_InBwd [hInBwd : Cert.InBwd.Facts] : Prop :=
  ∀ (m : (ℓ : Loc Cert.InBwd.nD Cert.InBwd.τ Cert.InBwd.sig) → Buf (Elt Bits) ℓ) (g : Dev Cert.InBwd.nD → PrngReg), Pre_InBwd m →
    θ_run (Cert.InBwd.defs (F := Bits)) (onTc (τ := Cert.InBwd.τ) (Cert.InBwd.main (F := Bits))) ⟨m, fun _ => 0, g⟩ (fun r => (∀ c : Dev Cert.InBwd.nD,
      r.2.mem ((c.tc : Thread Cert.InBwd.nD Cert.InBwd.τ).loc Cert.InBwd.main_arg0) = m ((c.tc : Thread Cert.InBwd.nD Cert.InBwd.τ).loc Cert.InBwd.main_arg0)
      ∧ r.2.mem ((c.tc : Thread Cert.InBwd.nD Cert.InBwd.τ).loc Cert.InBwd.main_arg1) = m ((c.tc : Thread Cert.InBwd.nD Cert.InBwd.τ).loc Cert.InBwd.main_arg1))
      ∧ r.2.sem = fun _ => 0)

def quiescent_InBwdIdeal [hInBwdIdeal : Cert.InBwdIdeal.Facts] : Prop :=
  ∀ (m : (ℓ : Loc Cert.InBwdIdeal.nD Cert.InBwdIdeal.τ Cert.InBwdIdeal.sig) → Buf (Elt Ideal) ℓ) (g : Dev Cert.InBwdIdeal.nD → PrngReg), Pre_InBwdIdeal m →
    θ_run (Cert.InBwdIdeal.defs (F := Ideal)) (onTc (τ := Cert.InBwdIdeal.τ) (Cert.InBwdIdeal.main (F := Ideal))) ⟨m, fun _ => 0, g⟩ (fun r => (∀ c : Dev Cert.InBwdIdeal.nD,
      r.2.mem ((c.tc : Thread Cert.InBwdIdeal.nD Cert.InBwdIdeal.τ).loc Cert.InBwdIdeal.main_arg0) = m ((c.tc : Thread Cert.InBwdIdeal.nD Cert.InBwdIdeal.τ).loc Cert.InBwdIdeal.main_arg0)
      ∧ r.2.mem ((c.tc : Thread Cert.InBwdIdeal.nD Cert.InBwdIdeal.τ).loc Cert.InBwdIdeal.main_arg1) = m ((c.tc : Thread Cert.InBwdIdeal.nD Cert.InBwdIdeal.τ).loc Cert.InBwdIdeal.main_arg1))
      ∧ r.2.sem = fun _ => 0)

def quiescent_InBwdRefIdeal [hInBwdRefIdeal : Cert.InBwdRefIdeal.Facts] : Prop :=
  ∀ (m : (ℓ : Loc Cert.InBwdRefIdeal.nD Cert.InBwdRefIdeal.τ Cert.InBwdRefIdeal.sig) → Buf (Elt Ideal) ℓ) (g : Dev Cert.InBwdRefIdeal.nD → PrngReg), Pre_InBwdRefIdeal m →
    θ_run (Cert.InBwdRefIdeal.defs (F := Ideal)) (onTc (τ := Cert.InBwdRefIdeal.τ) (Cert.InBwdRefIdeal.main (F := Ideal))) ⟨m, fun _ => 0, g⟩ (fun r => (∀ c : Dev Cert.InBwdRefIdeal.nD,
      r.2.mem ((c.tc : Thread Cert.InBwdRefIdeal.nD Cert.InBwdRefIdeal.τ).loc Cert.InBwdRefIdeal.main_arg0) = m ((c.tc : Thread Cert.InBwdRefIdeal.nD Cert.InBwdRefIdeal.τ).loc Cert.InBwdRefIdeal.main_arg0)
      ∧ r.2.mem ((c.tc : Thread Cert.InBwdRefIdeal.nD Cert.InBwdRefIdeal.τ).loc Cert.InBwdRefIdeal.main_arg1) = m ((c.tc : Thread Cert.InBwdRefIdeal.nD Cert.InBwdRefIdeal.τ).loc Cert.InBwdRefIdeal.main_arg1))
      ∧ r.2.sem = fun _ => 0)

def quiescent_OutBwd [hOutBwd : Cert.OutBwd.Facts] : Prop :=
  ∀ (m : (ℓ : Loc Cert.OutBwd.nD Cert.OutBwd.τ Cert.OutBwd.sig) → Buf (Elt Bits) ℓ) (g : Dev Cert.OutBwd.nD → PrngReg), Pre_OutBwd m →
    θ_run (Cert.OutBwd.defs (F := Bits)) (onTc (τ := Cert.OutBwd.τ) (Cert.OutBwd.main (F := Bits))) ⟨m, fun _ => 0, g⟩ (fun r => (∀ c : Dev Cert.OutBwd.nD,
      r.2.mem ((c.tc : Thread Cert.OutBwd.nD Cert.OutBwd.τ).loc Cert.OutBwd.main_arg0) = m ((c.tc : Thread Cert.OutBwd.nD Cert.OutBwd.τ).loc Cert.OutBwd.main_arg0)
      ∧ r.2.mem ((c.tc : Thread Cert.OutBwd.nD Cert.OutBwd.τ).loc Cert.OutBwd.main_arg1) = m ((c.tc : Thread Cert.OutBwd.nD Cert.OutBwd.τ).loc Cert.OutBwd.main_arg1))
      ∧ r.2.sem = fun _ => 0)

def quiescent_OutBwdIdeal [hOutBwdIdeal : Cert.OutBwdIdeal.Facts] : Prop :=
  ∀ (m : (ℓ : Loc Cert.OutBwdIdeal.nD Cert.OutBwdIdeal.τ Cert.OutBwdIdeal.sig) → Buf (Elt Ideal) ℓ) (g : Dev Cert.OutBwdIdeal.nD → PrngReg), Pre_OutBwdIdeal m →
    θ_run (Cert.OutBwdIdeal.defs (F := Ideal)) (onTc (τ := Cert.OutBwdIdeal.τ) (Cert.OutBwdIdeal.main (F := Ideal))) ⟨m, fun _ => 0, g⟩ (fun r => (∀ c : Dev Cert.OutBwdIdeal.nD,
      r.2.mem ((c.tc : Thread Cert.OutBwdIdeal.nD Cert.OutBwdIdeal.τ).loc Cert.OutBwdIdeal.main_arg0) = m ((c.tc : Thread Cert.OutBwdIdeal.nD Cert.OutBwdIdeal.τ).loc Cert.OutBwdIdeal.main_arg0)
      ∧ r.2.mem ((c.tc : Thread Cert.OutBwdIdeal.nD Cert.OutBwdIdeal.τ).loc Cert.OutBwdIdeal.main_arg1) = m ((c.tc : Thread Cert.OutBwdIdeal.nD Cert.OutBwdIdeal.τ).loc Cert.OutBwdIdeal.main_arg1))
      ∧ r.2.sem = fun _ => 0)

def quiescent_OutBwdRefIdeal [hOutBwdRefIdeal : Cert.OutBwdRefIdeal.Facts] : Prop :=
  ∀ (m : (ℓ : Loc Cert.OutBwdRefIdeal.nD Cert.OutBwdRefIdeal.τ Cert.OutBwdRefIdeal.sig) → Buf (Elt Ideal) ℓ) (g : Dev Cert.OutBwdRefIdeal.nD → PrngReg), Pre_OutBwdRefIdeal m →
    θ_run (Cert.OutBwdRefIdeal.defs (F := Ideal)) (onTc (τ := Cert.OutBwdRefIdeal.τ) (Cert.OutBwdRefIdeal.main (F := Ideal))) ⟨m, fun _ => 0, g⟩ (fun r => (∀ c : Dev Cert.OutBwdRefIdeal.nD,
      r.2.mem ((c.tc : Thread Cert.OutBwdRefIdeal.nD Cert.OutBwdRefIdeal.τ).loc Cert.OutBwdRefIdeal.main_arg0) = m ((c.tc : Thread Cert.OutBwdRefIdeal.nD Cert.OutBwdRefIdeal.τ).loc Cert.OutBwdRefIdeal.main_arg0)
      ∧ r.2.mem ((c.tc : Thread Cert.OutBwdRefIdeal.nD Cert.OutBwdRefIdeal.τ).loc Cert.OutBwdRefIdeal.main_arg1) = m ((c.tc : Thread Cert.OutBwdRefIdeal.nD Cert.OutBwdRefIdeal.τ).loc Cert.OutBwdRefIdeal.main_arg1))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1))
      ∧ r.2.sem = fun _ => 0)

def quiescent_OutProjRefIdeal [hOutProjRefIdeal : Cert.OutProjRefIdeal.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1))
      ∧ r.2.sem = fun _ => 0)

def quiescent_PreMix [hPreMix : Cert.PreMix.Facts] : Prop :=
  ∀ (m : (ℓ : Loc Cert.PreMix.nD Cert.PreMix.τ Cert.PreMix.sig) → Buf (Elt Bits) ℓ) (g : Dev Cert.PreMix.nD → PrngReg), Pre_PreMix m →
    θ_run (Cert.PreMix.defs (F := Bits)) (onTc (τ := Cert.PreMix.τ) (Cert.PreMix.main (F := Bits))) ⟨m, fun _ => 0, g⟩ (fun r => (∀ c : Dev Cert.PreMix.nD,
      r.2.mem ((c.tc : Thread Cert.PreMix.nD Cert.PreMix.τ).loc Cert.PreMix.main_arg0) = m ((c.tc : Thread Cert.PreMix.nD Cert.PreMix.τ).loc Cert.PreMix.main_arg0)
      ∧ r.2.mem ((c.tc : Thread Cert.PreMix.nD Cert.PreMix.τ).loc Cert.PreMix.main_arg1) = m ((c.tc : Thread Cert.PreMix.nD Cert.PreMix.τ).loc Cert.PreMix.main_arg1)
      ∧ r.2.mem ((c.tc : Thread Cert.PreMix.nD Cert.PreMix.τ).loc Cert.PreMix.main_arg2) = m ((c.tc : Thread Cert.PreMix.nD Cert.PreMix.τ).loc Cert.PreMix.main_arg2)
      ∧ r.2.mem ((c.tc : Thread Cert.PreMix.nD Cert.PreMix.τ).loc Cert.PreMix.main_arg3) = m ((c.tc : Thread Cert.PreMix.nD Cert.PreMix.τ).loc Cert.PreMix.main_arg3)
      ∧ r.2.mem ((c.tc : Thread Cert.PreMix.nD Cert.PreMix.τ).loc Cert.PreMix.main_arg4) = m ((c.tc : Thread Cert.PreMix.nD Cert.PreMix.τ).loc Cert.PreMix.main_arg4)
      ∧ r.2.mem ((c.tc : Thread Cert.PreMix.nD Cert.PreMix.τ).loc Cert.PreMix.main_arg5) = m ((c.tc : Thread Cert.PreMix.nD Cert.PreMix.τ).loc Cert.PreMix.main_arg5))
      ∧ r.2.sem = fun _ => 0)

def quiescent_PreMixIdeal [hPreMixIdeal : Cert.PreMixIdeal.Facts] : Prop :=
  ∀ (m : (ℓ : Loc Cert.PreMixIdeal.nD Cert.PreMixIdeal.τ Cert.PreMixIdeal.sig) → Buf (Elt Ideal) ℓ) (g : Dev Cert.PreMixIdeal.nD → PrngReg), Pre_PreMixIdeal m →
    θ_run (Cert.PreMixIdeal.defs (F := Ideal)) (onTc (τ := Cert.PreMixIdeal.τ) (Cert.PreMixIdeal.main (F := Ideal))) ⟨m, fun _ => 0, g⟩ (fun r => (∀ c : Dev Cert.PreMixIdeal.nD,
      r.2.mem ((c.tc : Thread Cert.PreMixIdeal.nD Cert.PreMixIdeal.τ).loc Cert.PreMixIdeal.main_arg0) = m ((c.tc : Thread Cert.PreMixIdeal.nD Cert.PreMixIdeal.τ).loc Cert.PreMixIdeal.main_arg0)
      ∧ r.2.mem ((c.tc : Thread Cert.PreMixIdeal.nD Cert.PreMixIdeal.τ).loc Cert.PreMixIdeal.main_arg1) = m ((c.tc : Thread Cert.PreMixIdeal.nD Cert.PreMixIdeal.τ).loc Cert.PreMixIdeal.main_arg1)
      ∧ r.2.mem ((c.tc : Thread Cert.PreMixIdeal.nD Cert.PreMixIdeal.τ).loc Cert.PreMixIdeal.main_arg2) = m ((c.tc : Thread Cert.PreMixIdeal.nD Cert.PreMixIdeal.τ).loc Cert.PreMixIdeal.main_arg2)
      ∧ r.2.mem ((c.tc : Thread Cert.PreMixIdeal.nD Cert.PreMixIdeal.τ).loc Cert.PreMixIdeal.main_arg3) = m ((c.tc : Thread Cert.PreMixIdeal.nD Cert.PreMixIdeal.τ).loc Cert.PreMixIdeal.main_arg3)
      ∧ r.2.mem ((c.tc : Thread Cert.PreMixIdeal.nD Cert.PreMixIdeal.τ).loc Cert.PreMixIdeal.main_arg4) = m ((c.tc : Thread Cert.PreMixIdeal.nD Cert.PreMixIdeal.τ).loc Cert.PreMixIdeal.main_arg4)
      ∧ r.2.mem ((c.tc : Thread Cert.PreMixIdeal.nD Cert.PreMixIdeal.τ).loc Cert.PreMixIdeal.main_arg5) = m ((c.tc : Thread Cert.PreMixIdeal.nD Cert.PreMixIdeal.τ).loc Cert.PreMixIdeal.main_arg5))
      ∧ r.2.sem = fun _ => 0)

def quiescent_PreMixRefIdeal [hPreMixRefIdeal : Cert.PreMixRefIdeal.Facts] : Prop :=
  ∀ (m : (ℓ : Loc Cert.PreMixRefIdeal.nD Cert.PreMixRefIdeal.τ Cert.PreMixRefIdeal.sig) → Buf (Elt Ideal) ℓ) (g : Dev Cert.PreMixRefIdeal.nD → PrngReg), Pre_PreMixRefIdeal m →
    θ_run (Cert.PreMixRefIdeal.defs (F := Ideal)) (onTc (τ := Cert.PreMixRefIdeal.τ) (Cert.PreMixRefIdeal.main (F := Ideal))) ⟨m, fun _ => 0, g⟩ (fun r => (∀ c : Dev Cert.PreMixRefIdeal.nD,
      r.2.mem ((c.tc : Thread Cert.PreMixRefIdeal.nD Cert.PreMixRefIdeal.τ).loc Cert.PreMixRefIdeal.main_arg0) = m ((c.tc : Thread Cert.PreMixRefIdeal.nD Cert.PreMixRefIdeal.τ).loc Cert.PreMixRefIdeal.main_arg0)
      ∧ r.2.mem ((c.tc : Thread Cert.PreMixRefIdeal.nD Cert.PreMixRefIdeal.τ).loc Cert.PreMixRefIdeal.main_arg1) = m ((c.tc : Thread Cert.PreMixRefIdeal.nD Cert.PreMixRefIdeal.τ).loc Cert.PreMixRefIdeal.main_arg1)
      ∧ r.2.mem ((c.tc : Thread Cert.PreMixRefIdeal.nD Cert.PreMixRefIdeal.τ).loc Cert.PreMixRefIdeal.main_arg2) = m ((c.tc : Thread Cert.PreMixRefIdeal.nD Cert.PreMixRefIdeal.τ).loc Cert.PreMixRefIdeal.main_arg2)
      ∧ r.2.mem ((c.tc : Thread Cert.PreMixRefIdeal.nD Cert.PreMixRefIdeal.τ).loc Cert.PreMixRefIdeal.main_arg3) = m ((c.tc : Thread Cert.PreMixRefIdeal.nD Cert.PreMixRefIdeal.τ).loc Cert.PreMixRefIdeal.main_arg3)
      ∧ r.2.mem ((c.tc : Thread Cert.PreMixRefIdeal.nD Cert.PreMixRefIdeal.τ).loc Cert.PreMixRefIdeal.main_arg4) = m ((c.tc : Thread Cert.PreMixRefIdeal.nD Cert.PreMixRefIdeal.τ).loc Cert.PreMixRefIdeal.main_arg4)
      ∧ r.2.mem ((c.tc : Thread Cert.PreMixRefIdeal.nD Cert.PreMixRefIdeal.τ).loc Cert.PreMixRefIdeal.main_arg5) = m ((c.tc : Thread Cert.PreMixRefIdeal.nD Cert.PreMixRefIdeal.τ).loc Cert.PreMixRefIdeal.main_arg5))
      ∧ r.2.sem = fun _ => 0)

def quiescent_PostMix [hPostMix : Cert.PostMix.Facts] : Prop :=
  ∀ (m : (ℓ : Loc Cert.PostMix.nD Cert.PostMix.τ Cert.PostMix.sig) → Buf (Elt Bits) ℓ) (g : Dev Cert.PostMix.nD → PrngReg), Pre_PostMix m →
    θ_run (Cert.PostMix.defs (F := Bits)) (onTc (τ := Cert.PostMix.τ) (Cert.PostMix.main (F := Bits))) ⟨m, fun _ => 0, g⟩ (fun r => (∀ c : Dev Cert.PostMix.nD,
      r.2.mem ((c.tc : Thread Cert.PostMix.nD Cert.PostMix.τ).loc Cert.PostMix.main_arg0) = m ((c.tc : Thread Cert.PostMix.nD Cert.PostMix.τ).loc Cert.PostMix.main_arg0)
      ∧ r.2.mem ((c.tc : Thread Cert.PostMix.nD Cert.PostMix.τ).loc Cert.PostMix.main_arg1) = m ((c.tc : Thread Cert.PostMix.nD Cert.PostMix.τ).loc Cert.PostMix.main_arg1)
      ∧ r.2.mem ((c.tc : Thread Cert.PostMix.nD Cert.PostMix.τ).loc Cert.PostMix.main_arg2) = m ((c.tc : Thread Cert.PostMix.nD Cert.PostMix.τ).loc Cert.PostMix.main_arg2)
      ∧ r.2.mem ((c.tc : Thread Cert.PostMix.nD Cert.PostMix.τ).loc Cert.PostMix.main_arg3) = m ((c.tc : Thread Cert.PostMix.nD Cert.PostMix.τ).loc Cert.PostMix.main_arg3)
      ∧ r.2.mem ((c.tc : Thread Cert.PostMix.nD Cert.PostMix.τ).loc Cert.PostMix.main_arg4) = m ((c.tc : Thread Cert.PostMix.nD Cert.PostMix.τ).loc Cert.PostMix.main_arg4)
      ∧ r.2.mem ((c.tc : Thread Cert.PostMix.nD Cert.PostMix.τ).loc Cert.PostMix.main_arg5) = m ((c.tc : Thread Cert.PostMix.nD Cert.PostMix.τ).loc Cert.PostMix.main_arg5)
      ∧ r.2.mem ((c.tc : Thread Cert.PostMix.nD Cert.PostMix.τ).loc Cert.PostMix.main_arg6) = m ((c.tc : Thread Cert.PostMix.nD Cert.PostMix.τ).loc Cert.PostMix.main_arg6)
      ∧ r.2.mem ((c.tc : Thread Cert.PostMix.nD Cert.PostMix.τ).loc Cert.PostMix.main_arg7) = m ((c.tc : Thread Cert.PostMix.nD Cert.PostMix.τ).loc Cert.PostMix.main_arg7)
      ∧ r.2.mem ((c.tc : Thread Cert.PostMix.nD Cert.PostMix.τ).loc Cert.PostMix.main_arg8) = m ((c.tc : Thread Cert.PostMix.nD Cert.PostMix.τ).loc Cert.PostMix.main_arg8))
      ∧ r.2.sem = fun _ => 0)

def quiescent_PostMixIdeal [hPostMixIdeal : Cert.PostMixIdeal.Facts] : Prop :=
  ∀ (m : (ℓ : Loc Cert.PostMixIdeal.nD Cert.PostMixIdeal.τ Cert.PostMixIdeal.sig) → Buf (Elt Ideal) ℓ) (g : Dev Cert.PostMixIdeal.nD → PrngReg), Pre_PostMixIdeal m →
    θ_run (Cert.PostMixIdeal.defs (F := Ideal)) (onTc (τ := Cert.PostMixIdeal.τ) (Cert.PostMixIdeal.main (F := Ideal))) ⟨m, fun _ => 0, g⟩ (fun r => (∀ c : Dev Cert.PostMixIdeal.nD,
      r.2.mem ((c.tc : Thread Cert.PostMixIdeal.nD Cert.PostMixIdeal.τ).loc Cert.PostMixIdeal.main_arg0) = m ((c.tc : Thread Cert.PostMixIdeal.nD Cert.PostMixIdeal.τ).loc Cert.PostMixIdeal.main_arg0)
      ∧ r.2.mem ((c.tc : Thread Cert.PostMixIdeal.nD Cert.PostMixIdeal.τ).loc Cert.PostMixIdeal.main_arg1) = m ((c.tc : Thread Cert.PostMixIdeal.nD Cert.PostMixIdeal.τ).loc Cert.PostMixIdeal.main_arg1)
      ∧ r.2.mem ((c.tc : Thread Cert.PostMixIdeal.nD Cert.PostMixIdeal.τ).loc Cert.PostMixIdeal.main_arg2) = m ((c.tc : Thread Cert.PostMixIdeal.nD Cert.PostMixIdeal.τ).loc Cert.PostMixIdeal.main_arg2)
      ∧ r.2.mem ((c.tc : Thread Cert.PostMixIdeal.nD Cert.PostMixIdeal.τ).loc Cert.PostMixIdeal.main_arg3) = m ((c.tc : Thread Cert.PostMixIdeal.nD Cert.PostMixIdeal.τ).loc Cert.PostMixIdeal.main_arg3)
      ∧ r.2.mem ((c.tc : Thread Cert.PostMixIdeal.nD Cert.PostMixIdeal.τ).loc Cert.PostMixIdeal.main_arg4) = m ((c.tc : Thread Cert.PostMixIdeal.nD Cert.PostMixIdeal.τ).loc Cert.PostMixIdeal.main_arg4)
      ∧ r.2.mem ((c.tc : Thread Cert.PostMixIdeal.nD Cert.PostMixIdeal.τ).loc Cert.PostMixIdeal.main_arg5) = m ((c.tc : Thread Cert.PostMixIdeal.nD Cert.PostMixIdeal.τ).loc Cert.PostMixIdeal.main_arg5)
      ∧ r.2.mem ((c.tc : Thread Cert.PostMixIdeal.nD Cert.PostMixIdeal.τ).loc Cert.PostMixIdeal.main_arg6) = m ((c.tc : Thread Cert.PostMixIdeal.nD Cert.PostMixIdeal.τ).loc Cert.PostMixIdeal.main_arg6)
      ∧ r.2.mem ((c.tc : Thread Cert.PostMixIdeal.nD Cert.PostMixIdeal.τ).loc Cert.PostMixIdeal.main_arg7) = m ((c.tc : Thread Cert.PostMixIdeal.nD Cert.PostMixIdeal.τ).loc Cert.PostMixIdeal.main_arg7)
      ∧ r.2.mem ((c.tc : Thread Cert.PostMixIdeal.nD Cert.PostMixIdeal.τ).loc Cert.PostMixIdeal.main_arg8) = m ((c.tc : Thread Cert.PostMixIdeal.nD Cert.PostMixIdeal.τ).loc Cert.PostMixIdeal.main_arg8))
      ∧ r.2.sem = fun _ => 0)

def quiescent_PostMixRefIdeal [hPostMixRefIdeal : Cert.PostMixRefIdeal.Facts] : Prop :=
  ∀ (m : (ℓ : Loc Cert.PostMixRefIdeal.nD Cert.PostMixRefIdeal.τ Cert.PostMixRefIdeal.sig) → Buf (Elt Ideal) ℓ) (g : Dev Cert.PostMixRefIdeal.nD → PrngReg), Pre_PostMixRefIdeal m →
    θ_run (Cert.PostMixRefIdeal.defs (F := Ideal)) (onTc (τ := Cert.PostMixRefIdeal.τ) (Cert.PostMixRefIdeal.main (F := Ideal))) ⟨m, fun _ => 0, g⟩ (fun r => (∀ c : Dev Cert.PostMixRefIdeal.nD,
      r.2.mem ((c.tc : Thread Cert.PostMixRefIdeal.nD Cert.PostMixRefIdeal.τ).loc Cert.PostMixRefIdeal.main_arg0) = m ((c.tc : Thread Cert.PostMixRefIdeal.nD Cert.PostMixRefIdeal.τ).loc Cert.PostMixRefIdeal.main_arg0)
      ∧ r.2.mem ((c.tc : Thread Cert.PostMixRefIdeal.nD Cert.PostMixRefIdeal.τ).loc Cert.PostMixRefIdeal.main_arg1) = m ((c.tc : Thread Cert.PostMixRefIdeal.nD Cert.PostMixRefIdeal.τ).loc Cert.PostMixRefIdeal.main_arg1)
      ∧ r.2.mem ((c.tc : Thread Cert.PostMixRefIdeal.nD Cert.PostMixRefIdeal.τ).loc Cert.PostMixRefIdeal.main_arg2) = m ((c.tc : Thread Cert.PostMixRefIdeal.nD Cert.PostMixRefIdeal.τ).loc Cert.PostMixRefIdeal.main_arg2)
      ∧ r.2.mem ((c.tc : Thread Cert.PostMixRefIdeal.nD Cert.PostMixRefIdeal.τ).loc Cert.PostMixRefIdeal.main_arg3) = m ((c.tc : Thread Cert.PostMixRefIdeal.nD Cert.PostMixRefIdeal.τ).loc Cert.PostMixRefIdeal.main_arg3)
      ∧ r.2.mem ((c.tc : Thread Cert.PostMixRefIdeal.nD Cert.PostMixRefIdeal.τ).loc Cert.PostMixRefIdeal.main_arg4) = m ((c.tc : Thread Cert.PostMixRefIdeal.nD Cert.PostMixRefIdeal.τ).loc Cert.PostMixRefIdeal.main_arg4)
      ∧ r.2.mem ((c.tc : Thread Cert.PostMixRefIdeal.nD Cert.PostMixRefIdeal.τ).loc Cert.PostMixRefIdeal.main_arg5) = m ((c.tc : Thread Cert.PostMixRefIdeal.nD Cert.PostMixRefIdeal.τ).loc Cert.PostMixRefIdeal.main_arg5)
      ∧ r.2.mem ((c.tc : Thread Cert.PostMixRefIdeal.nD Cert.PostMixRefIdeal.τ).loc Cert.PostMixRefIdeal.main_arg6) = m ((c.tc : Thread Cert.PostMixRefIdeal.nD Cert.PostMixRefIdeal.τ).loc Cert.PostMixRefIdeal.main_arg6)
      ∧ r.2.mem ((c.tc : Thread Cert.PostMixRefIdeal.nD Cert.PostMixRefIdeal.τ).loc Cert.PostMixRefIdeal.main_arg7) = m ((c.tc : Thread Cert.PostMixRefIdeal.nD Cert.PostMixRefIdeal.τ).loc Cert.PostMixRefIdeal.main_arg7)
      ∧ r.2.mem ((c.tc : Thread Cert.PostMixRefIdeal.nD Cert.PostMixRefIdeal.τ).loc Cert.PostMixRefIdeal.main_arg8) = m ((c.tc : Thread Cert.PostMixRefIdeal.nD Cert.PostMixRefIdeal.τ).loc Cert.PostMixRefIdeal.main_arg8))
      ∧ r.2.sem = fun _ => 0)

def quiescent_LossHead [hLossHead : Cert.LossHead.Facts] : Prop :=
  ∀ (m : (ℓ : Loc Cert.LossHead.nD Cert.LossHead.τ Cert.LossHead.sig) → Buf (Elt Bits) ℓ) (g : Dev Cert.LossHead.nD → PrngReg), Pre_LossHead m →
    θ_run (Cert.LossHead.defs (F := Bits)) (onTc (τ := Cert.LossHead.τ) (Cert.LossHead.main (F := Bits))) ⟨m, fun _ => 0, g⟩ (fun r => (∀ c : Dev Cert.LossHead.nD,
      r.2.mem ((c.tc : Thread Cert.LossHead.nD Cert.LossHead.τ).loc Cert.LossHead.main_arg0) = m ((c.tc : Thread Cert.LossHead.nD Cert.LossHead.τ).loc Cert.LossHead.main_arg0)
      ∧ r.2.mem ((c.tc : Thread Cert.LossHead.nD Cert.LossHead.τ).loc Cert.LossHead.main_arg1) = m ((c.tc : Thread Cert.LossHead.nD Cert.LossHead.τ).loc Cert.LossHead.main_arg1)
      ∧ r.2.mem ((c.tc : Thread Cert.LossHead.nD Cert.LossHead.τ).loc Cert.LossHead.main_arg2) = m ((c.tc : Thread Cert.LossHead.nD Cert.LossHead.τ).loc Cert.LossHead.main_arg2)
      ∧ r.2.mem ((c.tc : Thread Cert.LossHead.nD Cert.LossHead.τ).loc Cert.LossHead.main_arg3) = m ((c.tc : Thread Cert.LossHead.nD Cert.LossHead.τ).loc Cert.LossHead.main_arg3)
      ∧ r.2.mem ((c.tc : Thread Cert.LossHead.nD Cert.LossHead.τ).loc Cert.LossHead.main_arg4) = m ((c.tc : Thread Cert.LossHead.nD Cert.LossHead.τ).loc Cert.LossHead.main_arg4))
      ∧ r.2.sem = fun _ => 0)

def quiescent_LossHeadIdeal [hLossHeadIdeal : Cert.LossHeadIdeal.Facts] : Prop :=
  ∀ (m : (ℓ : Loc Cert.LossHeadIdeal.nD Cert.LossHeadIdeal.τ Cert.LossHeadIdeal.sig) → Buf (Elt Ideal) ℓ) (g : Dev Cert.LossHeadIdeal.nD → PrngReg), Pre_LossHeadIdeal m →
    θ_run (Cert.LossHeadIdeal.defs (F := Ideal)) (onTc (τ := Cert.LossHeadIdeal.τ) (Cert.LossHeadIdeal.main (F := Ideal))) ⟨m, fun _ => 0, g⟩ (fun r => (∀ c : Dev Cert.LossHeadIdeal.nD,
      r.2.mem ((c.tc : Thread Cert.LossHeadIdeal.nD Cert.LossHeadIdeal.τ).loc Cert.LossHeadIdeal.main_arg0) = m ((c.tc : Thread Cert.LossHeadIdeal.nD Cert.LossHeadIdeal.τ).loc Cert.LossHeadIdeal.main_arg0)
      ∧ r.2.mem ((c.tc : Thread Cert.LossHeadIdeal.nD Cert.LossHeadIdeal.τ).loc Cert.LossHeadIdeal.main_arg1) = m ((c.tc : Thread Cert.LossHeadIdeal.nD Cert.LossHeadIdeal.τ).loc Cert.LossHeadIdeal.main_arg1)
      ∧ r.2.mem ((c.tc : Thread Cert.LossHeadIdeal.nD Cert.LossHeadIdeal.τ).loc Cert.LossHeadIdeal.main_arg2) = m ((c.tc : Thread Cert.LossHeadIdeal.nD Cert.LossHeadIdeal.τ).loc Cert.LossHeadIdeal.main_arg2)
      ∧ r.2.mem ((c.tc : Thread Cert.LossHeadIdeal.nD Cert.LossHeadIdeal.τ).loc Cert.LossHeadIdeal.main_arg3) = m ((c.tc : Thread Cert.LossHeadIdeal.nD Cert.LossHeadIdeal.τ).loc Cert.LossHeadIdeal.main_arg3)
      ∧ r.2.mem ((c.tc : Thread Cert.LossHeadIdeal.nD Cert.LossHeadIdeal.τ).loc Cert.LossHeadIdeal.main_arg4) = m ((c.tc : Thread Cert.LossHeadIdeal.nD Cert.LossHeadIdeal.τ).loc Cert.LossHeadIdeal.main_arg4))
      ∧ r.2.sem = fun _ => 0)

def quiescent_LossHeadRefIdeal [hLossHeadRefIdeal : Cert.LossHeadRefIdeal.Facts] : Prop :=
  ∀ (m : (ℓ : Loc Cert.LossHeadRefIdeal.nD Cert.LossHeadRefIdeal.τ Cert.LossHeadRefIdeal.sig) → Buf (Elt Ideal) ℓ) (g : Dev Cert.LossHeadRefIdeal.nD → PrngReg), Pre_LossHeadRefIdeal m →
    θ_run (Cert.LossHeadRefIdeal.defs (F := Ideal)) (onTc (τ := Cert.LossHeadRefIdeal.τ) (Cert.LossHeadRefIdeal.main (F := Ideal))) ⟨m, fun _ => 0, g⟩ (fun r => (∀ c : Dev Cert.LossHeadRefIdeal.nD,
      r.2.mem ((c.tc : Thread Cert.LossHeadRefIdeal.nD Cert.LossHeadRefIdeal.τ).loc Cert.LossHeadRefIdeal.main_arg0) = m ((c.tc : Thread Cert.LossHeadRefIdeal.nD Cert.LossHeadRefIdeal.τ).loc Cert.LossHeadRefIdeal.main_arg0)
      ∧ r.2.mem ((c.tc : Thread Cert.LossHeadRefIdeal.nD Cert.LossHeadRefIdeal.τ).loc Cert.LossHeadRefIdeal.main_arg1) = m ((c.tc : Thread Cert.LossHeadRefIdeal.nD Cert.LossHeadRefIdeal.τ).loc Cert.LossHeadRefIdeal.main_arg1)
      ∧ r.2.mem ((c.tc : Thread Cert.LossHeadRefIdeal.nD Cert.LossHeadRefIdeal.τ).loc Cert.LossHeadRefIdeal.main_arg2) = m ((c.tc : Thread Cert.LossHeadRefIdeal.nD Cert.LossHeadRefIdeal.τ).loc Cert.LossHeadRefIdeal.main_arg2)
      ∧ r.2.mem ((c.tc : Thread Cert.LossHeadRefIdeal.nD Cert.LossHeadRefIdeal.τ).loc Cert.LossHeadRefIdeal.main_arg3) = m ((c.tc : Thread Cert.LossHeadRefIdeal.nD Cert.LossHeadRefIdeal.τ).loc Cert.LossHeadRefIdeal.main_arg3)
      ∧ r.2.mem ((c.tc : Thread Cert.LossHeadRefIdeal.nD Cert.LossHeadRefIdeal.τ).loc Cert.LossHeadRefIdeal.main_arg4) = m ((c.tc : Thread Cert.LossHeadRefIdeal.nD Cert.LossHeadRefIdeal.τ).loc Cert.LossHeadRefIdeal.main_arg4))
      ∧ r.2.sem = fun _ => 0)

def quiescent_AdamIn [hAdamIn : Cert.AdamIn.Facts] : Prop :=
  ∀ (m : (ℓ : Loc Cert.AdamIn.nD Cert.AdamIn.τ Cert.AdamIn.sig) → Buf (Elt Bits) ℓ) (g : Dev Cert.AdamIn.nD → PrngReg), Pre_AdamIn m →
    θ_run (Cert.AdamIn.defs (F := Bits)) (onTc (τ := Cert.AdamIn.τ) (Cert.AdamIn.main (F := Bits))) ⟨m, fun _ => 0, g⟩ (fun r => (∀ c : Dev Cert.AdamIn.nD,
      r.2.mem ((c.tc : Thread Cert.AdamIn.nD Cert.AdamIn.τ).loc Cert.AdamIn.main_arg0) = m ((c.tc : Thread Cert.AdamIn.nD Cert.AdamIn.τ).loc Cert.AdamIn.main_arg0)
      ∧ r.2.mem ((c.tc : Thread Cert.AdamIn.nD Cert.AdamIn.τ).loc Cert.AdamIn.main_arg1) = m ((c.tc : Thread Cert.AdamIn.nD Cert.AdamIn.τ).loc Cert.AdamIn.main_arg1)
      ∧ r.2.mem ((c.tc : Thread Cert.AdamIn.nD Cert.AdamIn.τ).loc Cert.AdamIn.main_arg2) = m ((c.tc : Thread Cert.AdamIn.nD Cert.AdamIn.τ).loc Cert.AdamIn.main_arg2)
      ∧ r.2.mem ((c.tc : Thread Cert.AdamIn.nD Cert.AdamIn.τ).loc Cert.AdamIn.main_arg3) = m ((c.tc : Thread Cert.AdamIn.nD Cert.AdamIn.τ).loc Cert.AdamIn.main_arg3))
      ∧ r.2.sem = fun _ => 0)

def quiescent_AdamInIdeal [hAdamInIdeal : Cert.AdamInIdeal.Facts] : Prop :=
  ∀ (m : (ℓ : Loc Cert.AdamInIdeal.nD Cert.AdamInIdeal.τ Cert.AdamInIdeal.sig) → Buf (Elt Ideal) ℓ) (g : Dev Cert.AdamInIdeal.nD → PrngReg), Pre_AdamInIdeal m →
    θ_run (Cert.AdamInIdeal.defs (F := Ideal)) (onTc (τ := Cert.AdamInIdeal.τ) (Cert.AdamInIdeal.main (F := Ideal))) ⟨m, fun _ => 0, g⟩ (fun r => (∀ c : Dev Cert.AdamInIdeal.nD,
      r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
      ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
      ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
      ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3))
      ∧ r.2.sem = fun _ => 0)

def quiescent_AdamInRefIdeal [hAdamInRefIdeal : Cert.AdamInRefIdeal.Facts] : Prop :=
  ∀ (m : (ℓ : Loc Cert.AdamInRefIdeal.nD Cert.AdamInRefIdeal.τ Cert.AdamInRefIdeal.sig) → Buf (Elt Ideal) ℓ) (g : Dev Cert.AdamInRefIdeal.nD → PrngReg), Pre_AdamInRefIdeal m →
    θ_run (Cert.AdamInRefIdeal.defs (F := Ideal)) (onTc (τ := Cert.AdamInRefIdeal.τ) (Cert.AdamInRefIdeal.main (F := Ideal))) ⟨m, fun _ => 0, g⟩ (fun r => (∀ c : Dev Cert.AdamInRefIdeal.nD,
      r.2.mem ((c.tc : Thread Cert.AdamInRefIdeal.nD Cert.AdamInRefIdeal.τ).loc Cert.AdamInRefIdeal.main_arg0) = m ((c.tc : Thread Cert.AdamInRefIdeal.nD Cert.AdamInRefIdeal.τ).loc Cert.AdamInRefIdeal.main_arg0)
      ∧ r.2.mem ((c.tc : Thread Cert.AdamInRefIdeal.nD Cert.AdamInRefIdeal.τ).loc Cert.AdamInRefIdeal.main_arg1) = m ((c.tc : Thread Cert.AdamInRefIdeal.nD Cert.AdamInRefIdeal.τ).loc Cert.AdamInRefIdeal.main_arg1)
      ∧ r.2.mem ((c.tc : Thread Cert.AdamInRefIdeal.nD Cert.AdamInRefIdeal.τ).loc Cert.AdamInRefIdeal.main_arg2) = m ((c.tc : Thread Cert.AdamInRefIdeal.nD Cert.AdamInRefIdeal.τ).loc Cert.AdamInRefIdeal.main_arg2)
      ∧ r.2.mem ((c.tc : Thread Cert.AdamInRefIdeal.nD Cert.AdamInRefIdeal.τ).loc Cert.AdamInRefIdeal.main_arg3) = m ((c.tc : Thread Cert.AdamInRefIdeal.nD Cert.AdamInRefIdeal.τ).loc Cert.AdamInRefIdeal.main_arg3))
      ∧ r.2.sem = fun _ => 0)

def quiescent_AdamOut [hAdamOut : Cert.AdamOut.Facts] : Prop :=
  ∀ (m : (ℓ : Loc Cert.AdamOut.nD Cert.AdamOut.τ Cert.AdamOut.sig) → Buf (Elt Bits) ℓ) (g : Dev Cert.AdamOut.nD → PrngReg), Pre_AdamOut m →
    θ_run (Cert.AdamOut.defs (F := Bits)) (onTc (τ := Cert.AdamOut.τ) (Cert.AdamOut.main (F := Bits))) ⟨m, fun _ => 0, g⟩ (fun r => (∀ c : Dev Cert.AdamOut.nD,
      r.2.mem ((c.tc : Thread Cert.AdamOut.nD Cert.AdamOut.τ).loc Cert.AdamOut.main_arg0) = m ((c.tc : Thread Cert.AdamOut.nD Cert.AdamOut.τ).loc Cert.AdamOut.main_arg0)
      ∧ r.2.mem ((c.tc : Thread Cert.AdamOut.nD Cert.AdamOut.τ).loc Cert.AdamOut.main_arg1) = m ((c.tc : Thread Cert.AdamOut.nD Cert.AdamOut.τ).loc Cert.AdamOut.main_arg1)
      ∧ r.2.mem ((c.tc : Thread Cert.AdamOut.nD Cert.AdamOut.τ).loc Cert.AdamOut.main_arg2) = m ((c.tc : Thread Cert.AdamOut.nD Cert.AdamOut.τ).loc Cert.AdamOut.main_arg2)
      ∧ r.2.mem ((c.tc : Thread Cert.AdamOut.nD Cert.AdamOut.τ).loc Cert.AdamOut.main_arg3) = m ((c.tc : Thread Cert.AdamOut.nD Cert.AdamOut.τ).loc Cert.AdamOut.main_arg3))
      ∧ r.2.sem = fun _ => 0)

def quiescent_AdamOutIdeal [hAdamOutIdeal : Cert.AdamOutIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg), Pre_AdamOutIdeal m →
    θ_run (Cert.AdamOutIdeal.defs (F := Ideal)) (onTc (τ := Cert.AdamOutIdeal.τ) (Cert.AdamOutIdeal.main (F := Ideal))) ⟨m, fun _ => 0, g⟩ (fun r => (∀ c : Dev Cert.AdamOutIdeal.nD,
      r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
      ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
      ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
      ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3))
      ∧ r.2.sem = fun _ => 0)

def quiescent_AdamOutRefIdeal [hAdamOutRefIdeal : Cert.AdamOutRefIdeal.Facts] : Prop :=
  ∀ (m : (ℓ : Loc Cert.AdamOutRefIdeal.nD Cert.AdamOutRefIdeal.τ Cert.AdamOutRefIdeal.sig) → Buf (Elt Ideal) ℓ) (g : Dev Cert.AdamOutRefIdeal.nD → PrngReg), Pre_AdamOutRefIdeal m →
    θ_run (Cert.AdamOutRefIdeal.defs (F := Ideal)) (onTc (τ := Cert.AdamOutRefIdeal.τ) (Cert.AdamOutRefIdeal.main (F := Ideal))) ⟨m, fun _ => 0, g⟩ (fun r => (∀ c : Dev Cert.AdamOutRefIdeal.nD,
      r.2.mem ((c.tc : Thread Cert.AdamOutRefIdeal.nD Cert.AdamOutRefIdeal.τ).loc Cert.AdamOutRefIdeal.main_arg0) = m ((c.tc : Thread Cert.AdamOutRefIdeal.nD Cert.AdamOutRefIdeal.τ).loc Cert.AdamOutRefIdeal.main_arg0)
      ∧ r.2.mem ((c.tc : Thread Cert.AdamOutRefIdeal.nD Cert.AdamOutRefIdeal.τ).loc Cert.AdamOutRefIdeal.main_arg1) = m ((c.tc : Thread Cert.AdamOutRefIdeal.nD Cert.AdamOutRefIdeal.τ).loc Cert.AdamOutRefIdeal.main_arg1)
      ∧ r.2.mem ((c.tc : Thread Cert.AdamOutRefIdeal.nD Cert.AdamOutRefIdeal.τ).loc Cert.AdamOutRefIdeal.main_arg2) = m ((c.tc : Thread Cert.AdamOutRefIdeal.nD Cert.AdamOutRefIdeal.τ).loc Cert.AdamOutRefIdeal.main_arg2)
      ∧ r.2.mem ((c.tc : Thread Cert.AdamOutRefIdeal.nD Cert.AdamOutRefIdeal.τ).loc Cert.AdamOutRefIdeal.main_arg3) = m ((c.tc : Thread Cert.AdamOutRefIdeal.nD Cert.AdamOutRefIdeal.τ).loc Cert.AdamOutRefIdeal.main_arg3))
      ∧ r.2.sem = fun _ => 0)

def quiescent_AdamMlpIn [hAdamMlpIn : Cert.AdamMlpIn.Facts] : Prop :=
  ∀ (m : (ℓ : Loc Cert.AdamMlpIn.nD Cert.AdamMlpIn.τ Cert.AdamMlpIn.sig) → Buf (Elt Bits) ℓ) (g : Dev Cert.AdamMlpIn.nD → PrngReg), Pre_AdamMlpIn m →
    θ_run (Cert.AdamMlpIn.defs (F := Bits)) (onTc (τ := Cert.AdamMlpIn.τ) (Cert.AdamMlpIn.main (F := Bits))) ⟨m, fun _ => 0, g⟩ (fun r => (∀ c : Dev Cert.AdamMlpIn.nD,
      r.2.mem ((c.tc : Thread Cert.AdamMlpIn.nD Cert.AdamMlpIn.τ).loc Cert.AdamMlpIn.main_arg0) = m ((c.tc : Thread Cert.AdamMlpIn.nD Cert.AdamMlpIn.τ).loc Cert.AdamMlpIn.main_arg0)
      ∧ r.2.mem ((c.tc : Thread Cert.AdamMlpIn.nD Cert.AdamMlpIn.τ).loc Cert.AdamMlpIn.main_arg1) = m ((c.tc : Thread Cert.AdamMlpIn.nD Cert.AdamMlpIn.τ).loc Cert.AdamMlpIn.main_arg1)
      ∧ r.2.mem ((c.tc : Thread Cert.AdamMlpIn.nD Cert.AdamMlpIn.τ).loc Cert.AdamMlpIn.main_arg2) = m ((c.tc : Thread Cert.AdamMlpIn.nD Cert.AdamMlpIn.τ).loc Cert.AdamMlpIn.main_arg2)
      ∧ r.2.mem ((c.tc : Thread Cert.AdamMlpIn.nD Cert.AdamMlpIn.τ).loc Cert.AdamMlpIn.main_arg3) = m ((c.tc : Thread Cert.AdamMlpIn.nD Cert.AdamMlpIn.τ).loc Cert.AdamMlpIn.main_arg3))
      ∧ r.2.sem = fun _ => 0)

def quiescent_AdamMlpInIdeal [hAdamMlpInIdeal : Cert.AdamMlpInIdeal.Facts] : Prop :=
  ∀ (m : (ℓ : Loc Cert.AdamMlpInIdeal.nD Cert.AdamMlpInIdeal.τ Cert.AdamMlpInIdeal.sig) → Buf (Elt Ideal) ℓ) (g : Dev Cert.AdamMlpInIdeal.nD → PrngReg), Pre_AdamMlpInIdeal m →
    θ_run (Cert.AdamMlpInIdeal.defs (F := Ideal)) (onTc (τ := Cert.AdamMlpInIdeal.τ) (Cert.AdamMlpInIdeal.main (F := Ideal))) ⟨m, fun _ => 0, g⟩ (fun r => (∀ c : Dev Cert.AdamMlpInIdeal.nD,
      r.2.mem ((c.tc : Thread Cert.AdamMlpInIdeal.nD Cert.AdamMlpInIdeal.τ).loc Cert.AdamMlpInIdeal.main_arg0) = m ((c.tc : Thread Cert.AdamMlpInIdeal.nD Cert.AdamMlpInIdeal.τ).loc Cert.AdamMlpInIdeal.main_arg0)
      ∧ r.2.mem ((c.tc : Thread Cert.AdamMlpInIdeal.nD Cert.AdamMlpInIdeal.τ).loc Cert.AdamMlpInIdeal.main_arg1) = m ((c.tc : Thread Cert.AdamMlpInIdeal.nD Cert.AdamMlpInIdeal.τ).loc Cert.AdamMlpInIdeal.main_arg1)
      ∧ r.2.mem ((c.tc : Thread Cert.AdamMlpInIdeal.nD Cert.AdamMlpInIdeal.τ).loc Cert.AdamMlpInIdeal.main_arg2) = m ((c.tc : Thread Cert.AdamMlpInIdeal.nD Cert.AdamMlpInIdeal.τ).loc Cert.AdamMlpInIdeal.main_arg2)
      ∧ r.2.mem ((c.tc : Thread Cert.AdamMlpInIdeal.nD Cert.AdamMlpInIdeal.τ).loc Cert.AdamMlpInIdeal.main_arg3) = m ((c.tc : Thread Cert.AdamMlpInIdeal.nD Cert.AdamMlpInIdeal.τ).loc Cert.AdamMlpInIdeal.main_arg3))
      ∧ r.2.sem = fun _ => 0)

def quiescent_AdamMlpInRefIdeal [hAdamMlpInRefIdeal : Cert.AdamMlpInRefIdeal.Facts] : Prop :=
  ∀ (m : (ℓ : Loc Cert.AdamMlpInRefIdeal.nD Cert.AdamMlpInRefIdeal.τ Cert.AdamMlpInRefIdeal.sig) → Buf (Elt Ideal) ℓ) (g : Dev Cert.AdamMlpInRefIdeal.nD → PrngReg), Pre_AdamMlpInRefIdeal m →
    θ_run (Cert.AdamMlpInRefIdeal.defs (F := Ideal)) (onTc (τ := Cert.AdamMlpInRefIdeal.τ) (Cert.AdamMlpInRefIdeal.main (F := Ideal))) ⟨m, fun _ => 0, g⟩ (fun r => (∀ c : Dev Cert.AdamMlpInRefIdeal.nD,
      r.2.mem ((c.tc : Thread Cert.AdamMlpInRefIdeal.nD Cert.AdamMlpInRefIdeal.τ).loc Cert.AdamMlpInRefIdeal.main_arg0) = m ((c.tc : Thread Cert.AdamMlpInRefIdeal.nD Cert.AdamMlpInRefIdeal.τ).loc Cert.AdamMlpInRefIdeal.main_arg0)
      ∧ r.2.mem ((c.tc : Thread Cert.AdamMlpInRefIdeal.nD Cert.AdamMlpInRefIdeal.τ).loc Cert.AdamMlpInRefIdeal.main_arg1) = m ((c.tc : Thread Cert.AdamMlpInRefIdeal.nD Cert.AdamMlpInRefIdeal.τ).loc Cert.AdamMlpInRefIdeal.main_arg1)
      ∧ r.2.mem ((c.tc : Thread Cert.AdamMlpInRefIdeal.nD Cert.AdamMlpInRefIdeal.τ).loc Cert.AdamMlpInRefIdeal.main_arg2) = m ((c.tc : Thread Cert.AdamMlpInRefIdeal.nD Cert.AdamMlpInRefIdeal.τ).loc Cert.AdamMlpInRefIdeal.main_arg2)
      ∧ r.2.mem ((c.tc : Thread Cert.AdamMlpInRefIdeal.nD Cert.AdamMlpInRefIdeal.τ).loc Cert.AdamMlpInRefIdeal.main_arg3) = m ((c.tc : Thread Cert.AdamMlpInRefIdeal.nD Cert.AdamMlpInRefIdeal.τ).loc Cert.AdamMlpInRefIdeal.main_arg3))
      ∧ r.2.sem = fun _ => 0)

def quiescent_AdamMlpOut [hAdamMlpOut : Cert.AdamMlpOut.Facts] : Prop :=
  ∀ (m : (ℓ : Loc Cert.AdamMlpOut.nD Cert.AdamMlpOut.τ Cert.AdamMlpOut.sig) → Buf (Elt Bits) ℓ) (g : Dev Cert.AdamMlpOut.nD → PrngReg), Pre_AdamMlpOut m →
    θ_run (Cert.AdamMlpOut.defs (F := Bits)) (onTc (τ := Cert.AdamMlpOut.τ) (Cert.AdamMlpOut.main (F := Bits))) ⟨m, fun _ => 0, g⟩ (fun r => (∀ c : Dev Cert.AdamMlpOut.nD,
      r.2.mem ((c.tc : Thread Cert.AdamMlpOut.nD Cert.AdamMlpOut.τ).loc Cert.AdamMlpOut.main_arg0) = m ((c.tc : Thread Cert.AdamMlpOut.nD Cert.AdamMlpOut.τ).loc Cert.AdamMlpOut.main_arg0)
      ∧ r.2.mem ((c.tc : Thread Cert.AdamMlpOut.nD Cert.AdamMlpOut.τ).loc Cert.AdamMlpOut.main_arg1) = m ((c.tc : Thread Cert.AdamMlpOut.nD Cert.AdamMlpOut.τ).loc Cert.AdamMlpOut.main_arg1)
      ∧ r.2.mem ((c.tc : Thread Cert.AdamMlpOut.nD Cert.AdamMlpOut.τ).loc Cert.AdamMlpOut.main_arg2) = m ((c.tc : Thread Cert.AdamMlpOut.nD Cert.AdamMlpOut.τ).loc Cert.AdamMlpOut.main_arg2)
      ∧ r.2.mem ((c.tc : Thread Cert.AdamMlpOut.nD Cert.AdamMlpOut.τ).loc Cert.AdamMlpOut.main_arg3) = m ((c.tc : Thread Cert.AdamMlpOut.nD Cert.AdamMlpOut.τ).loc Cert.AdamMlpOut.main_arg3))
      ∧ r.2.sem = fun _ => 0)

def quiescent_AdamMlpOutIdeal [hAdamMlpOutIdeal : Cert.AdamMlpOutIdeal.Facts] : Prop :=
  ∀ (m : (ℓ : Loc Cert.AdamMlpOutIdeal.nD Cert.AdamMlpOutIdeal.τ Cert.AdamMlpOutIdeal.sig) → Buf (Elt Ideal) ℓ) (g : Dev Cert.AdamMlpOutIdeal.nD → PrngReg), Pre_AdamMlpOutIdeal m →
    θ_run (Cert.AdamMlpOutIdeal.defs (F := Ideal)) (onTc (τ := Cert.AdamMlpOutIdeal.τ) (Cert.AdamMlpOutIdeal.main (F := Ideal))) ⟨m, fun _ => 0, g⟩ (fun r => (∀ c : Dev Cert.AdamMlpOutIdeal.nD,
      r.2.mem ((c.tc : Thread Cert.AdamMlpOutIdeal.nD Cert.AdamMlpOutIdeal.τ).loc Cert.AdamMlpOutIdeal.main_arg0) = m ((c.tc : Thread Cert.AdamMlpOutIdeal.nD Cert.AdamMlpOutIdeal.τ).loc Cert.AdamMlpOutIdeal.main_arg0)
      ∧ r.2.mem ((c.tc : Thread Cert.AdamMlpOutIdeal.nD Cert.AdamMlpOutIdeal.τ).loc Cert.AdamMlpOutIdeal.main_arg1) = m ((c.tc : Thread Cert.AdamMlpOutIdeal.nD Cert.AdamMlpOutIdeal.τ).loc Cert.AdamMlpOutIdeal.main_arg1)
      ∧ r.2.mem ((c.tc : Thread Cert.AdamMlpOutIdeal.nD Cert.AdamMlpOutIdeal.τ).loc Cert.AdamMlpOutIdeal.main_arg2) = m ((c.tc : Thread Cert.AdamMlpOutIdeal.nD Cert.AdamMlpOutIdeal.τ).loc Cert.AdamMlpOutIdeal.main_arg2)
      ∧ r.2.mem ((c.tc : Thread Cert.AdamMlpOutIdeal.nD Cert.AdamMlpOutIdeal.τ).loc Cert.AdamMlpOutIdeal.main_arg3) = m ((c.tc : Thread Cert.AdamMlpOutIdeal.nD Cert.AdamMlpOutIdeal.τ).loc Cert.AdamMlpOutIdeal.main_arg3))
      ∧ r.2.sem = fun _ => 0)

def quiescent_AdamMlpOutRefIdeal [hAdamMlpOutRefIdeal : Cert.AdamMlpOutRefIdeal.Facts] : Prop :=
  ∀ (m : (ℓ : Loc Cert.AdamMlpOutRefIdeal.nD Cert.AdamMlpOutRefIdeal.τ Cert.AdamMlpOutRefIdeal.sig) → Buf (Elt Ideal) ℓ) (g : Dev Cert.AdamMlpOutRefIdeal.nD → PrngReg), Pre_AdamMlpOutRefIdeal m →
    θ_run (Cert.AdamMlpOutRefIdeal.defs (F := Ideal)) (onTc (τ := Cert.AdamMlpOutRefIdeal.τ) (Cert.AdamMlpOutRefIdeal.main (F := Ideal))) ⟨m, fun _ => 0, g⟩ (fun r => (∀ c : Dev Cert.AdamMlpOutRefIdeal.nD,
      r.2.mem ((c.tc : Thread Cert.AdamMlpOutRefIdeal.nD Cert.AdamMlpOutRefIdeal.τ).loc Cert.AdamMlpOutRefIdeal.main_arg0) = m ((c.tc : Thread Cert.AdamMlpOutRefIdeal.nD Cert.AdamMlpOutRefIdeal.τ).loc Cert.AdamMlpOutRefIdeal.main_arg0)
      ∧ r.2.mem ((c.tc : Thread Cert.AdamMlpOutRefIdeal.nD Cert.AdamMlpOutRefIdeal.τ).loc Cert.AdamMlpOutRefIdeal.main_arg1) = m ((c.tc : Thread Cert.AdamMlpOutRefIdeal.nD Cert.AdamMlpOutRefIdeal.τ).loc Cert.AdamMlpOutRefIdeal.main_arg1)
      ∧ r.2.mem ((c.tc : Thread Cert.AdamMlpOutRefIdeal.nD Cert.AdamMlpOutRefIdeal.τ).loc Cert.AdamMlpOutRefIdeal.main_arg2) = m ((c.tc : Thread Cert.AdamMlpOutRefIdeal.nD Cert.AdamMlpOutRefIdeal.τ).loc Cert.AdamMlpOutRefIdeal.main_arg2)
      ∧ r.2.mem ((c.tc : Thread Cert.AdamMlpOutRefIdeal.nD Cert.AdamMlpOutRefIdeal.τ).loc Cert.AdamMlpOutRefIdeal.main_arg3) = m ((c.tc : Thread Cert.AdamMlpOutRefIdeal.nD Cert.AdamMlpOutRefIdeal.τ).loc Cert.AdamMlpOutRefIdeal.main_arg3))
      ∧ r.2.sem = fun _ => 0)

def quiescent_AdamGlu [hAdamGlu : Cert.AdamGlu.Facts] : Prop :=
  ∀ (m : (ℓ : Loc Cert.AdamGlu.nD Cert.AdamGlu.τ Cert.AdamGlu.sig) → Buf (Elt Bits) ℓ) (g : Dev Cert.AdamGlu.nD → PrngReg), Pre_AdamGlu m →
    θ_run (Cert.AdamGlu.defs (F := Bits)) (onTc (τ := Cert.AdamGlu.τ) (Cert.AdamGlu.main (F := Bits))) ⟨m, fun _ => 0, g⟩ (fun r => (∀ c : Dev Cert.AdamGlu.nD,
      r.2.mem ((c.tc : Thread Cert.AdamGlu.nD Cert.AdamGlu.τ).loc Cert.AdamGlu.main_arg0) = m ((c.tc : Thread Cert.AdamGlu.nD Cert.AdamGlu.τ).loc Cert.AdamGlu.main_arg0)
      ∧ r.2.mem ((c.tc : Thread Cert.AdamGlu.nD Cert.AdamGlu.τ).loc Cert.AdamGlu.main_arg1) = m ((c.tc : Thread Cert.AdamGlu.nD Cert.AdamGlu.τ).loc Cert.AdamGlu.main_arg1)
      ∧ r.2.mem ((c.tc : Thread Cert.AdamGlu.nD Cert.AdamGlu.τ).loc Cert.AdamGlu.main_arg2) = m ((c.tc : Thread Cert.AdamGlu.nD Cert.AdamGlu.τ).loc Cert.AdamGlu.main_arg2)
      ∧ r.2.mem ((c.tc : Thread Cert.AdamGlu.nD Cert.AdamGlu.τ).loc Cert.AdamGlu.main_arg3) = m ((c.tc : Thread Cert.AdamGlu.nD Cert.AdamGlu.τ).loc Cert.AdamGlu.main_arg3))
      ∧ r.2.sem = fun _ => 0)

def quiescent_AdamGluIdeal [hAdamGluIdeal : Cert.AdamGluIdeal.Facts] : Prop :=
  ∀ (m : (ℓ : Loc Cert.AdamGluIdeal.nD Cert.AdamGluIdeal.τ Cert.AdamGluIdeal.sig) → Buf (Elt Ideal) ℓ) (g : Dev Cert.AdamGluIdeal.nD → PrngReg), Pre_AdamGluIdeal m →
    θ_run (Cert.AdamGluIdeal.defs (F := Ideal)) (onTc (τ := Cert.AdamGluIdeal.τ) (Cert.AdamGluIdeal.main (F := Ideal))) ⟨m, fun _ => 0, g⟩ (fun r => (∀ c : Dev Cert.AdamGluIdeal.nD,
      r.2.mem ((c.tc : Thread Cert.AdamGluIdeal.nD Cert.AdamGluIdeal.τ).loc Cert.AdamGluIdeal.main_arg0) = m ((c.tc : Thread Cert.AdamGluIdeal.nD Cert.AdamGluIdeal.τ).loc Cert.AdamGluIdeal.main_arg0)
      ∧ r.2.mem ((c.tc : Thread Cert.AdamGluIdeal.nD Cert.AdamGluIdeal.τ).loc Cert.AdamGluIdeal.main_arg1) = m ((c.tc : Thread Cert.AdamGluIdeal.nD Cert.AdamGluIdeal.τ).loc Cert.AdamGluIdeal.main_arg1)
      ∧ r.2.mem ((c.tc : Thread Cert.AdamGluIdeal.nD Cert.AdamGluIdeal.τ).loc Cert.AdamGluIdeal.main_arg2) = m ((c.tc : Thread Cert.AdamGluIdeal.nD Cert.AdamGluIdeal.τ).loc Cert.AdamGluIdeal.main_arg2)
      ∧ r.2.mem ((c.tc : Thread Cert.AdamGluIdeal.nD Cert.AdamGluIdeal.τ).loc Cert.AdamGluIdeal.main_arg3) = m ((c.tc : Thread Cert.AdamGluIdeal.nD Cert.AdamGluIdeal.τ).loc Cert.AdamGluIdeal.main_arg3))
      ∧ r.2.sem = fun _ => 0)

def quiescent_AdamGluRefIdeal [hAdamGluRefIdeal : Cert.AdamGluRefIdeal.Facts] : Prop :=
  ∀ (m : (ℓ : Loc Cert.AdamGluRefIdeal.nD Cert.AdamGluRefIdeal.τ Cert.AdamGluRefIdeal.sig) → Buf (Elt Ideal) ℓ) (g : Dev Cert.AdamGluRefIdeal.nD → PrngReg), Pre_AdamGluRefIdeal m →
    θ_run (Cert.AdamGluRefIdeal.defs (F := Ideal)) (onTc (τ := Cert.AdamGluRefIdeal.τ) (Cert.AdamGluRefIdeal.main (F := Ideal))) ⟨m, fun _ => 0, g⟩ (fun r => (∀ c : Dev Cert.AdamGluRefIdeal.nD,
      r.2.mem ((c.tc : Thread Cert.AdamGluRefIdeal.nD Cert.AdamGluRefIdeal.τ).loc Cert.AdamGluRefIdeal.main_arg0) = m ((c.tc : Thread Cert.AdamGluRefIdeal.nD Cert.AdamGluRefIdeal.τ).loc Cert.AdamGluRefIdeal.main_arg0)
      ∧ r.2.mem ((c.tc : Thread Cert.AdamGluRefIdeal.nD Cert.AdamGluRefIdeal.τ).loc Cert.AdamGluRefIdeal.main_arg1) = m ((c.tc : Thread Cert.AdamGluRefIdeal.nD Cert.AdamGluRefIdeal.τ).loc Cert.AdamGluRefIdeal.main_arg1)
      ∧ r.2.mem ((c.tc : Thread Cert.AdamGluRefIdeal.nD Cert.AdamGluRefIdeal.τ).loc Cert.AdamGluRefIdeal.main_arg2) = m ((c.tc : Thread Cert.AdamGluRefIdeal.nD Cert.AdamGluRefIdeal.τ).loc Cert.AdamGluRefIdeal.main_arg2)
      ∧ r.2.mem ((c.tc : Thread Cert.AdamGluRefIdeal.nD Cert.AdamGluRefIdeal.τ).loc Cert.AdamGluRefIdeal.main_arg3) = m ((c.tc : Thread Cert.AdamGluRefIdeal.nD Cert.AdamGluRefIdeal.τ).loc Cert.AdamGluRefIdeal.main_arg3))
      ∧ r.2.sem = fun _ => 0)

def quiescent_AdamSmall [hAdamSmall : Cert.AdamSmall.Facts] : Prop :=
  ∀ (m : (ℓ : Loc Cert.AdamSmall.nD Cert.AdamSmall.τ Cert.AdamSmall.sig) → Buf (Elt Bits) ℓ) (g : Dev Cert.AdamSmall.nD → PrngReg), Pre_AdamSmall m →
    θ_run (Cert.AdamSmall.defs (F := Bits)) (onTc (τ := Cert.AdamSmall.τ) (Cert.AdamSmall.main (F := Bits))) ⟨m, fun _ => 0, g⟩ (fun r => (∀ c : Dev Cert.AdamSmall.nD,
      r.2.mem ((c.tc : Thread Cert.AdamSmall.nD Cert.AdamSmall.τ).loc Cert.AdamSmall.main_arg0) = m ((c.tc : Thread Cert.AdamSmall.nD Cert.AdamSmall.τ).loc Cert.AdamSmall.main_arg0)
      ∧ r.2.mem ((c.tc : Thread Cert.AdamSmall.nD Cert.AdamSmall.τ).loc Cert.AdamSmall.main_arg1) = m ((c.tc : Thread Cert.AdamSmall.nD Cert.AdamSmall.τ).loc Cert.AdamSmall.main_arg1)
      ∧ r.2.mem ((c.tc : Thread Cert.AdamSmall.nD Cert.AdamSmall.τ).loc Cert.AdamSmall.main_arg2) = m ((c.tc : Thread Cert.AdamSmall.nD Cert.AdamSmall.τ).loc Cert.AdamSmall.main_arg2)
      ∧ r.2.mem ((c.tc : Thread Cert.AdamSmall.nD Cert.AdamSmall.τ).loc Cert.AdamSmall.main_arg3) = m ((c.tc : Thread Cert.AdamSmall.nD Cert.AdamSmall.τ).loc Cert.AdamSmall.main_arg3))
      ∧ r.2.sem = fun _ => 0)

def quiescent_AdamSmallIdeal [hAdamSmallIdeal : Cert.AdamSmallIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg), Pre_AdamSmallIdeal m →
    θ_run (Cert.AdamSmallIdeal.defs (F := Ideal)) (onTc (τ := Cert.AdamSmallIdeal.τ) (Cert.AdamSmallIdeal.main (F := Ideal))) ⟨m, fun _ => 0, g⟩ (fun r => (∀ c : Dev Cert.AdamSmallIdeal.nD,
      r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
      ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
      ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
      ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3))
      ∧ r.2.sem = fun _ => 0)

def quiescent_AdamSmallRefIdeal [hAdamSmallRefIdeal : Cert.AdamSmallRefIdeal.Facts] : Prop :=
  ∀ (m : (ℓ : Loc Cert.AdamSmallRefIdeal.nD Cert.AdamSmallRefIdeal.τ Cert.AdamSmallRefIdeal.sig) → Buf (Elt Ideal) ℓ) (g : Dev Cert.AdamSmallRefIdeal.nD → PrngReg), Pre_AdamSmallRefIdeal m →
    θ_run (Cert.AdamSmallRefIdeal.defs (F := Ideal)) (onTc (τ := Cert.AdamSmallRefIdeal.τ) (Cert.AdamSmallRefIdeal.main (F := Ideal))) ⟨m, fun _ => 0, g⟩ (fun r => (∀ c : Dev Cert.AdamSmallRefIdeal.nD,
      r.2.mem ((c.tc : Thread Cert.AdamSmallRefIdeal.nD Cert.AdamSmallRefIdeal.τ).loc Cert.AdamSmallRefIdeal.main_arg0) = m ((c.tc : Thread Cert.AdamSmallRefIdeal.nD Cert.AdamSmallRefIdeal.τ).loc Cert.AdamSmallRefIdeal.main_arg0)
      ∧ r.2.mem ((c.tc : Thread Cert.AdamSmallRefIdeal.nD Cert.AdamSmallRefIdeal.τ).loc Cert.AdamSmallRefIdeal.main_arg1) = m ((c.tc : Thread Cert.AdamSmallRefIdeal.nD Cert.AdamSmallRefIdeal.τ).loc Cert.AdamSmallRefIdeal.main_arg1)
      ∧ r.2.mem ((c.tc : Thread Cert.AdamSmallRefIdeal.nD Cert.AdamSmallRefIdeal.τ).loc Cert.AdamSmallRefIdeal.main_arg2) = m ((c.tc : Thread Cert.AdamSmallRefIdeal.nD Cert.AdamSmallRefIdeal.τ).loc Cert.AdamSmallRefIdeal.main_arg2)
      ∧ r.2.mem ((c.tc : Thread Cert.AdamSmallRefIdeal.nD Cert.AdamSmallRefIdeal.τ).loc Cert.AdamSmallRefIdeal.main_arg3) = m ((c.tc : Thread Cert.AdamSmallRefIdeal.nD Cert.AdamSmallRefIdeal.τ).loc Cert.AdamSmallRefIdeal.main_arg3))
      ∧ r.2.sem = fun _ => 0)

def quiescent_AdaBwd [hAdaBwd : Cert.AdaBwd.Facts] : Prop :=
  ∀ (m : (ℓ : Loc Cert.AdaBwd.nD Cert.AdaBwd.τ Cert.AdaBwd.sig) → Buf (Elt Bits) ℓ) (g : Dev Cert.AdaBwd.nD → PrngReg), Pre_AdaBwd m →
    θ_run (Cert.AdaBwd.defs (F := Bits)) (onTc (τ := Cert.AdaBwd.τ) (Cert.AdaBwd.main (F := Bits))) ⟨m, fun _ => 0, g⟩ (fun r => (∀ c : Dev Cert.AdaBwd.nD,
      r.2.mem ((c.tc : Thread Cert.AdaBwd.nD Cert.AdaBwd.τ).loc Cert.AdaBwd.main_arg0) = m ((c.tc : Thread Cert.AdaBwd.nD Cert.AdaBwd.τ).loc Cert.AdaBwd.main_arg0)
      ∧ r.2.mem ((c.tc : Thread Cert.AdaBwd.nD Cert.AdaBwd.τ).loc Cert.AdaBwd.main_arg1) = m ((c.tc : Thread Cert.AdaBwd.nD Cert.AdaBwd.τ).loc Cert.AdaBwd.main_arg1)
      ∧ r.2.mem ((c.tc : Thread Cert.AdaBwd.nD Cert.AdaBwd.τ).loc Cert.AdaBwd.main_arg2) = m ((c.tc : Thread Cert.AdaBwd.nD Cert.AdaBwd.τ).loc Cert.AdaBwd.main_arg2)
      ∧ r.2.mem ((c.tc : Thread Cert.AdaBwd.nD Cert.AdaBwd.τ).loc Cert.AdaBwd.main_arg3) = m ((c.tc : Thread Cert.AdaBwd.nD Cert.AdaBwd.τ).loc Cert.AdaBwd.main_arg3)
      ∧ r.2.mem ((c.tc : Thread Cert.AdaBwd.nD Cert.AdaBwd.τ).loc Cert.AdaBwd.main_arg4) = m ((c.tc : Thread Cert.AdaBwd.nD Cert.AdaBwd.τ).loc Cert.AdaBwd.main_arg4))
      ∧ r.2.sem = fun _ => 0)

def quiescent_AdaBwdIdeal [hAdaBwdIdeal : Cert.AdaBwdIdeal.Facts] : Prop :=
  ∀ (m : (ℓ : Loc Cert.AdaBwdIdeal.nD Cert.AdaBwdIdeal.τ Cert.AdaBwdIdeal.sig) → Buf (Elt Ideal) ℓ) (g : Dev Cert.AdaBwdIdeal.nD → PrngReg), Pre_AdaBwdIdeal m →
    θ_run (Cert.AdaBwdIdeal.defs (F := Ideal)) (onTc (τ := Cert.AdaBwdIdeal.τ) (Cert.AdaBwdIdeal.main (F := Ideal))) ⟨m, fun _ => 0, g⟩ (fun r => (∀ c : Dev Cert.AdaBwdIdeal.nD,
      r.2.mem ((c.tc : Thread Cert.AdaBwdIdeal.nD Cert.AdaBwdIdeal.τ).loc Cert.AdaBwdIdeal.main_arg0) = m ((c.tc : Thread Cert.AdaBwdIdeal.nD Cert.AdaBwdIdeal.τ).loc Cert.AdaBwdIdeal.main_arg0)
      ∧ r.2.mem ((c.tc : Thread Cert.AdaBwdIdeal.nD Cert.AdaBwdIdeal.τ).loc Cert.AdaBwdIdeal.main_arg1) = m ((c.tc : Thread Cert.AdaBwdIdeal.nD Cert.AdaBwdIdeal.τ).loc Cert.AdaBwdIdeal.main_arg1)
      ∧ r.2.mem ((c.tc : Thread Cert.AdaBwdIdeal.nD Cert.AdaBwdIdeal.τ).loc Cert.AdaBwdIdeal.main_arg2) = m ((c.tc : Thread Cert.AdaBwdIdeal.nD Cert.AdaBwdIdeal.τ).loc Cert.AdaBwdIdeal.main_arg2)
      ∧ r.2.mem ((c.tc : Thread Cert.AdaBwdIdeal.nD Cert.AdaBwdIdeal.τ).loc Cert.AdaBwdIdeal.main_arg3) = m ((c.tc : Thread Cert.AdaBwdIdeal.nD Cert.AdaBwdIdeal.τ).loc Cert.AdaBwdIdeal.main_arg3)
      ∧ r.2.mem ((c.tc : Thread Cert.AdaBwdIdeal.nD Cert.AdaBwdIdeal.τ).loc Cert.AdaBwdIdeal.main_arg4) = m ((c.tc : Thread Cert.AdaBwdIdeal.nD Cert.AdaBwdIdeal.τ).loc Cert.AdaBwdIdeal.main_arg4))
      ∧ r.2.sem = fun _ => 0)

def quiescent_AdaBwdRefIdeal [hAdaBwdRefIdeal : Cert.AdaBwdRefIdeal.Facts] : Prop :=
  ∀ (m : (ℓ : Loc Cert.AdaBwdRefIdeal.nD Cert.AdaBwdRefIdeal.τ Cert.AdaBwdRefIdeal.sig) → Buf (Elt Ideal) ℓ) (g : Dev Cert.AdaBwdRefIdeal.nD → PrngReg), Pre_AdaBwdRefIdeal m →
    θ_run (Cert.AdaBwdRefIdeal.defs (F := Ideal)) (onTc (τ := Cert.AdaBwdRefIdeal.τ) (Cert.AdaBwdRefIdeal.main (F := Ideal))) ⟨m, fun _ => 0, g⟩ (fun r => (∀ c : Dev Cert.AdaBwdRefIdeal.nD,
      r.2.mem ((c.tc : Thread Cert.AdaBwdRefIdeal.nD Cert.AdaBwdRefIdeal.τ).loc Cert.AdaBwdRefIdeal.main_arg0) = m ((c.tc : Thread Cert.AdaBwdRefIdeal.nD Cert.AdaBwdRefIdeal.τ).loc Cert.AdaBwdRefIdeal.main_arg0)
      ∧ r.2.mem ((c.tc : Thread Cert.AdaBwdRefIdeal.nD Cert.AdaBwdRefIdeal.τ).loc Cert.AdaBwdRefIdeal.main_arg1) = m ((c.tc : Thread Cert.AdaBwdRefIdeal.nD Cert.AdaBwdRefIdeal.τ).loc Cert.AdaBwdRefIdeal.main_arg1)
      ∧ r.2.mem ((c.tc : Thread Cert.AdaBwdRefIdeal.nD Cert.AdaBwdRefIdeal.τ).loc Cert.AdaBwdRefIdeal.main_arg2) = m ((c.tc : Thread Cert.AdaBwdRefIdeal.nD Cert.AdaBwdRefIdeal.τ).loc Cert.AdaBwdRefIdeal.main_arg2)
      ∧ r.2.mem ((c.tc : Thread Cert.AdaBwdRefIdeal.nD Cert.AdaBwdRefIdeal.τ).loc Cert.AdaBwdRefIdeal.main_arg3) = m ((c.tc : Thread Cert.AdaBwdRefIdeal.nD Cert.AdaBwdRefIdeal.τ).loc Cert.AdaBwdRefIdeal.main_arg3)
      ∧ r.2.mem ((c.tc : Thread Cert.AdaBwdRefIdeal.nD Cert.AdaBwdRefIdeal.τ).loc Cert.AdaBwdRefIdeal.main_arg4) = m ((c.tc : Thread Cert.AdaBwdRefIdeal.nD Cert.AdaBwdRefIdeal.τ).loc Cert.AdaBwdRefIdeal.main_arg4))
      ∧ r.2.sem = fun _ => 0)

def quiescent_SmallSum [hSmallSum : Cert.SmallSum.Facts] : Prop :=
  ∀ (m : (ℓ : Loc Cert.SmallSum.nD Cert.SmallSum.τ Cert.SmallSum.sig) → Buf (Elt Bits) ℓ) (g : Dev Cert.SmallSum.nD → PrngReg), Pre_SmallSum m →
    θ_run (Cert.SmallSum.defs (F := Bits)) (onTc (τ := Cert.SmallSum.τ) (Cert.SmallSum.main (F := Bits))) ⟨m, fun _ => 0, g⟩ (fun r => (∀ c : Dev Cert.SmallSum.nD,
      r.2.mem ((c.tc : Thread Cert.SmallSum.nD Cert.SmallSum.τ).loc Cert.SmallSum.main_arg0) = m ((c.tc : Thread Cert.SmallSum.nD Cert.SmallSum.τ).loc Cert.SmallSum.main_arg0))
      ∧ r.2.sem = fun _ => 0)

def quiescent_SmallSumIdeal [hSmallSumIdeal : Cert.SmallSumIdeal.Facts] : Prop :=
  ∀ (m : (ℓ : Loc Cert.SmallSumIdeal.nD Cert.SmallSumIdeal.τ Cert.SmallSumIdeal.sig) → Buf (Elt Ideal) ℓ) (g : Dev Cert.SmallSumIdeal.nD → PrngReg), Pre_SmallSumIdeal m →
    θ_run (Cert.SmallSumIdeal.defs (F := Ideal)) (onTc (τ := Cert.SmallSumIdeal.τ) (Cert.SmallSumIdeal.main (F := Ideal))) ⟨m, fun _ => 0, g⟩ (fun r => (∀ c : Dev Cert.SmallSumIdeal.nD,
      r.2.mem ((c.tc : Thread Cert.SmallSumIdeal.nD Cert.SmallSumIdeal.τ).loc Cert.SmallSumIdeal.main_arg0) = m ((c.tc : Thread Cert.SmallSumIdeal.nD Cert.SmallSumIdeal.τ).loc Cert.SmallSumIdeal.main_arg0))
      ∧ r.2.sem = fun _ => 0)

def quiescent_SmallSumRefIdeal [hSmallSumRefIdeal : Cert.SmallSumRefIdeal.Facts] : Prop :=
  ∀ (m : (ℓ : Loc Cert.SmallSumRefIdeal.nD Cert.SmallSumRefIdeal.τ Cert.SmallSumRefIdeal.sig) → Buf (Elt Ideal) ℓ) (g : Dev Cert.SmallSumRefIdeal.nD → PrngReg), Pre_SmallSumRefIdeal m →
    θ_run (Cert.SmallSumRefIdeal.defs (F := Ideal)) (onTc (τ := Cert.SmallSumRefIdeal.τ) (Cert.SmallSumRefIdeal.main (F := Ideal))) ⟨m, fun _ => 0, g⟩ (fun r => (∀ c : Dev Cert.SmallSumRefIdeal.nD,
      r.2.mem ((c.tc : Thread Cert.SmallSumRefIdeal.nD Cert.SmallSumRefIdeal.τ).loc Cert.SmallSumRefIdeal.main_arg0) = m ((c.tc : Thread Cert.SmallSumRefIdeal.nD Cert.SmallSumRefIdeal.τ).loc Cert.SmallSumRefIdeal.main_arg0))
      ∧ r.2.sem = fun _ => 0)

def preserves_MlpBwd_MlpBwdIdeal : Prop :=
  True

def algebraic_MlpBwdIdeal_MlpBwdRefIdeal [hMlpBwdIdeal : Cert.MlpBwdIdeal.Facts] [hMlpBwdRefIdeal : Cert.MlpBwdRefIdeal.Facts] : Prop :=
  ∀ (m : (ℓ : Loc Cert.MlpBwdIdeal.nD Cert.MlpBwdIdeal.τ Cert.MlpBwdIdeal.sig) → Buf (Elt Ideal) ℓ) (g : Dev Cert.MlpBwdIdeal.nD → PrngReg)
    (m' : (ℓ : Loc Cert.MlpBwdRefIdeal.nD Cert.MlpBwdRefIdeal.τ Cert.MlpBwdRefIdeal.sig) → Buf (Elt Ideal) ℓ) (g' : Dev Cert.MlpBwdRefIdeal.nD → PrngReg), Pre_MlpBwdIdeal m →
    (∀ c : Dev Cert.MlpBwdIdeal.nD,
      m' ((c.tc : Thread Cert.MlpBwdRefIdeal.nD Cert.MlpBwdRefIdeal.τ).loc Cert.MlpBwdRefIdeal.main_arg0) = m ((c.tc : Thread Cert.MlpBwdIdeal.nD Cert.MlpBwdIdeal.τ).loc Cert.MlpBwdIdeal.main_arg0)
      ∧ m' ((c.tc : Thread Cert.MlpBwdRefIdeal.nD Cert.MlpBwdRefIdeal.τ).loc Cert.MlpBwdRefIdeal.main_arg1) = m ((c.tc : Thread Cert.MlpBwdIdeal.nD Cert.MlpBwdIdeal.τ).loc Cert.MlpBwdIdeal.main_arg1)
      ∧ m' ((c.tc : Thread Cert.MlpBwdRefIdeal.nD Cert.MlpBwdRefIdeal.τ).loc Cert.MlpBwdRefIdeal.main_arg2) = m ((c.tc : Thread Cert.MlpBwdIdeal.nD Cert.MlpBwdIdeal.τ).loc Cert.MlpBwdIdeal.main_arg2)
      ∧ m' ((c.tc : Thread Cert.MlpBwdRefIdeal.nD Cert.MlpBwdRefIdeal.τ).loc Cert.MlpBwdRefIdeal.main_arg3) = m ((c.tc : Thread Cert.MlpBwdIdeal.nD Cert.MlpBwdIdeal.τ).loc Cert.MlpBwdIdeal.main_arg3)) →
    ∃ (v0 : (c : Dev Cert.MlpBwdIdeal.nD) → Buf (Elt Ideal) ((c.tc : Thread Cert.MlpBwdIdeal.nD Cert.MlpBwdIdeal.τ).loc Cert.MlpBwdIdeal.main_v5_0)) (v1 : (c : Dev Cert.MlpBwdIdeal.nD) → Buf (Elt Ideal) ((c.tc : Thread Cert.MlpBwdIdeal.nD Cert.MlpBwdIdeal.τ).loc Cert.MlpBwdIdeal.main_v5_1)) (v2 : (c : Dev Cert.MlpBwdIdeal.nD) → Buf (Elt Ideal) ((c.tc : Thread Cert.MlpBwdIdeal.nD Cert.MlpBwdIdeal.τ).loc Cert.MlpBwdIdeal.main_v5_2)),
      θ_run (Cert.MlpBwdIdeal.defs (F := Ideal)) (onTc (τ := Cert.MlpBwdIdeal.τ) (Cert.MlpBwdIdeal.main (F := Ideal))) ⟨m, fun _ => 0, g⟩ (fun r => ∀ c : Dev Cert.MlpBwdIdeal.nD,
          r.2.mem ((c.tc : Thread Cert.MlpBwdIdeal.nD Cert.MlpBwdIdeal.τ).loc Cert.MlpBwdIdeal.main_v5_0) = v0 c
          ∧ r.2.mem ((c.tc : Thread Cert.MlpBwdIdeal.nD Cert.MlpBwdIdeal.τ).loc Cert.MlpBwdIdeal.main_v5_1) = v1 c
          ∧ r.2.mem ((c.tc : Thread Cert.MlpBwdIdeal.nD Cert.MlpBwdIdeal.τ).loc Cert.MlpBwdIdeal.main_v5_2) = v2 c
          ∧ r.2.mem ((c.tc : Thread Cert.MlpBwdIdeal.nD Cert.MlpBwdIdeal.τ).loc Cert.MlpBwdIdeal.main_arg0) = m ((c.tc : Thread Cert.MlpBwdIdeal.nD Cert.MlpBwdIdeal.τ).loc Cert.MlpBwdIdeal.main_arg0)
          ∧ r.2.mem ((c.tc : Thread Cert.MlpBwdIdeal.nD Cert.MlpBwdIdeal.τ).loc Cert.MlpBwdIdeal.main_arg1) = m ((c.tc : Thread Cert.MlpBwdIdeal.nD Cert.MlpBwdIdeal.τ).loc Cert.MlpBwdIdeal.main_arg1)
          ∧ r.2.mem ((c.tc : Thread Cert.MlpBwdIdeal.nD Cert.MlpBwdIdeal.τ).loc Cert.MlpBwdIdeal.main_arg2) = m ((c.tc : Thread Cert.MlpBwdIdeal.nD Cert.MlpBwdIdeal.τ).loc Cert.MlpBwdIdeal.main_arg2)
          ∧ r.2.mem ((c.tc : Thread Cert.MlpBwdIdeal.nD Cert.MlpBwdIdeal.τ).loc Cert.MlpBwdIdeal.main_arg3) = m ((c.tc : Thread Cert.MlpBwdIdeal.nD Cert.MlpBwdIdeal.τ).loc Cert.MlpBwdIdeal.main_arg3))
      ∧ θ_run (Cert.MlpBwdRefIdeal.defs (F := Ideal)) (onTc (τ := Cert.MlpBwdRefIdeal.τ) (Cert.MlpBwdRefIdeal.main (F := Ideal))) ⟨m', fun _ => 0, g'⟩ (fun r => ∀ c : Dev Cert.MlpBwdRefIdeal.nD,
          r.2.mem ((c.tc : Thread Cert.MlpBwdRefIdeal.nD Cert.MlpBwdRefIdeal.τ).loc Cert.MlpBwdRefIdeal.main_v30) = v0 c
          ∧ r.2.mem ((c.tc : Thread Cert.MlpBwdRefIdeal.nD Cert.MlpBwdRefIdeal.τ).loc Cert.MlpBwdRefIdeal.main_v23) = v1 c
          ∧ r.2.mem ((c.tc : Thread Cert.MlpBwdRefIdeal.nD Cert.MlpBwdRefIdeal.τ).loc Cert.MlpBwdRefIdeal.main_v32) = v2 c
          ∧ r.2.mem ((c.tc : Thread Cert.MlpBwdRefIdeal.nD Cert.MlpBwdRefIdeal.τ).loc Cert.MlpBwdRefIdeal.main_arg0) = m' ((c.tc : Thread Cert.MlpBwdRefIdeal.nD Cert.MlpBwdRefIdeal.τ).loc Cert.MlpBwdRefIdeal.main_arg0)
          ∧ r.2.mem ((c.tc : Thread Cert.MlpBwdRefIdeal.nD Cert.MlpBwdRefIdeal.τ).loc Cert.MlpBwdRefIdeal.main_arg1) = m' ((c.tc : Thread Cert.MlpBwdRefIdeal.nD Cert.MlpBwdRefIdeal.τ).loc Cert.MlpBwdRefIdeal.main_arg1)
          ∧ r.2.mem ((c.tc : Thread Cert.MlpBwdRefIdeal.nD Cert.MlpBwdRefIdeal.τ).loc Cert.MlpBwdRefIdeal.main_arg2) = m' ((c.tc : Thread Cert.MlpBwdRefIdeal.nD Cert.MlpBwdRefIdeal.τ).loc Cert.MlpBwdRefIdeal.main_arg2)
          ∧ r.2.mem ((c.tc : Thread Cert.MlpBwdRefIdeal.nD Cert.MlpBwdRefIdeal.τ).loc Cert.MlpBwdRefIdeal.main_arg3) = m' ((c.tc : Thread Cert.MlpBwdRefIdeal.nD Cert.MlpBwdRefIdeal.τ).loc Cert.MlpBwdRefIdeal.main_arg3))

def preserves_MlpFwd_MlpFwdIdeal : Prop :=
  True

def algebraic_MlpFwdIdeal_MlpFwdRefIdeal [hMlpFwdIdeal : Cert.MlpFwdIdeal.Facts] [hMlpFwdRefIdeal : Cert.MlpFwdRefIdeal.Facts] : Prop :=
  ∀ (m : (ℓ : Loc Cert.MlpFwdIdeal.nD Cert.MlpFwdIdeal.τ Cert.MlpFwdIdeal.sig) → Buf (Elt Ideal) ℓ) (g : Dev Cert.MlpFwdIdeal.nD → PrngReg)
    (m' : (ℓ : Loc Cert.MlpFwdRefIdeal.nD Cert.MlpFwdRefIdeal.τ Cert.MlpFwdRefIdeal.sig) → Buf (Elt Ideal) ℓ) (g' : Dev Cert.MlpFwdRefIdeal.nD → PrngReg), Pre_MlpFwdIdeal m →
    (∀ c : Dev Cert.MlpFwdIdeal.nD,
      m' ((c.tc : Thread Cert.MlpFwdRefIdeal.nD Cert.MlpFwdRefIdeal.τ).loc Cert.MlpFwdRefIdeal.main_arg0) = m ((c.tc : Thread Cert.MlpFwdIdeal.nD Cert.MlpFwdIdeal.τ).loc Cert.MlpFwdIdeal.main_arg0)
      ∧ m' ((c.tc : Thread Cert.MlpFwdRefIdeal.nD Cert.MlpFwdRefIdeal.τ).loc Cert.MlpFwdRefIdeal.main_arg1) = m ((c.tc : Thread Cert.MlpFwdIdeal.nD Cert.MlpFwdIdeal.τ).loc Cert.MlpFwdIdeal.main_arg1)
      ∧ m' ((c.tc : Thread Cert.MlpFwdRefIdeal.nD Cert.MlpFwdRefIdeal.τ).loc Cert.MlpFwdRefIdeal.main_arg2) = m ((c.tc : Thread Cert.MlpFwdIdeal.nD Cert.MlpFwdIdeal.τ).loc Cert.MlpFwdIdeal.main_arg2)) →
    ∃ (v0 : (c : Dev Cert.MlpFwdIdeal.nD) → Buf (Elt Ideal) ((c.tc : Thread Cert.MlpFwdIdeal.nD Cert.MlpFwdIdeal.τ).loc Cert.MlpFwdIdeal.main_v3_0)) (v1 : (c : Dev Cert.MlpFwdIdeal.nD) → Buf (Elt Ideal) ((c.tc : Thread Cert.MlpFwdIdeal.nD Cert.MlpFwdIdeal.τ).loc Cert.MlpFwdIdeal.main_v3_1)),
      θ_run (Cert.MlpFwdIdeal.defs (F := Ideal)) (onTc (τ := Cert.MlpFwdIdeal.τ) (Cert.MlpFwdIdeal.main (F := Ideal))) ⟨m, fun _ => 0, g⟩ (fun r => ∀ c : Dev Cert.MlpFwdIdeal.nD,
          r.2.mem ((c.tc : Thread Cert.MlpFwdIdeal.nD Cert.MlpFwdIdeal.τ).loc Cert.MlpFwdIdeal.main_v3_0) = v0 c
          ∧ r.2.mem ((c.tc : Thread Cert.MlpFwdIdeal.nD Cert.MlpFwdIdeal.τ).loc Cert.MlpFwdIdeal.main_v3_1) = v1 c
          ∧ r.2.mem ((c.tc : Thread Cert.MlpFwdIdeal.nD Cert.MlpFwdIdeal.τ).loc Cert.MlpFwdIdeal.main_arg0) = m ((c.tc : Thread Cert.MlpFwdIdeal.nD Cert.MlpFwdIdeal.τ).loc Cert.MlpFwdIdeal.main_arg0)
          ∧ r.2.mem ((c.tc : Thread Cert.MlpFwdIdeal.nD Cert.MlpFwdIdeal.τ).loc Cert.MlpFwdIdeal.main_arg1) = m ((c.tc : Thread Cert.MlpFwdIdeal.nD Cert.MlpFwdIdeal.τ).loc Cert.MlpFwdIdeal.main_arg1)
          ∧ r.2.mem ((c.tc : Thread Cert.MlpFwdIdeal.nD Cert.MlpFwdIdeal.τ).loc Cert.MlpFwdIdeal.main_arg2) = m ((c.tc : Thread Cert.MlpFwdIdeal.nD Cert.MlpFwdIdeal.τ).loc Cert.MlpFwdIdeal.main_arg2))
      ∧ θ_run (Cert.MlpFwdRefIdeal.defs (F := Ideal)) (onTc (τ := Cert.MlpFwdRefIdeal.τ) (Cert.MlpFwdRefIdeal.main (F := Ideal))) ⟨m', fun _ => 0, g'⟩ (fun r => ∀ c : Dev Cert.MlpFwdRefIdeal.nD,
          r.2.mem ((c.tc : Thread Cert.MlpFwdRefIdeal.nD Cert.MlpFwdRefIdeal.τ).loc Cert.MlpFwdRefIdeal.main_v1) = v0 c
          ∧ r.2.mem ((c.tc : Thread Cert.MlpFwdRefIdeal.nD Cert.MlpFwdRefIdeal.τ).loc Cert.MlpFwdRefIdeal.main_v5) = v1 c
          ∧ r.2.mem ((c.tc : Thread Cert.MlpFwdRefIdeal.nD Cert.MlpFwdRefIdeal.τ).loc Cert.MlpFwdRefIdeal.main_arg0) = m' ((c.tc : Thread Cert.MlpFwdRefIdeal.nD Cert.MlpFwdRefIdeal.τ).loc Cert.MlpFwdRefIdeal.main_arg0)
          ∧ r.2.mem ((c.tc : Thread Cert.MlpFwdRefIdeal.nD Cert.MlpFwdRefIdeal.τ).loc Cert.MlpFwdRefIdeal.main_arg1) = m' ((c.tc : Thread Cert.MlpFwdRefIdeal.nD Cert.MlpFwdRefIdeal.τ).loc Cert.MlpFwdRefIdeal.main_arg1)
          ∧ r.2.mem ((c.tc : Thread Cert.MlpFwdRefIdeal.nD Cert.MlpFwdRefIdeal.τ).loc Cert.MlpFwdRefIdeal.main_arg2) = m' ((c.tc : Thread Cert.MlpFwdRefIdeal.nD Cert.MlpFwdRefIdeal.τ).loc Cert.MlpFwdRefIdeal.main_arg2))

def preserves_MlpInBwd_MlpInBwdIdeal : Prop :=
  True

def algebraic_MlpInBwdIdeal_MlpInBwdRefIdeal [hMlpInBwdIdeal : Cert.MlpInBwdIdeal.Facts] [hMlpInBwdRefIdeal : Cert.MlpInBwdRefIdeal.Facts] : Prop :=
  ∀ (m : (ℓ : Loc Cert.MlpInBwdIdeal.nD Cert.MlpInBwdIdeal.τ Cert.MlpInBwdIdeal.sig) → Buf (Elt Ideal) ℓ) (g : Dev Cert.MlpInBwdIdeal.nD → PrngReg)
    (m' : (ℓ : Loc Cert.MlpInBwdRefIdeal.nD Cert.MlpInBwdRefIdeal.τ Cert.MlpInBwdRefIdeal.sig) → Buf (Elt Ideal) ℓ) (g' : Dev Cert.MlpInBwdRefIdeal.nD → PrngReg), Pre_MlpInBwdIdeal m →
    (∀ c : Dev Cert.MlpInBwdIdeal.nD,
      m' ((c.tc : Thread Cert.MlpInBwdRefIdeal.nD Cert.MlpInBwdRefIdeal.τ).loc Cert.MlpInBwdRefIdeal.main_arg0) = m ((c.tc : Thread Cert.MlpInBwdIdeal.nD Cert.MlpInBwdIdeal.τ).loc Cert.MlpInBwdIdeal.main_arg0)
      ∧ m' ((c.tc : Thread Cert.MlpInBwdRefIdeal.nD Cert.MlpInBwdRefIdeal.τ).loc Cert.MlpInBwdRefIdeal.main_arg1) = m ((c.tc : Thread Cert.MlpInBwdIdeal.nD Cert.MlpInBwdIdeal.τ).loc Cert.MlpInBwdIdeal.main_arg1)) →
    ∃ (v0 : (c : Dev Cert.MlpInBwdIdeal.nD) → Buf (Elt Ideal) ((c.tc : Thread Cert.MlpInBwdIdeal.nD Cert.MlpInBwdIdeal.τ).loc Cert.MlpInBwdIdeal.main_v2)),
      θ_run (Cert.MlpInBwdIdeal.defs (F := Ideal)) (onTc (τ := Cert.MlpInBwdIdeal.τ) (Cert.MlpInBwdIdeal.main (F := Ideal))) ⟨m, fun _ => 0, g⟩ (fun r => ∀ c : Dev Cert.MlpInBwdIdeal.nD,
          r.2.mem ((c.tc : Thread Cert.MlpInBwdIdeal.nD Cert.MlpInBwdIdeal.τ).loc Cert.MlpInBwdIdeal.main_v2) = v0 c
          ∧ r.2.mem ((c.tc : Thread Cert.MlpInBwdIdeal.nD Cert.MlpInBwdIdeal.τ).loc Cert.MlpInBwdIdeal.main_arg0) = m ((c.tc : Thread Cert.MlpInBwdIdeal.nD Cert.MlpInBwdIdeal.τ).loc Cert.MlpInBwdIdeal.main_arg0)
          ∧ r.2.mem ((c.tc : Thread Cert.MlpInBwdIdeal.nD Cert.MlpInBwdIdeal.τ).loc Cert.MlpInBwdIdeal.main_arg1) = m ((c.tc : Thread Cert.MlpInBwdIdeal.nD Cert.MlpInBwdIdeal.τ).loc Cert.MlpInBwdIdeal.main_arg1))
      ∧ θ_run (Cert.MlpInBwdRefIdeal.defs (F := Ideal)) (onTc (τ := Cert.MlpInBwdRefIdeal.τ) (Cert.MlpInBwdRefIdeal.main (F := Ideal))) ⟨m', fun _ => 0, g'⟩ (fun r => ∀ c : Dev Cert.MlpInBwdRefIdeal.nD,
          r.2.mem ((c.tc : Thread Cert.MlpInBwdRefIdeal.nD Cert.MlpInBwdRefIdeal.τ).loc Cert.MlpInBwdRefIdeal.main_v2) = v0 c
          ∧ r.2.mem ((c.tc : Thread Cert.MlpInBwdRefIdeal.nD Cert.MlpInBwdRefIdeal.τ).loc Cert.MlpInBwdRefIdeal.main_arg0) = m' ((c.tc : Thread Cert.MlpInBwdRefIdeal.nD Cert.MlpInBwdRefIdeal.τ).loc Cert.MlpInBwdRefIdeal.main_arg0)
          ∧ r.2.mem ((c.tc : Thread Cert.MlpInBwdRefIdeal.nD Cert.MlpInBwdRefIdeal.τ).loc Cert.MlpInBwdRefIdeal.main_arg1) = m' ((c.tc : Thread Cert.MlpInBwdRefIdeal.nD Cert.MlpInBwdRefIdeal.τ).loc Cert.MlpInBwdRefIdeal.main_arg1))

def preserves_InWgrad_InWgradIdeal : Prop :=
  True

def algebraic_InWgradIdeal_InWgradRefIdeal [hInWgradIdeal : Cert.InWgradIdeal.Facts] [hInWgradRefIdeal : Cert.InWgradRefIdeal.Facts] : Prop :=
  ∀ (m : (ℓ : Loc Cert.InWgradIdeal.nD Cert.InWgradIdeal.τ Cert.InWgradIdeal.sig) → Buf (Elt Ideal) ℓ) (g : Dev Cert.InWgradIdeal.nD → PrngReg)
    (m' : (ℓ : Loc Cert.InWgradRefIdeal.nD Cert.InWgradRefIdeal.τ Cert.InWgradRefIdeal.sig) → Buf (Elt Ideal) ℓ) (g' : Dev Cert.InWgradRefIdeal.nD → PrngReg), Pre_InWgradIdeal m →
    (∀ c : Dev Cert.InWgradIdeal.nD,
      m' ((c.tc : Thread Cert.InWgradRefIdeal.nD Cert.InWgradRefIdeal.τ).loc Cert.InWgradRefIdeal.main_arg0) = m ((c.tc : Thread Cert.InWgradIdeal.nD Cert.InWgradIdeal.τ).loc Cert.InWgradIdeal.main_arg0)
      ∧ m' ((c.tc : Thread Cert.InWgradRefIdeal.nD Cert.InWgradRefIdeal.τ).loc Cert.InWgradRefIdeal.main_arg1) = m ((c.tc : Thread Cert.InWgradIdeal.nD Cert.InWgradIdeal.τ).loc Cert.InWgradIdeal.main_arg1)) →
    ∃ (v0 : (c : Dev Cert.InWgradIdeal.nD) → Buf (Elt Ideal) ((c.tc : Thread Cert.InWgradIdeal.nD Cert.InWgradIdeal.τ).loc Cert.InWgradIdeal.main_v2)),
      θ_run (Cert.InWgradIdeal.defs (F := Ideal)) (onTc (τ := Cert.InWgradIdeal.τ) (Cert.InWgradIdeal.main (F := Ideal))) ⟨m, fun _ => 0, g⟩ (fun r => ∀ c : Dev Cert.InWgradIdeal.nD,
          r.2.mem ((c.tc : Thread Cert.InWgradIdeal.nD Cert.InWgradIdeal.τ).loc Cert.InWgradIdeal.main_v2) = v0 c
          ∧ r.2.mem ((c.tc : Thread Cert.InWgradIdeal.nD Cert.InWgradIdeal.τ).loc Cert.InWgradIdeal.main_arg0) = m ((c.tc : Thread Cert.InWgradIdeal.nD Cert.InWgradIdeal.τ).loc Cert.InWgradIdeal.main_arg0)
          ∧ r.2.mem ((c.tc : Thread Cert.InWgradIdeal.nD Cert.InWgradIdeal.τ).loc Cert.InWgradIdeal.main_arg1) = m ((c.tc : Thread Cert.InWgradIdeal.nD Cert.InWgradIdeal.τ).loc Cert.InWgradIdeal.main_arg1))
      ∧ θ_run (Cert.InWgradRefIdeal.defs (F := Ideal)) (onTc (τ := Cert.InWgradRefIdeal.τ) (Cert.InWgradRefIdeal.main (F := Ideal))) ⟨m', fun _ => 0, g'⟩ (fun r => ∀ c : Dev Cert.InWgradRefIdeal.nD,
          r.2.mem ((c.tc : Thread Cert.InWgradRefIdeal.nD Cert.InWgradRefIdeal.τ).loc Cert.InWgradRefIdeal.main_v3) = v0 c
          ∧ r.2.mem ((c.tc : Thread Cert.InWgradRefIdeal.nD Cert.InWgradRefIdeal.τ).loc Cert.InWgradRefIdeal.main_arg0) = m' ((c.tc : Thread Cert.InWgradRefIdeal.nD Cert.InWgradRefIdeal.τ).loc Cert.InWgradRefIdeal.main_arg0)
          ∧ r.2.mem ((c.tc : Thread Cert.InWgradRefIdeal.nD Cert.InWgradRefIdeal.τ).loc Cert.InWgradRefIdeal.main_arg1) = m' ((c.tc : Thread Cert.InWgradRefIdeal.nD Cert.InWgradRefIdeal.τ).loc Cert.InWgradRefIdeal.main_arg1))

def preserves_OutWgrad_OutWgradIdeal : Prop :=
  True

def algebraic_OutWgradIdeal_OutWgradRefIdeal [hOutWgradIdeal : Cert.OutWgradIdeal.Facts] [hOutWgradRefIdeal : Cert.OutWgradRefIdeal.Facts] : Prop :=
  ∀ (m : (ℓ : Loc Cert.OutWgradIdeal.nD Cert.OutWgradIdeal.τ Cert.OutWgradIdeal.sig) → Buf (Elt Ideal) ℓ) (g : Dev Cert.OutWgradIdeal.nD → PrngReg)
    (m' : (ℓ : Loc Cert.OutWgradRefIdeal.nD Cert.OutWgradRefIdeal.τ Cert.OutWgradRefIdeal.sig) → Buf (Elt Ideal) ℓ) (g' : Dev Cert.OutWgradRefIdeal.nD → PrngReg), Pre_OutWgradIdeal m →
    (∀ c : Dev Cert.OutWgradIdeal.nD,
      m' ((c.tc : Thread Cert.OutWgradRefIdeal.nD Cert.OutWgradRefIdeal.τ).loc Cert.OutWgradRefIdeal.main_arg0) = m ((c.tc : Thread Cert.OutWgradIdeal.nD Cert.OutWgradIdeal.τ).loc Cert.OutWgradIdeal.main_arg0)
      ∧ m' ((c.tc : Thread Cert.OutWgradRefIdeal.nD Cert.OutWgradRefIdeal.τ).loc Cert.OutWgradRefIdeal.main_arg1) = m ((c.tc : Thread Cert.OutWgradIdeal.nD Cert.OutWgradIdeal.τ).loc Cert.OutWgradIdeal.main_arg1)) →
    ∃ (v0 : (c : Dev Cert.OutWgradIdeal.nD) → Buf (Elt Ideal) ((c.tc : Thread Cert.OutWgradIdeal.nD Cert.OutWgradIdeal.τ).loc Cert.OutWgradIdeal.main_v2)),
      θ_run (Cert.OutWgradIdeal.defs (F := Ideal)) (onTc (τ := Cert.OutWgradIdeal.τ) (Cert.OutWgradIdeal.main (F := Ideal))) ⟨m, fun _ => 0, g⟩ (fun r => ∀ c : Dev Cert.OutWgradIdeal.nD,
          r.2.mem ((c.tc : Thread Cert.OutWgradIdeal.nD Cert.OutWgradIdeal.τ).loc Cert.OutWgradIdeal.main_v2) = v0 c
          ∧ r.2.mem ((c.tc : Thread Cert.OutWgradIdeal.nD Cert.OutWgradIdeal.τ).loc Cert.OutWgradIdeal.main_arg0) = m ((c.tc : Thread Cert.OutWgradIdeal.nD Cert.OutWgradIdeal.τ).loc Cert.OutWgradIdeal.main_arg0)
          ∧ r.2.mem ((c.tc : Thread Cert.OutWgradIdeal.nD Cert.OutWgradIdeal.τ).loc Cert.OutWgradIdeal.main_arg1) = m ((c.tc : Thread Cert.OutWgradIdeal.nD Cert.OutWgradIdeal.τ).loc Cert.OutWgradIdeal.main_arg1))
      ∧ θ_run (Cert.OutWgradRefIdeal.defs (F := Ideal)) (onTc (τ := Cert.OutWgradRefIdeal.τ) (Cert.OutWgradRefIdeal.main (F := Ideal))) ⟨m', fun _ => 0, g'⟩ (fun r => ∀ c : Dev Cert.OutWgradRefIdeal.nD,
          r.2.mem ((c.tc : Thread Cert.OutWgradRefIdeal.nD Cert.OutWgradRefIdeal.τ).loc Cert.OutWgradRefIdeal.main_v3) = v0 c
          ∧ r.2.mem ((c.tc : Thread Cert.OutWgradRefIdeal.nD Cert.OutWgradRefIdeal.τ).loc Cert.OutWgradRefIdeal.main_arg0) = m' ((c.tc : Thread Cert.OutWgradRefIdeal.nD Cert.OutWgradRefIdeal.τ).loc Cert.OutWgradRefIdeal.main_arg0)
          ∧ r.2.mem ((c.tc : Thread Cert.OutWgradRefIdeal.nD Cert.OutWgradRefIdeal.τ).loc Cert.OutWgradRefIdeal.main_arg1) = m' ((c.tc : Thread Cert.OutWgradRefIdeal.nD Cert.OutWgradRefIdeal.τ).loc Cert.OutWgradRefIdeal.main_arg1))

def preserves_InBwd_InBwdIdeal : Prop :=
  True

def algebraic_InBwdIdeal_InBwdRefIdeal [hInBwdIdeal : Cert.InBwdIdeal.Facts] [hInBwdRefIdeal : Cert.InBwdRefIdeal.Facts] : Prop :=
  ∀ (m : (ℓ : Loc Cert.InBwdIdeal.nD Cert.InBwdIdeal.τ Cert.InBwdIdeal.sig) → Buf (Elt Ideal) ℓ) (g : Dev Cert.InBwdIdeal.nD → PrngReg)
    (m' : (ℓ : Loc Cert.InBwdRefIdeal.nD Cert.InBwdRefIdeal.τ Cert.InBwdRefIdeal.sig) → Buf (Elt Ideal) ℓ) (g' : Dev Cert.InBwdRefIdeal.nD → PrngReg), Pre_InBwdIdeal m →
    (∀ c : Dev Cert.InBwdIdeal.nD,
      m' ((c.tc : Thread Cert.InBwdRefIdeal.nD Cert.InBwdRefIdeal.τ).loc Cert.InBwdRefIdeal.main_arg0) = m ((c.tc : Thread Cert.InBwdIdeal.nD Cert.InBwdIdeal.τ).loc Cert.InBwdIdeal.main_arg0)
      ∧ m' ((c.tc : Thread Cert.InBwdRefIdeal.nD Cert.InBwdRefIdeal.τ).loc Cert.InBwdRefIdeal.main_arg1) = m ((c.tc : Thread Cert.InBwdIdeal.nD Cert.InBwdIdeal.τ).loc Cert.InBwdIdeal.main_arg1)) →
    ∃ (v0 : (c : Dev Cert.InBwdIdeal.nD) → Buf (Elt Ideal) ((c.tc : Thread Cert.InBwdIdeal.nD Cert.InBwdIdeal.τ).loc Cert.InBwdIdeal.main_v2)),
      θ_run (Cert.InBwdIdeal.defs (F := Ideal)) (onTc (τ := Cert.InBwdIdeal.τ) (Cert.InBwdIdeal.main (F := Ideal))) ⟨m, fun _ => 0, g⟩ (fun r => ∀ c : Dev Cert.InBwdIdeal.nD,
          r.2.mem ((c.tc : Thread Cert.InBwdIdeal.nD Cert.InBwdIdeal.τ).loc Cert.InBwdIdeal.main_v2) = v0 c
          ∧ r.2.mem ((c.tc : Thread Cert.InBwdIdeal.nD Cert.InBwdIdeal.τ).loc Cert.InBwdIdeal.main_arg0) = m ((c.tc : Thread Cert.InBwdIdeal.nD Cert.InBwdIdeal.τ).loc Cert.InBwdIdeal.main_arg0)
          ∧ r.2.mem ((c.tc : Thread Cert.InBwdIdeal.nD Cert.InBwdIdeal.τ).loc Cert.InBwdIdeal.main_arg1) = m ((c.tc : Thread Cert.InBwdIdeal.nD Cert.InBwdIdeal.τ).loc Cert.InBwdIdeal.main_arg1))
      ∧ θ_run (Cert.InBwdRefIdeal.defs (F := Ideal)) (onTc (τ := Cert.InBwdRefIdeal.τ) (Cert.InBwdRefIdeal.main (F := Ideal))) ⟨m', fun _ => 0, g'⟩ (fun r => ∀ c : Dev Cert.InBwdRefIdeal.nD,
          r.2.mem ((c.tc : Thread Cert.InBwdRefIdeal.nD Cert.InBwdRefIdeal.τ).loc Cert.InBwdRefIdeal.main_v2) = v0 c
          ∧ r.2.mem ((c.tc : Thread Cert.InBwdRefIdeal.nD Cert.InBwdRefIdeal.τ).loc Cert.InBwdRefIdeal.main_arg0) = m' ((c.tc : Thread Cert.InBwdRefIdeal.nD Cert.InBwdRefIdeal.τ).loc Cert.InBwdRefIdeal.main_arg0)
          ∧ r.2.mem ((c.tc : Thread Cert.InBwdRefIdeal.nD Cert.InBwdRefIdeal.τ).loc Cert.InBwdRefIdeal.main_arg1) = m' ((c.tc : Thread Cert.InBwdRefIdeal.nD Cert.InBwdRefIdeal.τ).loc Cert.InBwdRefIdeal.main_arg1))

def preserves_OutBwd_OutBwdIdeal : Prop :=
  True

def algebraic_OutBwdIdeal_OutBwdRefIdeal [hOutBwdIdeal : Cert.OutBwdIdeal.Facts] [hOutBwdRefIdeal : Cert.OutBwdRefIdeal.Facts] : Prop :=
  ∀ (m : (ℓ : Loc Cert.OutBwdIdeal.nD Cert.OutBwdIdeal.τ Cert.OutBwdIdeal.sig) → Buf (Elt Ideal) ℓ) (g : Dev Cert.OutBwdIdeal.nD → PrngReg)
    (m' : (ℓ : Loc Cert.OutBwdRefIdeal.nD Cert.OutBwdRefIdeal.τ Cert.OutBwdRefIdeal.sig) → Buf (Elt Ideal) ℓ) (g' : Dev Cert.OutBwdRefIdeal.nD → PrngReg), Pre_OutBwdIdeal m →
    (∀ c : Dev Cert.OutBwdIdeal.nD,
      m' ((c.tc : Thread Cert.OutBwdRefIdeal.nD Cert.OutBwdRefIdeal.τ).loc Cert.OutBwdRefIdeal.main_arg0) = m ((c.tc : Thread Cert.OutBwdIdeal.nD Cert.OutBwdIdeal.τ).loc Cert.OutBwdIdeal.main_arg0)
      ∧ m' ((c.tc : Thread Cert.OutBwdRefIdeal.nD Cert.OutBwdRefIdeal.τ).loc Cert.OutBwdRefIdeal.main_arg1) = m ((c.tc : Thread Cert.OutBwdIdeal.nD Cert.OutBwdIdeal.τ).loc Cert.OutBwdIdeal.main_arg1)) →
    ∃ (v0 : (c : Dev Cert.OutBwdIdeal.nD) → Buf (Elt Ideal) ((c.tc : Thread Cert.OutBwdIdeal.nD Cert.OutBwdIdeal.τ).loc Cert.OutBwdIdeal.main_v2)),
      θ_run (Cert.OutBwdIdeal.defs (F := Ideal)) (onTc (τ := Cert.OutBwdIdeal.τ) (Cert.OutBwdIdeal.main (F := Ideal))) ⟨m, fun _ => 0, g⟩ (fun r => ∀ c : Dev Cert.OutBwdIdeal.nD,
          r.2.mem ((c.tc : Thread Cert.OutBwdIdeal.nD Cert.OutBwdIdeal.τ).loc Cert.OutBwdIdeal.main_v2) = v0 c
          ∧ r.2.mem ((c.tc : Thread Cert.OutBwdIdeal.nD Cert.OutBwdIdeal.τ).loc Cert.OutBwdIdeal.main_arg0) = m ((c.tc : Thread Cert.OutBwdIdeal.nD Cert.OutBwdIdeal.τ).loc Cert.OutBwdIdeal.main_arg0)
          ∧ r.2.mem ((c.tc : Thread Cert.OutBwdIdeal.nD Cert.OutBwdIdeal.τ).loc Cert.OutBwdIdeal.main_arg1) = m ((c.tc : Thread Cert.OutBwdIdeal.nD Cert.OutBwdIdeal.τ).loc Cert.OutBwdIdeal.main_arg1))
      ∧ θ_run (Cert.OutBwdRefIdeal.defs (F := Ideal)) (onTc (τ := Cert.OutBwdRefIdeal.τ) (Cert.OutBwdRefIdeal.main (F := Ideal))) ⟨m', fun _ => 0, g'⟩ (fun r => ∀ c : Dev Cert.OutBwdRefIdeal.nD,
          r.2.mem ((c.tc : Thread Cert.OutBwdRefIdeal.nD Cert.OutBwdRefIdeal.τ).loc Cert.OutBwdRefIdeal.main_v2) = v0 c
          ∧ r.2.mem ((c.tc : Thread Cert.OutBwdRefIdeal.nD Cert.OutBwdRefIdeal.τ).loc Cert.OutBwdRefIdeal.main_arg0) = m' ((c.tc : Thread Cert.OutBwdRefIdeal.nD Cert.OutBwdRefIdeal.τ).loc Cert.OutBwdRefIdeal.main_arg0)
          ∧ r.2.mem ((c.tc : Thread Cert.OutBwdRefIdeal.nD Cert.OutBwdRefIdeal.τ).loc Cert.OutBwdRefIdeal.main_arg1) = m' ((c.tc : Thread Cert.OutBwdRefIdeal.nD Cert.OutBwdRefIdeal.τ).loc Cert.OutBwdRefIdeal.main_arg1))

def preserves_InProj_InProjIdeal : Prop :=
  True

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)) →
    ∃ (v0 : (c : Dev Cert.InProjIdeal.nD) → Buf (Elt Ideal) ((c.tc : Thread Cert.InProjIdeal.nD Cert.InProjIdeal.τ).loc Cert.InProjIdeal.main_v2)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v2) = v0 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v0) = v0 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1))

def preserves_OutProj_OutProjIdeal : Prop :=
  True

def algebraic_OutProjIdeal_OutProjRefIdeal [hOutProjIdeal : Cert.OutProjIdeal.Facts] [hOutProjRefIdeal : Cert.OutProjRefIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjRefIdeal.nD Cert.OutProjRefIdeal.τ Cert.OutProjRefIdeal.sig) → Buf (Elt Ideal) ℓ) (g' : Dev Cert.OutProjRefIdeal.nD → PrngReg), Pre_OutProjIdeal m →
    (∀ c : Dev Cert.OutProjIdeal.nD,
      m' ((c.tc : Thread Cert.OutProjRefIdeal.nD Cert.OutProjRefIdeal.τ).loc Cert.OutProjRefIdeal.main_arg0) = m ((c.tc : Thread Cert.OutProjIdeal.nD Cert.OutProjIdeal.τ).loc Cert.OutProjIdeal.main_arg0)
      ∧ m' ((c.tc : Thread Cert.OutProjRefIdeal.nD Cert.OutProjRefIdeal.τ).loc Cert.OutProjRefIdeal.main_arg1) = m ((c.tc : Thread Cert.OutProjIdeal.nD Cert.OutProjIdeal.τ).loc Cert.OutProjIdeal.main_arg1)) →
    ∃ (v0 : (c : Dev Cert.OutProjIdeal.nD) → Buf (Elt Ideal) ((c.tc : Thread Cert.OutProjIdeal.nD Cert.OutProjIdeal.τ).loc Cert.OutProjIdeal.main_v2)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v2) = v0 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1))
      ∧ θ_run (Cert.OutProjRefIdeal.defs (F := Ideal)) (onTc (τ := Cert.OutProjRefIdeal.τ) (Cert.OutProjRefIdeal.main (F := Ideal))) ⟨m', fun _ => 0, g'⟩ (fun r => ∀ c : Dev Cert.OutProjRefIdeal.nD,
          r.2.mem ((c.tc : Thread Cert.OutProjRefIdeal.nD Cert.OutProjRefIdeal.τ).loc Cert.OutProjRefIdeal.main_v0) = v0 c
          ∧ r.2.mem ((c.tc : Thread Cert.OutProjRefIdeal.nD Cert.OutProjRefIdeal.τ).loc Cert.OutProjRefIdeal.main_arg0) = m' ((c.tc : Thread Cert.OutProjRefIdeal.nD Cert.OutProjRefIdeal.τ).loc Cert.OutProjRefIdeal.main_arg0)
          ∧ r.2.mem ((c.tc : Thread Cert.OutProjRefIdeal.nD Cert.OutProjRefIdeal.τ).loc Cert.OutProjRefIdeal.main_arg1) = m' ((c.tc : Thread Cert.OutProjRefIdeal.nD Cert.OutProjRefIdeal.τ).loc Cert.OutProjRefIdeal.main_arg1))

def preserves_PreMix_PreMixIdeal : Prop :=
  True

def algebraic_PreMixIdeal_PreMixRefIdeal [hPreMixIdeal : Cert.PreMixIdeal.Facts] [hPreMixRefIdeal : Cert.PreMixRefIdeal.Facts] : Prop :=
  ∀ (m : (ℓ : Loc Cert.PreMixIdeal.nD Cert.PreMixIdeal.τ Cert.PreMixIdeal.sig) → Buf (Elt Ideal) ℓ) (g : Dev Cert.PreMixIdeal.nD → PrngReg)
    (m' : (ℓ : Loc Cert.PreMixRefIdeal.nD Cert.PreMixRefIdeal.τ Cert.PreMixRefIdeal.sig) → Buf (Elt Ideal) ℓ) (g' : Dev Cert.PreMixRefIdeal.nD → PrngReg), Pre_PreMixIdeal m →
    (∀ c : Dev Cert.PreMixIdeal.nD,
      m' ((c.tc : Thread Cert.PreMixRefIdeal.nD Cert.PreMixRefIdeal.τ).loc Cert.PreMixRefIdeal.main_arg0) = m ((c.tc : Thread Cert.PreMixIdeal.nD Cert.PreMixIdeal.τ).loc Cert.PreMixIdeal.main_arg0)
      ∧ m' ((c.tc : Thread Cert.PreMixRefIdeal.nD Cert.PreMixRefIdeal.τ).loc Cert.PreMixRefIdeal.main_arg1) = m ((c.tc : Thread Cert.PreMixIdeal.nD Cert.PreMixIdeal.τ).loc Cert.PreMixIdeal.main_arg1)
      ∧ m' ((c.tc : Thread Cert.PreMixRefIdeal.nD Cert.PreMixRefIdeal.τ).loc Cert.PreMixRefIdeal.main_arg2) = m ((c.tc : Thread Cert.PreMixIdeal.nD Cert.PreMixIdeal.τ).loc Cert.PreMixIdeal.main_arg2)
      ∧ m' ((c.tc : Thread Cert.PreMixRefIdeal.nD Cert.PreMixRefIdeal.τ).loc Cert.PreMixRefIdeal.main_arg3) = m ((c.tc : Thread Cert.PreMixIdeal.nD Cert.PreMixIdeal.τ).loc Cert.PreMixIdeal.main_arg3)
      ∧ m' ((c.tc : Thread Cert.PreMixRefIdeal.nD Cert.PreMixRefIdeal.τ).loc Cert.PreMixRefIdeal.main_arg4) = m ((c.tc : Thread Cert.PreMixIdeal.nD Cert.PreMixIdeal.τ).loc Cert.PreMixIdeal.main_arg4)
      ∧ m' ((c.tc : Thread Cert.PreMixRefIdeal.nD Cert.PreMixRefIdeal.τ).loc Cert.PreMixRefIdeal.main_arg5) = m ((c.tc : Thread Cert.PreMixIdeal.nD Cert.PreMixIdeal.τ).loc Cert.PreMixIdeal.main_arg5)) →
    ∃ (v0 : (c : Dev Cert.PreMixIdeal.nD) → Buf (Elt Ideal) ((c.tc : Thread Cert.PreMixIdeal.nD Cert.PreMixIdeal.τ).loc Cert.PreMixIdeal.main_v0_0)) (v1 : (c : Dev Cert.PreMixIdeal.nD) → Buf (Elt Ideal) ((c.tc : Thread Cert.PreMixIdeal.nD Cert.PreMixIdeal.τ).loc Cert.PreMixIdeal.main_v0_1)) (v2 : (c : Dev Cert.PreMixIdeal.nD) → Buf (Elt Ideal) ((c.tc : Thread Cert.PreMixIdeal.nD Cert.PreMixIdeal.τ).loc Cert.PreMixIdeal.main_v0_2)) (v3 : (c : Dev Cert.PreMixIdeal.nD) → Buf (Elt Ideal) ((c.tc : Thread Cert.PreMixIdeal.nD Cert.PreMixIdeal.τ).loc Cert.PreMixIdeal.main_v0_3)),
      θ_run (Cert.PreMixIdeal.defs (F := Ideal)) (onTc (τ := Cert.PreMixIdeal.τ) (Cert.PreMixIdeal.main (F := Ideal))) ⟨m, fun _ => 0, g⟩ (fun r => ∀ c : Dev Cert.PreMixIdeal.nD,
          r.2.mem ((c.tc : Thread Cert.PreMixIdeal.nD Cert.PreMixIdeal.τ).loc Cert.PreMixIdeal.main_v0_0) = v0 c
          ∧ r.2.mem ((c.tc : Thread Cert.PreMixIdeal.nD Cert.PreMixIdeal.τ).loc Cert.PreMixIdeal.main_v0_1) = v1 c
          ∧ r.2.mem ((c.tc : Thread Cert.PreMixIdeal.nD Cert.PreMixIdeal.τ).loc Cert.PreMixIdeal.main_v0_2) = v2 c
          ∧ r.2.mem ((c.tc : Thread Cert.PreMixIdeal.nD Cert.PreMixIdeal.τ).loc Cert.PreMixIdeal.main_v0_3) = v3 c
          ∧ r.2.mem ((c.tc : Thread Cert.PreMixIdeal.nD Cert.PreMixIdeal.τ).loc Cert.PreMixIdeal.main_arg0) = m ((c.tc : Thread Cert.PreMixIdeal.nD Cert.PreMixIdeal.τ).loc Cert.PreMixIdeal.main_arg0)
          ∧ r.2.mem ((c.tc : Thread Cert.PreMixIdeal.nD Cert.PreMixIdeal.τ).loc Cert.PreMixIdeal.main_arg1) = m ((c.tc : Thread Cert.PreMixIdeal.nD Cert.PreMixIdeal.τ).loc Cert.PreMixIdeal.main_arg1)
          ∧ r.2.mem ((c.tc : Thread Cert.PreMixIdeal.nD Cert.PreMixIdeal.τ).loc Cert.PreMixIdeal.main_arg2) = m ((c.tc : Thread Cert.PreMixIdeal.nD Cert.PreMixIdeal.τ).loc Cert.PreMixIdeal.main_arg2)
          ∧ r.2.mem ((c.tc : Thread Cert.PreMixIdeal.nD Cert.PreMixIdeal.τ).loc Cert.PreMixIdeal.main_arg3) = m ((c.tc : Thread Cert.PreMixIdeal.nD Cert.PreMixIdeal.τ).loc Cert.PreMixIdeal.main_arg3)
          ∧ r.2.mem ((c.tc : Thread Cert.PreMixIdeal.nD Cert.PreMixIdeal.τ).loc Cert.PreMixIdeal.main_arg4) = m ((c.tc : Thread Cert.PreMixIdeal.nD Cert.PreMixIdeal.τ).loc Cert.PreMixIdeal.main_arg4)
          ∧ r.2.mem ((c.tc : Thread Cert.PreMixIdeal.nD Cert.PreMixIdeal.τ).loc Cert.PreMixIdeal.main_arg5) = m ((c.tc : Thread Cert.PreMixIdeal.nD Cert.PreMixIdeal.τ).loc Cert.PreMixIdeal.main_arg5))
      ∧ θ_run (Cert.PreMixRefIdeal.defs (F := Ideal)) (onTc (τ := Cert.PreMixRefIdeal.τ) (Cert.PreMixRefIdeal.main (F := Ideal))) ⟨m', fun _ => 0, g'⟩ (fun r => ∀ c : Dev Cert.PreMixRefIdeal.nD,
          r.2.mem ((c.tc : Thread Cert.PreMixRefIdeal.nD Cert.PreMixRefIdeal.τ).loc Cert.PreMixRefIdeal.main_v48) = v0 c
          ∧ r.2.mem ((c.tc : Thread Cert.PreMixRefIdeal.nD Cert.PreMixRefIdeal.τ).loc Cert.PreMixRefIdeal.main_v31) = v1 c
          ∧ r.2.mem ((c.tc : Thread Cert.PreMixRefIdeal.nD Cert.PreMixRefIdeal.τ).loc Cert.PreMixRefIdeal.main_v26) = v2 c
          ∧ r.2.mem ((c.tc : Thread Cert.PreMixRefIdeal.nD Cert.PreMixRefIdeal.τ).loc Cert.PreMixRefIdeal.main_v23) = v3 c
          ∧ r.2.mem ((c.tc : Thread Cert.PreMixRefIdeal.nD Cert.PreMixRefIdeal.τ).loc Cert.PreMixRefIdeal.main_arg0) = m' ((c.tc : Thread Cert.PreMixRefIdeal.nD Cert.PreMixRefIdeal.τ).loc Cert.PreMixRefIdeal.main_arg0)
          ∧ r.2.mem ((c.tc : Thread Cert.PreMixRefIdeal.nD Cert.PreMixRefIdeal.τ).loc Cert.PreMixRefIdeal.main_arg1) = m' ((c.tc : Thread Cert.PreMixRefIdeal.nD Cert.PreMixRefIdeal.τ).loc Cert.PreMixRefIdeal.main_arg1)
          ∧ r.2.mem ((c.tc : Thread Cert.PreMixRefIdeal.nD Cert.PreMixRefIdeal.τ).loc Cert.PreMixRefIdeal.main_arg2) = m' ((c.tc : Thread Cert.PreMixRefIdeal.nD Cert.PreMixRefIdeal.τ).loc Cert.PreMixRefIdeal.main_arg2)
          ∧ r.2.mem ((c.tc : Thread Cert.PreMixRefIdeal.nD Cert.PreMixRefIdeal.τ).loc Cert.PreMixRefIdeal.main_arg3) = m' ((c.tc : Thread Cert.PreMixRefIdeal.nD Cert.PreMixRefIdeal.τ).loc Cert.PreMixRefIdeal.main_arg3)
          ∧ r.2.mem ((c.tc : Thread Cert.PreMixRefIdeal.nD Cert.PreMixRefIdeal.τ).loc Cert.PreMixRefIdeal.main_arg4) = m' ((c.tc : Thread Cert.PreMixRefIdeal.nD Cert.PreMixRefIdeal.τ).loc Cert.PreMixRefIdeal.main_arg4)
          ∧ r.2.mem ((c.tc : Thread Cert.PreMixRefIdeal.nD Cert.PreMixRefIdeal.τ).loc Cert.PreMixRefIdeal.main_arg5) = m' ((c.tc : Thread Cert.PreMixRefIdeal.nD Cert.PreMixRefIdeal.τ).loc Cert.PreMixRefIdeal.main_arg5))

def preserves_PostMix_PostMixIdeal : Prop :=
  True

def algebraic_PostMixIdeal_PostMixRefIdeal [hPostMixIdeal : Cert.PostMixIdeal.Facts] [hPostMixRefIdeal : Cert.PostMixRefIdeal.Facts] : Prop :=
  ∀ (m : (ℓ : Loc Cert.PostMixIdeal.nD Cert.PostMixIdeal.τ Cert.PostMixIdeal.sig) → Buf (Elt Ideal) ℓ) (g : Dev Cert.PostMixIdeal.nD → PrngReg)
    (m' : (ℓ : Loc Cert.PostMixRefIdeal.nD Cert.PostMixRefIdeal.τ Cert.PostMixRefIdeal.sig) → Buf (Elt Ideal) ℓ) (g' : Dev Cert.PostMixRefIdeal.nD → PrngReg), Pre_PostMixIdeal m →
    (∀ c : Dev Cert.PostMixIdeal.nD,
      m' ((c.tc : Thread Cert.PostMixRefIdeal.nD Cert.PostMixRefIdeal.τ).loc Cert.PostMixRefIdeal.main_arg0) = m ((c.tc : Thread Cert.PostMixIdeal.nD Cert.PostMixIdeal.τ).loc Cert.PostMixIdeal.main_arg0)
      ∧ m' ((c.tc : Thread Cert.PostMixRefIdeal.nD Cert.PostMixRefIdeal.τ).loc Cert.PostMixRefIdeal.main_arg1) = m ((c.tc : Thread Cert.PostMixIdeal.nD Cert.PostMixIdeal.τ).loc Cert.PostMixIdeal.main_arg1)
      ∧ m' ((c.tc : Thread Cert.PostMixRefIdeal.nD Cert.PostMixRefIdeal.τ).loc Cert.PostMixRefIdeal.main_arg2) = m ((c.tc : Thread Cert.PostMixIdeal.nD Cert.PostMixIdeal.τ).loc Cert.PostMixIdeal.main_arg2)
      ∧ m' ((c.tc : Thread Cert.PostMixRefIdeal.nD Cert.PostMixRefIdeal.τ).loc Cert.PostMixRefIdeal.main_arg3) = m ((c.tc : Thread Cert.PostMixIdeal.nD Cert.PostMixIdeal.τ).loc Cert.PostMixIdeal.main_arg3)
      ∧ m' ((c.tc : Thread Cert.PostMixRefIdeal.nD Cert.PostMixRefIdeal.τ).loc Cert.PostMixRefIdeal.main_arg4) = m ((c.tc : Thread Cert.PostMixIdeal.nD Cert.PostMixIdeal.τ).loc Cert.PostMixIdeal.main_arg4)
      ∧ m' ((c.tc : Thread Cert.PostMixRefIdeal.nD Cert.PostMixRefIdeal.τ).loc Cert.PostMixRefIdeal.main_arg5) = m ((c.tc : Thread Cert.PostMixIdeal.nD Cert.PostMixIdeal.τ).loc Cert.PostMixIdeal.main_arg5)
      ∧ m' ((c.tc : Thread Cert.PostMixRefIdeal.nD Cert.PostMixRefIdeal.τ).loc Cert.PostMixRefIdeal.main_arg6) = m ((c.tc : Thread Cert.PostMixIdeal.nD Cert.PostMixIdeal.τ).loc Cert.PostMixIdeal.main_arg6)
      ∧ m' ((c.tc : Thread Cert.PostMixRefIdeal.nD Cert.PostMixRefIdeal.τ).loc Cert.PostMixRefIdeal.main_arg7) = m ((c.tc : Thread Cert.PostMixIdeal.nD Cert.PostMixIdeal.τ).loc Cert.PostMixIdeal.main_arg7)
      ∧ m' ((c.tc : Thread Cert.PostMixRefIdeal.nD Cert.PostMixRefIdeal.τ).loc Cert.PostMixRefIdeal.main_arg8) = m ((c.tc : Thread Cert.PostMixIdeal.nD Cert.PostMixIdeal.τ).loc Cert.PostMixIdeal.main_arg8)) →
    ∃ (v0 : (c : Dev Cert.PostMixIdeal.nD) → Buf (Elt Ideal) ((c.tc : Thread Cert.PostMixIdeal.nD Cert.PostMixIdeal.τ).loc Cert.PostMixIdeal.main_v0_0)) (v1 : (c : Dev Cert.PostMixIdeal.nD) → Buf (Elt Ideal) ((c.tc : Thread Cert.PostMixIdeal.nD Cert.PostMixIdeal.τ).loc Cert.PostMixIdeal.main_v0_1)) (v2 : (c : Dev Cert.PostMixIdeal.nD) → Buf (Elt Ideal) ((c.tc : Thread Cert.PostMixIdeal.nD Cert.PostMixIdeal.τ).loc Cert.PostMixIdeal.main_v0_2)) (v3 : (c : Dev Cert.PostMixIdeal.nD) → Buf (Elt Ideal) ((c.tc : Thread Cert.PostMixIdeal.nD Cert.PostMixIdeal.τ).loc Cert.PostMixIdeal.main_v0_3)) (v4 : (c : Dev Cert.PostMixIdeal.nD) → Buf (Elt Ideal) ((c.tc : Thread Cert.PostMixIdeal.nD Cert.PostMixIdeal.τ).loc Cert.PostMixIdeal.main_v0_4)) (v5 : (c : Dev Cert.PostMixIdeal.nD) → Buf (Elt Ideal) ((c.tc : Thread Cert.PostMixIdeal.nD Cert.PostMixIdeal.τ).loc Cert.PostMixIdeal.main_v0_5)) (v6 : (c : Dev Cert.PostMixIdeal.nD) → Buf (Elt Ideal) ((c.tc : Thread Cert.PostMixIdeal.nD Cert.PostMixIdeal.τ).loc Cert.PostMixIdeal.main_v0_6)),
      θ_run (Cert.PostMixIdeal.defs (F := Ideal)) (onTc (τ := Cert.PostMixIdeal.τ) (Cert.PostMixIdeal.main (F := Ideal))) ⟨m, fun _ => 0, g⟩ (fun r => ∀ c : Dev Cert.PostMixIdeal.nD,
          r.2.mem ((c.tc : Thread Cert.PostMixIdeal.nD Cert.PostMixIdeal.τ).loc Cert.PostMixIdeal.main_v0_0) = v0 c
          ∧ r.2.mem ((c.tc : Thread Cert.PostMixIdeal.nD Cert.PostMixIdeal.τ).loc Cert.PostMixIdeal.main_v0_1) = v1 c
          ∧ r.2.mem ((c.tc : Thread Cert.PostMixIdeal.nD Cert.PostMixIdeal.τ).loc Cert.PostMixIdeal.main_v0_2) = v2 c
          ∧ r.2.mem ((c.tc : Thread Cert.PostMixIdeal.nD Cert.PostMixIdeal.τ).loc Cert.PostMixIdeal.main_v0_3) = v3 c
          ∧ r.2.mem ((c.tc : Thread Cert.PostMixIdeal.nD Cert.PostMixIdeal.τ).loc Cert.PostMixIdeal.main_v0_4) = v4 c
          ∧ r.2.mem ((c.tc : Thread Cert.PostMixIdeal.nD Cert.PostMixIdeal.τ).loc Cert.PostMixIdeal.main_v0_5) = v5 c
          ∧ r.2.mem ((c.tc : Thread Cert.PostMixIdeal.nD Cert.PostMixIdeal.τ).loc Cert.PostMixIdeal.main_v0_6) = v6 c
          ∧ r.2.mem ((c.tc : Thread Cert.PostMixIdeal.nD Cert.PostMixIdeal.τ).loc Cert.PostMixIdeal.main_arg0) = m ((c.tc : Thread Cert.PostMixIdeal.nD Cert.PostMixIdeal.τ).loc Cert.PostMixIdeal.main_arg0)
          ∧ r.2.mem ((c.tc : Thread Cert.PostMixIdeal.nD Cert.PostMixIdeal.τ).loc Cert.PostMixIdeal.main_arg1) = m ((c.tc : Thread Cert.PostMixIdeal.nD Cert.PostMixIdeal.τ).loc Cert.PostMixIdeal.main_arg1)
          ∧ r.2.mem ((c.tc : Thread Cert.PostMixIdeal.nD Cert.PostMixIdeal.τ).loc Cert.PostMixIdeal.main_arg2) = m ((c.tc : Thread Cert.PostMixIdeal.nD Cert.PostMixIdeal.τ).loc Cert.PostMixIdeal.main_arg2)
          ∧ r.2.mem ((c.tc : Thread Cert.PostMixIdeal.nD Cert.PostMixIdeal.τ).loc Cert.PostMixIdeal.main_arg3) = m ((c.tc : Thread Cert.PostMixIdeal.nD Cert.PostMixIdeal.τ).loc Cert.PostMixIdeal.main_arg3)
          ∧ r.2.mem ((c.tc : Thread Cert.PostMixIdeal.nD Cert.PostMixIdeal.τ).loc Cert.PostMixIdeal.main_arg4) = m ((c.tc : Thread Cert.PostMixIdeal.nD Cert.PostMixIdeal.τ).loc Cert.PostMixIdeal.main_arg4)
          ∧ r.2.mem ((c.tc : Thread Cert.PostMixIdeal.nD Cert.PostMixIdeal.τ).loc Cert.PostMixIdeal.main_arg5) = m ((c.tc : Thread Cert.PostMixIdeal.nD Cert.PostMixIdeal.τ).loc Cert.PostMixIdeal.main_arg5)
          ∧ r.2.mem ((c.tc : Thread Cert.PostMixIdeal.nD Cert.PostMixIdeal.τ).loc Cert.PostMixIdeal.main_arg6) = m ((c.tc : Thread Cert.PostMixIdeal.nD Cert.PostMixIdeal.τ).loc Cert.PostMixIdeal.main_arg6)
          ∧ r.2.mem ((c.tc : Thread Cert.PostMixIdeal.nD Cert.PostMixIdeal.τ).loc Cert.PostMixIdeal.main_arg7) = m ((c.tc : Thread Cert.PostMixIdeal.nD Cert.PostMixIdeal.τ).loc Cert.PostMixIdeal.main_arg7)
          ∧ r.2.mem ((c.tc : Thread Cert.PostMixIdeal.nD Cert.PostMixIdeal.τ).loc Cert.PostMixIdeal.main_arg8) = m ((c.tc : Thread Cert.PostMixIdeal.nD Cert.PostMixIdeal.τ).loc Cert.PostMixIdeal.main_arg8))
      ∧ θ_run (Cert.PostMixRefIdeal.defs (F := Ideal)) (onTc (τ := Cert.PostMixRefIdeal.τ) (Cert.PostMixRefIdeal.main (F := Ideal))) ⟨m', fun _ => 0, g'⟩ (fun r => ∀ c : Dev Cert.PostMixRefIdeal.nD,
          r.2.mem ((c.tc : Thread Cert.PostMixRefIdeal.nD Cert.PostMixRefIdeal.τ).loc Cert.PostMixRefIdeal.main_v66) = v0 c
          ∧ r.2.mem ((c.tc : Thread Cert.PostMixRefIdeal.nD Cert.PostMixRefIdeal.τ).loc Cert.PostMixRefIdeal.main_v92) = v1 c
          ∧ r.2.mem ((c.tc : Thread Cert.PostMixRefIdeal.nD Cert.PostMixRefIdeal.τ).loc Cert.PostMixRefIdeal.main_v75) = v2 c
          ∧ r.2.mem ((c.tc : Thread Cert.PostMixRefIdeal.nD Cert.PostMixRefIdeal.τ).loc Cert.PostMixRefIdeal.main_v72) = v3 c
          ∧ r.2.mem ((c.tc : Thread Cert.PostMixRefIdeal.nD Cert.PostMixRefIdeal.τ).loc Cert.PostMixRefIdeal.main_v49) = v4 c
          ∧ r.2.mem ((c.tc : Thread Cert.PostMixRefIdeal.nD Cert.PostMixRefIdeal.τ).loc Cert.PostMixRefIdeal.main_v44) = v5 c
          ∧ r.2.mem ((c.tc : Thread Cert.PostMixRefIdeal.nD Cert.PostMixRefIdeal.τ).loc Cert.PostMixRefIdeal.main_v41) = v6 c
          ∧ r.2.mem ((c.tc : Thread Cert.PostMixRefIdeal.nD Cert.PostMixRefIdeal.τ).loc Cert.PostMixRefIdeal.main_arg0) = m' ((c.tc : Thread Cert.PostMixRefIdeal.nD Cert.PostMixRefIdeal.τ).loc Cert.PostMixRefIdeal.main_arg0)
          ∧ r.2.mem ((c.tc : Thread Cert.PostMixRefIdeal.nD Cert.PostMixRefIdeal.τ).loc Cert.PostMixRefIdeal.main_arg1) = m' ((c.tc : Thread Cert.PostMixRefIdeal.nD Cert.PostMixRefIdeal.τ).loc Cert.PostMixRefIdeal.main_arg1)
          ∧ r.2.mem ((c.tc : Thread Cert.PostMixRefIdeal.nD Cert.PostMixRefIdeal.τ).loc Cert.PostMixRefIdeal.main_arg2) = m' ((c.tc : Thread Cert.PostMixRefIdeal.nD Cert.PostMixRefIdeal.τ).loc Cert.PostMixRefIdeal.main_arg2)
          ∧ r.2.mem ((c.tc : Thread Cert.PostMixRefIdeal.nD Cert.PostMixRefIdeal.τ).loc Cert.PostMixRefIdeal.main_arg3) = m' ((c.tc : Thread Cert.PostMixRefIdeal.nD Cert.PostMixRefIdeal.τ).loc Cert.PostMixRefIdeal.main_arg3)
          ∧ r.2.mem ((c.tc : Thread Cert.PostMixRefIdeal.nD Cert.PostMixRefIdeal.τ).loc Cert.PostMixRefIdeal.main_arg4) = m' ((c.tc : Thread Cert.PostMixRefIdeal.nD Cert.PostMixRefIdeal.τ).loc Cert.PostMixRefIdeal.main_arg4)
          ∧ r.2.mem ((c.tc : Thread Cert.PostMixRefIdeal.nD Cert.PostMixRefIdeal.τ).loc Cert.PostMixRefIdeal.main_arg5) = m' ((c.tc : Thread Cert.PostMixRefIdeal.nD Cert.PostMixRefIdeal.τ).loc Cert.PostMixRefIdeal.main_arg5)
          ∧ r.2.mem ((c.tc : Thread Cert.PostMixRefIdeal.nD Cert.PostMixRefIdeal.τ).loc Cert.PostMixRefIdeal.main_arg6) = m' ((c.tc : Thread Cert.PostMixRefIdeal.nD Cert.PostMixRefIdeal.τ).loc Cert.PostMixRefIdeal.main_arg6)
          ∧ r.2.mem ((c.tc : Thread Cert.PostMixRefIdeal.nD Cert.PostMixRefIdeal.τ).loc Cert.PostMixRefIdeal.main_arg7) = m' ((c.tc : Thread Cert.PostMixRefIdeal.nD Cert.PostMixRefIdeal.τ).loc Cert.PostMixRefIdeal.main_arg7)
          ∧ r.2.mem ((c.tc : Thread Cert.PostMixRefIdeal.nD Cert.PostMixRefIdeal.τ).loc Cert.PostMixRefIdeal.main_arg8) = m' ((c.tc : Thread Cert.PostMixRefIdeal.nD Cert.PostMixRefIdeal.τ).loc Cert.PostMixRefIdeal.main_arg8))

def preserves_LossHead_LossHeadIdeal : Prop :=
  True

def algebraic_LossHeadIdeal_LossHeadRefIdeal [hLossHeadIdeal : Cert.LossHeadIdeal.Facts] [hLossHeadRefIdeal : Cert.LossHeadRefIdeal.Facts] : Prop :=
  ∀ (m : (ℓ : Loc Cert.LossHeadIdeal.nD Cert.LossHeadIdeal.τ Cert.LossHeadIdeal.sig) → Buf (Elt Ideal) ℓ) (g : Dev Cert.LossHeadIdeal.nD → PrngReg)
    (m' : (ℓ : Loc Cert.LossHeadRefIdeal.nD Cert.LossHeadRefIdeal.τ Cert.LossHeadRefIdeal.sig) → Buf (Elt Ideal) ℓ) (g' : Dev Cert.LossHeadRefIdeal.nD → PrngReg), Pre_LossHeadIdeal m →
    (∀ c : Dev Cert.LossHeadIdeal.nD,
      m' ((c.tc : Thread Cert.LossHeadRefIdeal.nD Cert.LossHeadRefIdeal.τ).loc Cert.LossHeadRefIdeal.main_arg0) = m ((c.tc : Thread Cert.LossHeadIdeal.nD Cert.LossHeadIdeal.τ).loc Cert.LossHeadIdeal.main_arg0)
      ∧ m' ((c.tc : Thread Cert.LossHeadRefIdeal.nD Cert.LossHeadRefIdeal.τ).loc Cert.LossHeadRefIdeal.main_arg1) = m ((c.tc : Thread Cert.LossHeadIdeal.nD Cert.LossHeadIdeal.τ).loc Cert.LossHeadIdeal.main_arg1)
      ∧ m' ((c.tc : Thread Cert.LossHeadRefIdeal.nD Cert.LossHeadRefIdeal.τ).loc Cert.LossHeadRefIdeal.main_arg2) = m ((c.tc : Thread Cert.LossHeadIdeal.nD Cert.LossHeadIdeal.τ).loc Cert.LossHeadIdeal.main_arg2)
      ∧ m' ((c.tc : Thread Cert.LossHeadRefIdeal.nD Cert.LossHeadRefIdeal.τ).loc Cert.LossHeadRefIdeal.main_arg3) = m ((c.tc : Thread Cert.LossHeadIdeal.nD Cert.LossHeadIdeal.τ).loc Cert.LossHeadIdeal.main_arg3)
      ∧ m' ((c.tc : Thread Cert.LossHeadRefIdeal.nD Cert.LossHeadRefIdeal.τ).loc Cert.LossHeadRefIdeal.main_arg4) = m ((c.tc : Thread Cert.LossHeadIdeal.nD Cert.LossHeadIdeal.τ).loc Cert.LossHeadIdeal.main_arg4)) →
    ∃ (v0 : (c : Dev Cert.LossHeadIdeal.nD) → Buf (Elt Ideal) ((c.tc : Thread Cert.LossHeadIdeal.nD Cert.LossHeadIdeal.τ).loc Cert.LossHeadIdeal.main_v0_0)) (v1 : (c : Dev Cert.LossHeadIdeal.nD) → Buf (Elt Ideal) ((c.tc : Thread Cert.LossHeadIdeal.nD Cert.LossHeadIdeal.τ).loc Cert.LossHeadIdeal.main_v0_1)) (v2 : (c : Dev Cert.LossHeadIdeal.nD) → Buf (Elt Ideal) ((c.tc : Thread Cert.LossHeadIdeal.nD Cert.LossHeadIdeal.τ).loc Cert.LossHeadIdeal.main_v0_2)) (v3 : (c : Dev Cert.LossHeadIdeal.nD) → Buf (Elt Ideal) ((c.tc : Thread Cert.LossHeadIdeal.nD Cert.LossHeadIdeal.τ).loc Cert.LossHeadIdeal.main_v0_3)) (v4 : (c : Dev Cert.LossHeadIdeal.nD) → Buf (Elt Ideal) ((c.tc : Thread Cert.LossHeadIdeal.nD Cert.LossHeadIdeal.τ).loc Cert.LossHeadIdeal.main_v0_4)),
      θ_run (Cert.LossHeadIdeal.defs (F := Ideal)) (onTc (τ := Cert.LossHeadIdeal.τ) (Cert.LossHeadIdeal.main (F := Ideal))) ⟨m, fun _ => 0, g⟩ (fun r => ∀ c : Dev Cert.LossHeadIdeal.nD,
          r.2.mem ((c.tc : Thread Cert.LossHeadIdeal.nD Cert.LossHeadIdeal.τ).loc Cert.LossHeadIdeal.main_v0_0) = v0 c
          ∧ r.2.mem ((c.tc : Thread Cert.LossHeadIdeal.nD Cert.LossHeadIdeal.τ).loc Cert.LossHeadIdeal.main_v0_1) = v1 c
          ∧ r.2.mem ((c.tc : Thread Cert.LossHeadIdeal.nD Cert.LossHeadIdeal.τ).loc Cert.LossHeadIdeal.main_v0_2) = v2 c
          ∧ r.2.mem ((c.tc : Thread Cert.LossHeadIdeal.nD Cert.LossHeadIdeal.τ).loc Cert.LossHeadIdeal.main_v0_3) = v3 c
          ∧ r.2.mem ((c.tc : Thread Cert.LossHeadIdeal.nD Cert.LossHeadIdeal.τ).loc Cert.LossHeadIdeal.main_v0_4) = v4 c
          ∧ r.2.mem ((c.tc : Thread Cert.LossHeadIdeal.nD Cert.LossHeadIdeal.τ).loc Cert.LossHeadIdeal.main_arg0) = m ((c.tc : Thread Cert.LossHeadIdeal.nD Cert.LossHeadIdeal.τ).loc Cert.LossHeadIdeal.main_arg0)
          ∧ r.2.mem ((c.tc : Thread Cert.LossHeadIdeal.nD Cert.LossHeadIdeal.τ).loc Cert.LossHeadIdeal.main_arg1) = m ((c.tc : Thread Cert.LossHeadIdeal.nD Cert.LossHeadIdeal.τ).loc Cert.LossHeadIdeal.main_arg1)
          ∧ r.2.mem ((c.tc : Thread Cert.LossHeadIdeal.nD Cert.LossHeadIdeal.τ).loc Cert.LossHeadIdeal.main_arg2) = m ((c.tc : Thread Cert.LossHeadIdeal.nD Cert.LossHeadIdeal.τ).loc Cert.LossHeadIdeal.main_arg2)
          ∧ r.2.mem ((c.tc : Thread Cert.LossHeadIdeal.nD Cert.LossHeadIdeal.τ).loc Cert.LossHeadIdeal.main_arg3) = m ((c.tc : Thread Cert.LossHeadIdeal.nD Cert.LossHeadIdeal.τ).loc Cert.LossHeadIdeal.main_arg3)
          ∧ r.2.mem ((c.tc : Thread Cert.LossHeadIdeal.nD Cert.LossHeadIdeal.τ).loc Cert.LossHeadIdeal.main_arg4) = m ((c.tc : Thread Cert.LossHeadIdeal.nD Cert.LossHeadIdeal.τ).loc Cert.LossHeadIdeal.main_arg4))
      ∧ θ_run (Cert.LossHeadRefIdeal.defs (F := Ideal)) (onTc (τ := Cert.LossHeadRefIdeal.τ) (Cert.LossHeadRefIdeal.main (F := Ideal))) ⟨m', fun _ => 0, g'⟩ (fun r => ∀ c : Dev Cert.LossHeadRefIdeal.nD,
          r.2.mem ((c.tc : Thread Cert.LossHeadRefIdeal.nD Cert.LossHeadRefIdeal.τ).loc Cert.LossHeadRefIdeal.main_v32) = v0 c
          ∧ r.2.mem ((c.tc : Thread Cert.LossHeadRefIdeal.nD Cert.LossHeadRefIdeal.τ).loc Cert.LossHeadRefIdeal.main_v57) = v1 c
          ∧ r.2.mem ((c.tc : Thread Cert.LossHeadRefIdeal.nD Cert.LossHeadRefIdeal.τ).loc Cert.LossHeadRefIdeal.main_v58) = v2 c
          ∧ r.2.mem ((c.tc : Thread Cert.LossHeadRefIdeal.nD Cert.LossHeadRefIdeal.τ).loc Cert.LossHeadRefIdeal.main_v40) = v3 c
          ∧ r.2.mem ((c.tc : Thread Cert.LossHeadRefIdeal.nD Cert.LossHeadRefIdeal.τ).loc Cert.LossHeadRefIdeal.main_v37) = v4 c
          ∧ r.2.mem ((c.tc : Thread Cert.LossHeadRefIdeal.nD Cert.LossHeadRefIdeal.τ).loc Cert.LossHeadRefIdeal.main_arg0) = m' ((c.tc : Thread Cert.LossHeadRefIdeal.nD Cert.LossHeadRefIdeal.τ).loc Cert.LossHeadRefIdeal.main_arg0)
          ∧ r.2.mem ((c.tc : Thread Cert.LossHeadRefIdeal.nD Cert.LossHeadRefIdeal.τ).loc Cert.LossHeadRefIdeal.main_arg1) = m' ((c.tc : Thread Cert.LossHeadRefIdeal.nD Cert.LossHeadRefIdeal.τ).loc Cert.LossHeadRefIdeal.main_arg1)
          ∧ r.2.mem ((c.tc : Thread Cert.LossHeadRefIdeal.nD Cert.LossHeadRefIdeal.τ).loc Cert.LossHeadRefIdeal.main_arg2) = m' ((c.tc : Thread Cert.LossHeadRefIdeal.nD Cert.LossHeadRefIdeal.τ).loc Cert.LossHeadRefIdeal.main_arg2)
          ∧ r.2.mem ((c.tc : Thread Cert.LossHeadRefIdeal.nD Cert.LossHeadRefIdeal.τ).loc Cert.LossHeadRefIdeal.main_arg3) = m' ((c.tc : Thread Cert.LossHeadRefIdeal.nD Cert.LossHeadRefIdeal.τ).loc Cert.LossHeadRefIdeal.main_arg3)
          ∧ r.2.mem ((c.tc : Thread Cert.LossHeadRefIdeal.nD Cert.LossHeadRefIdeal.τ).loc Cert.LossHeadRefIdeal.main_arg4) = m' ((c.tc : Thread Cert.LossHeadRefIdeal.nD Cert.LossHeadRefIdeal.τ).loc Cert.LossHeadRefIdeal.main_arg4))

def preserves_AdamIn_AdamInIdeal : Prop :=
  True

def algebraic_AdamInIdeal_AdamInRefIdeal [hAdamInIdeal : Cert.AdamInIdeal.Facts] [hAdamInRefIdeal : Cert.AdamInRefIdeal.Facts] : Prop :=
  ∀ (m : (ℓ : Loc Cert.AdamInIdeal.nD Cert.AdamInIdeal.τ Cert.AdamInIdeal.sig) → Buf (Elt Ideal) ℓ) (g : Dev Cert.AdamInIdeal.nD → PrngReg)
    (m' : (ℓ : Loc Cert.AdamInRefIdeal.nD Cert.AdamInRefIdeal.τ Cert.AdamInRefIdeal.sig) → Buf (Elt Ideal) ℓ) (g' : Dev Cert.AdamInRefIdeal.nD → PrngReg), Pre_AdamInIdeal m →
    (∀ c : Dev Cert.AdamInIdeal.nD,
      m' ((c.tc : Thread Cert.AdamInRefIdeal.nD Cert.AdamInRefIdeal.τ).loc Cert.AdamInRefIdeal.main_arg0) = m ((c.tc : Thread Cert.AdamInIdeal.nD Cert.AdamInIdeal.τ).loc Cert.AdamInIdeal.main_arg0)
      ∧ m' ((c.tc : Thread Cert.AdamInRefIdeal.nD Cert.AdamInRefIdeal.τ).loc Cert.AdamInRefIdeal.main_arg1) = m ((c.tc : Thread Cert.AdamInIdeal.nD Cert.AdamInIdeal.τ).loc Cert.AdamInIdeal.main_arg1)
      ∧ m' ((c.tc : Thread Cert.AdamInRefIdeal.nD Cert.AdamInRefIdeal.τ).loc Cert.AdamInRefIdeal.main_arg2) = m ((c.tc : Thread Cert.AdamInIdeal.nD Cert.AdamInIdeal.τ).loc Cert.AdamInIdeal.main_arg2)
      ∧ m' ((c.tc : Thread Cert.AdamInRefIdeal.nD Cert.AdamInRefIdeal.τ).loc Cert.AdamInRefIdeal.main_arg3) = m ((c.tc : Thread Cert.AdamInIdeal.nD Cert.AdamInIdeal.τ).loc Cert.AdamInIdeal.main_arg3)) →
    ∃ (v0 : (c : Dev Cert.AdamInIdeal.nD) → Buf (Elt Ideal) ((c.tc : Thread Cert.AdamInIdeal.nD Cert.AdamInIdeal.τ).loc Cert.AdamInIdeal.main_v0_0)) (v1 : (c : Dev Cert.AdamInIdeal.nD) → Buf (Elt Ideal) ((c.tc : Thread Cert.AdamInIdeal.nD Cert.AdamInIdeal.τ).loc Cert.AdamInIdeal.main_v0_1)) (v2 : (c : Dev Cert.AdamInIdeal.nD) → Buf (Elt Ideal) ((c.tc : Thread Cert.AdamInIdeal.nD Cert.AdamInIdeal.τ).loc Cert.AdamInIdeal.main_v0_2)),
      θ_run (Cert.AdamInIdeal.defs (F := Ideal)) (onTc (τ := Cert.AdamInIdeal.τ) (Cert.AdamInIdeal.main (F := Ideal))) ⟨m, fun _ => 0, g⟩ (fun r => ∀ c : Dev Cert.AdamInIdeal.nD,
          r.2.mem ((c.tc : Thread Cert.AdamInIdeal.nD Cert.AdamInIdeal.τ).loc Cert.AdamInIdeal.main_v0_0) = v0 c
          ∧ r.2.mem ((c.tc : Thread Cert.AdamInIdeal.nD Cert.AdamInIdeal.τ).loc Cert.AdamInIdeal.main_v0_1) = v1 c
          ∧ r.2.mem ((c.tc : Thread Cert.AdamInIdeal.nD Cert.AdamInIdeal.τ).loc Cert.AdamInIdeal.main_v0_2) = v2 c
          ∧ r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
          ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
          ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
          ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3))
      ∧ θ_run (Cert.AdamInRefIdeal.defs (F := Ideal)) (onTc (τ := Cert.AdamInRefIdeal.τ) (Cert.AdamInRefIdeal.main (F := Ideal))) ⟨m', fun _ => 0, g'⟩ (fun r => ∀ c : Dev Cert.AdamInRefIdeal.nD,
          r.2.mem ((c.tc : Thread Cert.AdamInRefIdeal.nD Cert.AdamInRefIdeal.τ).loc Cert.AdamInRefIdeal.main_v23) = v0 c
          ∧ r.2.mem ((c.tc : Thread Cert.AdamInRefIdeal.nD Cert.AdamInRefIdeal.τ).loc Cert.AdamInRefIdeal.main_v4) = v1 c
          ∧ r.2.mem ((c.tc : Thread Cert.AdamInRefIdeal.nD Cert.AdamInRefIdeal.τ).loc Cert.AdamInRefIdeal.main_v10) = v2 c
          ∧ r.2.mem ((c.tc : Thread Cert.AdamInRefIdeal.nD Cert.AdamInRefIdeal.τ).loc Cert.AdamInRefIdeal.main_arg0) = m' ((c.tc : Thread Cert.AdamInRefIdeal.nD Cert.AdamInRefIdeal.τ).loc Cert.AdamInRefIdeal.main_arg0)
          ∧ r.2.mem ((c.tc : Thread Cert.AdamInRefIdeal.nD Cert.AdamInRefIdeal.τ).loc Cert.AdamInRefIdeal.main_arg1) = m' ((c.tc : Thread Cert.AdamInRefIdeal.nD Cert.AdamInRefIdeal.τ).loc Cert.AdamInRefIdeal.main_arg1)
          ∧ r.2.mem ((c.tc : Thread Cert.AdamInRefIdeal.nD Cert.AdamInRefIdeal.τ).loc Cert.AdamInRefIdeal.main_arg2) = m' ((c.tc : Thread Cert.AdamInRefIdeal.nD Cert.AdamInRefIdeal.τ).loc Cert.AdamInRefIdeal.main_arg2)
          ∧ r.2.mem ((c.tc : Thread Cert.AdamInRefIdeal.nD Cert.AdamInRefIdeal.τ).loc Cert.AdamInRefIdeal.main_arg3) = m' ((c.tc : Thread Cert.AdamInRefIdeal.nD Cert.AdamInRefIdeal.τ).loc Cert.AdamInRefIdeal.main_arg3))

def preserves_AdamOut_AdamOutIdeal : Prop :=
  True

def algebraic_AdamOutIdeal_AdamOutRefIdeal [hAdamOutIdeal : Cert.AdamOutIdeal.Facts] [hAdamOutRefIdeal : Cert.AdamOutRefIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg)
    (m' : (ℓ : Loc Cert.AdamOutRefIdeal.nD Cert.AdamOutRefIdeal.τ Cert.AdamOutRefIdeal.sig) → Buf (Elt Ideal) ℓ) (g' : Dev Cert.AdamOutRefIdeal.nD → PrngReg), Pre_AdamOutIdeal m →
    (∀ c : Dev Cert.AdamOutIdeal.nD,
      m' ((c.tc : Thread Cert.AdamOutRefIdeal.nD Cert.AdamOutRefIdeal.τ).loc Cert.AdamOutRefIdeal.main_arg0) = m ((c.tc : Thread Cert.AdamOutIdeal.nD Cert.AdamOutIdeal.τ).loc Cert.AdamOutIdeal.main_arg0)
      ∧ m' ((c.tc : Thread Cert.AdamOutRefIdeal.nD Cert.AdamOutRefIdeal.τ).loc Cert.AdamOutRefIdeal.main_arg1) = m ((c.tc : Thread Cert.AdamOutIdeal.nD Cert.AdamOutIdeal.τ).loc Cert.AdamOutIdeal.main_arg1)
      ∧ m' ((c.tc : Thread Cert.AdamOutRefIdeal.nD Cert.AdamOutRefIdeal.τ).loc Cert.AdamOutRefIdeal.main_arg2) = m ((c.tc : Thread Cert.AdamOutIdeal.nD Cert.AdamOutIdeal.τ).loc Cert.AdamOutIdeal.main_arg2)
      ∧ m' ((c.tc : Thread Cert.AdamOutRefIdeal.nD Cert.AdamOutRefIdeal.τ).loc Cert.AdamOutRefIdeal.main_arg3) = m ((c.tc : Thread Cert.AdamOutIdeal.nD Cert.AdamOutIdeal.τ).loc Cert.AdamOutIdeal.main_arg3)) →
    ∃ (v0 : (c : Dev Cert.AdamOutIdeal.nD) → Buf (Elt Ideal) ((c.tc : Thread Cert.AdamOutIdeal.nD Cert.AdamOutIdeal.τ).loc Cert.AdamOutIdeal.main_v0_0)) (v1 : (c : Dev Cert.AdamOutIdeal.nD) → Buf (Elt Ideal) ((c.tc : Thread Cert.AdamOutIdeal.nD Cert.AdamOutIdeal.τ).loc Cert.AdamOutIdeal.main_v0_1)) (v2 : (c : Dev Cert.AdamOutIdeal.nD) → Buf (Elt Ideal) ((c.tc : Thread Cert.AdamOutIdeal.nD Cert.AdamOutIdeal.τ).loc Cert.AdamOutIdeal.main_v0_2)),
      θ_run (Cert.AdamOutIdeal.defs (F := Ideal)) (onTc (τ := Cert.AdamOutIdeal.τ) (Cert.AdamOutIdeal.main (F := Ideal))) ⟨m, fun _ => 0, g⟩ (fun r => ∀ c : Dev Cert.AdamOutIdeal.nD,
          r.2.mem ((c.tc : Thread Cert.AdamOutIdeal.nD Cert.AdamOutIdeal.τ).loc Cert.AdamOutIdeal.main_v0_0) = v0 c
          ∧ r.2.mem ((c.tc : Thread Cert.AdamOutIdeal.nD Cert.AdamOutIdeal.τ).loc Cert.AdamOutIdeal.main_v0_1) = v1 c
          ∧ r.2.mem ((c.tc : Thread Cert.AdamOutIdeal.nD Cert.AdamOutIdeal.τ).loc Cert.AdamOutIdeal.main_v0_2) = v2 c
          ∧ r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
          ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
          ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
          ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3))
      ∧ θ_run (Cert.AdamOutRefIdeal.defs (F := Ideal)) (onTc (τ := Cert.AdamOutRefIdeal.τ) (Cert.AdamOutRefIdeal.main (F := Ideal))) ⟨m', fun _ => 0, g'⟩ (fun r => ∀ c : Dev Cert.AdamOutRefIdeal.nD,
          r.2.mem ((c.tc : Thread Cert.AdamOutRefIdeal.nD Cert.AdamOutRefIdeal.τ).loc Cert.AdamOutRefIdeal.main_v23) = v0 c
          ∧ r.2.mem ((c.tc : Thread Cert.AdamOutRefIdeal.nD Cert.AdamOutRefIdeal.τ).loc Cert.AdamOutRefIdeal.main_v4) = v1 c
          ∧ r.2.mem ((c.tc : Thread Cert.AdamOutRefIdeal.nD Cert.AdamOutRefIdeal.τ).loc Cert.AdamOutRefIdeal.main_v10) = v2 c
          ∧ r.2.mem ((c.tc : Thread Cert.AdamOutRefIdeal.nD Cert.AdamOutRefIdeal.τ).loc Cert.AdamOutRefIdeal.main_arg0) = m' ((c.tc : Thread Cert.AdamOutRefIdeal.nD Cert.AdamOutRefIdeal.τ).loc Cert.AdamOutRefIdeal.main_arg0)
          ∧ r.2.mem ((c.tc : Thread Cert.AdamOutRefIdeal.nD Cert.AdamOutRefIdeal.τ).loc Cert.AdamOutRefIdeal.main_arg1) = m' ((c.tc : Thread Cert.AdamOutRefIdeal.nD Cert.AdamOutRefIdeal.τ).loc Cert.AdamOutRefIdeal.main_arg1)
          ∧ r.2.mem ((c.tc : Thread Cert.AdamOutRefIdeal.nD Cert.AdamOutRefIdeal.τ).loc Cert.AdamOutRefIdeal.main_arg2) = m' ((c.tc : Thread Cert.AdamOutRefIdeal.nD Cert.AdamOutRefIdeal.τ).loc Cert.AdamOutRefIdeal.main_arg2)
          ∧ r.2.mem ((c.tc : Thread Cert.AdamOutRefIdeal.nD Cert.AdamOutRefIdeal.τ).loc Cert.AdamOutRefIdeal.main_arg3) = m' ((c.tc : Thread Cert.AdamOutRefIdeal.nD Cert.AdamOutRefIdeal.τ).loc Cert.AdamOutRefIdeal.main_arg3))

def preserves_AdamMlpIn_AdamMlpInIdeal : Prop :=
  True

def algebraic_AdamMlpInIdeal_AdamMlpInRefIdeal [hAdamMlpInIdeal : Cert.AdamMlpInIdeal.Facts] [hAdamMlpInRefIdeal : Cert.AdamMlpInRefIdeal.Facts] : Prop :=
  ∀ (m : (ℓ : Loc Cert.AdamMlpInIdeal.nD Cert.AdamMlpInIdeal.τ Cert.AdamMlpInIdeal.sig) → Buf (Elt Ideal) ℓ) (g : Dev Cert.AdamMlpInIdeal.nD → PrngReg)
    (m' : (ℓ : Loc Cert.AdamMlpInRefIdeal.nD Cert.AdamMlpInRefIdeal.τ Cert.AdamMlpInRefIdeal.sig) → Buf (Elt Ideal) ℓ) (g' : Dev Cert.AdamMlpInRefIdeal.nD → PrngReg), Pre_AdamMlpInIdeal m →
    (∀ c : Dev Cert.AdamMlpInIdeal.nD,
      m' ((c.tc : Thread Cert.AdamMlpInRefIdeal.nD Cert.AdamMlpInRefIdeal.τ).loc Cert.AdamMlpInRefIdeal.main_arg0) = m ((c.tc : Thread Cert.AdamMlpInIdeal.nD Cert.AdamMlpInIdeal.τ).loc Cert.AdamMlpInIdeal.main_arg0)
      ∧ m' ((c.tc : Thread Cert.AdamMlpInRefIdeal.nD Cert.AdamMlpInRefIdeal.τ).loc Cert.AdamMlpInRefIdeal.main_arg1) = m ((c.tc : Thread Cert.AdamMlpInIdeal.nD Cert.AdamMlpInIdeal.τ).loc Cert.AdamMlpInIdeal.main_arg1)
      ∧ m' ((c.tc : Thread Cert.AdamMlpInRefIdeal.nD Cert.AdamMlpInRefIdeal.τ).loc Cert.AdamMlpInRefIdeal.main_arg2) = m ((c.tc : Thread Cert.AdamMlpInIdeal.nD Cert.AdamMlpInIdeal.τ).loc Cert.AdamMlpInIdeal.main_arg2)
      ∧ m' ((c.tc : Thread Cert.AdamMlpInRefIdeal.nD Cert.AdamMlpInRefIdeal.τ).loc Cert.AdamMlpInRefIdeal.main_arg3) = m ((c.tc : Thread Cert.AdamMlpInIdeal.nD Cert.AdamMlpInIdeal.τ).loc Cert.AdamMlpInIdeal.main_arg3)) →
    ∃ (v0 : (c : Dev Cert.AdamMlpInIdeal.nD) → Buf (Elt Ideal) ((c.tc : Thread Cert.AdamMlpInIdeal.nD Cert.AdamMlpInIdeal.τ).loc Cert.AdamMlpInIdeal.main_v0_0)) (v1 : (c : Dev Cert.AdamMlpInIdeal.nD) → Buf (Elt Ideal) ((c.tc : Thread Cert.AdamMlpInIdeal.nD Cert.AdamMlpInIdeal.τ).loc Cert.AdamMlpInIdeal.main_v0_1)) (v2 : (c : Dev Cert.AdamMlpInIdeal.nD) → Buf (Elt Ideal) ((c.tc : Thread Cert.AdamMlpInIdeal.nD Cert.AdamMlpInIdeal.τ).loc Cert.AdamMlpInIdeal.main_v0_2)),
      θ_run (Cert.AdamMlpInIdeal.defs (F := Ideal)) (onTc (τ := Cert.AdamMlpInIdeal.τ) (Cert.AdamMlpInIdeal.main (F := Ideal))) ⟨m, fun _ => 0, g⟩ (fun r => ∀ c : Dev Cert.AdamMlpInIdeal.nD,
          r.2.mem ((c.tc : Thread Cert.AdamMlpInIdeal.nD Cert.AdamMlpInIdeal.τ).loc Cert.AdamMlpInIdeal.main_v0_0) = v0 c
          ∧ r.2.mem ((c.tc : Thread Cert.AdamMlpInIdeal.nD Cert.AdamMlpInIdeal.τ).loc Cert.AdamMlpInIdeal.main_v0_1) = v1 c
          ∧ r.2.mem ((c.tc : Thread Cert.AdamMlpInIdeal.nD Cert.AdamMlpInIdeal.τ).loc Cert.AdamMlpInIdeal.main_v0_2) = v2 c
          ∧ r.2.mem ((c.tc : Thread Cert.AdamMlpInIdeal.nD Cert.AdamMlpInIdeal.τ).loc Cert.AdamMlpInIdeal.main_arg0) = m ((c.tc : Thread Cert.AdamMlpInIdeal.nD Cert.AdamMlpInIdeal.τ).loc Cert.AdamMlpInIdeal.main_arg0)
          ∧ r.2.mem ((c.tc : Thread Cert.AdamMlpInIdeal.nD Cert.AdamMlpInIdeal.τ).loc Cert.AdamMlpInIdeal.main_arg1) = m ((c.tc : Thread Cert.AdamMlpInIdeal.nD Cert.AdamMlpInIdeal.τ).loc Cert.AdamMlpInIdeal.main_arg1)
          ∧ r.2.mem ((c.tc : Thread Cert.AdamMlpInIdeal.nD Cert.AdamMlpInIdeal.τ).loc Cert.AdamMlpInIdeal.main_arg2) = m ((c.tc : Thread Cert.AdamMlpInIdeal.nD Cert.AdamMlpInIdeal.τ).loc Cert.AdamMlpInIdeal.main_arg2)
          ∧ r.2.mem ((c.tc : Thread Cert.AdamMlpInIdeal.nD Cert.AdamMlpInIdeal.τ).loc Cert.AdamMlpInIdeal.main_arg3) = m ((c.tc : Thread Cert.AdamMlpInIdeal.nD Cert.AdamMlpInIdeal.τ).loc Cert.AdamMlpInIdeal.main_arg3))
      ∧ θ_run (Cert.AdamMlpInRefIdeal.defs (F := Ideal)) (onTc (τ := Cert.AdamMlpInRefIdeal.τ) (Cert.AdamMlpInRefIdeal.main (F := Ideal))) ⟨m', fun _ => 0, g'⟩ (fun r => ∀ c : Dev Cert.AdamMlpInRefIdeal.nD,
          r.2.mem ((c.tc : Thread Cert.AdamMlpInRefIdeal.nD Cert.AdamMlpInRefIdeal.τ).loc Cert.AdamMlpInRefIdeal.main_v23) = v0 c
          ∧ r.2.mem ((c.tc : Thread Cert.AdamMlpInRefIdeal.nD Cert.AdamMlpInRefIdeal.τ).loc Cert.AdamMlpInRefIdeal.main_v4) = v1 c
          ∧ r.2.mem ((c.tc : Thread Cert.AdamMlpInRefIdeal.nD Cert.AdamMlpInRefIdeal.τ).loc Cert.AdamMlpInRefIdeal.main_v10) = v2 c
          ∧ r.2.mem ((c.tc : Thread Cert.AdamMlpInRefIdeal.nD Cert.AdamMlpInRefIdeal.τ).loc Cert.AdamMlpInRefIdeal.main_arg0) = m' ((c.tc : Thread Cert.AdamMlpInRefIdeal.nD Cert.AdamMlpInRefIdeal.τ).loc Cert.AdamMlpInRefIdeal.main_arg0)
          ∧ r.2.mem ((c.tc : Thread Cert.AdamMlpInRefIdeal.nD Cert.AdamMlpInRefIdeal.τ).loc Cert.AdamMlpInRefIdeal.main_arg1) = m' ((c.tc : Thread Cert.AdamMlpInRefIdeal.nD Cert.AdamMlpInRefIdeal.τ).loc Cert.AdamMlpInRefIdeal.main_arg1)
          ∧ r.2.mem ((c.tc : Thread Cert.AdamMlpInRefIdeal.nD Cert.AdamMlpInRefIdeal.τ).loc Cert.AdamMlpInRefIdeal.main_arg2) = m' ((c.tc : Thread Cert.AdamMlpInRefIdeal.nD Cert.AdamMlpInRefIdeal.τ).loc Cert.AdamMlpInRefIdeal.main_arg2)
          ∧ r.2.mem ((c.tc : Thread Cert.AdamMlpInRefIdeal.nD Cert.AdamMlpInRefIdeal.τ).loc Cert.AdamMlpInRefIdeal.main_arg3) = m' ((c.tc : Thread Cert.AdamMlpInRefIdeal.nD Cert.AdamMlpInRefIdeal.τ).loc Cert.AdamMlpInRefIdeal.main_arg3))

def preserves_AdamMlpOut_AdamMlpOutIdeal : Prop :=
  True

def algebraic_AdamMlpOutIdeal_AdamMlpOutRefIdeal [hAdamMlpOutIdeal : Cert.AdamMlpOutIdeal.Facts] [hAdamMlpOutRefIdeal : Cert.AdamMlpOutRefIdeal.Facts] : Prop :=
  ∀ (m : (ℓ : Loc Cert.AdamMlpOutIdeal.nD Cert.AdamMlpOutIdeal.τ Cert.AdamMlpOutIdeal.sig) → Buf (Elt Ideal) ℓ) (g : Dev Cert.AdamMlpOutIdeal.nD → PrngReg)
    (m' : (ℓ : Loc Cert.AdamMlpOutRefIdeal.nD Cert.AdamMlpOutRefIdeal.τ Cert.AdamMlpOutRefIdeal.sig) → Buf (Elt Ideal) ℓ) (g' : Dev Cert.AdamMlpOutRefIdeal.nD → PrngReg), Pre_AdamMlpOutIdeal m →
    (∀ c : Dev Cert.AdamMlpOutIdeal.nD,
      m' ((c.tc : Thread Cert.AdamMlpOutRefIdeal.nD Cert.AdamMlpOutRefIdeal.τ).loc Cert.AdamMlpOutRefIdeal.main_arg0) = m ((c.tc : Thread Cert.AdamMlpOutIdeal.nD Cert.AdamMlpOutIdeal.τ).loc Cert.AdamMlpOutIdeal.main_arg0)
      ∧ m' ((c.tc : Thread Cert.AdamMlpOutRefIdeal.nD Cert.AdamMlpOutRefIdeal.τ).loc Cert.AdamMlpOutRefIdeal.main_arg1) = m ((c.tc : Thread Cert.AdamMlpOutIdeal.nD Cert.AdamMlpOutIdeal.τ).loc Cert.AdamMlpOutIdeal.main_arg1)
      ∧ m' ((c.tc : Thread Cert.AdamMlpOutRefIdeal.nD Cert.AdamMlpOutRefIdeal.τ).loc Cert.AdamMlpOutRefIdeal.main_arg2) = m ((c.tc : Thread Cert.AdamMlpOutIdeal.nD Cert.AdamMlpOutIdeal.τ).loc Cert.AdamMlpOutIdeal.main_arg2)
      ∧ m' ((c.tc : Thread Cert.AdamMlpOutRefIdeal.nD Cert.AdamMlpOutRefIdeal.τ).loc Cert.AdamMlpOutRefIdeal.main_arg3) = m ((c.tc : Thread Cert.AdamMlpOutIdeal.nD Cert.AdamMlpOutIdeal.τ).loc Cert.AdamMlpOutIdeal.main_arg3)) →
    ∃ (v0 : (c : Dev Cert.AdamMlpOutIdeal.nD) → Buf (Elt Ideal) ((c.tc : Thread Cert.AdamMlpOutIdeal.nD Cert.AdamMlpOutIdeal.τ).loc Cert.AdamMlpOutIdeal.main_v0_0)) (v1 : (c : Dev Cert.AdamMlpOutIdeal.nD) → Buf (Elt Ideal) ((c.tc : Thread Cert.AdamMlpOutIdeal.nD Cert.AdamMlpOutIdeal.τ).loc Cert.AdamMlpOutIdeal.main_v0_1)) (v2 : (c : Dev Cert.AdamMlpOutIdeal.nD) → Buf (Elt Ideal) ((c.tc : Thread Cert.AdamMlpOutIdeal.nD Cert.AdamMlpOutIdeal.τ).loc Cert.AdamMlpOutIdeal.main_v0_2)),
      θ_run (Cert.AdamMlpOutIdeal.defs (F := Ideal)) (onTc (τ := Cert.AdamMlpOutIdeal.τ) (Cert.AdamMlpOutIdeal.main (F := Ideal))) ⟨m, fun _ => 0, g⟩ (fun r => ∀ c : Dev Cert.AdamMlpOutIdeal.nD,
          r.2.mem ((c.tc : Thread Cert.AdamMlpOutIdeal.nD Cert.AdamMlpOutIdeal.τ).loc Cert.AdamMlpOutIdeal.main_v0_0) = v0 c
          ∧ r.2.mem ((c.tc : Thread Cert.AdamMlpOutIdeal.nD Cert.AdamMlpOutIdeal.τ).loc Cert.AdamMlpOutIdeal.main_v0_1) = v1 c
          ∧ r.2.mem ((c.tc : Thread Cert.AdamMlpOutIdeal.nD Cert.AdamMlpOutIdeal.τ).loc Cert.AdamMlpOutIdeal.main_v0_2) = v2 c
          ∧ r.2.mem ((c.tc : Thread Cert.AdamMlpOutIdeal.nD Cert.AdamMlpOutIdeal.τ).loc Cert.AdamMlpOutIdeal.main_arg0) = m ((c.tc : Thread Cert.AdamMlpOutIdeal.nD Cert.AdamMlpOutIdeal.τ).loc Cert.AdamMlpOutIdeal.main_arg0)
          ∧ r.2.mem ((c.tc : Thread Cert.AdamMlpOutIdeal.nD Cert.AdamMlpOutIdeal.τ).loc Cert.AdamMlpOutIdeal.main_arg1) = m ((c.tc : Thread Cert.AdamMlpOutIdeal.nD Cert.AdamMlpOutIdeal.τ).loc Cert.AdamMlpOutIdeal.main_arg1)
          ∧ r.2.mem ((c.tc : Thread Cert.AdamMlpOutIdeal.nD Cert.AdamMlpOutIdeal.τ).loc Cert.AdamMlpOutIdeal.main_arg2) = m ((c.tc : Thread Cert.AdamMlpOutIdeal.nD Cert.AdamMlpOutIdeal.τ).loc Cert.AdamMlpOutIdeal.main_arg2)
          ∧ r.2.mem ((c.tc : Thread Cert.AdamMlpOutIdeal.nD Cert.AdamMlpOutIdeal.τ).loc Cert.AdamMlpOutIdeal.main_arg3) = m ((c.tc : Thread Cert.AdamMlpOutIdeal.nD Cert.AdamMlpOutIdeal.τ).loc Cert.AdamMlpOutIdeal.main_arg3))
      ∧ θ_run (Cert.AdamMlpOutRefIdeal.defs (F := Ideal)) (onTc (τ := Cert.AdamMlpOutRefIdeal.τ) (Cert.AdamMlpOutRefIdeal.main (F := Ideal))) ⟨m', fun _ => 0, g'⟩ (fun r => ∀ c : Dev Cert.AdamMlpOutRefIdeal.nD,
          r.2.mem ((c.tc : Thread Cert.AdamMlpOutRefIdeal.nD Cert.AdamMlpOutRefIdeal.τ).loc Cert.AdamMlpOutRefIdeal.main_v23) = v0 c
          ∧ r.2.mem ((c.tc : Thread Cert.AdamMlpOutRefIdeal.nD Cert.AdamMlpOutRefIdeal.τ).loc Cert.AdamMlpOutRefIdeal.main_v4) = v1 c
          ∧ r.2.mem ((c.tc : Thread Cert.AdamMlpOutRefIdeal.nD Cert.AdamMlpOutRefIdeal.τ).loc Cert.AdamMlpOutRefIdeal.main_v10) = v2 c
          ∧ r.2.mem ((c.tc : Thread Cert.AdamMlpOutRefIdeal.nD Cert.AdamMlpOutRefIdeal.τ).loc Cert.AdamMlpOutRefIdeal.main_arg0) = m' ((c.tc : Thread Cert.AdamMlpOutRefIdeal.nD Cert.AdamMlpOutRefIdeal.τ).loc Cert.AdamMlpOutRefIdeal.main_arg0)
          ∧ r.2.mem ((c.tc : Thread Cert.AdamMlpOutRefIdeal.nD Cert.AdamMlpOutRefIdeal.τ).loc Cert.AdamMlpOutRefIdeal.main_arg1) = m' ((c.tc : Thread Cert.AdamMlpOutRefIdeal.nD Cert.AdamMlpOutRefIdeal.τ).loc Cert.AdamMlpOutRefIdeal.main_arg1)
          ∧ r.2.mem ((c.tc : Thread Cert.AdamMlpOutRefIdeal.nD Cert.AdamMlpOutRefIdeal.τ).loc Cert.AdamMlpOutRefIdeal.main_arg2) = m' ((c.tc : Thread Cert.AdamMlpOutRefIdeal.nD Cert.AdamMlpOutRefIdeal.τ).loc Cert.AdamMlpOutRefIdeal.main_arg2)
          ∧ r.2.mem ((c.tc : Thread Cert.AdamMlpOutRefIdeal.nD Cert.AdamMlpOutRefIdeal.τ).loc Cert.AdamMlpOutRefIdeal.main_arg3) = m' ((c.tc : Thread Cert.AdamMlpOutRefIdeal.nD Cert.AdamMlpOutRefIdeal.τ).loc Cert.AdamMlpOutRefIdeal.main_arg3))

def preserves_AdamGlu_AdamGluIdeal : Prop :=
  True

def algebraic_AdamGluIdeal_AdamGluRefIdeal [hAdamGluIdeal : Cert.AdamGluIdeal.Facts] [hAdamGluRefIdeal : Cert.AdamGluRefIdeal.Facts] : Prop :=
  ∀ (m : (ℓ : Loc Cert.AdamGluIdeal.nD Cert.AdamGluIdeal.τ Cert.AdamGluIdeal.sig) → Buf (Elt Ideal) ℓ) (g : Dev Cert.AdamGluIdeal.nD → PrngReg)
    (m' : (ℓ : Loc Cert.AdamGluRefIdeal.nD Cert.AdamGluRefIdeal.τ Cert.AdamGluRefIdeal.sig) → Buf (Elt Ideal) ℓ) (g' : Dev Cert.AdamGluRefIdeal.nD → PrngReg), Pre_AdamGluIdeal m →
    (∀ c : Dev Cert.AdamGluIdeal.nD,
      m' ((c.tc : Thread Cert.AdamGluRefIdeal.nD Cert.AdamGluRefIdeal.τ).loc Cert.AdamGluRefIdeal.main_arg0) = m ((c.tc : Thread Cert.AdamGluIdeal.nD Cert.AdamGluIdeal.τ).loc Cert.AdamGluIdeal.main_arg0)
      ∧ m' ((c.tc : Thread Cert.AdamGluRefIdeal.nD Cert.AdamGluRefIdeal.τ).loc Cert.AdamGluRefIdeal.main_arg1) = m ((c.tc : Thread Cert.AdamGluIdeal.nD Cert.AdamGluIdeal.τ).loc Cert.AdamGluIdeal.main_arg1)
      ∧ m' ((c.tc : Thread Cert.AdamGluRefIdeal.nD Cert.AdamGluRefIdeal.τ).loc Cert.AdamGluRefIdeal.main_arg2) = m ((c.tc : Thread Cert.AdamGluIdeal.nD Cert.AdamGluIdeal.τ).loc Cert.AdamGluIdeal.main_arg2)
      ∧ m' ((c.tc : Thread Cert.AdamGluRefIdeal.nD Cert.AdamGluRefIdeal.τ).loc Cert.AdamGluRefIdeal.main_arg3) = m ((c.tc : Thread Cert.AdamGluIdeal.nD Cert.AdamGluIdeal.τ).loc Cert.AdamGluIdeal.main_arg3)) →
    ∃ (v0 : (c : Dev Cert.AdamGluIdeal.nD) → Buf (Elt Ideal) ((c.tc : Thread Cert.AdamGluIdeal.nD Cert.AdamGluIdeal.τ).loc Cert.AdamGluIdeal.main_v0_0)) (v1 : (c : Dev Cert.AdamGluIdeal.nD) → Buf (Elt Ideal) ((c.tc : Thread Cert.AdamGluIdeal.nD Cert.AdamGluIdeal.τ).loc Cert.AdamGluIdeal.main_v0_1)) (v2 : (c : Dev Cert.AdamGluIdeal.nD) → Buf (Elt Ideal) ((c.tc : Thread Cert.AdamGluIdeal.nD Cert.AdamGluIdeal.τ).loc Cert.AdamGluIdeal.main_v0_2)),
      θ_run (Cert.AdamGluIdeal.defs (F := Ideal)) (onTc (τ := Cert.AdamGluIdeal.τ) (Cert.AdamGluIdeal.main (F := Ideal))) ⟨m, fun _ => 0, g⟩ (fun r => ∀ c : Dev Cert.AdamGluIdeal.nD,
          r.2.mem ((c.tc : Thread Cert.AdamGluIdeal.nD Cert.AdamGluIdeal.τ).loc Cert.AdamGluIdeal.main_v0_0) = v0 c
          ∧ r.2.mem ((c.tc : Thread Cert.AdamGluIdeal.nD Cert.AdamGluIdeal.τ).loc Cert.AdamGluIdeal.main_v0_1) = v1 c
          ∧ r.2.mem ((c.tc : Thread Cert.AdamGluIdeal.nD Cert.AdamGluIdeal.τ).loc Cert.AdamGluIdeal.main_v0_2) = v2 c
          ∧ r.2.mem ((c.tc : Thread Cert.AdamGluIdeal.nD Cert.AdamGluIdeal.τ).loc Cert.AdamGluIdeal.main_arg0) = m ((c.tc : Thread Cert.AdamGluIdeal.nD Cert.AdamGluIdeal.τ).loc Cert.AdamGluIdeal.main_arg0)
          ∧ r.2.mem ((c.tc : Thread Cert.AdamGluIdeal.nD Cert.AdamGluIdeal.τ).loc Cert.AdamGluIdeal.main_arg1) = m ((c.tc : Thread Cert.AdamGluIdeal.nD Cert.AdamGluIdeal.τ).loc Cert.AdamGluIdeal.main_arg1)
          ∧ r.2.mem ((c.tc : Thread Cert.AdamGluIdeal.nD Cert.AdamGluIdeal.τ).loc Cert.AdamGluIdeal.main_arg2) = m ((c.tc : Thread Cert.AdamGluIdeal.nD Cert.AdamGluIdeal.τ).loc Cert.AdamGluIdeal.main_arg2)
          ∧ r.2.mem ((c.tc : Thread Cert.AdamGluIdeal.nD Cert.AdamGluIdeal.τ).loc Cert.AdamGluIdeal.main_arg3) = m ((c.tc : Thread Cert.AdamGluIdeal.nD Cert.AdamGluIdeal.τ).loc Cert.AdamGluIdeal.main_arg3))
      ∧ θ_run (Cert.AdamGluRefIdeal.defs (F := Ideal)) (onTc (τ := Cert.AdamGluRefIdeal.τ) (Cert.AdamGluRefIdeal.main (F := Ideal))) ⟨m', fun _ => 0, g'⟩ (fun r => ∀ c : Dev Cert.AdamGluRefIdeal.nD,
          r.2.mem ((c.tc : Thread Cert.AdamGluRefIdeal.nD Cert.AdamGluRefIdeal.τ).loc Cert.AdamGluRefIdeal.main_v23) = v0 c
          ∧ r.2.mem ((c.tc : Thread Cert.AdamGluRefIdeal.nD Cert.AdamGluRefIdeal.τ).loc Cert.AdamGluRefIdeal.main_v4) = v1 c
          ∧ r.2.mem ((c.tc : Thread Cert.AdamGluRefIdeal.nD Cert.AdamGluRefIdeal.τ).loc Cert.AdamGluRefIdeal.main_v10) = v2 c
          ∧ r.2.mem ((c.tc : Thread Cert.AdamGluRefIdeal.nD Cert.AdamGluRefIdeal.τ).loc Cert.AdamGluRefIdeal.main_arg0) = m' ((c.tc : Thread Cert.AdamGluRefIdeal.nD Cert.AdamGluRefIdeal.τ).loc Cert.AdamGluRefIdeal.main_arg0)
          ∧ r.2.mem ((c.tc : Thread Cert.AdamGluRefIdeal.nD Cert.AdamGluRefIdeal.τ).loc Cert.AdamGluRefIdeal.main_arg1) = m' ((c.tc : Thread Cert.AdamGluRefIdeal.nD Cert.AdamGluRefIdeal.τ).loc Cert.AdamGluRefIdeal.main_arg1)
          ∧ r.2.mem ((c.tc : Thread Cert.AdamGluRefIdeal.nD Cert.AdamGluRefIdeal.τ).loc Cert.AdamGluRefIdeal.main_arg2) = m' ((c.tc : Thread Cert.AdamGluRefIdeal.nD Cert.AdamGluRefIdeal.τ).loc Cert.AdamGluRefIdeal.main_arg2)
          ∧ r.2.mem ((c.tc : Thread Cert.AdamGluRefIdeal.nD Cert.AdamGluRefIdeal.τ).loc Cert.AdamGluRefIdeal.main_arg3) = m' ((c.tc : Thread Cert.AdamGluRefIdeal.nD Cert.AdamGluRefIdeal.τ).loc Cert.AdamGluRefIdeal.main_arg3))

def preserves_AdamSmall_AdamSmallIdeal : Prop :=
  True

def algebraic_AdamSmallIdeal_AdamSmallRefIdeal [hAdamSmallIdeal : Cert.AdamSmallIdeal.Facts] [hAdamSmallRefIdeal : Cert.AdamSmallRefIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg)
    (m' : (ℓ : Loc Cert.AdamSmallRefIdeal.nD Cert.AdamSmallRefIdeal.τ Cert.AdamSmallRefIdeal.sig) → Buf (Elt Ideal) ℓ) (g' : Dev Cert.AdamSmallRefIdeal.nD → PrngReg), Pre_AdamSmallIdeal m →
    (∀ c : Dev Cert.AdamSmallIdeal.nD,
      m' ((c.tc : Thread Cert.AdamSmallRefIdeal.nD Cert.AdamSmallRefIdeal.τ).loc Cert.AdamSmallRefIdeal.main_arg0) = m ((c.tc : Thread Cert.AdamSmallIdeal.nD Cert.AdamSmallIdeal.τ).loc Cert.AdamSmallIdeal.main_arg0)
      ∧ m' ((c.tc : Thread Cert.AdamSmallRefIdeal.nD Cert.AdamSmallRefIdeal.τ).loc Cert.AdamSmallRefIdeal.main_arg1) = m ((c.tc : Thread Cert.AdamSmallIdeal.nD Cert.AdamSmallIdeal.τ).loc Cert.AdamSmallIdeal.main_arg1)
      ∧ m' ((c.tc : Thread Cert.AdamSmallRefIdeal.nD Cert.AdamSmallRefIdeal.τ).loc Cert.AdamSmallRefIdeal.main_arg2) = m ((c.tc : Thread Cert.AdamSmallIdeal.nD Cert.AdamSmallIdeal.τ).loc Cert.AdamSmallIdeal.main_arg2)
      ∧ m' ((c.tc : Thread Cert.AdamSmallRefIdeal.nD Cert.AdamSmallRefIdeal.τ).loc Cert.AdamSmallRefIdeal.main_arg3) = m ((c.tc : Thread Cert.AdamSmallIdeal.nD Cert.AdamSmallIdeal.τ).loc Cert.AdamSmallIdeal.main_arg3)) →
    ∃ (v0 : (c : Dev Cert.AdamSmallIdeal.nD) → Buf (Elt Ideal) ((c.tc : Thread Cert.AdamSmallIdeal.nD Cert.AdamSmallIdeal.τ).loc Cert.AdamSmallIdeal.main_v0_0)) (v1 : (c : Dev Cert.AdamSmallIdeal.nD) → Buf (Elt Ideal) ((c.tc : Thread Cert.AdamSmallIdeal.nD Cert.AdamSmallIdeal.τ).loc Cert.AdamSmallIdeal.main_v0_1)) (v2 : (c : Dev Cert.AdamSmallIdeal.nD) → Buf (Elt Ideal) ((c.tc : Thread Cert.AdamSmallIdeal.nD Cert.AdamSmallIdeal.τ).loc Cert.AdamSmallIdeal.main_v0_2)),
      θ_run (Cert.AdamSmallIdeal.defs (F := Ideal)) (onTc (τ := Cert.AdamSmallIdeal.τ) (Cert.AdamSmallIdeal.main (F := Ideal))) ⟨m, fun _ => 0, g⟩ (fun r => ∀ c : Dev Cert.AdamSmallIdeal.nD,
          r.2.mem ((c.tc : Thread Cert.AdamSmallIdeal.nD Cert.AdamSmallIdeal.τ).loc Cert.AdamSmallIdeal.main_v0_0) = v0 c
          ∧ r.2.mem ((c.tc : Thread Cert.AdamSmallIdeal.nD Cert.AdamSmallIdeal.τ).loc Cert.AdamSmallIdeal.main_v0_1) = v1 c
          ∧ r.2.mem ((c.tc : Thread Cert.AdamSmallIdeal.nD Cert.AdamSmallIdeal.τ).loc Cert.AdamSmallIdeal.main_v0_2) = v2 c
          ∧ r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
          ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
          ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
          ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3))
      ∧ θ_run (Cert.AdamSmallRefIdeal.defs (F := Ideal)) (onTc (τ := Cert.AdamSmallRefIdeal.τ) (Cert.AdamSmallRefIdeal.main (F := Ideal))) ⟨m', fun _ => 0, g'⟩ (fun r => ∀ c : Dev Cert.AdamSmallRefIdeal.nD,
          r.2.mem ((c.tc : Thread Cert.AdamSmallRefIdeal.nD Cert.AdamSmallRefIdeal.τ).loc Cert.AdamSmallRefIdeal.main_v23) = v0 c
          ∧ r.2.mem ((c.tc : Thread Cert.AdamSmallRefIdeal.nD Cert.AdamSmallRefIdeal.τ).loc Cert.AdamSmallRefIdeal.main_v4) = v1 c
          ∧ r.2.mem ((c.tc : Thread Cert.AdamSmallRefIdeal.nD Cert.AdamSmallRefIdeal.τ).loc Cert.AdamSmallRefIdeal.main_v10) = v2 c
          ∧ r.2.mem ((c.tc : Thread Cert.AdamSmallRefIdeal.nD Cert.AdamSmallRefIdeal.τ).loc Cert.AdamSmallRefIdeal.main_arg0) = m' ((c.tc : Thread Cert.AdamSmallRefIdeal.nD Cert.AdamSmallRefIdeal.τ).loc Cert.AdamSmallRefIdeal.main_arg0)
          ∧ r.2.mem ((c.tc : Thread Cert.AdamSmallRefIdeal.nD Cert.AdamSmallRefIdeal.τ).loc Cert.AdamSmallRefIdeal.main_arg1) = m' ((c.tc : Thread Cert.AdamSmallRefIdeal.nD Cert.AdamSmallRefIdeal.τ).loc Cert.AdamSmallRefIdeal.main_arg1)
          ∧ r.2.mem ((c.tc : Thread Cert.AdamSmallRefIdeal.nD Cert.AdamSmallRefIdeal.τ).loc Cert.AdamSmallRefIdeal.main_arg2) = m' ((c.tc : Thread Cert.AdamSmallRefIdeal.nD Cert.AdamSmallRefIdeal.τ).loc Cert.AdamSmallRefIdeal.main_arg2)
          ∧ r.2.mem ((c.tc : Thread Cert.AdamSmallRefIdeal.nD Cert.AdamSmallRefIdeal.τ).loc Cert.AdamSmallRefIdeal.main_arg3) = m' ((c.tc : Thread Cert.AdamSmallRefIdeal.nD Cert.AdamSmallRefIdeal.τ).loc Cert.AdamSmallRefIdeal.main_arg3))

def preserves_AdaBwd_AdaBwdIdeal : Prop :=
  True

def algebraic_AdaBwdIdeal_AdaBwdRefIdeal [hAdaBwdIdeal : Cert.AdaBwdIdeal.Facts] [hAdaBwdRefIdeal : Cert.AdaBwdRefIdeal.Facts] : Prop :=
  ∀ (m : (ℓ : Loc Cert.AdaBwdIdeal.nD Cert.AdaBwdIdeal.τ Cert.AdaBwdIdeal.sig) → Buf (Elt Ideal) ℓ) (g : Dev Cert.AdaBwdIdeal.nD → PrngReg)
    (m' : (ℓ : Loc Cert.AdaBwdRefIdeal.nD Cert.AdaBwdRefIdeal.τ Cert.AdaBwdRefIdeal.sig) → Buf (Elt Ideal) ℓ) (g' : Dev Cert.AdaBwdRefIdeal.nD → PrngReg), Pre_AdaBwdIdeal m →
    (∀ c : Dev Cert.AdaBwdIdeal.nD,
      m' ((c.tc : Thread Cert.AdaBwdRefIdeal.nD Cert.AdaBwdRefIdeal.τ).loc Cert.AdaBwdRefIdeal.main_arg0) = m ((c.tc : Thread Cert.AdaBwdIdeal.nD Cert.AdaBwdIdeal.τ).loc Cert.AdaBwdIdeal.main_arg0)
      ∧ m' ((c.tc : Thread Cert.AdaBwdRefIdeal.nD Cert.AdaBwdRefIdeal.τ).loc Cert.AdaBwdRefIdeal.main_arg1) = m ((c.tc : Thread Cert.AdaBwdIdeal.nD Cert.AdaBwdIdeal.τ).loc Cert.AdaBwdIdeal.main_arg1)
      ∧ m' ((c.tc : Thread Cert.AdaBwdRefIdeal.nD Cert.AdaBwdRefIdeal.τ).loc Cert.AdaBwdRefIdeal.main_arg2) = m ((c.tc : Thread Cert.AdaBwdIdeal.nD Cert.AdaBwdIdeal.τ).loc Cert.AdaBwdIdeal.main_arg2)
      ∧ m' ((c.tc : Thread Cert.AdaBwdRefIdeal.nD Cert.AdaBwdRefIdeal.τ).loc Cert.AdaBwdRefIdeal.main_arg3) = m ((c.tc : Thread Cert.AdaBwdIdeal.nD Cert.AdaBwdIdeal.τ).loc Cert.AdaBwdIdeal.main_arg3)
      ∧ m' ((c.tc : Thread Cert.AdaBwdRefIdeal.nD Cert.AdaBwdRefIdeal.τ).loc Cert.AdaBwdRefIdeal.main_arg4) = m ((c.tc : Thread Cert.AdaBwdIdeal.nD Cert.AdaBwdIdeal.τ).loc Cert.AdaBwdIdeal.main_arg4)) →
    ∃ (v0 : (c : Dev Cert.AdaBwdIdeal.nD) → Buf (Elt Ideal) ((c.tc : Thread Cert.AdaBwdIdeal.nD Cert.AdaBwdIdeal.τ).loc Cert.AdaBwdIdeal.main_v0_0)) (v1 : (c : Dev Cert.AdaBwdIdeal.nD) → Buf (Elt Ideal) ((c.tc : Thread Cert.AdaBwdIdeal.nD Cert.AdaBwdIdeal.τ).loc Cert.AdaBwdIdeal.main_v0_1)) (v2 : (c : Dev Cert.AdaBwdIdeal.nD) → Buf (Elt Ideal) ((c.tc : Thread Cert.AdaBwdIdeal.nD Cert.AdaBwdIdeal.τ).loc Cert.AdaBwdIdeal.main_v0_2)) (v3 : (c : Dev Cert.AdaBwdIdeal.nD) → Buf (Elt Ideal) ((c.tc : Thread Cert.AdaBwdIdeal.nD Cert.AdaBwdIdeal.τ).loc Cert.AdaBwdIdeal.main_v0_3)),
      θ_run (Cert.AdaBwdIdeal.defs (F := Ideal)) (onTc (τ := Cert.AdaBwdIdeal.τ) (Cert.AdaBwdIdeal.main (F := Ideal))) ⟨m, fun _ => 0, g⟩ (fun r => ∀ c : Dev Cert.AdaBwdIdeal.nD,
          r.2.mem ((c.tc : Thread Cert.AdaBwdIdeal.nD Cert.AdaBwdIdeal.τ).loc Cert.AdaBwdIdeal.main_v0_0) = v0 c
          ∧ r.2.mem ((c.tc : Thread Cert.AdaBwdIdeal.nD Cert.AdaBwdIdeal.τ).loc Cert.AdaBwdIdeal.main_v0_1) = v1 c
          ∧ r.2.mem ((c.tc : Thread Cert.AdaBwdIdeal.nD Cert.AdaBwdIdeal.τ).loc Cert.AdaBwdIdeal.main_v0_2) = v2 c
          ∧ r.2.mem ((c.tc : Thread Cert.AdaBwdIdeal.nD Cert.AdaBwdIdeal.τ).loc Cert.AdaBwdIdeal.main_v0_3) = v3 c
          ∧ r.2.mem ((c.tc : Thread Cert.AdaBwdIdeal.nD Cert.AdaBwdIdeal.τ).loc Cert.AdaBwdIdeal.main_arg0) = m ((c.tc : Thread Cert.AdaBwdIdeal.nD Cert.AdaBwdIdeal.τ).loc Cert.AdaBwdIdeal.main_arg0)
          ∧ r.2.mem ((c.tc : Thread Cert.AdaBwdIdeal.nD Cert.AdaBwdIdeal.τ).loc Cert.AdaBwdIdeal.main_arg1) = m ((c.tc : Thread Cert.AdaBwdIdeal.nD Cert.AdaBwdIdeal.τ).loc Cert.AdaBwdIdeal.main_arg1)
          ∧ r.2.mem ((c.tc : Thread Cert.AdaBwdIdeal.nD Cert.AdaBwdIdeal.τ).loc Cert.AdaBwdIdeal.main_arg2) = m ((c.tc : Thread Cert.AdaBwdIdeal.nD Cert.AdaBwdIdeal.τ).loc Cert.AdaBwdIdeal.main_arg2)
          ∧ r.2.mem ((c.tc : Thread Cert.AdaBwdIdeal.nD Cert.AdaBwdIdeal.τ).loc Cert.AdaBwdIdeal.main_arg3) = m ((c.tc : Thread Cert.AdaBwdIdeal.nD Cert.AdaBwdIdeal.τ).loc Cert.AdaBwdIdeal.main_arg3)
          ∧ r.2.mem ((c.tc : Thread Cert.AdaBwdIdeal.nD Cert.AdaBwdIdeal.τ).loc Cert.AdaBwdIdeal.main_arg4) = m ((c.tc : Thread Cert.AdaBwdIdeal.nD Cert.AdaBwdIdeal.τ).loc Cert.AdaBwdIdeal.main_arg4))
      ∧ θ_run (Cert.AdaBwdRefIdeal.defs (F := Ideal)) (onTc (τ := Cert.AdaBwdRefIdeal.τ) (Cert.AdaBwdRefIdeal.main (F := Ideal))) ⟨m', fun _ => 0, g'⟩ (fun r => ∀ c : Dev Cert.AdaBwdRefIdeal.nD,
          r.2.mem ((c.tc : Thread Cert.AdaBwdRefIdeal.nD Cert.AdaBwdRefIdeal.τ).loc Cert.AdaBwdRefIdeal.main_v3) = v0 c
          ∧ r.2.mem ((c.tc : Thread Cert.AdaBwdRefIdeal.nD Cert.AdaBwdRefIdeal.τ).loc Cert.AdaBwdRefIdeal.main_v27) = v1 c
          ∧ r.2.mem ((c.tc : Thread Cert.AdaBwdRefIdeal.nD Cert.AdaBwdRefIdeal.τ).loc Cert.AdaBwdRefIdeal.main_v8) = v2 c
          ∧ r.2.mem ((c.tc : Thread Cert.AdaBwdRefIdeal.nD Cert.AdaBwdRefIdeal.τ).loc Cert.AdaBwdRefIdeal.main_v14) = v3 c
          ∧ r.2.mem ((c.tc : Thread Cert.AdaBwdRefIdeal.nD Cert.AdaBwdRefIdeal.τ).loc Cert.AdaBwdRefIdeal.main_arg0) = m' ((c.tc : Thread Cert.AdaBwdRefIdeal.nD Cert.AdaBwdRefIdeal.τ).loc Cert.AdaBwdRefIdeal.main_arg0)
          ∧ r.2.mem ((c.tc : Thread Cert.AdaBwdRefIdeal.nD Cert.AdaBwdRefIdeal.τ).loc Cert.AdaBwdRefIdeal.main_arg1) = m' ((c.tc : Thread Cert.AdaBwdRefIdeal.nD Cert.AdaBwdRefIdeal.τ).loc Cert.AdaBwdRefIdeal.main_arg1)
          ∧ r.2.mem ((c.tc : Thread Cert.AdaBwdRefIdeal.nD Cert.AdaBwdRefIdeal.τ).loc Cert.AdaBwdRefIdeal.main_arg2) = m' ((c.tc : Thread Cert.AdaBwdRefIdeal.nD Cert.AdaBwdRefIdeal.τ).loc Cert.AdaBwdRefIdeal.main_arg2)
          ∧ r.2.mem ((c.tc : Thread Cert.AdaBwdRefIdeal.nD Cert.AdaBwdRefIdeal.τ).loc Cert.AdaBwdRefIdeal.main_arg3) = m' ((c.tc : Thread Cert.AdaBwdRefIdeal.nD Cert.AdaBwdRefIdeal.τ).loc Cert.AdaBwdRefIdeal.main_arg3)
          ∧ r.2.mem ((c.tc : Thread Cert.AdaBwdRefIdeal.nD Cert.AdaBwdRefIdeal.τ).loc Cert.AdaBwdRefIdeal.main_arg4) = m' ((c.tc : Thread Cert.AdaBwdRefIdeal.nD Cert.AdaBwdRefIdeal.τ).loc Cert.AdaBwdRefIdeal.main_arg4))

def preserves_SmallSum_SmallSumIdeal : Prop :=
  True

def algebraic_SmallSumIdeal_SmallSumRefIdeal [hSmallSumIdeal : Cert.SmallSumIdeal.Facts] [hSmallSumRefIdeal : Cert.SmallSumRefIdeal.Facts] : Prop :=
  ∀ (m : (ℓ : Loc Cert.SmallSumIdeal.nD Cert.SmallSumIdeal.τ Cert.SmallSumIdeal.sig) → Buf (Elt Ideal) ℓ) (g : Dev Cert.SmallSumIdeal.nD → PrngReg)
    (m' : (ℓ : Loc Cert.SmallSumRefIdeal.nD Cert.SmallSumRefIdeal.τ Cert.SmallSumRefIdeal.sig) → Buf (Elt Ideal) ℓ) (g' : Dev Cert.SmallSumRefIdeal.nD → PrngReg), Pre_SmallSumIdeal m →
    (∀ c : Dev Cert.SmallSumIdeal.nD,
      m' ((c.tc : Thread Cert.SmallSumRefIdeal.nD Cert.SmallSumRefIdeal.τ).loc Cert.SmallSumRefIdeal.main_arg0) = m ((c.tc : Thread Cert.SmallSumIdeal.nD Cert.SmallSumIdeal.τ).loc Cert.SmallSumIdeal.main_arg0)) →
    ∃ (v0 : (c : Dev Cert.SmallSumIdeal.nD) → Buf (Elt Ideal) ((c.tc : Thread Cert.SmallSumIdeal.nD Cert.SmallSumIdeal.τ).loc Cert.SmallSumIdeal.main_v0)),
      θ_run (Cert.SmallSumIdeal.defs (F := Ideal)) (onTc (τ := Cert.SmallSumIdeal.τ) (Cert.SmallSumIdeal.main (F := Ideal))) ⟨m, fun _ => 0, g⟩ (fun r => ∀ c : Dev Cert.SmallSumIdeal.nD,
          r.2.mem ((c.tc : Thread Cert.SmallSumIdeal.nD Cert.SmallSumIdeal.τ).loc Cert.SmallSumIdeal.main_v0) = v0 c
          ∧ r.2.mem ((c.tc : Thread Cert.SmallSumIdeal.nD Cert.SmallSumIdeal.τ).loc Cert.SmallSumIdeal.main_arg0) = m ((c.tc : Thread Cert.SmallSumIdeal.nD Cert.SmallSumIdeal.τ).loc Cert.SmallSumIdeal.main_arg0))
      ∧ θ_run (Cert.SmallSumRefIdeal.defs (F := Ideal)) (onTc (τ := Cert.SmallSumRefIdeal.τ) (Cert.SmallSumRefIdeal.main (F := Ideal))) ⟨m', fun _ => 0, g'⟩ (fun r => ∀ c : Dev Cert.SmallSumRefIdeal.nD,
          r.2.mem ((c.tc : Thread Cert.SmallSumRefIdeal.nD Cert.SmallSumRefIdeal.τ).loc Cert.SmallSumRefIdeal.main_v1) = v0 c
          ∧ r.2.mem ((c.tc : Thread Cert.SmallSumRefIdeal.nD Cert.SmallSumRefIdeal.τ).loc Cert.SmallSumRefIdeal.main_arg0) = m' ((c.tc : Thread Cert.SmallSumRefIdeal.nD Cert.SmallSumRefIdeal.τ).loc Cert.SmallSumRefIdeal.main_arg0))

def Claim : Prop :=
  ∃ (hMlpBwd : Cert.MlpBwd.Facts) (hMlpBwdIdeal : Cert.MlpBwdIdeal.Facts) (hMlpBwdRefIdeal : Cert.MlpBwdRefIdeal.Facts) (hMlpFwd : Cert.MlpFwd.Facts) (hMlpFwdIdeal : Cert.MlpFwdIdeal.Facts) (hMlpFwdRefIdeal : Cert.MlpFwdRefIdeal.Facts) (hMlpInBwd : Cert.MlpInBwd.Facts) (hMlpInBwdIdeal : Cert.MlpInBwdIdeal.Facts) (hMlpInBwdRefIdeal : Cert.MlpInBwdRefIdeal.Facts) (hInWgrad : Cert.InWgrad.Facts) (hInWgradIdeal : Cert.InWgradIdeal.Facts) (hInWgradRefIdeal : Cert.InWgradRefIdeal.Facts) (hOutWgrad : Cert.OutWgrad.Facts) (hOutWgradIdeal : Cert.OutWgradIdeal.Facts) (hOutWgradRefIdeal : Cert.OutWgradRefIdeal.Facts) (hInBwd : Cert.InBwd.Facts) (hInBwdIdeal : Cert.InBwdIdeal.Facts) (hInBwdRefIdeal : Cert.InBwdRefIdeal.Facts) (hOutBwd : Cert.OutBwd.Facts) (hOutBwdIdeal : Cert.OutBwdIdeal.Facts) (hOutBwdRefIdeal : Cert.OutBwdRefIdeal.Facts) (hInProj : Cert.InProj.Facts) (hInProjIdeal : Cert.InProjIdeal.Facts) (hInProjRefIdeal : Cert.InProjRefIdeal.Facts) (hOutProj : Cert.OutProj.Facts) (hOutProjIdeal : Cert.OutProjIdeal.Facts) (hOutProjRefIdeal : Cert.OutProjRefIdeal.Facts) (hPreMix : Cert.PreMix.Facts) (hPreMixIdeal : Cert.PreMixIdeal.Facts) (hPreMixRefIdeal : Cert.PreMixRefIdeal.Facts) (hPostMix : Cert.PostMix.Facts) (hPostMixIdeal : Cert.PostMixIdeal.Facts) (hPostMixRefIdeal : Cert.PostMixRefIdeal.Facts) (hLossHead : Cert.LossHead.Facts) (hLossHeadIdeal : Cert.LossHeadIdeal.Facts) (hLossHeadRefIdeal : Cert.LossHeadRefIdeal.Facts) (hAdamIn : Cert.AdamIn.Facts) (hAdamInIdeal : Cert.AdamInIdeal.Facts) (hAdamInRefIdeal : Cert.AdamInRefIdeal.Facts) (hAdamOut : Cert.AdamOut.Facts) (hAdamOutIdeal : Cert.AdamOutIdeal.Facts) (hAdamOutRefIdeal : Cert.AdamOutRefIdeal.Facts) (hAdamMlpIn : Cert.AdamMlpIn.Facts) (hAdamMlpInIdeal : Cert.AdamMlpInIdeal.Facts) (hAdamMlpInRefIdeal : Cert.AdamMlpInRefIdeal.Facts) (hAdamMlpOut : Cert.AdamMlpOut.Facts) (hAdamMlpOutIdeal : Cert.AdamMlpOutIdeal.Facts) (hAdamMlpOutRefIdeal : Cert.AdamMlpOutRefIdeal.Facts) (hAdamGlu : Cert.AdamGlu.Facts) (hAdamGluIdeal : Cert.AdamGluIdeal.Facts) (hAdamGluRefIdeal : Cert.AdamGluRefIdeal.Facts) (hAdamSmall : Cert.AdamSmall.Facts) (hAdamSmallIdeal : Cert.AdamSmallIdeal.Facts) (hAdamSmallRefIdeal : Cert.AdamSmallRefIdeal.Facts) (hAdaBwd : Cert.AdaBwd.Facts) (hAdaBwdIdeal : Cert.AdaBwdIdeal.Facts) (hAdaBwdRefIdeal : Cert.AdaBwdRefIdeal.Facts) (hSmallSum : Cert.SmallSum.Facts) (hSmallSumIdeal : Cert.SmallSumIdeal.Facts) (hSmallSumRefIdeal : Cert.SmallSumRefIdeal.Facts),
    quiescent_MlpBwd (hMlpBwd := hMlpBwd)
    ∧ quiescent_MlpBwdIdeal (hMlpBwdIdeal := hMlpBwdIdeal)
    ∧ quiescent_MlpBwdRefIdeal (hMlpBwdRefIdeal := hMlpBwdRefIdeal)
    ∧ quiescent_MlpFwd (hMlpFwd := hMlpFwd)
    ∧ quiescent_MlpFwdIdeal (hMlpFwdIdeal := hMlpFwdIdeal)
    ∧ quiescent_MlpFwdRefIdeal (hMlpFwdRefIdeal := hMlpFwdRefIdeal)
    ∧ quiescent_MlpInBwd (hMlpInBwd := hMlpInBwd)
    ∧ quiescent_MlpInBwdIdeal (hMlpInBwdIdeal := hMlpInBwdIdeal)
    ∧ quiescent_MlpInBwdRefIdeal (hMlpInBwdRefIdeal := hMlpInBwdRefIdeal)
    ∧ quiescent_InWgrad (hInWgrad := hInWgrad)
    ∧ quiescent_InWgradIdeal (hInWgradIdeal := hInWgradIdeal)
    ∧ quiescent_InWgradRefIdeal (hInWgradRefIdeal := hInWgradRefIdeal)
    ∧ quiescent_OutWgrad (hOutWgrad := hOutWgrad)
    ∧ quiescent_OutWgradIdeal (hOutWgradIdeal := hOutWgradIdeal)
    ∧ quiescent_OutWgradRefIdeal (hOutWgradRefIdeal := hOutWgradRefIdeal)
    ∧ quiescent_InBwd (hInBwd := hInBwd)
    ∧ quiescent_InBwdIdeal (hInBwdIdeal := hInBwdIdeal)
    ∧ quiescent_InBwdRefIdeal (hInBwdRefIdeal := hInBwdRefIdeal)
    ∧ quiescent_OutBwd (hOutBwd := hOutBwd)
    ∧ quiescent_OutBwdIdeal (hOutBwdIdeal := hOutBwdIdeal)
    ∧ quiescent_OutBwdRefIdeal (hOutBwdRefIdeal := hOutBwdRefIdeal)
    ∧ quiescent_InProj (hInProj := hInProj)
    ∧ quiescent_InProjIdeal (hInProjIdeal := hInProjIdeal)
    ∧ quiescent_InProjRefIdeal (hInProjRefIdeal := hInProjRefIdeal)
    ∧ quiescent_OutProj (hOutProj := hOutProj)
    ∧ quiescent_OutProjIdeal (hOutProjIdeal := hOutProjIdeal)
    ∧ quiescent_OutProjRefIdeal (hOutProjRefIdeal := hOutProjRefIdeal)
    ∧ quiescent_PreMix (hPreMix := hPreMix)
    ∧ quiescent_PreMixIdeal (hPreMixIdeal := hPreMixIdeal)
    ∧ quiescent_PreMixRefIdeal (hPreMixRefIdeal := hPreMixRefIdeal)
    ∧ quiescent_PostMix (hPostMix := hPostMix)
    ∧ quiescent_PostMixIdeal (hPostMixIdeal := hPostMixIdeal)
    ∧ quiescent_PostMixRefIdeal (hPostMixRefIdeal := hPostMixRefIdeal)
    ∧ quiescent_LossHead (hLossHead := hLossHead)
    ∧ quiescent_LossHeadIdeal (hLossHeadIdeal := hLossHeadIdeal)
    ∧ quiescent_LossHeadRefIdeal (hLossHeadRefIdeal := hLossHeadRefIdeal)
    ∧ quiescent_AdamIn (hAdamIn := hAdamIn)
    ∧ quiescent_AdamInIdeal (hAdamInIdeal := hAdamInIdeal)
    ∧ quiescent_AdamInRefIdeal (hAdamInRefIdeal := hAdamInRefIdeal)
    ∧ quiescent_AdamOut (hAdamOut := hAdamOut)
    ∧ quiescent_AdamOutIdeal (hAdamOutIdeal := hAdamOutIdeal)
    ∧ quiescent_AdamOutRefIdeal (hAdamOutRefIdeal := hAdamOutRefIdeal)
    ∧ quiescent_AdamMlpIn (hAdamMlpIn := hAdamMlpIn)
    ∧ quiescent_AdamMlpInIdeal (hAdamMlpInIdeal := hAdamMlpInIdeal)
    ∧ quiescent_AdamMlpInRefIdeal (hAdamMlpInRefIdeal := hAdamMlpInRefIdeal)
    ∧ quiescent_AdamMlpOut (hAdamMlpOut := hAdamMlpOut)
    ∧ quiescent_AdamMlpOutIdeal (hAdamMlpOutIdeal := hAdamMlpOutIdeal)
    ∧ quiescent_AdamMlpOutRefIdeal (hAdamMlpOutRefIdeal := hAdamMlpOutRefIdeal)
    ∧ quiescent_AdamGlu (hAdamGlu := hAdamGlu)
    ∧ quiescent_AdamGluIdeal (hAdamGluIdeal := hAdamGluIdeal)
    ∧ quiescent_AdamGluRefIdeal (hAdamGluRefIdeal := hAdamGluRefIdeal)
    ∧ quiescent_AdamSmall (hAdamSmall := hAdamSmall)
    ∧ quiescent_AdamSmallIdeal (hAdamSmallIdeal := hAdamSmallIdeal)
    ∧ quiescent_AdamSmallRefIdeal (hAdamSmallRefIdeal := hAdamSmallRefIdeal)
    ∧ quiescent_AdaBwd (hAdaBwd := hAdaBwd)
    ∧ quiescent_AdaBwdIdeal (hAdaBwdIdeal := hAdaBwdIdeal)
    ∧ quiescent_AdaBwdRefIdeal (hAdaBwdRefIdeal := hAdaBwdRefIdeal)
    ∧ quiescent_SmallSum (hSmallSum := hSmallSum)
    ∧ quiescent_SmallSumIdeal (hSmallSumIdeal := hSmallSumIdeal)
    ∧ quiescent_SmallSumRefIdeal (hSmallSumRefIdeal := hSmallSumRefIdeal)
    ∧ preserves_MlpBwd_MlpBwdIdeal
    ∧ algebraic_MlpBwdIdeal_MlpBwdRefIdeal (hMlpBwdIdeal := hMlpBwdIdeal) (hMlpBwdRefIdeal := hMlpBwdRefIdeal)
    ∧ preserves_MlpFwd_MlpFwdIdeal
    ∧ algebraic_MlpFwdIdeal_MlpFwdRefIdeal (hMlpFwdIdeal := hMlpFwdIdeal) (hMlpFwdRefIdeal := hMlpFwdRefIdeal)
    ∧ preserves_MlpInBwd_MlpInBwdIdeal
    ∧ algebraic_MlpInBwdIdeal_MlpInBwdRefIdeal (hMlpInBwdIdeal := hMlpInBwdIdeal) (hMlpInBwdRefIdeal := hMlpInBwdRefIdeal)
    ∧ preserves_InWgrad_InWgradIdeal
    ∧ algebraic_InWgradIdeal_InWgradRefIdeal (hInWgradIdeal := hInWgradIdeal) (hInWgradRefIdeal := hInWgradRefIdeal)
    ∧ preserves_OutWgrad_OutWgradIdeal
    ∧ algebraic_OutWgradIdeal_OutWgradRefIdeal (hOutWgradIdeal := hOutWgradIdeal) (hOutWgradRefIdeal := hOutWgradRefIdeal)
    ∧ preserves_InBwd_InBwdIdeal
    ∧ algebraic_InBwdIdeal_InBwdRefIdeal (hInBwdIdeal := hInBwdIdeal) (hInBwdRefIdeal := hInBwdRefIdeal)
    ∧ preserves_OutBwd_OutBwdIdeal
    ∧ algebraic_OutBwdIdeal_OutBwdRefIdeal (hOutBwdIdeal := hOutBwdIdeal) (hOutBwdRefIdeal := hOutBwdRefIdeal)
    ∧ preserves_InProj_InProjIdeal
    ∧ algebraic_InProjIdeal_InProjRefIdeal (hInProjIdeal := hInProjIdeal) (hInProjRefIdeal := hInProjRefIdeal)
    ∧ preserves_OutProj_OutProjIdeal
    ∧ algebraic_OutProjIdeal_OutProjRefIdeal (hOutProjIdeal := hOutProjIdeal) (hOutProjRefIdeal := hOutProjRefIdeal)
    ∧ preserves_PreMix_PreMixIdeal
    ∧ algebraic_PreMixIdeal_PreMixRefIdeal (hPreMixIdeal := hPreMixIdeal) (hPreMixRefIdeal := hPreMixRefIdeal)
    ∧ preserves_PostMix_PostMixIdeal
    ∧ algebraic_PostMixIdeal_PostMixRefIdeal (hPostMixIdeal := hPostMixIdeal) (hPostMixRefIdeal := hPostMixRefIdeal)
    ∧ preserves_LossHead_LossHeadIdeal
    ∧ algebraic_LossHeadIdeal_LossHeadRefIdeal (hLossHeadIdeal := hLossHeadIdeal) (hLossHeadRefIdeal := hLossHeadRefIdeal)
    ∧ preserves_AdamIn_AdamInIdeal
    ∧ algebraic_AdamInIdeal_AdamInRefIdeal (hAdamInIdeal := hAdamInIdeal) (hAdamInRefIdeal := hAdamInRefIdeal)
    ∧ preserves_AdamOut_AdamOutIdeal
    ∧ algebraic_AdamOutIdeal_AdamOutRefIdeal (hAdamOutIdeal := hAdamOutIdeal) (hAdamOutRefIdeal := hAdamOutRefIdeal)
    ∧ preserves_AdamMlpIn_AdamMlpInIdeal
    ∧ algebraic_AdamMlpInIdeal_AdamMlpInRefIdeal (hAdamMlpInIdeal := hAdamMlpInIdeal) (hAdamMlpInRefIdeal := hAdamMlpInRefIdeal)
    ∧ preserves_AdamMlpOut_AdamMlpOutIdeal
    ∧ algebraic_AdamMlpOutIdeal_AdamMlpOutRefIdeal (hAdamMlpOutIdeal := hAdamMlpOutIdeal) (hAdamMlpOutRefIdeal := hAdamMlpOutRefIdeal)
    ∧ preserves_AdamGlu_AdamGluIdeal
    ∧ algebraic_AdamGluIdeal_AdamGluRefIdeal (hAdamGluIdeal := hAdamGluIdeal) (hAdamGluRefIdeal := hAdamGluRefIdeal)
    ∧ preserves_AdamSmall_AdamSmallIdeal
    ∧ algebraic_AdamSmallIdeal_AdamSmallRefIdeal (hAdamSmallIdeal := hAdamSmallIdeal) (hAdamSmallRefIdeal := hAdamSmallRefIdeal)
    ∧ preserves_AdaBwd_AdaBwdIdeal
    ∧ algebraic_AdaBwdIdeal_AdaBwdRefIdeal (hAdaBwdIdeal := hAdaBwdIdeal) (hAdaBwdRefIdeal := hAdaBwdRefIdeal)
    ∧ preserves_SmallSum_SmallSumIdeal
    ∧ algebraic_SmallSumIdeal_SmallSumRefIdeal (hSmallSumIdeal := hSmallSumIdeal) (hSmallSumRefIdeal := hSmallSumRefIdeal)
-- ==== MlpBwd.lean ====
abbrev S4096x2048 : Shape := ⟨2, ![4096, 2048]⟩
abbrev S2048x8192 : Shape := ⟨2, ![2048, 8192]⟩
abbrev S8192x2048 : Shape := ⟨2, ![8192, 2048]⟩
abbrev S4096x8192 : Shape := ⟨2, ![4096, 8192]⟩
abbrev S4x2048x2048 : Shape := ⟨3, ![4, 2048, 2048]⟩
abbrev S1024x2048 : Shape := ⟨2, ![1024, 2048]⟩
abbrev S1024x512 : Shape := ⟨2, ![1024, 512]⟩
abbrev S512x2048 : Shape := ⟨2, ![512, 2048]⟩
abbrev S1x2048x512 : Shape := ⟨3, ![1, 2048, 512]⟩
abbrev S2048x512 : Shape := ⟨2, ![2048, 512]⟩

abbrev nBuf : Space → Nat
  | .hbm => 12
  | .vmem => 14
  | .smem => 0
  | _ => 0

abbrev bufTy : (tb : Table) → Fin (tcTables nBuf tb) → BufTy
  | .hbm, ⟨0, _⟩ => ⟨S4096x2048, .f32⟩
  | .hbm, ⟨1, _⟩ => ⟨S2048x8192, .f32⟩
  | .hbm, ⟨2, _⟩ => ⟨S8192x2048, .f32⟩
  | .hbm, ⟨3, _⟩ => ⟨S4096x2048, .f32⟩
  | .hbm, ⟨4, _⟩ => ⟨S4096x8192, .f32⟩
  | .hbm, ⟨5, _⟩ => ⟨S4096x8192, .bf16⟩
  | .hbm, ⟨6, _⟩ => ⟨S4096x2048, .bf16⟩
  | .hbm, ⟨7, _⟩ => ⟨S4096x2048, .bf16⟩
  | .hbm, ⟨8, _⟩ => ⟨S8192x2048, .bf16⟩
  | .hbm, ⟨9, _⟩ => ⟨S4096x8192, .bf16⟩
  | .hbm, ⟨10, _⟩ => ⟨S8192x2048, .f32⟩
  | .hbm, ⟨11, _⟩ => ⟨S4x2048x2048, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x512, .bf16⟩
  | .local _ .vmem, ⟨5, _⟩ => ⟨S1024x512, .bf16⟩
  | .local _ .vmem, ⟨6, _⟩ => ⟨S512x2048, .bf16⟩
  | .local _ .vmem, ⟨7, _⟩ => ⟨S512x2048, .bf16⟩
  | .local _ .vmem, ⟨8, _⟩ => ⟨S1024x512, .bf16⟩
  | .local _ .vmem, ⟨9, _⟩ => ⟨S1024x512, .bf16⟩
  | .local _ .vmem, ⟨10, _⟩ => ⟨S512x2048, .f32⟩
  | .local _ .vmem, ⟨11, _⟩ => ⟨S512x2048, .f32⟩
  | .local _ .vmem, ⟨12, _⟩ => ⟨S1x2048x512, .f32⟩
  | .local _ .vmem, ⟨13, _⟩ => ⟨S1x2048x512, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5_0 : Ref sig .tc := ⟨.hbm, 9, rfl⟩
abbrev main_v5_1 : Ref sig .tc := ⟨.hbm, 10, rfl⟩
abbrev main_v5_2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![16, 4], ![false, false]⟩

def k0_cond1 (i : grid0.Coords) : BitVec 1 :=
  let arg1 : BitVec 32 := BitVec.ofNat 32 (i 1).val
  let c0_i32 : BitVec 32 := 0#32
  let v21 : BitVec 1 := Scalar.cmpi .eq arg1 c0_i32
  let v22 : BitVec 32 := Scalar.extui v21
  let c0_i32_13 : BitVec 32 := 0#32
  let v23 : BitVec 1 := Scalar.cmpi .ne v22 c0_i32_13
  v23

def k0_cond2 (i : grid0.Coords) : BitVec 1 :=
  let arg1 : BitVec 32 := BitVec.ofNat 32 (i 1).val
  let c0_i32_14 : BitVec 32 := 0#32
  let v24 : BitVec 1 := Scalar.cmpi .sgt arg1 c0_i32_14
  let v25 : BitVec 32 := Scalar.extui v24
  let c0_i32_15 : BitVec 32 := 0#32
  let v26 : BitVec 1 := Scalar.cmpi .ne v25 c0_i32_15
  v26

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x2048x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== MlpBwdRefIdeal.lean ====
abbrev S4096x2048 : Shape := ⟨2, ![4096, 2048]⟩
abbrev S2048x8192 : Shape := ⟨2, ![2048, 8192]⟩
abbrev S8192x2048 : Shape := ⟨2, ![8192, 2048]⟩
abbrev S4096x8192 : Shape := ⟨2, ![4096, 8192]⟩
abbrev S_ : Shape := ⟨0, ![]⟩
abbrev S2048x4x2048 : Shape := ⟨3, ![2048, 4, 2048]⟩
abbrev S4x2048x2048 : Shape := ⟨3, ![4, 2048, 2048]⟩

abbrev nBuf : Space → Nat
  | .hbm => 49
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x8192, .f32⟩
  | .hbm, ⟨2, _⟩ => ⟨S8192x2048, .f32⟩
  | .hbm, ⟨3, _⟩ => ⟨S4096x2048, .f32⟩
  | .hbm, ⟨4, _⟩ => ⟨S4096x8192, .f32⟩
  | .hbm, ⟨5, _⟩ => ⟨S_, .f32⟩
  | .hbm, ⟨6, _⟩ => ⟨S4096x8192, .f32⟩
  | .hbm, ⟨7, _⟩ => ⟨S4096x8192, .f32⟩
  | .hbm, ⟨8, _⟩ => ⟨S_, .f32⟩
  | .hbm, ⟨9, _⟩ => ⟨S4096x8192, .f32⟩
  | .hbm, ⟨10, _⟩ => ⟨S4096x8192, .i1⟩
  | .hbm, ⟨11, _⟩ => ⟨S_, .f32⟩
  | .hbm, ⟨12, _⟩ => ⟨S4096x8192, .f32⟩
  | .hbm, ⟨13, _⟩ => ⟨S4096x8192, .f32⟩
  | .hbm, ⟨14, _⟩ => ⟨S_, .f32⟩
  | .hbm, ⟨15, _⟩ => ⟨S4096x8192, .f32⟩
  | .hbm, ⟨16, _⟩ => ⟨S4096x8192, .f32⟩
  | .hbm, ⟨17, _⟩ => ⟨S4096x2048, .f32⟩
  | .hbm, ⟨18, _⟩ => ⟨S4096x8192, .f32⟩
  | .hbm, ⟨19, _⟩ => ⟨S_, .f32⟩
  | .hbm, ⟨20, _⟩ => ⟨S4096x8192, .f32⟩
  | .hbm, ⟨21, _⟩ => ⟨S4096x8192, .f32⟩
  | .hbm, ⟨22, _⟩ => ⟨S_, .f32⟩
  | .hbm, ⟨23, _⟩ => ⟨S4096x8192, .f32⟩
  | .hbm, ⟨24, _⟩ => ⟨S4096x8192, .i1⟩
  | .hbm, ⟨25, _⟩ => ⟨S_, .f32⟩
  | .hbm, ⟨26, _⟩ => ⟨S4096x8192, .f32⟩
  | .hbm, ⟨27, _⟩ => ⟨S4096x8192, .f32⟩
  | .hbm, ⟨28, _⟩ => ⟨S_, .f32⟩
  | .hbm, ⟨29, _⟩ => ⟨S4096x8192, .f32⟩
  | .hbm, ⟨30, _⟩ => ⟨S4096x8192, .f32⟩
  | .hbm, ⟨31, _⟩ => ⟨S4096x2048, .f32⟩
  | .hbm, ⟨32, _⟩ => ⟨S4096x8192, .f32⟩
  | .hbm, ⟨33, _⟩ => ⟨S4096x8192, .f32⟩
  | .hbm, ⟨34, _⟩ => ⟨S_, .f32⟩
  | .hbm, ⟨35, _⟩ => ⟨S4096x8192, .f32⟩
  | .hbm, ⟨36, _⟩ => ⟨S4096x8192, .f32⟩
  | .hbm, ⟨37, _⟩ => ⟨S2048x8192, .f32⟩
  | .hbm, ⟨38, _⟩ => ⟨S8192x2048, .f32⟩
  | .hbm, ⟨39, _⟩ => ⟨S4096x8192, .f32⟩
  | .hbm, ⟨40, _⟩ => ⟨S4096x8192, .f32⟩
  | .hbm, ⟨41, _⟩ => ⟨S_, .f32⟩
  | .hbm, ⟨42, _⟩ => ⟨S4096x8192, .f32⟩
  | .hbm, ⟨43, _⟩ => ⟨S4096x8192, .f32⟩
  | .hbm, ⟨44, _⟩ => ⟨S8192x2048, .f32⟩
  | .hbm, ⟨45, _⟩ => ⟨S2048x8192, .f32⟩
  | .hbm, ⟨46, _⟩ => ⟨S4096x8192, .bf16⟩
  | .hbm, ⟨47, _⟩ => ⟨S2048x4x2048, .f32⟩
  | .hbm, ⟨48, _⟩ => ⟨S4x2048x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_cst : Ref sig .tc := ⟨.hbm, 5, rfl⟩
abbrev main_call0_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_call1_cst : Ref sig .tc := ⟨.hbm, 19, rfl⟩
abbrev main_call1_v0 : Ref sig .tc := ⟨.hbm, 20, rfl⟩
abbrev main_v10 : Ref sig .tc := ⟨.hbm, 21, rfl⟩
abbrev main_cst_2 : Ref sig .tc := ⟨.hbm, 22, rfl⟩
abbrev main_v11 : Ref sig .tc := ⟨.hbm, 23, rfl⟩
abbrev main_v12 : Ref sig .tc := ⟨.hbm, 24, rfl⟩
abbrev main_cst_3 : Ref sig .tc := ⟨.hbm, 25, rfl⟩
abbrev main_v13 : Ref sig .tc := ⟨.hbm, 26, rfl⟩
abbrev main_v14 : Ref sig .tc := ⟨.hbm, 27, rfl⟩
abbrev main_cst_4 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_5 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_6 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩

abbrev nD : Nat := 1
abbrev τ : Topo := Topo.v7x

variable {F : FTy → Type} [FloatOps F]
-- ==== MlpFwd.lean ====
abbrev S4096x2048 : Shape := ⟨2, ![4096, 2048]⟩
abbrev S2048x8192 : Shape := ⟨2, ![2048, 8192]⟩
abbrev S8192x2048 : Shape := ⟨2, ![8192, 2048]⟩
abbrev S4096x8192 : Shape := ⟨2, ![4096, 8192]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 8
  | .vmem => 10
  | .smem => 0
  | _ => 0

abbrev bufTy : (tb : Table) → Fin (tcTables nBuf tb) → BufTy
  | .hbm, ⟨0, _⟩ => ⟨S4096x2048, .f32⟩
  | .hbm, ⟨1, _⟩ => ⟨S2048x8192, .f32⟩
  | .hbm, ⟨2, _⟩ => ⟨S8192x2048, .f32⟩
  | .hbm, ⟨3, _⟩ => ⟨S4096x2048, .bf16⟩
  | .hbm, ⟨4, _⟩ => ⟨S2048x8192, .bf16⟩
  | .hbm, ⟨5, _⟩ => ⟨S8192x2048, .bf16⟩
  | .hbm, ⟨6, _⟩ => ⟨S4096x8192, .bf16⟩
  | .hbm, ⟨7, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x2048, .bf16⟩
  | .local _ .vmem, ⟨5, _⟩ => ⟨S1024x2048, .bf16⟩
  | .local _ .vmem, ⟨6, _⟩ => ⟨S1024x1024, .bf16⟩
  | .local _ .vmem, ⟨7, _⟩ => ⟨S1024x1024, .bf16⟩
  | .local _ .vmem, ⟨8, _⟩ => ⟨S1024x2048, .f32⟩
  | .local _ .vmem, ⟨9, _⟩ => ⟨S1024x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 8], ![false, false]⟩

def k0_cond1 (i : grid0.Coords) : BitVec 1 :=
  let arg1 : BitVec 32 := BitVec.ofNat 32 (i 1).val
  let c0_i32 : BitVec 32 := 0#32
  let v14 : BitVec 1 := Scalar.cmpi .eq arg1 c0_i32
  let v15 : BitVec 32 := Scalar.extui v14
  let c0_i32_9 : BitVec 32 := 0#32
  let v16 : BitVec 1 := Scalar.cmpi .ne v15 c0_i32_9
  v16

def k0_cond2 (i : grid0.Coords) : BitVec 1 :=
  let arg1 : BitVec 32 := BitVec.ofNat 32 (i 1).val
  let c0_i32_10 : BitVec 32 := 0#32
  let v17 : BitVec 1 := Scalar.cmpi .sgt arg1 c0_i32_10
  let v18 : BitVec 32 := Scalar.extui v17
  let c0_i32_11 : BitVec 32 := 0#32
  let v19 : BitVec 1 := Scalar.cmpi .ne v18 c0_i32_11
  v19

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== MlpFwdRefIdeal.lean ====
abbrev S4096x2048 : Shape := ⟨2, ![4096, 2048]⟩
abbrev S2048x8192 : Shape := ⟨2, ![2048, 8192]⟩
abbrev S8192x2048 : Shape := ⟨2, ![8192, 2048]⟩
abbrev S4096x8192 : Shape := ⟨2, ![4096, 8192]⟩
abbrev S_ : Shape := ⟨0, ![]⟩

abbrev nBuf : Space → Nat
  | .hbm => 11
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x8192, .f32⟩
  | .hbm, ⟨2, _⟩ => ⟨S8192x2048, .f32⟩
  | .hbm, ⟨3, _⟩ => ⟨S4096x8192, .f32⟩
  | .hbm, ⟨4, _⟩ => ⟨S4096x8192, .bf16⟩
  | .hbm, ⟨5, _⟩ => ⟨S4096x8192, .f32⟩
  | .hbm, ⟨6, _⟩ => ⟨S_, .f32⟩
  | .hbm, ⟨7, _⟩ => ⟨S4096x8192, .f32⟩
  | .hbm, ⟨8, _⟩ => ⟨S4096x8192, .f32⟩
  | .hbm, ⟨9, _⟩ => ⟨S4096x8192, .f32⟩
  | .hbm, ⟨10, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_call0_cst : Ref sig .tc := ⟨.hbm, 6, rfl⟩
abbrev main_call0_v0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩

abbrev nD : Nat := 1
abbrev τ : Topo := Topo.v7x

variable {F : FTy → Type} [FloatOps F]
-- ==== MlpInBwd.lean ====
abbrev S4096x8192 : Shape := ⟨2, ![4096, 8192]⟩
abbrev S2048x8192 : Shape := ⟨2, ![2048, 8192]⟩
abbrev S4096x2048 : Shape := ⟨2, ![4096, 2048]⟩
abbrev S1024x2048 : Shape := ⟨2, ![1024, 2048]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S4096x8192, .f32⟩
  | .hbm, ⟨1, _⟩ => ⟨S2048x8192, .f32⟩
  | .hbm, ⟨2, _⟩ => ⟨S4096x8192, .bf16⟩
  | .hbm, ⟨3, _⟩ => ⟨S2048x8192, .bf16⟩
  | .hbm, ⟨4, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MlpInBwdRefIdeal.lean ====
abbrev S4096x8192 : Shape := ⟨2, ![4096, 8192]⟩
abbrev S2048x8192 : Shape := ⟨2, ![2048, 8192]⟩
abbrev S_ : Shape := ⟨0, ![]⟩
abbrev S4096x2048 : Shape := ⟨2, ![4096, 2048]⟩

abbrev nBuf : Space → Nat
  | .hbm => 6
  | .vmem => 0
  | .smem => 0
  | _ => 0

abbrev bufTy : (tb : Table) → Fin (tcTables nBuf tb) → BufTy
  | .hbm, ⟨0, _⟩ => ⟨S4096x8192, .f32⟩
  | .hbm, ⟨1, _⟩ => ⟨S2048x8192, .f32⟩
  | .hbm, ⟨2, _⟩ => ⟨S_, .f32⟩
  | .hbm, ⟨3, _⟩ => ⟨S4096x2048, .f32⟩
  | .hbm, ⟨4, _⟩ => ⟨S4096x8192, .f32⟩
  | .hbm, ⟨5, _⟩ => ⟨S4096x2048, .f32⟩
  | _, _ => ⟨S4096x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== InWgrad.lean ====
abbrev S4096x2048 : Shape := ⟨2, ![4096, 2048]⟩
abbrev S4096x2816 : Shape := ⟨2, ![4096, 2816]⟩
abbrev S2048x2816 : Shape := ⟨2, ![2048, 2816]⟩
abbrev S1024x1024 : Shape := ⟨2, ![1024, 1024]⟩
abbrev S1024x1408 : Shape := ⟨2, ![1024, 1408]⟩

abbrev nBuf : Space → Nat
  | .hbm => 5
  | .vmem => 7
  | .smem => 0
  | _ => 0

abbrev bufTy : (tb : Table) → Fin (tcTables nBuf tb) → BufTy
  | .hbm, ⟨0, _⟩ => ⟨S4096x2048, .f32⟩
  | .hbm, ⟨1, _⟩ => ⟨S4096x2816, .f32⟩
  | .hbm, ⟨2, _⟩ => ⟨S4096x2048, .bf16⟩
  | .hbm, ⟨3, _⟩ => ⟨S4096x2816, .bf16⟩
  | .hbm, ⟨4, _⟩ => ⟨S2048x2816, .f32⟩
  | .local _ .vmem, ⟨0, _⟩ => ⟨S1024x1024, .bf16⟩
  | .local _ .vmem, ⟨1, _⟩ => ⟨S1024x1024, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1408, .f32⟩
  | .local _ .vmem, ⟨5, _⟩ => ⟨S1024x1408, .f32⟩
  | .local _ .vmem, ⟨6, _⟩ => ⟨S1024x1408, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InWgradRefIdeal.lean ====
abbrev S4096x2048 : Shape := ⟨2, ![4096, 2048]⟩
abbrev S4096x2816 : Shape := ⟨2, ![4096, 2816]⟩
abbrev S_ : Shape := ⟨0, ![]⟩
abbrev S2048x2816 : Shape := ⟨2, ![2048, 2816]⟩
abbrev S2816x2048 : Shape := ⟨2, ![2816, 2048]⟩

abbrev nBuf : Space → Nat
  | .hbm => 7
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2816, .f32⟩
  | .hbm, ⟨2, _⟩ => ⟨S_, .f32⟩
  | .hbm, ⟨3, _⟩ => ⟨S2048x2816, .f32⟩
  | .hbm, ⟨4, _⟩ => ⟨S4096x2816, .f32⟩
  | .hbm, ⟨5, _⟩ => ⟨S2816x2048, .f32⟩
  | .hbm, ⟨6, _⟩ => ⟨S2048x2816, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== OutWgrad.lean ====
abbrev S4096x1280 : Shape := ⟨2, ![4096, 1280]⟩
abbrev S4096x2048 : Shape := ⟨2, ![4096, 2048]⟩
abbrev S1280x2048 : Shape := ⟨2, ![1280, 2048]⟩
abbrev S1024x1280 : Shape := ⟨2, ![1024, 1280]⟩
abbrev S1024x1024 : Shape := ⟨2, ![1024, 1024]⟩
abbrev S1280x1024 : Shape := ⟨2, ![1280, 1024]⟩

abbrev nBuf : Space → Nat
  | .hbm => 5
  | .vmem => 7
  | .smem => 0
  | _ => 0

abbrev bufTy : (tb : Table) → Fin (tcTables nBuf tb) → BufTy
  | .hbm, ⟨0, _⟩ => ⟨S4096x1280, .f32⟩
  | .hbm, ⟨1, _⟩ => ⟨S4096x2048, .f32⟩
  | .hbm, ⟨2, _⟩ => ⟨S4096x1280, .bf16⟩
  | .hbm, ⟨3, _⟩ => ⟨S4096x2048, .bf16⟩
  | .hbm, ⟨4, _⟩ => ⟨S1280x2048, .f32⟩
  | .local _ .vmem, ⟨0, _⟩ => ⟨S1024x1280, .bf16⟩
  | .local _ .vmem, ⟨1, _⟩ => ⟨S1024x1280, .bf16⟩
  | .local _ .vmem, ⟨2, _⟩ => ⟨S1024x1024, .bf16⟩
  | .local _ .vmem, ⟨3, _⟩ => ⟨S1024x1024, .bf16⟩
  | .local _ .vmem, ⟨4, _⟩ => ⟨S1280x1024, .f32⟩
  | .local _ .vmem, ⟨5, _⟩ => ⟨S1280x1024, .f32⟩
  | .local _ .vmem, ⟨6, _⟩ => ⟨S1280x1024, .f32⟩
  | _, _ => ⟨S4096x1280, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1280 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1280x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutWgradRefIdeal.lean ====
abbrev S4096x1280 : Shape := ⟨2, ![4096, 1280]⟩
abbrev S4096x2048 : Shape := ⟨2, ![4096, 2048]⟩
abbrev S_ : Shape := ⟨0, ![]⟩
abbrev S1280x2048 : Shape := ⟨2, ![1280, 2048]⟩
abbrev S2048x1280 : Shape := ⟨2, ![2048, 1280]⟩

abbrev nBuf : Space → Nat
  | .hbm => 7
  | .vmem => 0
  | .smem => 0
  | _ => 0

abbrev bufTy : (tb : Table) → Fin (tcTables nBuf tb) → BufTy
  | .hbm, ⟨0, _⟩ => ⟨S4096x1280, .f32⟩
  | .hbm, ⟨1, _⟩ => ⟨S4096x2048, .f32⟩
  | .hbm, ⟨2, _⟩ => ⟨S_, .f32⟩
  | .hbm, ⟨3, _⟩ => ⟨S1280x2048, .f32⟩
  | .hbm, ⟨4, _⟩ => ⟨S4096x2048, .f32⟩
  | .hbm, ⟨5, _⟩ => ⟨S2048x1280, .f32⟩
  | .hbm, ⟨6, _⟩ => ⟨S1280x2048, .f32⟩
  | _, _ => ⟨S4096x1280, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== InBwd.lean ====
abbrev S4096x2816 : Shape := ⟨2, ![4096, 2816]⟩
abbrev S2048x2816 : Shape := ⟨2, ![2048, 2816]⟩
abbrev S4096x2048 : Shape := ⟨2, ![4096, 2048]⟩
abbrev S1024x2816 : Shape := ⟨2, ![1024, 2816]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S4096x2816, .f32⟩
  | .hbm, ⟨1, _⟩ => ⟨S2048x2816, .f32⟩
  | .hbm, ⟨2, _⟩ => ⟨S4096x2816, .bf16⟩
  | .hbm, ⟨3, _⟩ => ⟨S2048x2816, .bf16⟩
  | .hbm, ⟨4, _⟩ => ⟨S4096x2048, .f32⟩
  | .local _ .vmem, ⟨0, _⟩ => ⟨S1024x2816, .bf16⟩
  | .local _ .vmem, ⟨1, _⟩ => ⟨S1024x2816, .bf16⟩
  | .local _ .vmem, ⟨2, _⟩ => ⟨S1024x2816, .bf16⟩
  | .local _ .vmem, ⟨3, _⟩ => ⟨S1024x2816, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def k0_cond2 (i : grid0.Coords) : BitVec 1 :=
  let arg2 : BitVec 32 := BitVec.ofNat 32 (i 2).val
  let c0_i32_8 : BitVec 32 := 0#32
  let v13 : BitVec 1 := Scalar.cmpi .eq arg2 c0_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InBwdRefIdeal.lean ====
abbrev S4096x2816 : Shape := ⟨2, ![4096, 2816]⟩
abbrev S2048x2816 : Shape := ⟨2, ![2048, 2816]⟩
abbrev S_ : Shape := ⟨0, ![]⟩
abbrev S4096x2048 : Shape := ⟨2, ![4096, 2048]⟩

abbrev nBuf : Space → Nat
  | .hbm => 6
  | .vmem => 0
  | .smem => 0
  | _ => 0

abbrev bufTy : (tb : Table) → Fin (tcTables nBuf tb) → BufTy
  | .hbm, ⟨0, _⟩ => ⟨S4096x2816, .f32⟩
  | .hbm, ⟨1, _⟩ => ⟨S2048x2816, .f32⟩
  | .hbm, ⟨2, _⟩ => ⟨S_, .f32⟩
  | .hbm, ⟨3, _⟩ => ⟨S4096x2048, .f32⟩
  | .hbm, ⟨4, _⟩ => ⟨S4096x2816, .f32⟩
  | .hbm, ⟨5, _⟩ => ⟨S4096x2048, .f32⟩
  | _, _ => ⟨S4096x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== OutBwd.lean ====
abbrev S4096x2048 : Shape := ⟨2, ![4096, 2048]⟩
abbrev S1280x2048 : Shape := ⟨2, ![1280, 2048]⟩
abbrev S4096x1280 : Shape := ⟨2, ![4096, 1280]⟩
abbrev S1024x2048 : Shape := ⟨2, ![1024, 2048]⟩
abbrev S1024x1280 : Shape := ⟨2, ![1024, 1280]⟩

abbrev nBuf : Space → Nat
  | .hbm => 5
  | .vmem => 6
  | .smem => 0
  | _ => 0

abbrev bufTy : (tb : Table) → Fin (tcTables nBuf tb) → BufTy
  | .hbm, ⟨0, _⟩ => ⟨S4096x2048, .f32⟩
  | .hbm, ⟨1, _⟩ => ⟨S1280x2048, .f32⟩
  | .hbm, ⟨2, _⟩ => ⟨S4096x2048, .bf16⟩
  | .hbm, ⟨3, _⟩ => ⟨S1280x2048, .bf16⟩
  | .hbm, ⟨4, _⟩ => ⟨S4096x1280, .f32⟩
  | .local _ .vmem, ⟨0, _⟩ => ⟨S1024x2048, .bf16⟩
  | .local _ .vmem, ⟨1, _⟩ => ⟨S1024x2048, .bf16⟩
  | .local _ .vmem, ⟨2, _⟩ => ⟨S1280x2048, .bf16⟩
  | .local _ .vmem, ⟨3, _⟩ => ⟨S1024x1280, .f32⟩
  | .local _ .vmem, ⟨4, _⟩ => ⟨S1024x1280, .f32⟩
  | .local _ .vmem, ⟨5, _⟩ => ⟨S1024x1280, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def k0_cond2 (i : grid0.Coords) : BitVec 1 :=
  let arg2 : BitVec 32 := BitVec.ofNat 32 (i 2).val
  let c0_i32_8 : BitVec 32 := 0#32
  let v13 : BitVec 1 := Scalar.cmpi .eq arg2 c0_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1280x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1280 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutBwdRefIdeal.lean ====
abbrev S4096x2048 : Shape := ⟨2, ![4096, 2048]⟩
abbrev S1280x2048 : Shape := ⟨2, ![1280, 2048]⟩
abbrev S_ : Shape := ⟨0, ![]⟩
abbrev S4096x1280 : Shape := ⟨2, ![4096, 1280]⟩

abbrev nBuf : Space → Nat
  | .hbm => 6
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S1280x2048, .f32⟩
  | .hbm, ⟨2, _⟩ => ⟨S_, .f32⟩
  | .hbm, ⟨3, _⟩ => ⟨S4096x1280, .f32⟩
  | .hbm, ⟨4, _⟩ => ⟨S4096x2048, .f32⟩
  | .hbm, ⟨5, _⟩ => ⟨S4096x1280, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== InProj.lean ====
abbrev S4096x2048 : Shape := ⟨2, ![4096, 2048]⟩
abbrev S2048x2816 : Shape := ⟨2, ![2048, 2816]⟩
abbrev S4096x2816 : Shape := ⟨2, ![4096, 2816]⟩
abbrev S1024x2048 : Shape := ⟨2, ![1024, 2048]⟩
abbrev S2048x1408 : Shape := ⟨2, ![2048, 1408]⟩
abbrev S1024x1408 : Shape := ⟨2, ![1024, 1408]⟩

abbrev nBuf : Space → Nat
  | .hbm => 5
  | .vmem => 7
  | .smem => 0
  | _ => 0

abbrev bufTy : (tb : Table) → Fin (tcTables nBuf tb) → BufTy
  | .hbm, ⟨0, _⟩ => ⟨S4096x2048, .f32⟩
  | .hbm, ⟨1, _⟩ => ⟨S2048x2816, .f32⟩
  | .hbm, ⟨2, _⟩ => ⟨S4096x2048, .bf16⟩
  | .hbm, ⟨3, _⟩ => ⟨S2048x2816, .bf16⟩
  | .hbm, ⟨4, _⟩ => ⟨S4096x2816, .f32⟩
  | .local _ .vmem, ⟨0, _⟩ => ⟨S1024x2048, .bf16⟩
  | .local _ .vmem, ⟨1, _⟩ => ⟨S1024x2048, .bf16⟩
  | .local _ .vmem, ⟨2, _⟩ => ⟨S2048x1408, .bf16⟩
  | .local _ .vmem, ⟨3, _⟩ => ⟨S2048x1408, .bf16⟩
  | .local _ .vmem, ⟨4, _⟩ => ⟨S1024x1408, .f32⟩
  | .local _ .vmem, ⟨5, _⟩ => ⟨S1024x1408, .f32⟩
  | .local _ .vmem, ⟨6, _⟩ => ⟨S1024x1408, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def k0_cond2 (i : grid0.Coords) : BitVec 1 :=
  let arg2 : BitVec 32 := BitVec.ofNat 32 (i 2).val
  let c0_i32_8 : BitVec 32 := 0#32
  let v13 : BitVec 1 := Scalar.cmpi .eq arg2 c0_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InProjRefIdeal.lean ====
abbrev S4096x2048 : Shape := ⟨2, ![4096, 2048]⟩
abbrev S2048x2816 : Shape := ⟨2, ![2048, 2816]⟩
abbrev S4096x2816 : Shape := ⟨2, ![4096, 2816]⟩

abbrev nBuf : Space → Nat
  | .hbm => 3
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x2816, .f32⟩
  | .hbm, ⟨2, _⟩ => ⟨S4096x2816, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== OutProj.lean ====
abbrev S4096x1280 : Shape := ⟨2, ![4096, 1280]⟩
abbrev S1280x2048 : Shape := ⟨2, ![1280, 2048]⟩
abbrev S4096x2048 : Shape := ⟨2, ![4096, 2048]⟩
abbrev S1024x1280 : Shape := ⟨2, ![1024, 1280]⟩
abbrev S1280x1024 : Shape := ⟨2, ![1280, 1024]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S4096x1280, .f32⟩
  | .hbm, ⟨1, _⟩ => ⟨S1280x2048, .f32⟩
  | .hbm, ⟨2, _⟩ => ⟨S4096x1280, .bf16⟩
  | .hbm, ⟨3, _⟩ => ⟨S1280x2048, .bf16⟩
  | .hbm, ⟨4, _⟩ => ⟨S4096x2048, .f32⟩
  | .local _ .vmem, ⟨0, _⟩ => ⟨S1024x1280, .bf16⟩
  | .local _ .vmem, ⟨1, _⟩ => ⟨S1024x1280, .bf16⟩
  | .local _ .vmem, ⟨2, _⟩ => ⟨S1280x1024, .bf16⟩
  | .local _ .vmem, ⟨3, _⟩ => ⟨S1280x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x1280, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def k0_cond2 (i : grid0.Coords) : BitVec 1 :=
  let arg2 : BitVec 32 := BitVec.ofNat 32 (i 2).val
  let c0_i32_8 : BitVec 32 := 0#32
  let v13 : BitVec 1 := Scalar.cmpi .eq arg2 c0_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1280 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1280x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutProjRefIdeal.lean ====
abbrev S4096x1280 : Shape := ⟨2, ![4096, 1280]⟩
abbrev S1280x2048 : Shape := ⟨2, ![1280, 2048]⟩
abbrev S4096x2048 : Shape := ⟨2, ![4096, 2048]⟩

abbrev nBuf : Space → Nat
  | .hbm => 3
  | .vmem => 0
  | .smem => 0
  | _ => 0

abbrev bufTy : (tb : Table) → Fin (tcTables nBuf tb) → BufTy
  | .hbm, ⟨0, _⟩ => ⟨S4096x1280, .f32⟩
  | .hbm, ⟨1, _⟩ => ⟨S1280x2048, .f32⟩
  | .hbm, ⟨2, _⟩ => ⟨S4096x2048, .f32⟩
  | _, _ => ⟨S4096x1280, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== PreMix.lean ====
abbrev S4096x2048 : Shape := ⟨2, ![4096, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩
abbrev S2048 : Shape := ⟨1, ![2048]⟩

abbrev nBuf : Space → Nat
  | .hbm => 10
  | .vmem => 14
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S1x2048, .f32⟩
  | .hbm, ⟨4, _⟩ => ⟨S1x2048, .f32⟩
  | .hbm, ⟨5, _⟩ => ⟨S1x2048, .f32⟩
  | .hbm, ⟨6, _⟩ => ⟨S4096x2048, .f32⟩
  | .hbm, ⟨7, _⟩ => ⟨S1x2048, .f32⟩
  | .hbm, ⟨8, _⟩ => ⟨S1x2048, .f32⟩
  | .hbm, ⟨9, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S1x2048, .f32⟩
  | .local _ .vmem, ⟨7, _⟩ => ⟨S1x2048, .f32⟩
  | .local _ .vmem, ⟨8, _⟩ => ⟨S1x2048, .f32⟩
  | .local _ .vmem, ⟨9, _⟩ => ⟨S256x2048, .f32⟩
  | .local _ .vmem, ⟨10, _⟩ => ⟨S256x2048, .f32⟩
  | .local _ .vmem, ⟨11, _⟩ => ⟨S1x2048, .f32⟩
  | .local _ .vmem, ⟨12, _⟩ => ⟨S1x2048, .f32⟩
  | .local _ .vmem, ⟨13, _⟩ => ⟨S1x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem9_0 : DmaSem sig := 13

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v52 : BitVec 1 := Scalar.cmpi .eq arg0 c0_i32
  let v53 : BitVec 32 := Scalar.extui v52
  let c0_i32_21 : BitVec 32 := 0#32
  let v54 : BitVec 1 := Scalar.cmpi .ne v53 c0_i32_21
  v54

def k0_cond2 (i : grid0.Coords) : BitVec 1 :=
  let arg0 : BitVec 32 := BitVec.ofNat 32 (i 0).val
  let c0_i32 : BitVec 32 := 0#32
  let v52 : BitVec 1 := Scalar.cmpi .eq arg0 c0_i32
  let v_true : BitVec 1 := 1#1
  let v55 : BitVec 1 := Scalar.xori v52 v_true
  let v56 : BitVec 32 := Scalar.extui v55
  let c0_i32_22 : BitVec 32 := 0#32
  let v57 : BitVec 1 := Scalar.cmpi .ne v56 c0_i32_22
  v57

def k0_cond3 (i : grid0.Coords) : BitVec 1 :=
  let arg0 : BitVec 32 := BitVec.ofNat 32 (i 0).val
  let c0_i32 : BitVec 32 := 0#32
  let v52 : BitVec 1 := Scalar.cmpi .eq arg0 c0_i32
  let v58 : BitVec 32 := Scalar.extui v52
  let c0_i32_23 : BitVec 32 := 0#32
  let v59 : BitVec 1 := Scalar.cmpi .ne v58 c0_i32_23
  v59

def k0_cond4 (i : grid0.Coords) : BitVec 1 :=
  let arg0 : BitVec 32 := BitVec.ofNat 32 (i 0).val
  let c0_i32 : BitVec 32 := 0#32
  let v52 : BitVec 1 := Scalar.cmpi .eq arg0 c0_i32
  let true_24 : BitVec 1 := 1#1
  let v60 : BitVec 1 := Scalar.xori v52 true_24
  let v61 : BitVec 32 := Scalar.extui v60
  let c0_i32_25 : BitVec 32 := 0#32
  let v62 : BitVec 1 := Scalar.cmpi .ne v61 c0_i32_25
  v62

def k0_cond5 (i : grid0.Coords) : BitVec 1 :=
  let arg0 : BitVec 32 := BitVec.ofNat 32 (i 0).val
  let c0_i32 : BitVec 32 := 0#32
  let v52 : BitVec 1 := Scalar.cmpi .eq arg0 c0_i32
  let v63 : BitVec 32 := Scalar.extui v52
  let c0_i32_26 : BitVec 32 := 0#32
  let v64 : BitVec 1 := Scalar.cmpi .ne v63 c0_i32_26
  v64

def k0_cond6 (i : grid0.Coords) : BitVec 1 :=
  let arg0 : BitVec 32 := BitVec.ofNat 32 (i 0).val
  let c0_i32 : BitVec 32 := 0#32
  let v52 : BitVec 1 := Scalar.cmpi .eq arg0 c0_i32
  let true_27 : BitVec 1 := 1#1
  let v65 : BitVec 1 := Scalar.xori v52 true_27
  let v66 : BitVec 32 := Scalar.extui v65
  let c0_i32_28 : BitVec 32 := 0#32
  let v67 : BitVec 1 := Scalar.cmpi .ne v66 c0_i32_28
  v67

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== PreMixRefIdeal.lean ====
abbrev S4096x2048 : Shape := ⟨2, ![4096, 2048]⟩
abbrev S1x2048 : Shape := ⟨2, ![1, 2048]⟩
abbrev S_ : Shape := ⟨0, ![]⟩
abbrev S4096 : Shape := ⟨1, ![4096]⟩
abbrev S4096x1 : Shape := ⟨2, ![4096, 1]⟩
abbrev S2048 : Shape := ⟨1, ![2048]⟩

abbrev nBuf : Space → Nat
  | .hbm => 66
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S1x2048, .f32⟩
  | .hbm, ⟨4, _⟩ => ⟨S1x2048, .f32⟩
  | .hbm, ⟨5, _⟩ => ⟨S1x2048, .f32⟩
  | .hbm, ⟨6, _⟩ => ⟨S4096x2048, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x2048, .f32⟩
  | .hbm, ⟨22, _⟩ => ⟨S4096x2048, .f32⟩
  | .hbm, ⟨23, _⟩ => ⟨S4096x2048, .f32⟩
  | .hbm, ⟨24, _⟩ => ⟨S4096x2048, .f32⟩
  | .hbm, ⟨25, _⟩ => ⟨S_, .f32⟩
  | .hbm, ⟨26, _⟩ => ⟨S1x2048, .f32⟩
  | .hbm, ⟨27, _⟩ => ⟨S1x2048, .f32⟩
  | .hbm, ⟨28, _⟩ => ⟨S4096x2048, .f32⟩
  | .hbm, ⟨29, _⟩ => ⟨S4096x2048, .f32⟩
  | .hbm, ⟨30, _⟩ => ⟨S4096x2048, .f32⟩
  | .hbm, ⟨31, _⟩ => ⟨S4096x2048, .f32⟩
  | .hbm, ⟨32, _⟩ => ⟨S4096x2048, .f32⟩
  | .hbm, ⟨33, _⟩ => ⟨S_, .f32⟩
  | .hbm, ⟨34, _⟩ => ⟨S2048, .f32⟩
  | .hbm, ⟨35, _⟩ => ⟨S1x2048, .f32⟩
  | .hbm, ⟨36, _⟩ => ⟨S4096x2048, .f32⟩
  | .hbm, ⟨37, _⟩ => ⟨S_, .f32⟩
  | .hbm, ⟨38, _⟩ => ⟨S2048, .f32⟩
  | .hbm, ⟨39, _⟩ => ⟨S1x2048, .f32⟩
  | .hbm, ⟨40, _⟩ => ⟨S4096x2048, .f32⟩
  | .hbm, ⟨41, _⟩ => ⟨S4096x2048, .f32⟩
  | .hbm, ⟨42, _⟩ => ⟨S4096x2048, .f32⟩
  | .hbm, ⟨43, _⟩ => ⟨S_, .f32⟩
  | .hbm, ⟨44, _⟩ => ⟨S2048, .f32⟩
  | .hbm, ⟨45, _⟩ => ⟨S1x2048, .f32⟩
  | .hbm, ⟨46, _⟩ => ⟨S4096x2048, .f32⟩
  | .hbm, ⟨47, _⟩ => ⟨S4096x2048, .f32⟩
  | .hbm, ⟨48, _⟩ => ⟨S4096x2048, .f32⟩
  | .hbm, ⟨49, _⟩ => ⟨S_, .f32⟩
  | .hbm, ⟨50, _⟩ => ⟨S4096, .f32⟩
  | .hbm, ⟨51, _⟩ => ⟨S4096x1, .f32⟩
  | .hbm, ⟨52, _⟩ => ⟨S4096x2048, .f32⟩
  | .hbm, ⟨53, _⟩ => ⟨S4096x2048, .f32⟩
  | .hbm, ⟨54, _⟩ => ⟨S4096x2048, .f32⟩
  | .hbm, ⟨55, _⟩ => ⟨S4096x1, .f32⟩
  | .hbm, ⟨56, _⟩ => ⟨S_, .f32⟩
  | .hbm, ⟨57, _⟩ => ⟨S4096x1, .f32⟩
  | .hbm, ⟨58, _⟩ => ⟨S4096x1, .f32⟩
  | .hbm, ⟨59, _⟩ => ⟨S_, .f32⟩
  | .hbm, ⟨60, _⟩ => ⟨S4096, .f32⟩
  | .hbm, ⟨61, _⟩ => ⟨S4096x2048, .f32⟩
  | .hbm, ⟨62, _⟩ => ⟨S4096x2048, .f32⟩
  | .hbm, ⟨63, _⟩ => ⟨S4096x2048, .f32⟩
  | .hbm, ⟨64, _⟩ => ⟨S4096x2048, .f32⟩
  | .hbm, ⟨65, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_3 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_4 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_5 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_6 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_7 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_cst_8 : Ref sig .tc := ⟨.hbm, 56, rfl⟩
abbrev main_v41 : Ref sig .tc := ⟨.hbm, 57, rfl⟩
abbrev main_v42 : Ref sig .tc := ⟨.hbm, 58, rfl⟩
abbrev main_cst_9 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩

abbrev nD : Nat := 1
abbrev τ : Topo := Topo.v7x

variable {F : FTy → Type} [FloatOps F]
-- ==== PostMix.lean ====
abbrev S4096x2048 : Shape := ⟨2, ![4096, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩
abbrev S2048 : Shape := ⟨1, ![2048]⟩

abbrev nBuf : Space → Nat
  | .hbm => 16
  | .vmem => 22
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S4096x2048, .f32⟩
  | .hbm, ⟨4, _⟩ => ⟨S1x2048, .f32⟩
  | .hbm, ⟨5, _⟩ => ⟨S1x2048, .f32⟩
  | .hbm, ⟨6, _⟩ => ⟨S1x2048, .f32⟩
  | .hbm, ⟨7, _⟩ => ⟨S1x2048, .f32⟩
  | .hbm, ⟨8, _⟩ => ⟨S1x2048, .f32⟩
  | .hbm, ⟨9, _⟩ => ⟨S4096x2048, .f32⟩
  | .hbm, ⟨10, _⟩ => ⟨S4096x2048, .bf16⟩
  | .hbm, ⟨11, _⟩ => ⟨S1x2048, .f32⟩
  | .hbm, ⟨12, _⟩ => ⟨S1x2048, .f32⟩
  | .hbm, ⟨13, _⟩ => ⟨S1x2048, .f32⟩
  | .hbm, ⟨14, _⟩ => ⟨S1x2048, .f32⟩
  | .hbm, ⟨15, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S1x2048, .f32⟩
  | .local _ .vmem, ⟨9, _⟩ => ⟨S1x2048, .f32⟩
  | .local _ .vmem, ⟨10, _⟩ => ⟨S1x2048, .f32⟩
  | .local _ .vmem, ⟨11, _⟩ => ⟨S1x2048, .f32⟩
  | .local _ .vmem, ⟨12, _⟩ => ⟨S1x2048, .f32⟩
  | .local _ .vmem, ⟨13, _⟩ => ⟨S256x2048, .f32⟩
  | .local _ .vmem, ⟨14, _⟩ => ⟨S256x2048, .f32⟩
  | .local _ .vmem, ⟨15, _⟩ => ⟨S256x2048, .bf16⟩
  | .local _ .vmem, ⟨16, _⟩ => ⟨S256x2048, .bf16⟩
  | .local _ .vmem, ⟨17, _⟩ => ⟨S1x2048, .f32⟩
  | .local _ .vmem, ⟨18, _⟩ => ⟨S1x2048, .f32⟩
  | .local _ .vmem, ⟨19, _⟩ => ⟨S1x2048, .f32⟩
  | .local _ .vmem, ⟨20, _⟩ => ⟨S1x2048, .f32⟩
  | .local _ .vmem, ⟨21, _⟩ => ⟨S1x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev main_v0_3 : Ref sig .tc := ⟨.hbm, 12, rfl⟩
abbrev main_v0_4 : Ref sig .tc := ⟨.hbm, 13, rfl⟩
abbrev main_v0_5 : Ref sig .tc := ⟨.hbm, 14, rfl⟩
abbrev main_v0_6 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_stg14_0 : Ref sig .tc := ⟨.vmem, 20, rfl⟩
abbrev cc0_stg15_0 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem12_0 : DmaSem sig := 18
abbrev cc0_sem13_0 : DmaSem sig := 19
abbrev cc0_sem14_0 : DmaSem sig := 20
abbrev cc0_sem15_0 : DmaSem sig := 21

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v101 : BitVec 1 := Scalar.cmpi .eq arg0 c0_i32
  let v102 : BitVec 32 := Scalar.extui v101
  let c0_i32_38 : BitVec 32 := 0#32
  let v103 : BitVec 1 := Scalar.cmpi .ne v102 c0_i32_38
  v103

def k0_cond2 (i : grid0.Coords) : BitVec 1 :=
  let arg0 : BitVec 32 := BitVec.ofNat 32 (i 0).val
  let c0_i32 : BitVec 32 := 0#32
  let v101 : BitVec 1 := Scalar.cmpi .eq arg0 c0_i32
  let v_true : BitVec 1 := 1#1
  let v104 : BitVec 1 := Scalar.xori v101 v_true
  let v105 : BitVec 32 := Scalar.extui v104
  let c0_i32_39 : BitVec 32 := 0#32
  let v106 : BitVec 1 := Scalar.cmpi .ne v105 c0_i32_39
  v106

def k0_cond3 (i : grid0.Coords) : BitVec 1 :=
  let arg0 : BitVec 32 := BitVec.ofNat 32 (i 0).val
  let c0_i32 : BitVec 32 := 0#32
  let v101 : BitVec 1 := Scalar.cmpi .eq arg0 c0_i32
  let v107 : BitVec 32 := Scalar.extui v101
  let c0_i32_40 : BitVec 32 := 0#32
  let v108 : BitVec 1 := Scalar.cmpi .ne v107 c0_i32_40
  v108

def k0_cond4 (i : grid0.Coords) : BitVec 1 :=
  let arg0 : BitVec 32 := BitVec.ofNat 32 (i 0).val
  let c0_i32 : BitVec 32 := 0#32
  let v101 : BitVec 1 := Scalar.cmpi .eq arg0 c0_i32
  let true_41 : BitVec 1 := 1#1
  let v109 : BitVec 1 := Scalar.xori v101 true_41
  let v110 : BitVec 32 := Scalar.extui v109
  let c0_i32_42 : BitVec 32 := 0#32
  let v111 : BitVec 1 := Scalar.cmpi .ne v110 c0_i32_42
  v111

def k0_cond5 (i : grid0.Coords) : BitVec 1 :=
  let arg0 : BitVec 32 := BitVec.ofNat 32 (i 0).val
  let c0_i32 : BitVec 32 := 0#32
  let v101 : BitVec 1 := Scalar.cmpi .eq arg0 c0_i32
  let v112 : BitVec 32 := Scalar.extui v101
  let c0_i32_43 : BitVec 32 := 0#32
  let v113 : BitVec 1 := Scalar.cmpi .ne v112 c0_i32_43
  v113

def k0_cond6 (i : grid0.Coords) : BitVec 1 :=
  let arg0 : BitVec 32 := BitVec.ofNat 32 (i 0).val
  let c0_i32 : BitVec 32 := 0#32
  let v101 : BitVec 1 := Scalar.cmpi .eq arg0 c0_i32
  let true_44 : BitVec 1 := 1#1
  let v114 : BitVec 1 := Scalar.xori v101 true_44
  let v115 : BitVec 32 := Scalar.extui v114
  let c0_i32_45 : BitVec 32 := 0#32
  let v116 : BitVec 1 := Scalar.cmpi .ne v115 c0_i32_45
  v116

def k0_cond7 (i : grid0.Coords) : BitVec 1 :=
  let arg0 : BitVec 32 := BitVec.ofNat 32 (i 0).val
  let c0_i32 : BitVec 32 := 0#32
  let v101 : BitVec 1 := Scalar.cmpi .eq arg0 c0_i32
  let v117 : BitVec 32 := Scalar.extui v101
  let c0_i32_46 : BitVec 32 := 0#32
  let v118 : BitVec 1 := Scalar.cmpi .ne v117 c0_i32_46
  v118

def k0_cond8 (i : grid0.Coords) : BitVec 1 :=
  let arg0 : BitVec 32 := BitVec.ofNat 32 (i 0).val
  let c0_i32 : BitVec 32 := 0#32
  let v101 : BitVec 1 := Scalar.cmpi .eq arg0 c0_i32
  let true_47 : BitVec 1 := 1#1
  let v119 : BitVec 1 := Scalar.xori v101 true_47
  let v120 : BitVec 32 := Scalar.extui v119
  let c0_i32_48 : BitVec 32 := 0#32
  let v121 : BitVec 1 := Scalar.cmpi .ne v120 c0_i32_48
  v121

def k0_cond9 (i : grid0.Coords) : BitVec 1 :=
  let arg0 : BitVec 32 := BitVec.ofNat 32 (i 0).val
  let c0_i32 : BitVec 32 := 0#32
  let v101 : BitVec 1 := Scalar.cmpi .eq arg0 c0_i32
  let v122 : BitVec 32 := Scalar.extui v101
  let c0_i32_49 : BitVec 32 := 0#32
  let v123 : BitVec 1 := Scalar.cmpi .ne v122 c0_i32_49
  v123

def k0_cond10 (i : grid0.Coords) : BitVec 1 :=
  let arg0 : BitVec 32 := BitVec.ofNat 32 (i 0).val
  let c0_i32 : BitVec 32 := 0#32
  let v101 : BitVec 1 := Scalar.cmpi .eq arg0 c0_i32
  let true_50 : BitVec 1 := 1#1
  let v124 : BitVec 1 := Scalar.xori v101 true_50
  let v125 : BitVec 32 := Scalar.extui v124
  let c0_i32_51 : BitVec 32 := 0#32
  let v126 : BitVec 1 := Scalar.cmpi .ne v125 c0_i32_51
  v126

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x2048 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1x2048 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x2048 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x2048 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x2048 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x2048 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]
-- ==== PostMixRefIdeal.lean ====
abbrev S4096x2048 : Shape := ⟨2, ![4096, 2048]⟩
abbrev S1x2048 : Shape := ⟨2, ![1, 2048]⟩
abbrev S_ : Shape := ⟨0, ![]⟩
abbrev S4096 : Shape := ⟨1, ![4096]⟩
abbrev S4096x1 : Shape := ⟨2, ![4096, 1]⟩
abbrev S2048 : Shape := ⟨1, ![2048]⟩

abbrev nBuf : Space → Nat
  | .hbm => 122
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S4096x2048, .f32⟩
  | .hbm, ⟨4, _⟩ => ⟨S1x2048, .f32⟩
  | .hbm, ⟨5, _⟩ => ⟨S1x2048, .f32⟩
  | .hbm, ⟨6, _⟩ => ⟨S1x2048, .f32⟩
  | .hbm, ⟨7, _⟩ => ⟨S1x2048, .f32⟩
  | .hbm, ⟨8, _⟩ => ⟨S1x2048, .f32⟩
  | .hbm, ⟨9, _⟩ => ⟨S4096x2048, .f32⟩
  | .hbm, ⟨10, _⟩ => ⟨S_, .f32⟩
  | .hbm, ⟨11, _⟩ => ⟨S4096, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x1, .f32⟩
  | .hbm, ⟨20, _⟩ => ⟨S4096x1, .f32⟩
  | .hbm, ⟨21, _⟩ => ⟨S_, .f32⟩
  | .hbm, ⟨22, _⟩ => ⟨S4096x1, .f32⟩
  | .hbm, ⟨23, _⟩ => ⟨S4096x1, .f32⟩
  | .hbm, ⟨24, _⟩ => ⟨S4096x2048, .f32⟩
  | .hbm, ⟨25, _⟩ => ⟨S4096x2048, .f32⟩
  | .hbm, ⟨26, _⟩ => ⟨S4096x2048, .f32⟩
  | .hbm, ⟨27, _⟩ => ⟨S4096x2048, .f32⟩
  | .hbm, ⟨28, _⟩ => ⟨S4096x2048, .f32⟩
  | .hbm, ⟨29, _⟩ => ⟨S4096x2048, .f32⟩
  | .hbm, ⟨30, _⟩ => ⟨S4096x2048, .f32⟩
  | .hbm, ⟨31, _⟩ => ⟨S4096x2048, .f32⟩
  | .hbm, ⟨32, _⟩ => ⟨S_, .f32⟩
  | .hbm, ⟨33, _⟩ => ⟨S4096, .f32⟩
  | .hbm, ⟨34, _⟩ => ⟨S4096x1, .f32⟩
  | .hbm, ⟨35, _⟩ => ⟨S_, .f32⟩
  | .hbm, ⟨36, _⟩ => ⟨S4096x1, .f32⟩
  | .hbm, ⟨37, _⟩ => ⟨S4096x1, .f32⟩
  | .hbm, ⟨38, _⟩ => ⟨S_, .f32⟩
  | .hbm, ⟨39, _⟩ => ⟨S4096x1, .f32⟩
  | .hbm, ⟨40, _⟩ => ⟨S4096x1, .f32⟩
  | .hbm, ⟨41, _⟩ => ⟨S4096x1, .f32⟩
  | .hbm, ⟨42, _⟩ => ⟨S4096x1, .f32⟩
  | .hbm, ⟨43, _⟩ => ⟨S_, .f32⟩
  | .hbm, ⟨44, _⟩ => ⟨S4096x1, .f32⟩
  | .hbm, ⟨45, _⟩ => ⟨S4096x1, .f32⟩
  | .hbm, ⟨46, _⟩ => ⟨S4096x2048, .f32⟩
  | .hbm, ⟨47, _⟩ => ⟨S4096x2048, .f32⟩
  | .hbm, ⟨48, _⟩ => ⟨S4096x2048, .f32⟩
  | .hbm, ⟨49, _⟩ => ⟨S4096x2048, .f32⟩
  | .hbm, ⟨50, _⟩ => ⟨S_, .f32⟩
  | .hbm, ⟨51, _⟩ => ⟨S1x2048, .f32⟩
  | .hbm, ⟨52, _⟩ => ⟨S1x2048, .f32⟩
  | .hbm, ⟨53, _⟩ => ⟨S4096x2048, .f32⟩
  | .hbm, ⟨54, _⟩ => ⟨S4096x2048, .f32⟩
  | .hbm, ⟨55, _⟩ => ⟨S4096x2048, .f32⟩
  | .hbm, ⟨56, _⟩ => ⟨S4096x2048, .f32⟩
  | .hbm, ⟨57, _⟩ => ⟨S4096x2048, .f32⟩
  | .hbm, ⟨58, _⟩ => ⟨S_, .f32⟩
  | .hbm, ⟨59, _⟩ => ⟨S2048, .f32⟩
  | .hbm, ⟨60, _⟩ => ⟨S1x2048, .f32⟩
  | .hbm, ⟨61, _⟩ => ⟨S4096x2048, .f32⟩
  | .hbm, ⟨62, _⟩ => ⟨S_, .f32⟩
  | .hbm, ⟨63, _⟩ => ⟨S2048, .f32⟩
  | .hbm, ⟨64, _⟩ => ⟨S1x2048, .f32⟩
  | .hbm, ⟨65, _⟩ => ⟨S4096x2048, .f32⟩
  | .hbm, ⟨66, _⟩ => ⟨S4096x2048, .f32⟩
  | .hbm, ⟨67, _⟩ => ⟨S4096x2048, .f32⟩
  | .hbm, ⟨68, _⟩ => ⟨S_, .f32⟩
  | .hbm, ⟨69, _⟩ => ⟨S2048, .f32⟩
  | .hbm, ⟨70, _⟩ => ⟨S1x2048, .f32⟩
  | .hbm, ⟨71, _⟩ => ⟨S4096x2048, .f32⟩
  | .hbm, ⟨72, _⟩ => ⟨S4096x2048, .f32⟩
  | .hbm, ⟨73, _⟩ => ⟨S4096x2048, .f32⟩
  | .hbm, ⟨74, _⟩ => ⟨S_, .f32⟩
  | .hbm, ⟨75, _⟩ => ⟨S4096, .f32⟩
  | .hbm, ⟨76, _⟩ => ⟨S4096x1, .f32⟩
  | .hbm, ⟨77, _⟩ => ⟨S4096x2048, .f32⟩
  | .hbm, ⟨78, _⟩ => ⟨S4096x2048, .f32⟩
  | .hbm, ⟨79, _⟩ => ⟨S4096x2048, .f32⟩
  | .hbm, ⟨80, _⟩ => ⟨S4096x1, .f32⟩
  | .hbm, ⟨81, _⟩ => ⟨S_, .f32⟩
  | .hbm, ⟨82, _⟩ => ⟨S4096x1, .f32⟩
  | .hbm, ⟨83, _⟩ => ⟨S4096x1, .f32⟩
  | .hbm, ⟨84, _⟩ => ⟨S_, .f32⟩
  | .hbm, ⟨85, _⟩ => ⟨S4096, .f32⟩
  | .hbm, ⟨86, _⟩ => ⟨S4096x2048, .f32⟩
  | .hbm, ⟨87, _⟩ => ⟨S4096x2048, .f32⟩
  | .hbm, ⟨88, _⟩ => ⟨S4096x2048, .f32⟩
  | .hbm, ⟨89, _⟩ => ⟨S4096x2048, .f32⟩
  | .hbm, ⟨90, _⟩ => ⟨S4096x2048, .f32⟩
  | .hbm, ⟨91, _⟩ => ⟨S4096x2048, .f32⟩
  | .hbm, ⟨92, _⟩ => ⟨S4096x2048, .f32⟩
  | .hbm, ⟨93, _⟩ => ⟨S4096x2048, .f32⟩
  | .hbm, ⟨94, _⟩ => ⟨S4096x2048, .f32⟩
  | .hbm, ⟨95, _⟩ => ⟨S_, .f32⟩
  | .hbm, ⟨96, _⟩ => ⟨S2048, .f32⟩
  | .hbm, ⟨97, _⟩ => ⟨S1x2048, .f32⟩
  | .hbm, ⟨98, _⟩ => ⟨S4096x2048, .f32⟩
  | .hbm, ⟨99, _⟩ => ⟨S_, .f32⟩
  | .hbm, ⟨100, _⟩ => ⟨S2048, .f32⟩
  | .hbm, ⟨101, _⟩ => ⟨S1x2048, .f32⟩
  | .hbm, ⟨102, _⟩ => ⟨S4096x2048, .f32⟩
  | .hbm, ⟨103, _⟩ => ⟨S4096x2048, .f32⟩
  | .hbm, ⟨104, _⟩ => ⟨S4096x2048, .f32⟩
  | .hbm, ⟨105, _⟩ => ⟨S_, .f32⟩
  | .hbm, ⟨106, _⟩ => ⟨S4096, .f32⟩
  | .hbm, ⟨107, _⟩ => ⟨S4096x1, .f32⟩
  | .hbm, ⟨108, _⟩ => ⟨S4096x2048, .f32⟩
  | .hbm, ⟨109, _⟩ => ⟨S4096x2048, .f32⟩
  | .hbm, ⟨110, _⟩ => ⟨S4096x1, .f32⟩
  | .hbm, ⟨111, _⟩ => ⟨S_, .f32⟩
  | .hbm, ⟨112, _⟩ => ⟨S4096x1, .f32⟩
  | .hbm, ⟨113, _⟩ => ⟨S4096x1, .f32⟩
  | .hbm, ⟨114, _⟩ => ⟨S_, .f32⟩
  | .hbm, ⟨115, _⟩ => ⟨S4096, .f32⟩
  | .hbm, ⟨116, _⟩ => ⟨S4096x2048, .f32⟩
  | .hbm, ⟨117, _⟩ => ⟨S4096x2048, .f32⟩
  | .hbm, ⟨118, _⟩ => ⟨S4096x2048, .f32⟩
  | .hbm, ⟨119, _⟩ => ⟨S4096x2048, .f32⟩
  | .hbm, ⟨120, _⟩ => ⟨S4096x2048, .f32⟩
  | .hbm, ⟨121, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_cst_1 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_cst_2 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_3 : Ref sig .tc := ⟨.hbm, 32, rfl⟩
abbrev main_v19 : Ref sig .tc := ⟨.hbm, 33, rfl⟩
abbrev main_v20 : Ref sig .tc := ⟨.hbm, 34, rfl⟩
abbrev main_cst_4 : Ref sig .tc := ⟨.hbm, 35, rfl⟩
abbrev main_v21 : Ref sig .tc := ⟨.hbm, 36, rfl⟩
abbrev main_v22 : Ref sig .tc := ⟨.hbm, 37, rfl⟩
abbrev main_cst_5 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst_6 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_cst_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_8 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_9 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_cst_10 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_cst_11 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_cst_12 : Ref sig .tc := ⟨.hbm, 81, rfl⟩
abbrev main_v59 : Ref sig .tc := ⟨.hbm, 82, rfl⟩
abbrev main_v60 : Ref sig .tc := ⟨.hbm, 83, rfl⟩
abbrev main_cst_13 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_cst_14 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_cst_15 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_cst_16 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_cst_17 : Ref sig .tc := ⟨.hbm, 111, rfl⟩
abbrev main_v84 : Ref sig .tc := ⟨.hbm, 112, rfl⟩
abbrev main_v85 : Ref sig .tc := ⟨.hbm, 113, rfl⟩
abbrev main_cst_18 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩

abbrev nD : Nat := 1
abbrev τ : Topo := Topo.v7x

variable {F : FTy → Type} [FloatOps F]
-- ==== LossHead.lean ====
abbrev S4096x2048 : Shape := ⟨2, ![4096, 2048]⟩
abbrev S1x2048 : Shape := ⟨2, ![1, 2048]⟩
abbrev S1x1 : Shape := ⟨2, ![1, 1]⟩
abbrev S256x2048 : Shape := ⟨2, ![256, 2048]⟩
abbrev S256 : Shape := ⟨1, ![256]⟩
abbrev S256x1 : Shape := ⟨2, ![256, 1]⟩
abbrev S2048 : Shape := ⟨1, ![2048]⟩
abbrev S1 : Shape := ⟨1, ![1]⟩

abbrev nBuf : Space → Nat
  | .hbm => 10
  | .vmem => 15
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S1x2048, .f32⟩
  | .hbm, ⟨4, _⟩ => ⟨S1x2048, .f32⟩
  | .hbm, ⟨5, _⟩ => ⟨S4096x2048, .f32⟩
  | .hbm, ⟨6, _⟩ => ⟨S4096x2048, .bf16⟩
  | .hbm, ⟨7, _⟩ => ⟨S1x1, .f32⟩
  | .hbm, ⟨8, _⟩ => ⟨S1x2048, .f32⟩
  | .hbm, ⟨9, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S1x2048, .f32⟩
  | .local _ .vmem, ⟨7, _⟩ => ⟨S1x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .bf16⟩
  | .local _ .vmem, ⟨11, _⟩ => ⟨S256x2048, .bf16⟩
  | .local _ .vmem, ⟨12, _⟩ => ⟨S1x1, .f32⟩
  | .local _ .vmem, ⟨13, _⟩ => ⟨S1x2048, .f32⟩
  | .local _ .vmem, ⟨14, _⟩ => ⟨S1x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_v0_4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13
abbrev cc0_sem9_0 : DmaSem sig := 14

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v63 : BitVec 1 := Scalar.cmpi .eq arg0 c0_i32
  let v64 : BitVec 32 := Scalar.extui v63
  let c0_i32_26 : BitVec 32 := 0#32
  let v65 : BitVec 1 := Scalar.cmpi .ne v64 c0_i32_26
  v65

def k0_cond2 (i : grid0.Coords) : BitVec 1 :=
  let arg0 : BitVec 32 := BitVec.ofNat 32 (i 0).val
  let c0_i32 : BitVec 32 := 0#32
  let v63 : BitVec 1 := Scalar.cmpi .eq arg0 c0_i32
  let v_true : BitVec 1 := 1#1
  let v66 : BitVec 1 := Scalar.xori v63 v_true
  let v67 : BitVec 32 := Scalar.extui v66
  let c0_i32_27 : BitVec 32 := 0#32
  let v68 : BitVec 1 := Scalar.cmpi .ne v67 c0_i32_27
  v68

def k0_cond3 (i : grid0.Coords) : BitVec 1 :=
  let arg0 : BitVec 32 := BitVec.ofNat 32 (i 0).val
  let c0_i32 : BitVec 32 := 0#32
  let v63 : BitVec 1 := Scalar.cmpi .eq arg0 c0_i32
  let v69 : BitVec 32 := Scalar.extui v63
  let c0_i32_28 : BitVec 32 := 0#32
  let v70 : BitVec 1 := Scalar.cmpi .ne v69 c0_i32_28
  v70

def k0_cond4 (i : grid0.Coords) : BitVec 1 :=
  let arg0 : BitVec 32 := BitVec.ofNat 32 (i 0).val
  let c0_i32 : BitVec 32 := 0#32
  let v63 : BitVec 1 := Scalar.cmpi .eq arg0 c0_i32
  let true_29 : BitVec 1 := 1#1
  let v71 : BitVec 1 := Scalar.xori v63 true_29
  let v72 : BitVec 32 := Scalar.extui v71
  let c0_i32_30 : BitVec 32 := 0#32
  let v73 : BitVec 1 := Scalar.cmpi .ne v72 c0_i32_30
  v73

def k0_cond5 (i : grid0.Coords) : BitVec 1 :=
  let arg0 : BitVec 32 := BitVec.ofNat 32 (i 0).val
  let c0_i32 : BitVec 32 := 0#32
  let v63 : BitVec 1 := Scalar.cmpi .eq arg0 c0_i32
  let v74 : BitVec 32 := Scalar.extui v63
  let c0_i32_31 : BitVec 32 := 0#32
  let v75 : BitVec 1 := Scalar.cmpi .ne v74 c0_i32_31
  v75

def k0_cond6 (i : grid0.Coords) : BitVec 1 :=
  let arg0 : BitVec 32 := BitVec.ofNat 32 (i 0).val
  let c0_i32 : BitVec 32 := 0#32
  let v63 : BitVec 1 := Scalar.cmpi .eq arg0 c0_i32
  let true_32 : BitVec 1 := 1#1
  let v76 : BitVec 1 := Scalar.xori v63 true_32
  let v77 : BitVec 32 := Scalar.extui v76
  let c0_i32_33 : BitVec 32 := 0#32
  let v78 : BitVec 1 := Scalar.cmpi .ne v77 c0_i32_33
  v78

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== LossHeadRefIdeal.lean ====
abbrev S4096x2048 : Shape := ⟨2, ![4096, 2048]⟩
abbrev S1x2048 : Shape := ⟨2, ![1, 2048]⟩
abbrev S_ : Shape := ⟨0, ![]⟩
abbrev S4096 : Shape := ⟨1, ![4096]⟩
abbrev S4096x1 : Shape := ⟨2, ![4096, 1]⟩
abbrev S2048 : Shape := ⟨1, ![2048]⟩
abbrev S1x1 : Shape := ⟨2, ![1, 1]⟩

abbrev nBuf : Space → Nat
  | .hbm => 81
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S1x2048, .f32⟩
  | .hbm, ⟨4, _⟩ => ⟨S1x2048, .f32⟩
  | .hbm, ⟨5, _⟩ => ⟨S4096x2048, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x2048, .f32⟩
  | .hbm, ⟨21, _⟩ => ⟨S4096x2048, .f32⟩
  | .hbm, ⟨22, _⟩ => ⟨S4096x2048, .f32⟩
  | .hbm, ⟨23, _⟩ => ⟨S4096x2048, .f32⟩
  | .hbm, ⟨24, _⟩ => ⟨S4096x2048, .f32⟩
  | .hbm, ⟨25, _⟩ => ⟨S4096x2048, .f32⟩
  | .hbm, ⟨26, _⟩ => ⟨S4096x2048, .f32⟩
  | .hbm, ⟨27, _⟩ => ⟨S4096x2048, .f32⟩
  | .hbm, ⟨28, _⟩ => ⟨S4096x2048, .f32⟩
  | .hbm, ⟨29, _⟩ => ⟨S_, .f32⟩
  | .hbm, ⟨30, _⟩ => ⟨S4096x2048, .f32⟩
  | .hbm, ⟨31, _⟩ => ⟨S4096x2048, .f32⟩
  | .hbm, ⟨32, _⟩ => ⟨S_, .f32⟩
  | .hbm, ⟨33, _⟩ => ⟨S4096, .f32⟩
  | .hbm, ⟨34, _⟩ => ⟨S_, .f32⟩
  | .hbm, ⟨35, _⟩ => ⟨S4096, .f32⟩
  | .hbm, ⟨36, _⟩ => ⟨S4096, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S4096, .f32⟩
  | .hbm, ⟨45, _⟩ => ⟨S_, .f32⟩
  | .hbm, ⟨46, _⟩ => ⟨S4096, .f32⟩
  | .hbm, ⟨47, _⟩ => ⟨S4096, .f32⟩
  | .hbm, ⟨48, _⟩ => ⟨S4096x2048, .f32⟩
  | .hbm, ⟨49, _⟩ => ⟨S4096x2048, .f32⟩
  | .hbm, ⟨50, _⟩ => ⟨S4096x2048, .f32⟩
  | .hbm, ⟨51, _⟩ => ⟨S4096x2048, .f32⟩
  | .hbm, ⟨52, _⟩ => ⟨S4096x2048, .f32⟩
  | .hbm, ⟨53, _⟩ => ⟨S_, .f32⟩
  | .hbm, ⟨54, _⟩ => ⟨S2048, .f32⟩
  | .hbm, ⟨55, _⟩ => ⟨S1x2048, .f32⟩
  | .hbm, ⟨56, _⟩ => ⟨S4096x2048, .f32⟩
  | .hbm, ⟨57, _⟩ => ⟨S_, .f32⟩
  | .hbm, ⟨58, _⟩ => ⟨S2048, .f32⟩
  | .hbm, ⟨59, _⟩ => ⟨S1x2048, .f32⟩
  | .hbm, ⟨60, _⟩ => ⟨S4096x2048, .f32⟩
  | .hbm, ⟨61, _⟩ => ⟨S4096x2048, .f32⟩
  | .hbm, ⟨62, _⟩ => ⟨S4096x2048, .f32⟩
  | .hbm, ⟨63, _⟩ => ⟨S_, .f32⟩
  | .hbm, ⟨64, _⟩ => ⟨S4096, .f32⟩
  | .hbm, ⟨65, _⟩ => ⟨S4096x1, .f32⟩
  | .hbm, ⟨66, _⟩ => ⟨S4096x2048, .f32⟩
  | .hbm, ⟨67, _⟩ => ⟨S4096x2048, .f32⟩
  | .hbm, ⟨68, _⟩ => ⟨S4096x1, .f32⟩
  | .hbm, ⟨69, _⟩ => ⟨S_, .f32⟩
  | .hbm, ⟨70, _⟩ => ⟨S4096x1, .f32⟩
  | .hbm, ⟨71, _⟩ => ⟨S4096x1, .f32⟩
  | .hbm, ⟨72, _⟩ => ⟨S_, .f32⟩
  | .hbm, ⟨73, _⟩ => ⟨S4096, .f32⟩
  | .hbm, ⟨74, _⟩ => ⟨S4096x2048, .f32⟩
  | .hbm, ⟨75, _⟩ => ⟨S4096x2048, .f32⟩
  | .hbm, ⟨76, _⟩ => ⟨S4096x2048, .f32⟩
  | .hbm, ⟨77, _⟩ => ⟨S4096x2048, .f32⟩
  | .hbm, ⟨78, _⟩ => ⟨S4096x2048, .f32⟩
  | .hbm, ⟨79, _⟩ => ⟨S4096x2048, .bf16⟩
  | .hbm, ⟨80, _⟩ => ⟨S1x1, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_cst_4 : Ref sig .tc := ⟨.hbm, 32, rfl⟩
abbrev main_v22 : Ref sig .tc := ⟨.hbm, 33, rfl⟩
abbrev main_cst_5 : Ref sig .tc := ⟨.hbm, 34, rfl⟩
abbrev main_v23 : Ref sig .tc := ⟨.hbm, 35, rfl⟩
abbrev main_v24 : Ref sig .tc := ⟨.hbm, 36, rfl⟩
abbrev main_cst_6 : Ref sig .tc := ⟨.hbm, 37, rfl⟩
abbrev main_v25 : Ref sig .tc := ⟨.hbm, 38, rfl⟩
abbrev main_cst_7 : Ref sig .tc := ⟨.hbm, 39, rfl⟩
abbrev main_v26 : Ref sig .tc := ⟨.hbm, 40, rfl⟩
abbrev main_cst_8 : Ref sig .tc := ⟨.hbm, 41, rfl⟩
abbrev main_cst_9 : Ref sig .tc := ⟨.hbm, 42, rfl⟩
abbrev main_v27 : Ref sig .tc := ⟨.hbm, 43, rfl⟩
abbrev main_v28 : Ref sig .tc := ⟨.hbm, 44, rfl⟩
abbrev main_cst_10 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_cst_11 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_12 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_cst_13 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_cst_14 : Ref sig .tc := ⟨.hbm, 69, rfl⟩
abbrev main_v49 : Ref sig .tc := ⟨.hbm, 70, rfl⟩
abbrev main_v50 : Ref sig .tc := ⟨.hbm, 71, rfl⟩
abbrev main_cst_15 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩

abbrev nD : Nat := 1
abbrev τ : Topo := Topo.v7x

variable {F : FTy → Type} [FloatOps F]
-- ==== AdamIn.lean ====
abbrev S2048x704 : Shape := ⟨2, ![2048, 704]⟩
abbrev S256x704 : Shape := ⟨2, ![256, 704]⟩

abbrev nBuf : Space → Nat
  | .hbm => 7
  | .vmem => 14
  | .smem => 0
  | _ => 0

abbrev bufTy : (tb : Table) → Fin (tcTables nBuf tb) → BufTy
  | .hbm, ⟨0, _⟩ => ⟨S2048x704, .f32⟩
  | .hbm, ⟨1, _⟩ => ⟨S2048x704, .f32⟩
  | .hbm, ⟨2, _⟩ => ⟨S2048x704, .f32⟩
  | .hbm, ⟨3, _⟩ => ⟨S2048x704, .f32⟩
  | .hbm, ⟨4, _⟩ => ⟨S2048x704, .f32⟩
  | .hbm, ⟨5, _⟩ => ⟨S2048x704, .f32⟩
  | .hbm, ⟨6, _⟩ => ⟨S2048x704, .f32⟩
  | .local _ .vmem, ⟨0, _⟩ => ⟨S256x704, .f32⟩
  | .local _ .vmem, ⟨1, _⟩ => ⟨S256x704, .f32⟩
  | .local _ .vmem, ⟨2, _⟩ => ⟨S256x704, .f32⟩
  | .local _ .vmem, ⟨3, _⟩ => ⟨S256x704, .f32⟩
  | .local _ .vmem, ⟨4, _⟩ => ⟨S256x704, .f32⟩
  | .local _ .vmem, ⟨5, _⟩ => ⟨S256x704, .f32⟩
  | .local _ .vmem, ⟨6, _⟩ => ⟨S256x704, .f32⟩
  | .local _ .vmem, ⟨7, _⟩ => ⟨S256x704, .f32⟩
  | .local _ .vmem, ⟨8, _⟩ => ⟨S256x704, .f32⟩
  | .local _ .vmem, ⟨9, _⟩ => ⟨S256x704, .f32⟩
  | .local _ .vmem, ⟨10, _⟩ => ⟨S256x704, .f32⟩
  | .local _ .vmem, ⟨11, _⟩ => ⟨S256x704, .f32⟩
  | .local _ .vmem, ⟨12, _⟩ => ⟨S256x704, .f32⟩
  | .local _ .vmem, ⟨13, _⟩ => ⟨S256x704, .f32⟩
  | _, _ => ⟨S2048x704, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x704 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x704 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x704 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x704 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x704 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x704 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x704 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamInRefIdeal.lean ====
abbrev S2048x704 : Shape := ⟨2, ![2048, 704]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2048x704, .f32⟩
  | .hbm, ⟨1, _⟩ => ⟨S2048x704, .f32⟩
  | .hbm, ⟨2, _⟩ => ⟨S2048x704, .f32⟩
  | .hbm, ⟨3, _⟩ => ⟨S2048x704, .f32⟩
  | .hbm, ⟨4, _⟩ => ⟨S_, .f32⟩
  | .hbm, ⟨5, _⟩ => ⟨S2048x704, .f32⟩
  | .hbm, ⟨6, _⟩ => ⟨S2048x704, .f32⟩
  | .hbm, ⟨7, _⟩ => ⟨S_, .f32⟩
  | .hbm, ⟨8, _⟩ => ⟨S2048x704, .f32⟩
  | .hbm, ⟨9, _⟩ => ⟨S2048x704, .f32⟩
  | .hbm, ⟨10, _⟩ => ⟨S2048x704, .f32⟩
  | .hbm, ⟨11, _⟩ => ⟨S_, .f32⟩
  | .hbm, ⟨12, _⟩ => ⟨S2048x704, .f32⟩
  | .hbm, ⟨13, _⟩ => ⟨S2048x704, .f32⟩
  | .hbm, ⟨14, _⟩ => ⟨S2048x704, .f32⟩
  | .hbm, ⟨15, _⟩ => ⟨S_, .f32⟩
  | .hbm, ⟨16, _⟩ => ⟨S2048x704, .f32⟩
  | .hbm, ⟨17, _⟩ => ⟨S2048x704, .f32⟩
  | .hbm, ⟨18, _⟩ => ⟨S2048x704, .f32⟩
  | .hbm, ⟨19, _⟩ => ⟨S_, .f32⟩
  | .hbm, ⟨20, _⟩ => ⟨S2048x704, .f32⟩
  | .hbm, ⟨21, _⟩ => ⟨S2048x704, .f32⟩
  | .hbm, ⟨22, _⟩ => ⟨S_, .f32⟩
  | .hbm, ⟨23, _⟩ => ⟨S2048x704, .f32⟩
  | .hbm, ⟨24, _⟩ => ⟨S2048x704, .f32⟩
  | .hbm, ⟨25, _⟩ => ⟨S2048x704, .f32⟩
  | .hbm, ⟨26, _⟩ => ⟨S_, .f32⟩
  | .hbm, ⟨27, _⟩ => ⟨S2048x704, .f32⟩
  | .hbm, ⟨28, _⟩ => ⟨S2048x704, .f32⟩
  | .hbm, ⟨29, _⟩ => ⟨S2048x704, .f32⟩
  | .hbm, ⟨30, _⟩ => ⟨S_, .f32⟩
  | .hbm, ⟨31, _⟩ => ⟨S2048x704, .f32⟩
  | .hbm, ⟨32, _⟩ => ⟨S2048x704, .f32⟩
  | .hbm, ⟨33, _⟩ => ⟨S2048x704, .f32⟩
  | .hbm, ⟨34, _⟩ => ⟨S_, .f32⟩
  | .hbm, ⟨35, _⟩ => ⟨S2048x704, .f32⟩
  | .hbm, ⟨36, _⟩ => ⟨S2048x704, .f32⟩
  | _, _ => ⟨S2048x704, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamOut.lean ====
abbrev S1280x512 : Shape := ⟨2, ![1280, 512]⟩
abbrev S128x512 : Shape := ⟨2, ![128, 512]⟩

abbrev nBuf : Space → Nat
  | .hbm => 7
  | .vmem => 14
  | .smem => 0
  | _ => 0

abbrev bufTy : (tb : Table) → Fin (tcTables nBuf tb) → BufTy
  | .hbm, ⟨0, _⟩ => ⟨S1280x512, .f32⟩
  | .hbm, ⟨1, _⟩ => ⟨S1280x512, .f32⟩
  | .hbm, ⟨2, _⟩ => ⟨S1280x512, .f32⟩
  | .hbm, ⟨3, _⟩ => ⟨S1280x512, .f32⟩
  | .hbm, ⟨4, _⟩ => ⟨S1280x512, .f32⟩
  | .hbm, ⟨5, _⟩ => ⟨S1280x512, .f32⟩
  | .hbm, ⟨6, _⟩ => ⟨S1280x512, .f32⟩
  | .local _ .vmem, ⟨0, _⟩ => ⟨S128x512, .f32⟩
  | .local _ .vmem, ⟨1, _⟩ => ⟨S128x512, .f32⟩
  | .local _ .vmem, ⟨2, _⟩ => ⟨S128x512, .f32⟩
  | .local _ .vmem, ⟨3, _⟩ => ⟨S128x512, .f32⟩
  | .local _ .vmem, ⟨4, _⟩ => ⟨S128x512, .f32⟩
  | .local _ .vmem, ⟨5, _⟩ => ⟨S128x512, .f32⟩
  | .local _ .vmem, ⟨6, _⟩ => ⟨S128x512, .f32⟩
  | .local _ .vmem, ⟨7, _⟩ => ⟨S128x512, .f32⟩
  | .local _ .vmem, ⟨8, _⟩ => ⟨S128x512, .f32⟩
  | .local _ .vmem, ⟨9, _⟩ => ⟨S128x512, .f32⟩
  | .local _ .vmem, ⟨10, _⟩ => ⟨S128x512, .f32⟩
  | .local _ .vmem, ⟨11, _⟩ => ⟨S128x512, .f32⟩
  | .local _ .vmem, ⟨12, _⟩ => ⟨S128x512, .f32⟩
  | .local _ .vmem, ⟨13, _⟩ => ⟨S128x512, .f32⟩
  | _, _ => ⟨S1280x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamOutRefIdeal.lean ====
abbrev S1280x512 : Shape := ⟨2, ![1280, 512]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1280x512, .f32⟩
  | .hbm, ⟨1, _⟩ => ⟨S1280x512, .f32⟩
  | .hbm, ⟨2, _⟩ => ⟨S1280x512, .f32⟩
  | .hbm, ⟨3, _⟩ => ⟨S1280x512, .f32⟩
  | .hbm, ⟨4, _⟩ => ⟨S_, .f32⟩
  | .hbm, ⟨5, _⟩ => ⟨S1280x512, .f32⟩
  | .hbm, ⟨6, _⟩ => ⟨S1280x512, .f32⟩
  | .hbm, ⟨7, _⟩ => ⟨S_, .f32⟩
  | .hbm, ⟨8, _⟩ => ⟨S1280x512, .f32⟩
  | .hbm, ⟨9, _⟩ => ⟨S1280x512, .f32⟩
  | .hbm, ⟨10, _⟩ => ⟨S1280x512, .f32⟩
  | .hbm, ⟨11, _⟩ => ⟨S_, .f32⟩
  | .hbm, ⟨12, _⟩ => ⟨S1280x512, .f32⟩
  | .hbm, ⟨13, _⟩ => ⟨S1280x512, .f32⟩
  | .hbm, ⟨14, _⟩ => ⟨S1280x512, .f32⟩
  | .hbm, ⟨15, _⟩ => ⟨S_, .f32⟩
  | .hbm, ⟨16, _⟩ => ⟨S1280x512, .f32⟩
  | .hbm, ⟨17, _⟩ => ⟨S1280x512, .f32⟩
  | .hbm, ⟨18, _⟩ => ⟨S1280x512, .f32⟩
  | .hbm, ⟨19, _⟩ => ⟨S_, .f32⟩
  | .hbm, ⟨20, _⟩ => ⟨S1280x512, .f32⟩
  | .hbm, ⟨21, _⟩ => ⟨S1280x512, .f32⟩
  | .hbm, ⟨22, _⟩ => ⟨S_, .f32⟩
  | .hbm, ⟨23, _⟩ => ⟨S1280x512, .f32⟩
  | .hbm, ⟨24, _⟩ => ⟨S1280x512, .f32⟩
  | .hbm, ⟨25, _⟩ => ⟨S1280x512, .f32⟩
  | .hbm, ⟨26, _⟩ => ⟨S_, .f32⟩
  | .hbm, ⟨27, _⟩ => ⟨S1280x512, .f32⟩
  | .hbm, ⟨28, _⟩ => ⟨S1280x512, .f32⟩
  | .hbm, ⟨29, _⟩ => ⟨S1280x512, .f32⟩
  | .hbm, ⟨30, _⟩ => ⟨S_, .f32⟩
  | .hbm, ⟨31, _⟩ => ⟨S1280x512, .f32⟩
  | .hbm, ⟨32, _⟩ => ⟨S1280x512, .f32⟩
  | .hbm, ⟨33, _⟩ => ⟨S1280x512, .f32⟩
  | .hbm, ⟨34, _⟩ => ⟨S_, .f32⟩
  | .hbm, ⟨35, _⟩ => ⟨S1280x512, .f32⟩
  | .hbm, ⟨36, _⟩ => ⟨S1280x512, .f32⟩
  | _, _ => ⟨S1280x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamMlpIn.lean ====
abbrev S2048x2048 : Shape := ⟨2, ![2048, 2048]⟩
abbrev S256x2048 : Shape := ⟨2, ![256, 2048]⟩

abbrev nBuf : Space → Nat
  | .hbm => 7
  | .vmem => 14
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S2048x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .f32⟩
  | .local _ .vmem, ⟨11, _⟩ => ⟨S256x2048, .f32⟩
  | .local _ .vmem, ⟨12, _⟩ => ⟨S256x2048, .f32⟩
  | .local _ .vmem, ⟨13, _⟩ => ⟨S256x2048, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamMlpInRefIdeal.lean ====
abbrev S2048x2048 : Shape := ⟨2, ![2048, 2048]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S2048x2048, .f32⟩
  | .hbm, ⟨4, _⟩ => ⟨S_, .f32⟩
  | .hbm, ⟨5, _⟩ => ⟨S2048x2048, .f32⟩
  | .hbm, ⟨6, _⟩ => ⟨S2048x2048, .f32⟩
  | .hbm, ⟨7, _⟩ => ⟨S_, .f32⟩
  | .hbm, ⟨8, _⟩ => ⟨S2048x2048, .f32⟩
  | .hbm, ⟨9, _⟩ => ⟨S2048x2048, .f32⟩
  | .hbm, ⟨10, _⟩ => ⟨S2048x2048, .f32⟩
  | .hbm, ⟨11, _⟩ => ⟨S_, .f32⟩
  | .hbm, ⟨12, _⟩ => ⟨S2048x2048, .f32⟩
  | .hbm, ⟨13, _⟩ => ⟨S2048x2048, .f32⟩
  | .hbm, ⟨14, _⟩ => ⟨S2048x2048, .f32⟩
  | .hbm, ⟨15, _⟩ => ⟨S_, .f32⟩
  | .hbm, ⟨16, _⟩ => ⟨S2048x2048, .f32⟩
  | .hbm, ⟨17, _⟩ => ⟨S2048x2048, .f32⟩
  | .hbm, ⟨18, _⟩ => ⟨S2048x2048, .f32⟩
  | .hbm, ⟨19, _⟩ => ⟨S_, .f32⟩
  | .hbm, ⟨20, _⟩ => ⟨S2048x2048, .f32⟩
  | .hbm, ⟨21, _⟩ => ⟨S2048x2048, .f32⟩
  | .hbm, ⟨22, _⟩ => ⟨S_, .f32⟩
  | .hbm, ⟨23, _⟩ => ⟨S2048x2048, .f32⟩
  | .hbm, ⟨24, _⟩ => ⟨S2048x2048, .f32⟩
  | .hbm, ⟨25, _⟩ => ⟨S2048x2048, .f32⟩
  | .hbm, ⟨26, _⟩ => ⟨S_, .f32⟩
  | .hbm, ⟨27, _⟩ => ⟨S2048x2048, .f32⟩
  | .hbm, ⟨28, _⟩ => ⟨S2048x2048, .f32⟩
  | .hbm, ⟨29, _⟩ => ⟨S2048x2048, .f32⟩
  | .hbm, ⟨30, _⟩ => ⟨S_, .f32⟩
  | .hbm, ⟨31, _⟩ => ⟨S2048x2048, .f32⟩
  | .hbm, ⟨32, _⟩ => ⟨S2048x2048, .f32⟩
  | .hbm, ⟨33, _⟩ => ⟨S2048x2048, .f32⟩
  | .hbm, ⟨34, _⟩ => ⟨S_, .f32⟩
  | .hbm, ⟨35, _⟩ => ⟨S2048x2048, .f32⟩
  | .hbm, ⟨36, _⟩ => ⟨S2048x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamMlpOut.lean ====
abbrev S2048x2048 : Shape := ⟨2, ![2048, 2048]⟩
abbrev S256x2048 : Shape := ⟨2, ![256, 2048]⟩

abbrev nBuf : Space → Nat
  | .hbm => 7
  | .vmem => 14
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S2048x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .f32⟩
  | .local _ .vmem, ⟨11, _⟩ => ⟨S256x2048, .f32⟩
  | .local _ .vmem, ⟨12, _⟩ => ⟨S256x2048, .f32⟩
  | .local _ .vmem, ⟨13, _⟩ => ⟨S256x2048, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamMlpOutRefIdeal.lean ====
abbrev S2048x2048 : Shape := ⟨2, ![2048, 2048]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S2048x2048, .f32⟩
  | .hbm, ⟨4, _⟩ => ⟨S_, .f32⟩
  | .hbm, ⟨5, _⟩ => ⟨S2048x2048, .f32⟩
  | .hbm, ⟨6, _⟩ => ⟨S2048x2048, .f32⟩
  | .hbm, ⟨7, _⟩ => ⟨S_, .f32⟩
  | .hbm, ⟨8, _⟩ => ⟨S2048x2048, .f32⟩
  | .hbm, ⟨9, _⟩ => ⟨S2048x2048, .f32⟩
  | .hbm, ⟨10, _⟩ => ⟨S2048x2048, .f32⟩
  | .hbm, ⟨11, _⟩ => ⟨S_, .f32⟩
  | .hbm, ⟨12, _⟩ => ⟨S2048x2048, .f32⟩
  | .hbm, ⟨13, _⟩ => ⟨S2048x2048, .f32⟩
  | .hbm, ⟨14, _⟩ => ⟨S2048x2048, .f32⟩
  | .hbm, ⟨15, _⟩ => ⟨S_, .f32⟩
  | .hbm, ⟨16, _⟩ => ⟨S2048x2048, .f32⟩
  | .hbm, ⟨17, _⟩ => ⟨S2048x2048, .f32⟩
  | .hbm, ⟨18, _⟩ => ⟨S2048x2048, .f32⟩
  | .hbm, ⟨19, _⟩ => ⟨S_, .f32⟩
  | .hbm, ⟨20, _⟩ => ⟨S2048x2048, .f32⟩
  | .hbm, ⟨21, _⟩ => ⟨S2048x2048, .f32⟩
  | .hbm, ⟨22, _⟩ => ⟨S_, .f32⟩
  | .hbm, ⟨23, _⟩ => ⟨S2048x2048, .f32⟩
  | .hbm, ⟨24, _⟩ => ⟨S2048x2048, .f32⟩
  | .hbm, ⟨25, _⟩ => ⟨S2048x2048, .f32⟩
  | .hbm, ⟨26, _⟩ => ⟨S_, .f32⟩
  | .hbm, ⟨27, _⟩ => ⟨S2048x2048, .f32⟩
  | .hbm, ⟨28, _⟩ => ⟨S2048x2048, .f32⟩
  | .hbm, ⟨29, _⟩ => ⟨S2048x2048, .f32⟩
  | .hbm, ⟨30, _⟩ => ⟨S_, .f32⟩
  | .hbm, ⟨31, _⟩ => ⟨S2048x2048, .f32⟩
  | .hbm, ⟨32, _⟩ => ⟨S2048x2048, .f32⟩
  | .hbm, ⟨33, _⟩ => ⟨S2048x2048, .f32⟩
  | .hbm, ⟨34, _⟩ => ⟨S_, .f32⟩
  | .hbm, ⟨35, _⟩ => ⟨S2048x2048, .f32⟩
  | .hbm, ⟨36, _⟩ => ⟨S2048x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamGlu.lean ====
abbrev S224x896 : Shape := ⟨2, ![224, 896]⟩
abbrev S112x896 : Shape := ⟨2, ![112, 896]⟩

abbrev nBuf : Space → Nat
  | .hbm => 7
  | .vmem => 14
  | .smem => 0
  | _ => 0

abbrev bufTy : (tb : Table) → Fin (tcTables nBuf tb) → BufTy
  | .hbm, ⟨0, _⟩ => ⟨S224x896, .f32⟩
  | .hbm, ⟨1, _⟩ => ⟨S224x896, .f32⟩
  | .hbm, ⟨2, _⟩ => ⟨S224x896, .f32⟩
  | .hbm, ⟨3, _⟩ => ⟨S224x896, .f32⟩
  | .hbm, ⟨4, _⟩ => ⟨S224x896, .f32⟩
  | .hbm, ⟨5, _⟩ => ⟨S224x896, .f32⟩
  | .hbm, ⟨6, _⟩ => ⟨S224x896, .f32⟩
  | .local _ .vmem, ⟨0, _⟩ => ⟨S112x896, .f32⟩
  | .local _ .vmem, ⟨1, _⟩ => ⟨S112x896, .f32⟩
  | .local _ .vmem, ⟨2, _⟩ => ⟨S112x896, .f32⟩
  | .local _ .vmem, ⟨3, _⟩ => ⟨S112x896, .f32⟩
  | .local _ .vmem, ⟨4, _⟩ => ⟨S112x896, .f32⟩
  | .local _ .vmem, ⟨5, _⟩ => ⟨S112x896, .f32⟩
  | .local _ .vmem, ⟨6, _⟩ => ⟨S112x896, .f32⟩
  | .local _ .vmem, ⟨7, _⟩ => ⟨S112x896, .f32⟩
  | .local _ .vmem, ⟨8, _⟩ => ⟨S112x896, .f32⟩
  | .local _ .vmem, ⟨9, _⟩ => ⟨S112x896, .f32⟩
  | .local _ .vmem, ⟨10, _⟩ => ⟨S112x896, .f32⟩
  | .local _ .vmem, ⟨11, _⟩ => ⟨S112x896, .f32⟩
  | .local _ .vmem, ⟨12, _⟩ => ⟨S112x896, .f32⟩
  | .local _ .vmem, ⟨13, _⟩ => ⟨S112x896, .f32⟩
  | _, _ => ⟨S224x896, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S112x896 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S112x896 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S112x896 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S112x896 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S112x896 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S112x896 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S112x896 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamGluRefIdeal.lean ====
abbrev S224x896 : Shape := ⟨2, ![224, 896]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S224x896, .f32⟩
  | .hbm, ⟨1, _⟩ => ⟨S224x896, .f32⟩
  | .hbm, ⟨2, _⟩ => ⟨S224x896, .f32⟩
  | .hbm, ⟨3, _⟩ => ⟨S224x896, .f32⟩
  | .hbm, ⟨4, _⟩ => ⟨S_, .f32⟩
  | .hbm, ⟨5, _⟩ => ⟨S224x896, .f32⟩
  | .hbm, ⟨6, _⟩ => ⟨S224x896, .f32⟩
  | .hbm, ⟨7, _⟩ => ⟨S_, .f32⟩
  | .hbm, ⟨8, _⟩ => ⟨S224x896, .f32⟩
  | .hbm, ⟨9, _⟩ => ⟨S224x896, .f32⟩
  | .hbm, ⟨10, _⟩ => ⟨S224x896, .f32⟩
  | .hbm, ⟨11, _⟩ => ⟨S_, .f32⟩
  | .hbm, ⟨12, _⟩ => ⟨S224x896, .f32⟩
  | .hbm, ⟨13, _⟩ => ⟨S224x896, .f32⟩
  | .hbm, ⟨14, _⟩ => ⟨S224x896, .f32⟩
  | .hbm, ⟨15, _⟩ => ⟨S_, .f32⟩
  | .hbm, ⟨16, _⟩ => ⟨S224x896, .f32⟩
  | .hbm, ⟨17, _⟩ => ⟨S224x896, .f32⟩
  | .hbm, ⟨18, _⟩ => ⟨S224x896, .f32⟩
  | .hbm, ⟨19, _⟩ => ⟨S_, .f32⟩
  | .hbm, ⟨20, _⟩ => ⟨S224x896, .f32⟩
  | .hbm, ⟨21, _⟩ => ⟨S224x896, .f32⟩
  | .hbm, ⟨22, _⟩ => ⟨S_, .f32⟩
  | .hbm, ⟨23, _⟩ => ⟨S224x896, .f32⟩
  | .hbm, ⟨24, _⟩ => ⟨S224x896, .f32⟩
  | .hbm, ⟨25, _⟩ => ⟨S224x896, .f32⟩
  | .hbm, ⟨26, _⟩ => ⟨S_, .f32⟩
  | .hbm, ⟨27, _⟩ => ⟨S224x896, .f32⟩
  | .hbm, ⟨28, _⟩ => ⟨S224x896, .f32⟩
  | .hbm, ⟨29, _⟩ => ⟨S224x896, .f32⟩
  | .hbm, ⟨30, _⟩ => ⟨S_, .f32⟩
  | .hbm, ⟨31, _⟩ => ⟨S224x896, .f32⟩
  | .hbm, ⟨32, _⟩ => ⟨S224x896, .f32⟩
  | .hbm, ⟨33, _⟩ => ⟨S224x896, .f32⟩
  | .hbm, ⟨34, _⟩ => ⟨S_, .f32⟩
  | .hbm, ⟨35, _⟩ => ⟨S224x896, .f32⟩
  | .hbm, ⟨36, _⟩ => ⟨S224x896, .f32⟩
  | _, _ => ⟨S224x896, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamSmall.lean ====
abbrev S256x1024 : Shape := ⟨2, ![256, 1024]⟩

abbrev nBuf : Space → Nat
  | .hbm => 7
  | .vmem => 7
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S256x1024, .f32⟩
  | .hbm, ⟨5, _⟩ => ⟨S256x1024, .f32⟩
  | .hbm, ⟨6, _⟩ => ⟨S256x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamSmallRefIdeal.lean ====
abbrev S256x1024 : Shape := ⟨2, ![256, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S_, .f32⟩
  | .hbm, ⟨5, _⟩ => ⟨S256x1024, .f32⟩
  | .hbm, ⟨6, _⟩ => ⟨S256x1024, .f32⟩
  | .hbm, ⟨7, _⟩ => ⟨S_, .f32⟩
  | .hbm, ⟨8, _⟩ => ⟨S256x1024, .f32⟩
  | .hbm, ⟨9, _⟩ => ⟨S256x1024, .f32⟩
  | .hbm, ⟨10, _⟩ => ⟨S256x1024, .f32⟩
  | .hbm, ⟨11, _⟩ => ⟨S_, .f32⟩
  | .hbm, ⟨12, _⟩ => ⟨S256x1024, .f32⟩
  | .hbm, ⟨13, _⟩ => ⟨S256x1024, .f32⟩
  | .hbm, ⟨14, _⟩ => ⟨S256x1024, .f32⟩
  | .hbm, ⟨15, _⟩ => ⟨S_, .f32⟩
  | .hbm, ⟨16, _⟩ => ⟨S256x1024, .f32⟩
  | .hbm, ⟨17, _⟩ => ⟨S256x1024, .f32⟩
  | .hbm, ⟨18, _⟩ => ⟨S256x1024, .f32⟩
  | .hbm, ⟨19, _⟩ => ⟨S_, .f32⟩
  | .hbm, ⟨20, _⟩ => ⟨S256x1024, .f32⟩
  | .hbm, ⟨21, _⟩ => ⟨S256x1024, .f32⟩
  | .hbm, ⟨22, _⟩ => ⟨S_, .f32⟩
  | .hbm, ⟨23, _⟩ => ⟨S256x1024, .f32⟩
  | .hbm, ⟨24, _⟩ => ⟨S256x1024, .f32⟩
  | .hbm, ⟨25, _⟩ => ⟨S256x1024, .f32⟩
  | .hbm, ⟨26, _⟩ => ⟨S_, .f32⟩
  | .hbm, ⟨27, _⟩ => ⟨S256x1024, .f32⟩
  | .hbm, ⟨28, _⟩ => ⟨S256x1024, .f32⟩
  | .hbm, ⟨29, _⟩ => ⟨S256x1024, .f32⟩
  | .hbm, ⟨30, _⟩ => ⟨S_, .f32⟩
  | .hbm, ⟨31, _⟩ => ⟨S256x1024, .f32⟩
  | .hbm, ⟨32, _⟩ => ⟨S256x1024, .f32⟩
  | .hbm, ⟨33, _⟩ => ⟨S256x1024, .f32⟩
  | .hbm, ⟨34, _⟩ => ⟨S_, .f32⟩
  | .hbm, ⟨35, _⟩ => ⟨S256x1024, .f32⟩
  | .hbm, ⟨36, _⟩ => ⟨S256x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdaBwd.lean ====
abbrev S16x2048 : Shape := ⟨2, ![16, 2048]⟩
abbrev S16x3072 : Shape := ⟨2, ![16, 3072]⟩
abbrev S2048x3072 : Shape := ⟨2, ![2048, 3072]⟩
abbrev S16x512 : Shape := ⟨2, ![16, 512]⟩
abbrev S512x512 : Shape := ⟨2, ![512, 512]⟩

abbrev nBuf : Space → Nat
  | .hbm => 9
  | .vmem => 18
  | .smem => 0
  | _ => 0

abbrev bufTy : (tb : Table) → Fin (tcTables nBuf tb) → BufTy
  | .hbm, ⟨0, _⟩ => ⟨S16x2048, .f32⟩
  | .hbm, ⟨1, _⟩ => ⟨S16x3072, .f32⟩
  | .hbm, ⟨2, _⟩ => ⟨S2048x3072, .f32⟩
  | .hbm, ⟨3, _⟩ => ⟨S2048x3072, .f32⟩
  | .hbm, ⟨4, _⟩ => ⟨S2048x3072, .f32⟩
  | .hbm, ⟨5, _⟩ => ⟨S2048x3072, .f32⟩
  | .hbm, ⟨6, _⟩ => ⟨S2048x3072, .f32⟩
  | .hbm, ⟨7, _⟩ => ⟨S2048x3072, .f32⟩
  | .hbm, ⟨8, _⟩ => ⟨S2048x3072, .f32⟩
  | .local _ .vmem, ⟨0, _⟩ => ⟨S16x512, .f32⟩
  | .local _ .vmem, ⟨1, _⟩ => ⟨S16x512, .f32⟩
  | .local _ .vmem, ⟨2, _⟩ => ⟨S16x512, .f32⟩
  | .local _ .vmem, ⟨3, _⟩ => ⟨S16x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S512x512, .f32⟩
  | .local _ .vmem, ⟨13, _⟩ => ⟨S512x512, .f32⟩
  | .local _ .vmem, ⟨14, _⟩ => ⟨S512x512, .f32⟩
  | .local _ .vmem, ⟨15, _⟩ => ⟨S512x512, .f32⟩
  | .local _ .vmem, ⟨16, _⟩ => ⟨S512x512, .f32⟩
  | .local _ .vmem, ⟨17, _⟩ => ⟨S512x512, .f32⟩
  | _, _ => ⟨S16x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![4, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S16x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S16x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== AdaBwdRefIdeal.lean ====
abbrev S16x2048 : Shape := ⟨2, ![16, 2048]⟩
abbrev S16x3072 : Shape := ⟨2, ![16, 3072]⟩
abbrev S2048x3072 : Shape := ⟨2, ![2048, 3072]⟩
abbrev S_ : Shape := ⟨0, ![]⟩
abbrev S3072x2048 : Shape := ⟨2, ![3072, 2048]⟩

abbrev nBuf : Space → Nat
  | .hbm => 50
  | .vmem => 0
  | .smem => 0
  | _ => 0

abbrev bufTy : (tb : Table) → Fin (tcTables nBuf tb) → BufTy
  | .hbm, ⟨0, _⟩ => ⟨S16x2048, .f32⟩
  | .hbm, ⟨1, _⟩ => ⟨S16x3072, .f32⟩
  | .hbm, ⟨2, _⟩ => ⟨S2048x3072, .f32⟩
  | .hbm, ⟨3, _⟩ => ⟨S2048x3072, .f32⟩
  | .hbm, ⟨4, _⟩ => ⟨S2048x3072, .f32⟩
  | .hbm, ⟨5, _⟩ => ⟨S16x2048, .f32⟩
  | .hbm, ⟨6, _⟩ => ⟨S16x2048, .f32⟩
  | .hbm, ⟨7, _⟩ => ⟨S_, .f32⟩
  | .hbm, ⟨8, _⟩ => ⟨S16x2048, .f32⟩
  | .hbm, ⟨9, _⟩ => ⟨S16x2048, .f32⟩
  | .hbm, ⟨10, _⟩ => ⟨S_, .f32⟩
  | .hbm, ⟨11, _⟩ => ⟨S16x2048, .f32⟩
  | .hbm, ⟨12, _⟩ => ⟨S16x2048, .f32⟩
  | .hbm, ⟨13, _⟩ => ⟨S16x2048, .f32⟩
  | .hbm, ⟨14, _⟩ => ⟨S16x3072, .f32⟩
  | .hbm, ⟨15, _⟩ => ⟨S3072x2048, .f32⟩
  | .hbm, ⟨16, _⟩ => ⟨S2048x3072, .f32⟩
  | .hbm, ⟨17, _⟩ => ⟨S_, .f32⟩
  | .hbm, ⟨18, _⟩ => ⟨S2048x3072, .f32⟩
  | .hbm, ⟨19, _⟩ => ⟨S2048x3072, .f32⟩
  | .hbm, ⟨20, _⟩ => ⟨S_, .f32⟩
  | .hbm, ⟨21, _⟩ => ⟨S2048x3072, .f32⟩
  | .hbm, ⟨22, _⟩ => ⟨S2048x3072, .f32⟩
  | .hbm, ⟨23, _⟩ => ⟨S2048x3072, .f32⟩
  | .hbm, ⟨24, _⟩ => ⟨S_, .f32⟩
  | .hbm, ⟨25, _⟩ => ⟨S2048x3072, .f32⟩
  | .hbm, ⟨26, _⟩ => ⟨S2048x3072, .f32⟩
  | .hbm, ⟨27, _⟩ => ⟨S2048x3072, .f32⟩
  | .hbm, ⟨28, _⟩ => ⟨S_, .f32⟩
  | .hbm, ⟨29, _⟩ => ⟨S2048x3072, .f32⟩
  | .hbm, ⟨30, _⟩ => ⟨S2048x3072, .f32⟩
  | .hbm, ⟨31, _⟩ => ⟨S2048x3072, .f32⟩
  | .hbm, ⟨32, _⟩ => ⟨S_, .f32⟩
  | .hbm, ⟨33, _⟩ => ⟨S2048x3072, .f32⟩
  | .hbm, ⟨34, _⟩ => ⟨S2048x3072, .f32⟩
  | .hbm, ⟨35, _⟩ => ⟨S_, .f32⟩
  | .hbm, ⟨36, _⟩ => ⟨S2048x3072, .f32⟩
  | .hbm, ⟨37, _⟩ => ⟨S2048x3072, .f32⟩
  | .hbm, ⟨38, _⟩ => ⟨S2048x3072, .f32⟩
  | .hbm, ⟨39, _⟩ => ⟨S_, .f32⟩
  | .hbm, ⟨40, _⟩ => ⟨S2048x3072, .f32⟩
  | .hbm, ⟨41, _⟩ => ⟨S2048x3072, .f32⟩
  | .hbm, ⟨42, _⟩ => ⟨S2048x3072, .f32⟩
  | .hbm, ⟨43, _⟩ => ⟨S_, .f32⟩
  | .hbm, ⟨44, _⟩ => ⟨S2048x3072, .f32⟩
  | .hbm, ⟨45, _⟩ => ⟨S2048x3072, .f32⟩
  | .hbm, ⟨46, _⟩ => ⟨S2048x3072, .f32⟩
  | .hbm, ⟨47, _⟩ => ⟨S_, .f32⟩
  | .hbm, ⟨48, _⟩ => ⟨S2048x3072, .f32⟩
  | .hbm, ⟨49, _⟩ => ⟨S2048x3072, .f32⟩
  | _, _ => ⟨S16x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_call0_v5 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst : Ref sig .tc := ⟨.hbm, 17, rfl⟩
abbrev main_v4 : Ref sig .tc := ⟨.hbm, 18, rfl⟩
abbrev main_v5 : Ref sig .tc := ⟨.hbm, 19, rfl⟩
abbrev main_cst_0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_cst_1 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_cst_2 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_cst_3 : Ref sig .tc := ⟨.hbm, 32, rfl⟩
abbrev main_v15 : Ref sig .tc := ⟨.hbm, 33, rfl⟩
abbrev main_v16 : Ref sig .tc := ⟨.hbm, 34, rfl⟩
abbrev main_cst_4 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_cst_5 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_cst_6 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_cst_7 : Ref sig .tc := ⟨.hbm, 47, rfl⟩
abbrev main_v26 : Ref sig .tc := ⟨.hbm, 48, rfl⟩
abbrev main_v27 : Ref sig .tc := ⟨.hbm, 49, rfl⟩

abbrev nD : Nat := 1
abbrev τ : Topo := Topo.v7x

variable {F : FTy → Type} [FloatOps F]
-- ==== SmallSum.lean ====
abbrev S2048x1024 : Shape := ⟨2, ![2048, 1024]⟩
abbrev S256x1024 : Shape := ⟨2, ![256, 1024]⟩

abbrev nBuf : Space → Nat
  | .hbm => 2
  | .vmem => 2
  | .smem => 0
  | _ => 0

abbrev bufTy : (tb : Table) → Fin (tcTables nBuf tb) → BufTy
  | .hbm, ⟨0, _⟩ => ⟨S2048x1024, .f32⟩
  | .hbm, ⟨1, _⟩ => ⟨S256x1024, .f32⟩
  | .local _ .vmem, ⟨0, _⟩ => ⟨S2048x1024, .f32⟩
  | .local _ .vmem, ⟨1, _⟩ => ⟨S256x1024, .f32⟩
  | _, _ => ⟨S2048x1024, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S2048x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== SmallSumRefIdeal.lean ====
abbrev S2048x1024 : Shape := ⟨2, ![2048, 1024]⟩
abbrev S8x256x1024 : Shape := ⟨3, ![8, 256, 1024]⟩
abbrev S_ : Shape := ⟨0, ![]⟩
abbrev S256x1024 : Shape := ⟨2, ![256, 1024]⟩

abbrev nBuf : Space → Nat
  | .hbm => 4
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S8x256x1024, .f32⟩
  | .hbm, ⟨2, _⟩ => ⟨S_, .f32⟩
  | .hbm, ⟨3, _⟩ => ⟨S256x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Proof.MlpPoint.lean ====
/- What one grid point of the MLP gradient kernel leaves in its three result blocks. The grid is 16 tiles of 512 hidden
   features by 4 tiles of 1024 rows, the rows innermost. The pre-activation's gradient is written anew at every point;
   the two weight gradients are written at a feature tile's first row tile and added to at the other three. -/
module

public import proofs.«01_k».proof.Proof.Gen.MlpBwdIdeal.Value
public import Idealize.ShloMosaic.Lib.Pointwise
public import Idealize.ShloMosaic.Lib.Pipeline.ValueKit

@[expose] public section

set_option maxRecDepth 16384

noncomputable section

namespace Cert.MlpProof

open Idealize.ShloMosaic Cert.MlpBwdIdeal Cert.MlpBwdIdeal.Gen

variable (m : (ℓ : Loc nD τ sig) → Buf (Elt Ideal) ℓ) (c : Dev nD)

/-- The pre-activation's gradient at every point: the payload of the point's input blocks. -/
theorem da_point (t : Fin cfg0.N) :
    (outsAt0 m c t.val t.isLt).1 = k0_pay3 (iblk m c 0 t) (iblk m c 2 t) (iblk m c 3 t) := by
  by_cases h : t.val % 4 = 0
  · rw [outsAt0_A m c t h (by omega)]; frame_out
  · rw [outsAt0_B m c t h (by omega)]; frame_out

/-- The second weight's gradient at a feature tile's first row tile. -/
theorem dw2_first (t : Fin cfg0.N) (h : t.val % 4 = 0) :
    (outsAt0 m c t.val t.isLt).2.1 = k0_pay4 (iblk m c 0 t) (iblk m c 2 t) := by
  rw [outsAt0_A m c t h (by omega)]; frame_out

/-- The second weight's gradient at a later row tile, over what the tile before left. -/
theorem dw2_next (t : Fin cfg0.N) (h : ¬t.val % 4 = 0) :
    (outsAt0 m c t.val t.isLt).2.1 = k0_pay7 (iblk m c 0 t) (iblk m c 2 t)
      (outsAt0 m c (t.val - 1) (Nat.lt_of_le_of_lt (Nat.sub_le _ _) t.isLt)).2.1 := by
  rw [outsAt0_B m c t h (by omega)]; frame_out

/-- The first weight's gradient at a feature tile's first row tile. -/
theorem dw1_first (t : Fin cfg0.N) (h : t.val % 4 = 0) :
    (outsAt0 m c t.val t.isLt).2.2 = k0_pay6 (iblk m c 0 t) (iblk m c 2 t) (iblk m c 3 t) (iblk m c 1 t) := by
  rw [outsAt0_A m c t h (by omega)]; frame_out

/-- The first weight's gradient at a later row tile, over what the tile before left. -/
theorem dw1_next (t : Fin cfg0.N) (h : ¬t.val % 4 = 0) :
    (outsAt0 m c t.val t.isLt).2.2 = k0_pay8 (iblk m c 0 t) (iblk m c 2 t) (iblk m c 3 t) (iblk m c 1 t)
      (outsAt0 m c (t.val - 1) (Nat.lt_of_le_of_lt (Nat.sub_le _ _) t.isLt)).2.2 := by
  rw [outsAt0_B m c t h (by omega)]; frame_out

end Cert.MlpProof

end
-- ==== Proof.MlpReads.lean ====
/- The input blocks of the MLP gradient kernel, read at an index as entries of the arrays it was given. -/
module

public import proofs.«01_k».proof.Proof.MlpPoint

@[expose] public section

set_option maxRecDepth 16384

noncomputable section

namespace Cert.MlpProof

open Idealize.ShloMosaic Cert.MlpBwdIdeal Cert.MlpBwdIdeal.Gen

/-- Row tile `t mod 4` and feature tile `t / 4` are where each window of grid point `t` lies. -/
theorem idx : ∀ t : Fin cfg0.N, win0_0.index t = ![t.val % 4, 0] ∧ win0_1.index t = ![t.val % 4, 0]
    ∧ win0_2.index t = ![t.val % 4, t.val / 4] ∧ win0_3.index t = ![t.val / 4, 0]
    ∧ win0_4.index t = ![t.val % 4, t.val / 4] ∧ win0_5.index t = ![t.val / 4, 0]
    ∧ win0_6.index t = ![t.val / 4 / 4, 0, t.val / 4 % 4] := by decide +kernel

theorem points (t : Fin cfg0.N) : t.val < 64 := t.isLt

variable (m : (ℓ : Loc nD τ sig) → Buf (Elt Ideal) ℓ) (c : Dev nD)

/-- The layer's input. -/
abbrev inp : FVec Ideal S4096x2048 .f32 := m ((c.tc : Thread nD τ).loc main_arg0)
/-- The first weight. -/
abbrev wIn : FVec Ideal S2048x8192 .f32 := m ((c.tc : Thread nD τ).loc main_arg1)
/-- The second weight. -/
abbrev wOut : FVec Ideal S8192x2048 .f32 := m ((c.tc : Thread nD τ).loc main_arg2)
/-- The gradient that arrives at the layer's output. -/
abbrev dOut : FVec Ideal S4096x2048 .f32 := m ((c.tc : Thread nD τ).loc main_arg3)

/-- The pre-activation at row `r` and hidden feature `f`. -/
def pre (r : Fin 4096) (f : Fin 8192) : EReal := ∑ k : Fin 2048, inp m c (ix2 r k) * wIn m c (ix2 k f)

variable (t : Fin cfg0.N)

/-- Row `r` of grid point `t`'s row tile. -/
def row (r : Fin 1024) : Fin 4096 := ⟨t.val % 4 * 1024 + r.val, by omega⟩
/-- Hidden feature `f` of grid point `t`'s feature tile. -/
def feat (f : Fin 512) : Fin 8192 := ⟨t.val / 4 * 512 + f.val, by have := points t; omega⟩

theorem dOut_block (r : Fin 1024) (d : Fin 2048) : iblk m c 0 t (ix2 r d) = dOut m c (ix2 (row t r) d) := by
  blk_ext [iblk, V, row, (idx t).1]

theorem inp_block (r : Fin 1024) (d : Fin 2048) : iblk m c 1 t (ix2 r d) = inp m c (ix2 (row t r) d) := by
  blk_ext [iblk, V, row, (idx t).2.1]

/-- The pre-activation the host computed, at an index. -/
theorem pre_entry (r : Fin 4096) (f : Fin 8192) : (V m c main_v1 : FVec Ideal S4096x8192 .bf16) (ix2 r f) = pre m c r f := by
  unfold V
  entry_read
  pointwise
  rfl

theorem pre_place (r : Fin 1024) (f : Fin 512) : ((cfg0.win 2).blk t).view.emb (ix2 r f) = ix2 (row t r) (feat t f) := by
  blk_ext [row, feat, (idx t).2.2.1]

theorem pre_block (r : Fin 1024) (f : Fin 512) : iblk m c 2 t (ix2 r f) = pre m c (row t r) (feat t f) := by
  exact (congrArg (V m c main_v1 : FVec Ideal S4096x8192 .bf16) (pre_place t r f)).trans (pre_entry m c _ _)

theorem wOut_block (f : Fin 512) (d : Fin 2048) : iblk m c 3 t (ix2 f d) = wOut m c (ix2 (feat t f) d) := by
  blk_ext [iblk, V, feat, (idx t).2.2.2.1]

end Cert.MlpProof

end
-- ==== Proof.MlpBlock.lean ====
/- The three result blocks of the MLP gradient kernel at an index, as sums over entries of the arrays it was given; the
   two weight gradients at the last row tile of a feature tile, where they are written back. -/
module

public import proofs.«01_k».proof.Proof.MlpReads

@[expose] public section

set_option maxRecDepth 16384

noncomputable section

namespace Cert.MlpProof

open Idealize.ShloMosaic Cert.MlpBwdIdeal Cert.MlpBwdIdeal.Gen

variable (m : (ℓ : Loc nD τ sig) → Buf (Elt Ideal) ℓ) (c : Dev nD)

/-- The gradient at the pre-activation of row `r` and hidden feature `f`: the gradient at the squared activation, times
    twice the activation. -/
def dPre (r : Fin 4096) (f : Fin 8192) : EReal :=
  (∑ d : Fin 2048, dOut m c (ix2 r d) * wOut m c (ix2 f d)) * (Ideal.ofBits .f32 0x40000000#32 * max (pre m c r f) 0)

theorem da_block (t : Fin cfg0.N) (r : Fin 1024) (f : Fin 512) :
    k0_pay3 (iblk m c 0 t) (iblk m c 2 t) (iblk m c 3 t) (ix2 r f) = dPre m c (row t r) (feat t f) := by
  unfold_payloads
  pointwise
  simp only [dOut_block, pre_block, wOut_block]
  rfl

theorem dw2_block (t : Fin cfg0.N) (f : Fin 512) (d : Fin 2048) :
    k0_pay4 (iblk m c 0 t) (iblk m c 2 t) (ix2 f d)
      = ∑ r : Fin 1024, max (pre m c (row t r) (feat t f)) 0 * max (pre m c (row t r) (feat t f)) 0 * dOut m c (ix2 (row t r) d) := by
  unfold_payloads
  pointwise
  simp only [dOut_block, pre_block]

theorem dw1_block (t : Fin cfg0.N) (d : Fin 2048) (f : Fin 512) :
    k0_pay5 (iblk m c 0 t) (iblk m c 2 t) (iblk m c 3 t) (iblk m c 1 t) (ix2 d f)
      = ∑ r : Fin 1024, inp m c (ix2 (row t r) d) * dPre m c (row t r) (feat t f) := by
  unfold k0_pay5
  pointwise
  simp only [inp_block, da_block]

end Cert.MlpProof

end
-- ==== Proof.MlpArrays.lean ====
/- What the three result arrays of the MLP gradient kernel hold after its run: the gradient at the pre-activation, and
   the gradients of the two weights, each a sum over all 4096 rows that the kernel takes as four sums of 1024. -/
module

public import proofs.«01_k».proof.Proof.MlpBlock

@[expose] public section

set_option maxRecDepth 16384

noncomputable section

namespace Cert.MlpProof

open Idealize.ShloMosaic Cert.MlpBwdIdeal Cert.MlpBwdIdeal.Gen

variable (m : (ℓ : Loc nD τ sig) → Buf (Elt Ideal) ℓ) (c : Dev nD)

/-- The gradient of the second weight at hidden feature `f` and output feature `d`. -/
def dW2 (f : Fin 8192) (d : Fin 2048) : EReal :=
  ∑ r : Fin 4096, max (pre m c r f) 0 * max (pre m c r f) 0 * dOut m c (ix2 r d)

/-- The gradient of the first weight at input feature `d` and hidden feature `f`. -/
def dW1 (d : Fin 2048) (f : Fin 8192) : EReal := ∑ r : Fin 4096, inp m c (ix2 r d) * dPre m c r f

/-- The four row tiles of one feature tile are all rows: point `4 (t / 4) + s` has rows `1024 s` and on. -/
theorem row_run (t : Fin cfg0.N) (s : Fin 4) (h : 4 * (t.val / 4) + s.val < cfg0.N) (r : Fin 1024)
    (hl : s.val * 1024 + r.val < 4096) : row ⟨4 * (t.val / 4) + s.val, h⟩ r = ⟨s.val * 1024 + r.val, hl⟩ := by
  apply Fin.ext; simp only [row]; omega

/-- ... and all of that feature tile. -/
theorem feat_run (t : Fin cfg0.N) (s : Fin 4) (h : 4 * (t.val / 4) + s.val < cfg0.N) (f : Fin 512) :
    feat ⟨4 * (t.val / 4) + s.val, h⟩ f = feat t f := by
  apply Fin.ext; simp only [feat]; omega

/-- The second weight's block when it is written back. -/
theorem dw2_last (t : Fin cfg0.N) (h : t.val % 4 = 3) (f : Fin 512) (d : Fin 2048) :
    (outsAt0 m c t.val t.isLt).2.1 (ix2 f d) = dW2 m c (feat t f) d := by
  refine (Pipeline.eq_sum_fin_of_reset_step_apply_of_flush (fun n hn => (outsAt0 m c n hn).2.1) 4 (fun _ => (0 : EReal))
    (fun t i => (k0_pay4 (iblk m c 0 t) (iblk m c 2 t) i : EReal)) (fun t h i => ?_) (fun t h i => ?_) t h (ix2 f d)).trans ?_
  · rw [dw2_first m c t h, zero_add]
  · rw [dw2_next m c t h]
    conv_lhs => unfold k0_pay7
    pointwise
  · rw [zero_add]
    simp only [dw2_block]
    refine Fin.sum_mul_add_congr (n := 1024) (fun s r hl => ?_)
    rw [row_run, feat_run]

/-- The first weight's block when it is written back. -/
theorem dw1_last (t : Fin cfg0.N) (h : t.val % 4 = 3) (d : Fin 2048) (f : Fin 512) :
    (outsAt0 m c t.val t.isLt).2.2 (ix3 0 d f) = dW1 m c d (feat t f) := by
  refine (Pipeline.eq_sum_fin_of_reset_step_apply_of_flush (fun n hn => (outsAt0 m c n hn).2.2) 4 (fun _ => (0 : EReal))
    (fun t i => (k0_pay5 (iblk m c 0 t) (iblk m c 2 t) (iblk m c 3 t) (iblk m c 1 t) (ix2 (i 1) (i 2)) : EReal))
    (fun t h i => ?_) (fun t h i => ?_) t h (ix3 0 d f)).trans ?_
  · rw [dw1_first m c t h, zero_add]
    unfold k0_pay6
    pointwise
  · rw [dw1_next m c t h]
    conv_lhs => unfold k0_pay8
    idx_vars i
    obtain rfl : i0 = 0 := Subsingleton.elim _ _
    pointwise
  · rw [zero_add]
    refine Eq.trans (Finset.sum_congr rfl fun s _ => dw1_block m c _ d f) ?_
    refine Fin.sum_mul_add_congr (n := 1024) (fun s r hl => ?_)
    rw [row_run, feat_run]

/-- Hidden feature `f` of the chip that holds features `2048 p` and on. -/
def chipFeat (p : Fin 4) (f : Fin 2048) : Fin 8192 := ⟨p.val * 2048 + f.val, by omega⟩

/-- The gradient at the pre-activation, as an array. -/
def daArr : FVec Ideal S4096x8192 .bf16 := fun i => dPre m c (i 0) (i 1)
/-- The gradient of the second weight, as an array. -/
def dw2Arr : FVec Ideal S8192x2048 .f32 := fun i => dW2 m c (i 0) (i 1)
/-- The gradient of the first weight, its hidden features stacked by chip, as an array. -/
def dw1Arr : FVec Ideal S4x2048x2048 .f32 := fun i => dW1 m c (i 1) (chipFeat (i 0) (i 2))

/-- The chip of a grid point's feature tile. -/
def chip (t : Fin cfg0.N) : Fin 4 := ⟨t.val / 4 / 4, by have := points t; omega⟩
/-- The place of a grid point's feature `f` within its chip. -/
def within (t : Fin cfg0.N) (f : Fin 512) : Fin 2048 := ⟨t.val / 4 % 4 * 512 + f.val, by omega⟩

theorem place4 (t : Fin cfg0.N) (r : Fin 1024) (f : Fin 512) :
    ((cfg0.win 4).blk t).view.emb (ix2 r f) = ix2 (row t r) (feat t f) := by
  blk_ext [row, feat, (idx t).2.2.2.2.1]

theorem place5 (t : Fin cfg0.N) (f : Fin 512) (d : Fin 2048) :
    ((cfg0.win 5).blk t).view.emb (ix2 f d) = ix2 (feat t f) d := by
  blk_ext [feat, (idx t).2.2.2.2.2.1]

theorem place6 (t : Fin cfg0.N) (d : Fin 2048) (f : Fin 512) :
    ((cfg0.win 6).blk t).view.emb (ix3 0 d f) = ix3 (chip t) d (within t f) := by
  blk_ext [chip, within, (idx t).2.2.2.2.2.2]

theorem chip_within (t : Fin cfg0.N) (f : Fin 512) : chipFeat (chip t) (within t f) = feat t f := by
  apply Fin.ext; simp only [chipFeat, chip, within, feat]; omega

theorem da_array : (dats m 0 c).arrAt 4 cfg0.N = daArr m c := by
  refine (dats m 0 c).arrAt_eq_of_covers 4 _ (by decide +kernel) fun t hf y => ?_
  idx_vars y
  refine Eq.trans ?_ (congrArg (daArr m c) (place4 t y0 y1)).symm
  blk_simp
  rw [after0_4, da_point, da_block]
  rfl

theorem dw2_array : (dats m 0 c).arrAt 5 cfg0.N = dw2Arr m c := by
  refine (dats m 0 c).arrAt_eq_of_covers 5 _ (by decide +kernel) fun t hf y => ?_
  idx_vars y
  refine Eq.trans ?_ (congrArg (dw2Arr m c) (place5 t y0 y1)).symm
  blk_simp
  rw [after0_5, dw2_last m c t ((flush0_5 t).mp hf)]
  rfl

theorem dw1_array : (dats m 0 c).arrAt 6 cfg0.N = dw1Arr m c := by
  refine (dats m 0 c).arrAt_eq_of_covers 6 _ (by decide +kernel) fun t hf y => ?_
  idx_vars y
  obtain rfl : y0 = 0 := Subsingleton.elim _ _
  refine Eq.trans ?_ (congrArg (dw1Arr m c) (place6 t y1 y2)).symm
  blk_simp
  rw [after0_6, dw1_last m c t ((flush0_6 t).mp hf), ← chip_within]
  rfl

end Cert.MlpProof

end
-- ==== Proof.MlpReference.lean ====
/- The reference of the MLP gradient at an index: the derivative of `relu(h w₁)² w₂` as the chain rule writes it. -/
module

public import proofs.«01_k».proof.Proof.Gen.MlpBwdRefIdeal.Run
public import Idealize.ShloMosaic.Lib.Pointwise

@[expose] public section

set_option maxRecDepth 16384

noncomputable section

namespace Cert.MlpProof.Ref

open Idealize.ShloMosaic Cert.MlpBwdRefIdeal

variable (m : (ℓ : Loc nD τ sig) → Buf (Elt Ideal) ℓ) (c : Dev nD)

/-- The layer's input. -/
abbrev inp : FVec Ideal S4096x2048 .f32 := m ((c.tc : Thread nD τ).loc main_arg0)
/-- The first weight. -/
abbrev wIn : FVec Ideal S2048x8192 .f32 := m ((c.tc : Thread nD τ).loc main_arg1)
/-- The second weight. -/
abbrev wOut : FVec Ideal S8192x2048 .f32 := m ((c.tc : Thread nD τ).loc main_arg2)
/-- The gradient that arrives at the layer's output. -/
abbrev dOut : FVec Ideal S4096x2048 .f32 := m ((c.tc : Thread nD τ).loc main_arg3)

/-- The pre-activation at row `r` and hidden feature `f`. -/
def pre (r : Fin 4096) (f : Fin 8192) : EReal := ∑ k : Fin 2048, inp m c (ix2 r k) * wIn m c (ix2 k f)

/-- The gradient at the pre-activation: the derivative of the squared relu is twice the activation, and zero where the
    pre-activation is not positive. -/
def dPre (r : Fin 4096) (f : Fin 8192) : EReal :=
  if 0 < pre m c r f then
    (∑ d : Fin 2048, dOut m c (ix2 r d) * wOut m c (ix2 f d)) * (Ideal.ofBits .f32 0x40000000#32 * max (pre m c r f) 0)
  else 0

theorem run (ρ : Dev nD → PrngReg) : θ_run defs (onTc (τ := τ) (main (F := Ideal))) ⟨m, fun _ => 0, ρ⟩ fun r => ∀ c : Dev nD,
    r.2.mem ((c.tc : Thread nD τ).loc main_v30) = (fun i : S4096x8192.Idx => dPre m c (i 0) (i 1))
    ∧ r.2.mem ((c.tc : Thread nD τ).loc main_v23) = (fun i : S8192x2048.Idx => ∑ r : Fin 4096, dOut m c (ix2 r (i 1)) * (max (pre m c r (i 0)) 0 * max (pre m c r (i 0)) 0))
    ∧ r.2.mem ((c.tc : Thread nD τ).loc main_v32) = (fun i : S4x2048x2048.Idx => ∑ r : Fin 4096, dPre m c r ⟨(i 0).val * 2048 + (i 2).val, by have : (i 0).val < 4 := (i 0).isLt; have : (i 2).val < 2048 := (i 2).isLt; omega⟩ * inp m c (ix2 r (i 1)))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3) := by
  refine (θ_run defs _ _).mono (fun r h c => ⟨(h c).1.trans ?_, (h c).2.1.trans ?_, (h c).2.2.1.trans ?_, (h c).2.2.2⟩) (Value.run m ρ)
  · funext i; idx_vars i; clear h; pointwise; (try simp only [dPre, pre]); rfl
  · funext i; idx_vars i; clear h; pointwise; (try simp only [dPre, pre])
  · funext i; idx_vars i; clear h; pointwise; (try simp only [dPre, pre]); rfl

end Cert.MlpProof.Ref

end
-- ==== Proof.MlpEquation.lean ====
/- The MLP gradient kernel and its reference give the same three arrays. Where the pre-activation is not positive the
   kernel multiplies by an activation of zero and the reference takes zero; a product's factors stand in the other order;
   the four sums over row tiles are one sum over all rows already (`dw1_array`, `dw2_array`). -/
module

public import proofs.«01_k».proof.Proof.MlpArrays
public import proofs.«01_k».proof.Proof.MlpReference

@[expose] public section

set_option maxRecDepth 16384

noncomputable section

namespace Cert.MlpProof

open Idealize.ShloMosaic

variable (m : (ℓ : Loc MlpBwdIdeal.nD MlpBwdIdeal.τ MlpBwdIdeal.sig) → Buf (Elt Ideal) ℓ)
  (m' : (ℓ : Loc MlpBwdRefIdeal.nD MlpBwdRefIdeal.τ MlpBwdRefIdeal.sig) → Buf (Elt Ideal) ℓ) (c : Dev MlpBwdIdeal.nD)

/-- The two memories hold the same four arguments. -/
def Agree : Prop := Ref.inp m' c = inp m c ∧ Ref.wIn m' c = wIn m c ∧ Ref.wOut m' c = wOut m c ∧ Ref.dOut m' c = dOut m c

variable {m m' c}

theorem pre_eq (h : Agree m m' c) (r : Fin 4096) (f : Fin 8192) : Ref.pre m' c r f = pre m c r f := by
  unfold Ref.pre pre
  rw [h.1, h.2.1]

theorem dPre_eq (h : Agree m m' c) (r : Fin 4096) (f : Fin 8192) : Ref.dPre m' c r f = dPre m c r f := by
  unfold Ref.dPre dPre
  rw [pre_eq h, h.2.2.1, h.2.2.2]
  split
  · rfl
  · next hn => rw [max_eq_right (not_lt.mp hn), mul_zero, mul_zero]

theorem da_eq (h : Agree m m' c) : (fun i : MlpBwdIdeal.S4096x8192.Idx => Ref.dPre m' c (i 0) (i 1)) = daArr m c :=
  funext fun i => dPre_eq h (i 0) (i 1)

theorem dw2_eq (h : Agree m m' c) : (fun i : MlpBwdIdeal.S8192x2048.Idx =>
    ∑ r : Fin 4096, Ref.dOut m' c (ix2 r (i 1)) * (max (Ref.pre m' c r (i 0)) 0 * max (Ref.pre m' c r (i 0)) 0)) = dw2Arr m c := by
  funext i
  idx_vars i
  unfold dw2Arr dW2
  refine Finset.sum_congr rfl fun r _ => ?_
  show Ref.dOut m' c (ix2 r i1) * (max (Ref.pre m' c r i0) 0 * max (Ref.pre m' c r i0) 0)
    = max (pre m c r i0) 0 * max (pre m c r i0) 0 * dOut m c (ix2 r i1)
  rw [pre_eq h, h.2.2.2, mul_comm]

theorem dw1_eq (h : Agree m m' c) : (fun i : MlpBwdIdeal.S4x2048x2048.Idx =>
    ∑ r : Fin 4096, Ref.dPre m' c r (chipFeat (i 0) (i 2)) * Ref.inp m' c (ix2 r (i 1))) = dw1Arr m c := by
  funext i
  idx_vars i
  unfold dw1Arr dW1
  refine Finset.sum_congr rfl fun r _ => ?_
  show Ref.dPre m' c r (chipFeat i0 i2) * Ref.inp m' c (ix2 r i1) = inp m c (ix2 r i1) * dPre m c r (chipFeat i0 i2)
  rw [dPre_eq h, h.1, mul_comm]

end Cert.MlpProof

end
-- ==== Proof.MlpFwd.lean ====
/- The MLP's forward pass, as arrays: the pre-activation and the output. The kernel walks 4 tiles of 1024 rows and, for
   each, 8 tiles of 1024 hidden features; the output's block gathers the 8 tiles' parts. -/
module

public import proofs.«01_k».proof.Proof.Gen.MlpFwdIdeal.Value
public import Idealize.ShloMosaic.Lib.Pointwise
public import Idealize.ShloMosaic.Lib.Pipeline.ValueKit

@[expose] public section

set_option maxRecDepth 16384

noncomputable section

namespace Cert.MlpFwdProof

open Idealize.ShloMosaic Cert.MlpFwdIdeal Cert.MlpFwdIdeal.Gen

/-- Where each window of grid point `t` lies. -/
theorem idx : ∀ t : Fin cfg0.N, win0_0.index t = ![t.val / 8, 0] ∧ win0_1.index t = ![0, t.val % 8]
    ∧ win0_2.index t = ![t.val % 8, 0] ∧ win0_3.index t = ![t.val / 8, t.val % 8] ∧ win0_4.index t = ![t.val / 8, 0] := by
  decide +kernel

theorem points (t : Fin cfg0.N) : t.val < 32 := t.isLt

variable (m : (ℓ : Loc nD τ sig) → Buf (Elt Ideal) ℓ) (c : Dev nD)

/-- The layer's input. -/
abbrev inp : FVec Ideal S4096x2048 .f32 := m ((c.tc : Thread nD τ).loc main_arg0)
/-- The first weight. -/
abbrev wIn : FVec Ideal S2048x8192 .f32 := m ((c.tc : Thread nD τ).loc main_arg1)
/-- The second weight. -/
abbrev wOut : FVec Ideal S8192x2048 .f32 := m ((c.tc : Thread nD τ).loc main_arg2)

/-- Row `r` of grid point `t`'s tile. -/
def row (t : Fin cfg0.N) (r : Fin 1024) : Fin 4096 := ⟨t.val / 8 * 1024 + r.val, by have := points t; omega⟩
/-- Hidden feature `f` of grid point `t`'s tile. -/
def feat (t : Fin cfg0.N) (f : Fin 1024) : Fin 8192 := ⟨t.val % 8 * 1024 + f.val, by omega⟩

theorem inp_block (t : Fin cfg0.N) (r : Fin 1024) (k : Fin 2048) : iblk m c 0 t (ix2 r k) = inp m c (ix2 (row t r) k) := by
  blk_ext [iblk, V, row, (idx t).1]

theorem wIn_block (t : Fin cfg0.N) (k : Fin 2048) (f : Fin 1024) : iblk m c 1 t (ix2 k f) = wIn m c (ix2 k (feat t f)) := by
  blk_ext [iblk, V, feat, (idx t).2.1]

theorem wOut_block (t : Fin cfg0.N) (f : Fin 1024) (d : Fin 2048) : iblk m c 2 t (ix2 f d) = wOut m c (ix2 (feat t f) d) := by
  blk_ext [iblk, V, feat, (idx t).2.2.1]

/-- The pre-activation at row `r` and hidden feature `f`. -/
def pre (r : Fin 4096) (f : Fin 8192) : EReal := ∑ k : Fin 2048, inp m c (ix2 r k) * wIn m c (ix2 k f)

/-- What hidden feature `f` adds to output feature `d` of row `r`. -/
def share (r : Fin 4096) (d : Fin 2048) (f : Fin 8192) : EReal :=
  max (pre m c r f) 0 * max (pre m c r f) 0 * wOut m c (ix2 f d)

/-- The output at row `r` and output feature `d`. -/
def out (r : Fin 4096) (d : Fin 2048) : EReal := ∑ f : Fin 8192, share m c r d f

theorem pre_point (t : Fin cfg0.N) : (outsAt0 m c t.val t.isLt).1 = k0_pay2 (iblk m c 0 t) (iblk m c 1 t) := by
  by_cases h : t.val % 8 = 0
  · rw [outsAt0_A m c t h (by omega)]; frame_out
  · rw [outsAt0_B m c t h (by omega)]; frame_out

theorem out_first (t : Fin cfg0.N) (h : t.val % 8 = 0) :
    (outsAt0 m c t.val t.isLt).2 = k0_pay3 (iblk m c 0 t) (iblk m c 1 t) (iblk m c 2 t) := by
  rw [outsAt0_A m c t h (by omega)]; frame_out

theorem out_next (t : Fin cfg0.N) (h : ¬t.val % 8 = 0) :
    (outsAt0 m c t.val t.isLt).2 = k0_pay4 (iblk m c 0 t) (iblk m c 1 t) (iblk m c 2 t)
      (outsAt0 m c (t.val - 1) (Nat.lt_of_le_of_lt (Nat.sub_le _ _) t.isLt)).2 := by
  rw [outsAt0_B m c t h (by omega)]; frame_out

theorem pre_block (t : Fin cfg0.N) (r : Fin 1024) (f : Fin 1024) :
    k0_pay1 (iblk m c 0 t) (iblk m c 1 t) (ix2 r f) = pre m c (row t r) (feat t f) := by
  unfold k0_pay1
  pointwise
  simp only [inp_block, wIn_block]
  rfl

theorem out_block (t : Fin cfg0.N) (r : Fin 1024) (d : Fin 2048) :
    k0_pay3 (iblk m c 0 t) (iblk m c 1 t) (iblk m c 2 t) (ix2 r d) = ∑ f : Fin 1024, share m c (row t r) d (feat t f) := by
  unfold k0_pay3
  pointwise
  simp only [pre_block, wOut_block]
  rfl

/-- The output's block when it is written back. -/
theorem out_last (t : Fin cfg0.N) (h : t.val % 8 = 7) (r : Fin 1024) (d : Fin 2048) :
    (outsAt0 m c t.val t.isLt).2 (ix2 r d) = out m c (row t r) d := by
  refine (Pipeline.eq_sum_fin_of_reset_step_apply_of_flush (fun n hn => (outsAt0 m c n hn).2) 8 (fun _ => (0 : EReal))
    (fun t i => (k0_pay3 (iblk m c 0 t) (iblk m c 1 t) (iblk m c 2 t) i : EReal)) (fun t h i => ?_) (fun t h i => ?_) t h (ix2 r d)).trans ?_
  · rw [out_first m c t h, zero_add]
  · rw [out_next m c t h]
    conv_lhs => unfold k0_pay4
    pointwise
  · rw [zero_add]
    simp only [out_block]
    refine Fin.sum_mul_add_congr (n := 1024) (fun s f hl => ?_)
    have hp := points t
    have hr : ∀ h, row ⟨8 * (t.val / 8) + s.val, h⟩ r = row t r := fun _ => Fin.ext (by simp only [row]; omega)
    have hf : ∀ h, feat ⟨8 * (t.val / 8) + s.val, h⟩ f = ⟨s.val * 1024 + f.val, hl⟩ := fun _ => Fin.ext (by simp only [feat]; omega)
    rw [hr, hf]

/-- The pre-activation as an array. -/
def preArr : FVec Ideal S4096x8192 .bf16 := fun i => pre m c (i 0) (i 1)
/-- The output as an array. -/
def outArr : FVec Ideal S4096x2048 .f32 := fun i => out m c (i 0) (i 1)

theorem place3 (t : Fin cfg0.N) (r : Fin 1024) (f : Fin 1024) :
    ((cfg0.win 3).blk t).view.emb (ix2 r f) = ix2 (row t r) (feat t f) := by
  blk_ext [row, feat, (idx t).2.2.2.1]

theorem place4 (t : Fin cfg0.N) (r : Fin 1024) (d : Fin 2048) :
    ((cfg0.win 4).blk t).view.emb (ix2 r d) = ix2 (row t r) d := by
  blk_ext [row, (idx t).2.2.2.2]

theorem pre_array : (dats m 0 c).arrAt 3 cfg0.N = preArr m c := by
  refine (dats m 0 c).arrAt_eq_of_covers 3 _ (by decide +kernel) fun t hf y => ?_
  idx_vars y
  refine Eq.trans ?_ (congrArg (preArr m c) (place3 t y0 y1)).symm
  blk_simp
  rw [after0_3, pre_point]
  unfold k0_pay2
  pointwise
  rw [pre_block]
  rfl

theorem out_array : (dats m 0 c).arrAt 4 cfg0.N = outArr m c := by
  refine (dats m 0 c).arrAt_eq_of_covers 4 _ (by decide +kernel) fun t hf y => ?_
  idx_vars y
  refine Eq.trans ?_ (congrArg (outArr m c) (place4 t y0 y1)).symm
  blk_simp
  rw [after0_4, out_last m c t ((flush0_4 t).mp hf)]
  rfl

end Cert.MlpFwdProof

end
-- ==== Proof.MlpInBwd.lean ====
/- The gradient at the MLP's input, as an array. The kernel walks 4 by 2 tiles of the result and, for each, 4 tiles of 2048 terms of the sum,
   which it adds up in a buffer of its own and writes back after the last. -/
module

public import proofs.«01_k».proof.Proof.Gen.MlpInBwdIdeal.Value
public import Idealize.ShloMosaic.Lib.Pointwise
public import Idealize.ShloMosaic.Lib.Pipeline.ValueKit
public import Idealize.ShloMosaic.Lib.Pipeline.ReadBack

@[expose] public section

set_option maxRecDepth 16384

noncomputable section

namespace Cert.MlpInBwdProof

open Idealize.ShloMosaic Cert.MlpInBwdIdeal Cert.MlpInBwdIdeal.Gen

/-- Where each window of grid point `t` lies. -/
theorem idx : ∀ t : Fin cfg0.N, win0_0.index t = ![t.val / 8, t.val % 4] ∧ win0_1.index t = ![t.val / 4 % 2, t.val % 4]
    ∧ win0_2.index t = ![t.val / 8, t.val / 4 % 2] := by decide +kernel

theorem points (t : Fin cfg0.N) : t.val < 32 := t.isLt

variable (m : (ℓ : Loc nD τ sig) → Buf (Elt Ideal) ℓ) (c : Dev nD)

/-- The gradient at the pre-activation. -/
abbrev dPre : FVec Ideal S4096x8192 .f32 := m ((c.tc : Thread nD τ).loc main_arg0)
/-- The first weight. -/
abbrev wIn : FVec Ideal S2048x8192 .f32 := m ((c.tc : Thread nD τ).loc main_arg1)

/-- The result's row `r` of grid point `t`'s tile. -/
def row (t : Fin cfg0.N) (r : Fin 1024) : Fin 4096 := ⟨t.val / 8 * 1024 + r.val, by have := points t; omega⟩
/-- The result's column `d` of that tile. -/
def col (t : Fin cfg0.N) (d : Fin 1024) : Fin 2048 := ⟨t.val / 4 % 2 * 1024 + d.val, by omega⟩
/-- Term `k` of grid point `t`'s part of the sum. -/
def term (t : Fin cfg0.N) (k : Fin 2048) : Fin 8192 := ⟨t.val % 4 * 2048 + k.val, by omega⟩

theorem left_block (t : Fin cfg0.N) (r : Fin 1024) (k : Fin 2048) : iblk m c 0 t (ix2 r k) = dPre m c (ix2 (row t r) (term t k)) := by
  blk_ext [iblk, V, row, term, (idx t).1]

theorem right_block (t : Fin cfg0.N) (d : Fin 1024) (k : Fin 2048) : iblk m c 1 t (ix2 d k) = wIn m c (ix2 (col t d) (term t k)) := by
  blk_ext [iblk, V, col, term, (idx t).2.1]

/-- Grid point `t`'s part of the sum. -/
def part (t : Fin cfg0.N) : FVec Ideal S1024x1024 .f32 := fun i =>
  ∑ k : Fin 2048, dPre m c (ix2 (row t (i 0)) (term t k)) * wIn m c (ix2 (col t (i 1)) (term t k))

/-- The buffer after a point: what it held and the point's part. -/
theorem add_part (t : Fin cfg0.N) (acc : FVec Ideal S1024x1024 .f32) (i : S1024x1024.Idx) :
    k0_pay2 acc (iblk m c 0 t) (iblk m c 1 t) i = acc i + part m c t i := by
  idx_vars i
  unfold_payloads
  pointwise
  simp only [left_block, right_block]
  rfl

theorem buffer_first (t : Fin cfg0.N) (h : t.val % 4 = 0) :
    (outsAt0 m c t.val t.isLt).2 = k0_pay2 k0_pay1 (iblk m c 0 t) (iblk m c 1 t) := by
  rw [outsAt0_A m c t h (by omega)]; frame_out

theorem buffer_next (t : Fin cfg0.N) (h : ¬t.val % 4 = 0) :
    (outsAt0 m c t.val t.isLt).2 = k0_pay2 (outsAt0 m c (t.val - 1) (Nat.lt_of_le_of_lt (Nat.sub_le _ _) t.isLt)).2
      (iblk m c 0 t) (iblk m c 1 t) := by
  by_cases hl : t.val % 4 = 3
  · rw [outsAt0_C m c t h hl]; frame_out; simp only [read_unread_whole]
  · rw [outsAt0_B m c t h hl]; frame_out; simp only [read_unread_whole]

/-- At a tile's last point the block written back is the buffer. -/
theorem block_last (t : Fin cfg0.N) (h : t.val % 4 = 3) :
    (outsAt0 m c t.val t.isLt).1 = (outsAt0 m c t.val t.isLt).2 := by
  rw [buffer_next m c t (by omega), outsAt0_C m c t (by omega) h]; frame_out; simp only [read_unread_whole]

/-- The gradient at row `r` and input feature `d` of the MLP. -/
def dIn (r : Fin 4096) (d : Fin 2048) : EReal := ∑ k : Fin 8192, dPre m c (ix2 r k) * wIn m c (ix2 d k)

/-- The tile written back: its 4 parts are the whole sum. -/
theorem last (t : Fin cfg0.N) (h : t.val % 4 = 3) (r : Fin 1024) (d : Fin 1024) :
    (outsAt0 m c t.val t.isLt).1 (ix2 r d) = dIn m c (row t r) (col t d) := by
  rw [block_last m c t h]
  refine (Pipeline.eq_sum_fin_of_reset_step_apply_of_flush (fun n hn => (outsAt0 m c n hn).2) 4 (fun _ => (0 : EReal))
    (fun t i => (part m c t i : EReal)) (fun t h i => ?_) (fun t h i => ?_) t h (ix2 r d)).trans ?_
  · rw [buffer_first m c t h, add_part]
    unfold_payloads
    pointwise
  · rw [buffer_next m c t h, add_part]
  · rw [zero_add]
    refine Fin.sum_mul_add_congr (n := 2048) (fun s k hl => ?_)
    have hp := points t
    have hr : ∀ h, row ⟨4 * (t.val / 4) + s.val, h⟩ r = row t r := fun _ => Fin.ext (by simp only [row]; omega)
    have hd : ∀ h, col ⟨4 * (t.val / 4) + s.val, h⟩ d = col t d := fun _ => Fin.ext (by simp only [col]; omega)
    have hk : ∀ h, term ⟨4 * (t.val / 4) + s.val, h⟩ k = ⟨s.val * 2048 + k.val, hl⟩ := fun _ => Fin.ext (by simp only [term]; omega)
    show dPre m c (ix2 (row _ r) (term _ k)) * wIn m c (ix2 (col _ d) (term _ k)) = _
    rw [hr, hd, hk]

/-- The result as an array. -/
def result : FVec Ideal S4096x2048 .f32 := fun i => dIn m c (i 0) (i 1)

theorem place (t : Fin cfg0.N) (r : Fin 1024) (d : Fin 1024) : ((cfg0.win 2).blk t).view.emb (ix2 r d) = ix2 (row t r) (col t d) := by
  blk_ext [row, col, (idx t).2.2]

theorem array : (dats m 0 c).arrAt 2 cfg0.N = result m c := by
  refine (dats m 0 c).arrAt_eq_of_covers 2 _ (by decide +kernel) fun t hf y => ?_
  idx_vars y
  refine Eq.trans ?_ (congrArg (result m c) (place t y0 y1)).symm
  blk_simp
  rw [after0_2, last m c t ((flush0_2 t).mp hf)]
  rfl

end Cert.MlpInBwdProof

end
-- ==== Proof.InWgrad.lean ====
/- The gradient of the input projection's weight, as an array. The kernel walks 2 by 2 tiles of the result and, for each, 4 tiles of 1024 terms of the sum,
   which it adds up in a buffer of its own and writes back after the last. -/
module

public import proofs.«01_k».proof.Proof.Gen.InWgradIdeal.Value
public import Idealize.ShloMosaic.Lib.Pointwise
public import Idealize.ShloMosaic.Lib.Pipeline.ValueKit
public import Idealize.ShloMosaic.Lib.Pipeline.ReadBack

@[expose] public section

set_option maxRecDepth 16384

noncomputable section

namespace Cert.InWgradProof

open Idealize.ShloMosaic Cert.InWgradIdeal Cert.InWgradIdeal.Gen

/-- Where each window of grid point `t` lies. -/
theorem idx : ∀ t : Fin cfg0.N, win0_0.index t = ![t.val % 4, t.val / 8] ∧ win0_1.index t = ![t.val % 4, t.val / 4 % 2]
    ∧ win0_2.index t = ![t.val / 8, t.val / 4 % 2] := by decide +kernel

theorem points (t : Fin cfg0.N) : t.val < 16 := t.isLt

variable (m : (ℓ : Loc nD τ sig) → Buf (Elt Ideal) ℓ) (c : Dev nD)

/-- The projection's input. -/
abbrev inp : FVec Ideal S4096x2048 .f32 := m ((c.tc : Thread nD τ).loc main_arg0)
/-- The gradient that arrives at the projection's output. -/
abbrev dOut : FVec Ideal S4096x2816 .f32 := m ((c.tc : Thread nD τ).loc main_arg1)

/-- The result's row `r` of grid point `t`'s tile. -/
def row (t : Fin cfg0.N) (r : Fin 1024) : Fin 2048 := ⟨t.val / 8 * 1024 + r.val, by have := points t; omega⟩
/-- The result's column `d` of that tile. -/
def col (t : Fin cfg0.N) (d : Fin 1408) : Fin 2816 := ⟨t.val / 4 % 2 * 1408 + d.val, by omega⟩
/-- Term `k` of grid point `t`'s part of the sum. -/
def term (t : Fin cfg0.N) (k : Fin 1024) : Fin 4096 := ⟨t.val % 4 * 1024 + k.val, by omega⟩

theorem left_block (t : Fin cfg0.N) (r : Fin 1024) (k : Fin 1024) : iblk m c 0 t (ix2 k r) = inp m c (ix2 (term t k) (row t r)) := by
  blk_ext [iblk, V, row, term, (idx t).1]

theorem right_block (t : Fin cfg0.N) (d : Fin 1408) (k : Fin 1024) : iblk m c 1 t (ix2 k d) = dOut m c (ix2 (term t k) (col t d)) := by
  blk_ext [iblk, V, col, term, (idx t).2.1]

/-- Grid point `t`'s part of the sum. -/
def part (t : Fin cfg0.N) : FVec Ideal S1024x1408 .f32 := fun i =>
  ∑ k : Fin 1024, inp m c (ix2 (term t k) (row t (i 0))) * dOut m c (ix2 (term t k) (col t (i 1)))

/-- The buffer after a point: what it held and the point's part. -/
theorem add_part (t : Fin cfg0.N) (acc : FVec Ideal S1024x1408 .f32) (i : S1024x1408.Idx) :
    k0_pay2 acc (iblk m c 0 t) (iblk m c 1 t) i = acc i + part m c t i := by
  idx_vars i
  unfold_payloads
  pointwise
  simp only [left_block, right_block]
  rfl

theorem buffer_first (t : Fin cfg0.N) (h : t.val % 4 = 0) :
    (outsAt0 m c t.val t.isLt).2 = k0_pay2 k0_pay1 (iblk m c 0 t) (iblk m c 1 t) := by
  rw [outsAt0_A m c t h (by omega)]; frame_out

theorem buffer_next (t : Fin cfg0.N) (h : ¬t.val % 4 = 0) :
    (outsAt0 m c t.val t.isLt).2 = k0_pay2 (outsAt0 m c (t.val - 1) (Nat.lt_of_le_of_lt (Nat.sub_le _ _) t.isLt)).2
      (iblk m c 0 t) (iblk m c 1 t) := by
  by_cases hl : t.val % 4 = 3
  · rw [outsAt0_C m c t h hl]; frame_out; simp only [read_unread_whole]
  · rw [outsAt0_B m c t h hl]; frame_out; simp only [read_unread_whole]

/-- At a tile's last point the block written back is the buffer. -/
theorem block_last (t : Fin cfg0.N) (h : t.val % 4 = 3) :
    (outsAt0 m c t.val t.isLt).1 = (outsAt0 m c t.val t.isLt).2 := by
  rw [buffer_next m c t (by omega), outsAt0_C m c t (by omega) h]; frame_out; simp only [read_unread_whole]

/-- The gradient of the weight at input feature `r` and output feature `d`. -/
def dW (r : Fin 2048) (d : Fin 2816) : EReal := ∑ k : Fin 4096, inp m c (ix2 k r) * dOut m c (ix2 k d)

/-- The tile written back: its 4 parts are the whole sum. -/
theorem last (t : Fin cfg0.N) (h : t.val % 4 = 3) (r : Fin 1024) (d : Fin 1408) :
    (outsAt0 m c t.val t.isLt).1 (ix2 r d) = dW m c (row t r) (col t d) := by
  rw [block_last m c t h]
  refine (Pipeline.eq_sum_fin_of_reset_step_apply_of_flush (fun n hn => (outsAt0 m c n hn).2) 4 (fun _ => (0 : EReal))
    (fun t i => (part m c t i : EReal)) (fun t h i => ?_) (fun t h i => ?_) t h (ix2 r d)).trans ?_
  · rw [buffer_first m c t h, add_part]
    unfold_payloads
    pointwise
  · rw [buffer_next m c t h, add_part]
  · rw [zero_add]
    refine Fin.sum_mul_add_congr (n := 1024) (fun s k hl => ?_)
    have hp := points t
    have hr : ∀ h, row ⟨4 * (t.val / 4) + s.val, h⟩ r = row t r := fun _ => Fin.ext (by simp only [row]; omega)
    have hd : ∀ h, col ⟨4 * (t.val / 4) + s.val, h⟩ d = col t d := fun _ => Fin.ext (by simp only [col]; omega)
    have hk : ∀ h, term ⟨4 * (t.val / 4) + s.val, h⟩ k = ⟨s.val * 1024 + k.val, hl⟩ := fun _ => Fin.ext (by simp only [term]; omega)
    show inp m c (ix2 (term _ k) (row _ r)) * dOut m c (ix2 (term _ k) (col _ d)) = _
    rw [hr, hd, hk]

/-- The result as an array. -/
def result : FVec Ideal S2048x2816 .f32 := fun i => dW m c (i 0) (i 1)

theorem place (t : Fin cfg0.N) (r : Fin 1024) (d : Fin 1408) : ((cfg0.win 2).blk t).view.emb (ix2 r d) = ix2 (row t r) (col t d) := by
  blk_ext [row, col, (idx t).2.2]

theorem array : (dats m 0 c).arrAt 2 cfg0.N = result m c := by
  refine (dats m 0 c).arrAt_eq_of_covers 2 _ (by decide +kernel) fun t hf y => ?_
  idx_vars y
  refine Eq.trans ?_ (congrArg (result m c) (place t y0 y1)).symm
  blk_simp
  rw [after0_2, last m c t ((flush0_2 t).mp hf)]
  rfl

end Cert.InWgradProof

end
-- ==== Proof.OutWgrad.lean ====
/- The gradient of the output projection's weight, as an array. The kernel walks 1 by 2 tiles of the result and, for each, 4 tiles of 1024 terms of the sum,
   which it adds up in a buffer of its own and writes back after the last. -/
module

public import proofs.«01_k».proof.Proof.Gen.OutWgradIdeal.Value
public import Idealize.ShloMosaic.Lib.Pointwise
public import Idealize.ShloMosaic.Lib.Pipeline.ValueKit
public import Idealize.ShloMosaic.Lib.Pipeline.ReadBack

@[expose] public section

set_option maxRecDepth 16384

noncomputable section

namespace Cert.OutWgradProof

open Idealize.ShloMosaic Cert.OutWgradIdeal Cert.OutWgradIdeal.Gen

/-- Where each window of grid point `t` lies. -/
theorem idx : ∀ t : Fin cfg0.N, win0_0.index t = ![t.val % 4, t.val / 8] ∧ win0_1.index t = ![t.val % 4, t.val / 4 % 2]
    ∧ win0_2.index t = ![t.val / 8, t.val / 4 % 2] := by decide +kernel

theorem points (t : Fin cfg0.N) : t.val < 8 := t.isLt

variable (m : (ℓ : Loc nD τ sig) → Buf (Elt Ideal) ℓ) (c : Dev nD)

/-- The projection's input. -/
abbrev inp : FVec Ideal S4096x1280 .f32 := m ((c.tc : Thread nD τ).loc main_arg0)
/-- The gradient that arrives at the projection's output. -/
abbrev dOut : FVec Ideal S4096x2048 .f32 := m ((c.tc : Thread nD τ).loc main_arg1)

/-- The result's row `r` of grid point `t`'s tile. -/
def row (t : Fin cfg0.N) (r : Fin 1280) : Fin 1280 := ⟨t.val / 8 * 1280 + r.val, by have := points t; omega⟩
/-- The result's column `d` of that tile. -/
def col (t : Fin cfg0.N) (d : Fin 1024) : Fin 2048 := ⟨t.val / 4 % 2 * 1024 + d.val, by omega⟩
/-- Term `k` of grid point `t`'s part of the sum. -/
def term (t : Fin cfg0.N) (k : Fin 1024) : Fin 4096 := ⟨t.val % 4 * 1024 + k.val, by omega⟩

theorem left_block (t : Fin cfg0.N) (r : Fin 1280) (k : Fin 1024) : iblk m c 0 t (ix2 k r) = inp m c (ix2 (term t k) (row t r)) := by
  blk_ext [iblk, V, row, term, (idx t).1]

theorem right_block (t : Fin cfg0.N) (d : Fin 1024) (k : Fin 1024) : iblk m c 1 t (ix2 k d) = dOut m c (ix2 (term t k) (col t d)) := by
  blk_ext [iblk, V, col, term, (idx t).2.1]

/-- Grid point `t`'s part of the sum. -/
def part (t : Fin cfg0.N) : FVec Ideal S1280x1024 .f32 := fun i =>
  ∑ k : Fin 1024, inp m c (ix2 (term t k) (row t (i 0))) * dOut m c (ix2 (term t k) (col t (i 1)))

/-- The buffer after a point: what it held and the point's part. -/
theorem add_part (t : Fin cfg0.N) (acc : FVec Ideal S1280x1024 .f32) (i : S1280x1024.Idx) :
    k0_pay2 acc (iblk m c 0 t) (iblk m c 1 t) i = acc i + part m c t i := by
  idx_vars i
  unfold_payloads
  pointwise
  simp only [left_block, right_block]
  rfl

theorem buffer_first (t : Fin cfg0.N) (h : t.val % 4 = 0) :
    (outsAt0 m c t.val t.isLt).2 = k0_pay2 k0_pay1 (iblk m c 0 t) (iblk m c 1 t) := by
  rw [outsAt0_A m c t h (by omega)]; frame_out

theorem buffer_next (t : Fin cfg0.N) (h : ¬t.val % 4 = 0) :
    (outsAt0 m c t.val t.isLt).2 = k0_pay2 (outsAt0 m c (t.val - 1) (Nat.lt_of_le_of_lt (Nat.sub_le _ _) t.isLt)).2
      (iblk m c 0 t) (iblk m c 1 t) := by
  by_cases hl : t.val % 4 = 3
  · rw [outsAt0_C m c t h hl]; frame_out; simp only [read_unread_whole]
  · rw [outsAt0_B m c t h hl]; frame_out; simp only [read_unread_whole]

/-- At a tile's last point the block written back is the buffer. -/
theorem block_last (t : Fin cfg0.N) (h : t.val % 4 = 3) :
    (outsAt0 m c t.val t.isLt).1 = (outsAt0 m c t.val t.isLt).2 := by
  rw [buffer_next m c t (by omega), outsAt0_C m c t (by omega) h]; frame_out; simp only [read_unread_whole]

/-- The gradient of the weight at input feature `r` and output feature `d`. -/
def dW (r : Fin 1280) (d : Fin 2048) : EReal := ∑ k : Fin 4096, inp m c (ix2 k r) * dOut m c (ix2 k d)

/-- The tile written back: its 4 parts are the whole sum. -/
theorem last (t : Fin cfg0.N) (h : t.val % 4 = 3) (r : Fin 1280) (d : Fin 1024) :
    (outsAt0 m c t.val t.isLt).1 (ix2 r d) = dW m c (row t r) (col t d) := by
  rw [block_last m c t h]
  refine (Pipeline.eq_sum_fin_of_reset_step_apply_of_flush (fun n hn => (outsAt0 m c n hn).2) 4 (fun _ => (0 : EReal))
    (fun t i => (part m c t i : EReal)) (fun t h i => ?_) (fun t h i => ?_) t h (ix2 r d)).trans ?_
  · rw [buffer_first m c t h, add_part]
    unfold_payloads
    pointwise
  · rw [buffer_next m c t h, add_part]
  · rw [zero_add]
    refine Fin.sum_mul_add_congr (n := 1024) (fun s k hl => ?_)
    have hp := points t
    have hr : ∀ h, row ⟨4 * (t.val / 4) + s.val, h⟩ r = row t r := fun _ => Fin.ext (by simp only [row]; omega)
    have hd : ∀ h, col ⟨4 * (t.val / 4) + s.val, h⟩ d = col t d := fun _ => Fin.ext (by simp only [col]; omega)
    have hk : ∀ h, term ⟨4 * (t.val / 4) + s.val, h⟩ k = ⟨s.val * 1024 + k.val, hl⟩ := fun _ => Fin.ext (by simp only [term]; omega)
    show inp m c (ix2 (term _ k) (row _ r)) * dOut m c (ix2 (term _ k) (col _ d)) = _
    rw [hr, hd, hk]

/-- The result as an array. -/
def result : FVec Ideal S1280x2048 .f32 := fun i => dW m c (i 0) (i 1)

theorem place (t : Fin cfg0.N) (r : Fin 1280) (d : Fin 1024) : ((cfg0.win 2).blk t).view.emb (ix2 r d) = ix2 (row t r) (col t d) := by
  blk_ext [row, col, (idx t).2.2]

theorem array : (dats m 0 c).arrAt 2 cfg0.N = result m c := by
  refine (dats m 0 c).arrAt_eq_of_covers 2 _ (by decide +kernel) fun t hf y => ?_
  idx_vars y
  refine Eq.trans ?_ (congrArg (result m c) (place t y0 y1)).symm
  blk_simp
  rw [after0_2, last m c t ((flush0_2 t).mp hf)]
  rfl

end Cert.OutWgradProof

end
-- ==== Proof.InBwd.lean ====
/- The gradient at the input projection's input, as an array. The kernel walks 4 by 2 tiles of the result and takes each entry's sum at once. -/
module

public import proofs.«01_k».proof.Proof.Gen.InBwdIdeal.Value
public import Idealize.ShloMosaic.Lib.Pointwise
public import Idealize.ShloMosaic.Lib.Pipeline.ValueKit

@[expose] public section

set_option maxRecDepth 16384

noncomputable section

namespace Cert.InBwdProof

open Idealize.ShloMosaic Cert.InBwdIdeal Cert.InBwdIdeal.Gen

/-- Where each window of grid point `t` lies. -/
theorem idx : ∀ t : Fin cfg0.N, win0_0.index t = ![t.val / 2, 0] ∧ win0_1.index t = ![t.val % 2, 0]
    ∧ win0_2.index t = ![t.val / 2, t.val % 2] := by decide +kernel

theorem points (t : Fin cfg0.N) : t.val < 8 := t.isLt

variable (m : (ℓ : Loc nD τ sig) → Buf (Elt Ideal) ℓ) (c : Dev nD)

/-- The gradient that arrives at the projection's output. -/
abbrev dOut : FVec Ideal S4096x2816 .f32 := m ((c.tc : Thread nD τ).loc main_arg0)
/-- The projection's weight. -/
abbrev wgt : FVec Ideal S2048x2816 .f32 := m ((c.tc : Thread nD τ).loc main_arg1)

/-- The result's row `r` of grid point `t`'s tile. -/
def row (t : Fin cfg0.N) (r : Fin 1024) : Fin 4096 := ⟨t.val / 2 * 1024 + r.val, by have := points t; omega⟩
/-- The result's column `d` of that tile. -/
def col (t : Fin cfg0.N) (d : Fin 1024) : Fin 2048 := ⟨t.val % 2 * 1024 + d.val, by omega⟩

theorem left_block (t : Fin cfg0.N) (r : Fin 1024) (k : Fin 2816) : iblk m c 0 t (ix2 r k) = dOut m c (ix2 (row t r) k) := by
  blk_ext [iblk, V, row, (idx t).1]

theorem right_block (t : Fin cfg0.N) (d : Fin 1024) (k : Fin 2816) : iblk m c 1 t (ix2 d k) = wgt m c (ix2 (col t d) k) := by
  blk_ext [iblk, V, col, (idx t).2.1]

/-- The gradient at row `r` and input feature `d`. -/
def dIn (r : Fin 4096) (d : Fin 2048) : EReal := ∑ k : Fin 2816, dOut m c (ix2 r k) * wgt m c (ix2 d k)

theorem block (t : Fin cfg0.N) : outsAt0 m c t = k0_pay2 k0_pay1 (iblk m c 0 t) (iblk m c 1 t) := by
  unfold outsAt0; frame_out

theorem block_entry (t : Fin cfg0.N) (r : Fin 1024) (d : Fin 1024) :
    outsAt0 m c t (ix2 r d) = dIn m c (row t r) (col t d) := by
  rw [block m c t]
  unfold_payloads
  pointwise
  simp only [left_block, right_block]
  rfl

/-- The result as an array. -/
def result : FVec Ideal S4096x2048 .f32 := fun i => dIn m c (i 0) (i 1)

theorem place (t : Fin cfg0.N) (r : Fin 1024) (d : Fin 1024) : ((cfg0.win 2).blk t).view.emb (ix2 r d) = ix2 (row t r) (col t d) := by
  blk_ext [row, col, (idx t).2.2]

theorem array : (dats m 0 c).arrAt 2 cfg0.N = result m c := by
  refine (dats m 0 c).arrAt_eq_of_covers 2 _ (by decide +kernel) fun t hf y => ?_
  idx_vars y
  refine Eq.trans ?_ (congrArg (result m c) (place t y0 y1)).symm
  blk_simp
  rw [after0_2, block_entry m c t]
  rfl

end Cert.InBwdProof

end
-- ==== Proof.OutBwd.lean ====
/- The gradient at the output projection's input, as an array. The kernel walks 4 by 1 tiles of the result and takes each entry's sum at once. -/
module

public import proofs.«01_k».proof.Proof.Gen.OutBwdIdeal.Value
public import Idealize.ShloMosaic.Lib.Pointwise
public import Idealize.ShloMosaic.Lib.Pipeline.ValueKit

@[expose] public section

set_option maxRecDepth 16384

noncomputable section

namespace Cert.OutBwdProof

open Idealize.ShloMosaic Cert.OutBwdIdeal Cert.OutBwdIdeal.Gen

/-- Where each window of grid point `t` lies. -/
theorem idx : ∀ t : Fin cfg0.N, win0_0.index t = ![t.val / 1, 0] ∧ win0_1.index t = ![t.val % 1, 0]
    ∧ win0_2.index t = ![t.val / 1, t.val % 1] := by decide +kernel

theorem points (t : Fin cfg0.N) : t.val < 4 := t.isLt

variable (m : (ℓ : Loc nD τ sig) → Buf (Elt Ideal) ℓ) (c : Dev nD)

/-- The gradient that arrives at the projection's output. -/
abbrev dOut : FVec Ideal S4096x2048 .f32 := m ((c.tc : Thread nD τ).loc main_arg0)
/-- The projection's weight. -/
abbrev wgt : FVec Ideal S1280x2048 .f32 := m ((c.tc : Thread nD τ).loc main_arg1)

/-- The result's row `r` of grid point `t`'s tile. -/
def row (t : Fin cfg0.N) (r : Fin 1024) : Fin 4096 := ⟨t.val / 1 * 1024 + r.val, by have := points t; omega⟩
/-- The result's column `d` of that tile. -/
def col (t : Fin cfg0.N) (d : Fin 1280) : Fin 1280 := ⟨t.val % 1 * 1280 + d.val, by omega⟩

theorem left_block (t : Fin cfg0.N) (r : Fin 1024) (k : Fin 2048) : iblk m c 0 t (ix2 r k) = dOut m c (ix2 (row t r) k) := by
  blk_ext [iblk, V, row, (idx t).1]

theorem right_block (t : Fin cfg0.N) (d : Fin 1280) (k : Fin 2048) : iblk m c 1 t (ix2 d k) = wgt m c (ix2 (col t d) k) := by
  blk_ext [iblk, V, col, (idx t).2.1]

/-- The gradient at row `r` and input feature `d`. -/
def dIn (r : Fin 4096) (d : Fin 1280) : EReal := ∑ k : Fin 2048, dOut m c (ix2 r k) * wgt m c (ix2 d k)

theorem block (t : Fin cfg0.N) : outsAt0 m c t = k0_pay2 k0_pay1 (iblk m c 0 t) (iblk m c 1 t) := by
  unfold outsAt0; frame_out

theorem block_entry (t : Fin cfg0.N) (r : Fin 1024) (d : Fin 1280) :
    outsAt0 m c t (ix2 r d) = dIn m c (row t r) (col t d) := by
  rw [block m c t]
  unfold_payloads
  pointwise
  simp only [left_block, right_block]
  rfl

/-- The result as an array. -/
def result : FVec Ideal S4096x1280 .f32 := fun i => dIn m c (i 0) (i 1)

theorem place (t : Fin cfg0.N) (r : Fin 1024) (d : Fin 1280) : ((cfg0.win 2).blk t).view.emb (ix2 r d) = ix2 (row t r) (col t d) := by
  blk_ext [row, col, (idx t).2.2]

theorem array : (dats m 0 c).arrAt 2 cfg0.N = result m c := by
  refine (dats m 0 c).arrAt_eq_of_covers 2 _ (by decide +kernel) fun t hf y => ?_
  idx_vars y
  refine Eq.trans ?_ (congrArg (result m c) (place t y0 y1)).symm
  blk_simp
  rw [after0_2, block_entry m c t]
  rfl

end Cert.OutBwdProof

end
-- ==== Proof.InProj.lean ====
/- The input projection, as an array. The kernel walks 4 by 2 tiles of the result and takes each entry's sum at once. -/
module

public import proofs.«01_k».proof.Proof.Gen.InProjIdeal.Value
public import Idealize.ShloMosaic.Lib.Pointwise
public import Idealize.ShloMosaic.Lib.Pipeline.ValueKit

@[expose] public section

set_option maxRecDepth 16384

noncomputable section

namespace Cert.InProjProof

open Idealize.ShloMosaic Cert.InProjIdeal Cert.InProjIdeal.Gen

/-- Where each window of grid point `t` lies. -/
theorem idx : ∀ t : Fin cfg0.N, win0_0.index t = ![t.val / 2, 0] ∧ win0_1.index t = ![0, t.val % 2]
    ∧ win0_2.index t = ![t.val / 2, t.val % 2] := by decide +kernel

theorem points (t : Fin cfg0.N) : t.val < 8 := t.isLt

variable (m : (ℓ : Loc nD τ sig) → Buf (Elt Ideal) ℓ) (c : Dev nD)

/-- The projection's input. -/
abbrev inp : FVec Ideal S4096x2048 .f32 := m ((c.tc : Thread nD τ).loc main_arg0)
/-- The projection's weight. -/
abbrev wgt : FVec Ideal S2048x2816 .f32 := m ((c.tc : Thread nD τ).loc main_arg1)

/-- The result's row `r` of grid point `t`'s tile. -/
def row (t : Fin cfg0.N) (r : Fin 1024) : Fin 4096 := ⟨t.val / 2 * 1024 + r.val, by have := points t; omega⟩
/-- The result's column `d` of that tile. -/
def col (t : Fin cfg0.N) (d : Fin 1408) : Fin 2816 := ⟨t.val % 2 * 1408 + d.val, by omega⟩

theorem left_block (t : Fin cfg0.N) (r : Fin 1024) (k : Fin 2048) : iblk m c 0 t (ix2 r k) = inp m c (ix2 (row t r) k) := by
  blk_ext [iblk, V, row, (idx t).1]

theorem right_block (t : Fin cfg0.N) (d : Fin 1408) (k : Fin 2048) : iblk m c 1 t (ix2 k d) = wgt m c (ix2 k (col t d)) := by
  blk_ext [iblk, V, col, (idx t).2.1]

/-- The projection of row `r` at output feature `d`. -/
def out (r : Fin 4096) (d : Fin 2816) : EReal := ∑ k : Fin 2048, inp m c (ix2 r k) * wgt m c (ix2 k d)

theorem block (t : Fin cfg0.N) : outsAt0 m c t = k0_pay2 k0_pay1 (iblk m c 0 t) (iblk m c 1 t) := by
  unfold outsAt0; frame_out

theorem block_entry (t : Fin cfg0.N) (r : Fin 1024) (d : Fin 1408) :
    outsAt0 m c t (ix2 r d) = out m c (row t r) (col t d) := by
  rw [block m c t]
  unfold_payloads
  pointwise
  simp only [left_block, right_block]
  rfl

/-- The result as an array. -/
def result : FVec Ideal S4096x2816 .f32 := fun i => out m c (i 0) (i 1)

theorem place (t : Fin cfg0.N) (r : Fin 1024) (d : Fin 1408) : ((cfg0.win 2).blk t).view.emb (ix2 r d) = ix2 (row t r) (col t d) := by
  blk_ext [row, col, (idx t).2.2]

theorem array : (dats m 0 c).arrAt 2 cfg0.N = result m c := by
  refine (dats m 0 c).arrAt_eq_of_covers 2 _ (by decide +kernel) fun t hf y => ?_
  idx_vars y
  refine Eq.trans ?_ (congrArg (result m c) (place t y0 y1)).symm
  blk_simp
  rw [after0_2, block_entry m c t]
  rfl

end Cert.InProjProof

end
-- ==== Proof.OutProj.lean ====
/- The output projection, as an array. The kernel walks 4 by 2 tiles of the result and takes each entry's sum at once. -/
module

public import proofs.«01_k».proof.Proof.Gen.OutProjIdeal.Value
public import Idealize.ShloMosaic.Lib.Pointwise
public import Idealize.ShloMosaic.Lib.Pipeline.ValueKit

@[expose] public section

set_option maxRecDepth 16384

noncomputable section

namespace Cert.OutProjProof

open Idealize.ShloMosaic Cert.OutProjIdeal Cert.OutProjIdeal.Gen

/-- Where each window of grid point `t` lies. -/
theorem idx : ∀ t : Fin cfg0.N, win0_0.index t = ![t.val / 2, 0] ∧ win0_1.index t = ![0, t.val % 2]
    ∧ win0_2.index t = ![t.val / 2, t.val % 2] := by decide +kernel

theorem points (t : Fin cfg0.N) : t.val < 8 := t.isLt

variable (m : (ℓ : Loc nD τ sig) → Buf (Elt Ideal) ℓ) (c : Dev nD)

/-- The projection's input. -/
abbrev inp : FVec Ideal S4096x1280 .f32 := m ((c.tc : Thread nD τ).loc main_arg0)
/-- The projection's weight. -/
abbrev wgt : FVec Ideal S1280x2048 .f32 := m ((c.tc : Thread nD τ).loc main_arg1)

/-- The result's row `r` of grid point `t`'s tile. -/
def row (t : Fin cfg0.N) (r : Fin 1024) : Fin 4096 := ⟨t.val / 2 * 1024 + r.val, by have := points t; omega⟩
/-- The result's column `d` of that tile. -/
def col (t : Fin cfg0.N) (d : Fin 1024) : Fin 2048 := ⟨t.val % 2 * 1024 + d.val, by omega⟩

theorem left_block (t : Fin cfg0.N) (r : Fin 1024) (k : Fin 1280) : iblk m c 0 t (ix2 r k) = inp m c (ix2 (row t r) k) := by
  blk_ext [iblk, V, row, (idx t).1]

theorem right_block (t : Fin cfg0.N) (d : Fin 1024) (k : Fin 1280) : iblk m c 1 t (ix2 k d) = wgt m c (ix2 k (col t d)) := by
  blk_ext [iblk, V, col, (idx t).2.1]

/-- The projection of row `r` at output feature `d`. -/
def out (r : Fin 4096) (d : Fin 2048) : EReal := ∑ k : Fin 1280, inp m c (ix2 r k) * wgt m c (ix2 k d)

theorem block (t : Fin cfg0.N) : outsAt0 m c t = k0_pay2 k0_pay1 (iblk m c 0 t) (iblk m c 1 t) := by
  unfold outsAt0; frame_out

theorem block_entry (t : Fin cfg0.N) (r : Fin 1024) (d : Fin 1024) :
    outsAt0 m c t (ix2 r d) = out m c (row t r) (col t d) := by
  rw [block m c t]
  unfold_payloads
  pointwise
  simp only [left_block, right_block]
  rfl

/-- The result as an array. -/
def result : FVec Ideal S4096x2048 .f32 := fun i => out m c (i 0) (i 1)

theorem place (t : Fin cfg0.N) (r : Fin 1024) (d : Fin 1024) : ((cfg0.win 2).blk t).view.emb (ix2 r d) = ix2 (row t r) (col t d) := by
  blk_ext [row, col, (idx t).2.2]

theorem array : (dats m 0 c).arrAt 2 cfg0.N = result m c := by
  refine (dats m 0 c).arrAt_eq_of_covers 2 _ (by decide +kernel) fun t hf y => ?_
  idx_vars y
  refine Eq.trans ?_ (congrArg (result m c) (place t y0 y1)).symm
  blk_simp
  rw [after0_2, block_entry m c t]
  rfl

end Cert.OutProjProof

end
-- ==== Proof.ProductEquations.lean ====
/- The references of the MLP's forward pass, of the projections and of their gradients give the arrays their kernels give: entry by
   entry the same sum, its products' factors in the other order where the weight's gradient is taken. -/
module

public import proofs.«01_k».proof.Proof.MlpFwd
public import proofs.«01_k».proof.Proof.MlpInBwd
public import proofs.«01_k».proof.Proof.InWgrad
public import proofs.«01_k».proof.Proof.OutWgrad
public import proofs.«01_k».proof.Proof.Gen.MlpFwdRefIdeal.Run
public import proofs.«01_k».proof.Proof.Gen.MlpInBwdRefIdeal.Run
public import proofs.«01_k».proof.Proof.Gen.InWgradRefIdeal.Run
public import proofs.«01_k».proof.Proof.Gen.OutWgradRefIdeal.Run
public import proofs.«01_k».proof.Proof.InBwd
public import proofs.«01_k».proof.Proof.OutBwd
public import proofs.«01_k».proof.Proof.InProj
public import proofs.«01_k».proof.Proof.OutProj
public import proofs.«01_k».proof.Proof.Gen.InBwdRefIdeal.Run
public import proofs.«01_k».proof.Proof.Gen.OutBwdRefIdeal.Run
public import proofs.«01_k».proof.Proof.Gen.InProjRefIdeal.Run
public import proofs.«01_k».proof.Proof.Gen.OutProjRefIdeal.Run

@[expose] public section

set_option maxRecDepth 16384

noncomputable section

open Idealize.ShloMosaic

namespace Cert.MlpFwdProof

variable (m : (ℓ : Loc MlpFwdIdeal.nD MlpFwdIdeal.τ MlpFwdIdeal.sig) → Buf (Elt Ideal) ℓ)
  (h : FVec Ideal MlpFwdRefIdeal.S4096x2048 .f32) (w₁ : FVec Ideal MlpFwdRefIdeal.S2048x8192 .f32)
  (w₂ : FVec Ideal MlpFwdRefIdeal.S8192x2048 .f32) (c : Dev MlpFwdIdeal.nD)

theorem pre_eq (hh : h = inp m c) (h1 : w₁ = wIn m c) :
    (truncf .bf16 (Host.dotGeneral MlpFwdRefIdeal.dot_S4096x2048_S2048x8192_S4096x8192_1_0_0_1_n_n none h w₁)
      MlpFwdRefIdeal.Facts₀.bitsLt_bf16_f32 : FVec Ideal MlpFwdRefIdeal.S4096x8192 .bf16) = preArr m c := by
  subst hh h1
  funext i
  idx_vars i
  pointwise
  rfl

theorem out_eq (hh : h = inp m c) (h1 : w₁ = wIn m c) (h2 : w₂ = wOut m c) :
    Host.dotGeneral MlpFwdRefIdeal.dot_S4096x8192_S8192x2048_S4096x2048_1_0_0_1_n_n none
      (mulf
        (maximumf (Host.dotGeneral MlpFwdRefIdeal.dot_S4096x2048_S2048x8192_S4096x8192_1_0_0_1_n_n none h w₁)
          (broadcastInDim MlpFwdRefIdeal.S4096x8192 ![] MlpFwdRefIdeal.Facts₀.bcast_S_S4096x8192 (constant MlpFwdRefIdeal.S_ .f32 0x00000000#32)))
        (maximumf (Host.dotGeneral MlpFwdRefIdeal.dot_S4096x2048_S2048x8192_S4096x8192_1_0_0_1_n_n none h w₁)
          (broadcastInDim MlpFwdRefIdeal.S4096x8192 ![] MlpFwdRefIdeal.Facts₀.bcast_S_S4096x8192 (constant MlpFwdRefIdeal.S_ .f32 0x00000000#32))))
      w₂ = outArr m c := by
  subst hh h1 h2
  funext i
  idx_vars i
  pointwise
  rfl

end Cert.MlpFwdProof

namespace Cert.MlpInBwdProof

variable (m : (ℓ : Loc MlpInBwdIdeal.nD MlpInBwdIdeal.τ MlpInBwdIdeal.sig) → Buf (Elt Ideal) ℓ) (c : Dev MlpInBwdIdeal.nD)
  (a : FVec Ideal MlpInBwdRefIdeal.S4096x8192 .f32) (b : FVec Ideal MlpInBwdRefIdeal.S2048x8192 .f32)

theorem reference_eq (ha : a = dPre m c) (hb : b = wIn m c) :
    Host.dotGeneral MlpInBwdRefIdeal.dot_S4096x8192_S2048x8192_S4096x2048_1_1_0_0_n_n none a b = result m c := by
  subst ha hb
  funext i
  idx_vars i
  pointwise
  rfl

end Cert.MlpInBwdProof

namespace Cert.InWgradProof

variable (m : (ℓ : Loc InWgradIdeal.nD InWgradIdeal.τ InWgradIdeal.sig) → Buf (Elt Ideal) ℓ) (c : Dev InWgradIdeal.nD)
  (a : FVec Ideal InWgradRefIdeal.S4096x2048 .f32) (b : FVec Ideal InWgradRefIdeal.S4096x2816 .f32)

theorem reference_eq (ha : a = inp m c) (hb : b = dOut m c) :
    transpose InWgradRefIdeal.S2048x2816 [1, 0]
      (Host.dotGeneral InWgradRefIdeal.dot_S4096x2816_S4096x2048_S2816x2048_0_0_1_1_n_n none b a)
      InWgradRefIdeal.Facts₀.transposes_S2816x2048_S2048x2816_1_0 = result m c := by
  subst ha hb
  funext i
  idx_vars i
  pointwise
  exact Finset.sum_congr rfl fun k _ => mul_comm _ _

end Cert.InWgradProof

namespace Cert.OutWgradProof

variable (m : (ℓ : Loc OutWgradIdeal.nD OutWgradIdeal.τ OutWgradIdeal.sig) → Buf (Elt Ideal) ℓ) (c : Dev OutWgradIdeal.nD)
  (a : FVec Ideal OutWgradRefIdeal.S4096x1280 .f32) (b : FVec Ideal OutWgradRefIdeal.S4096x2048 .f32)

theorem reference_eq (ha : a = inp m c) (hb : b = dOut m c) :
    transpose OutWgradRefIdeal.S1280x2048 [1, 0]
      (Host.dotGeneral OutWgradRefIdeal.dot_S4096x2048_S4096x1280_S2048x1280_0_0_1_1_n_n none b a)
      OutWgradRefIdeal.Facts₀.transposes_S2048x1280_S1280x2048_1_0 = result m c := by
  subst ha hb
  funext i
  idx_vars i
  pointwise
  exact Finset.sum_congr rfl fun k _ => mul_comm _ _

end Cert.OutWgradProof

namespace Cert.InBwdProof

variable (m : (ℓ : Loc InBwdIdeal.nD InBwdIdeal.τ InBwdIdeal.sig) → Buf (Elt Ideal) ℓ) (c : Dev InBwdIdeal.nD)
  (a : FVec Ideal InBwdRefIdeal.S4096x2816 .f32) (b : FVec Ideal InBwdRefIdeal.S2048x2816 .f32)

theorem reference_eq (ha : a = dOut m c) (hb : b = wgt m c) :
    Host.dotGeneral InBwdRefIdeal.dot_S4096x2816_S2048x2816_S4096x2048_1_1_0_0_n_n none a b = result m c := by
  subst ha hb
  funext i
  idx_vars i
  pointwise
  rfl

end Cert.InBwdProof

namespace Cert.OutBwdProof

variable (m : (ℓ : Loc OutBwdIdeal.nD OutBwdIdeal.τ OutBwdIdeal.sig) → Buf (Elt Ideal) ℓ) (c : Dev OutBwdIdeal.nD)
  (a : FVec Ideal OutBwdRefIdeal.S4096x2048 .f32) (b : FVec Ideal OutBwdRefIdeal.S1280x2048 .f32)

theorem reference_eq (ha : a = dOut m c) (hb : b = wgt m c) :
    Host.dotGeneral OutBwdRefIdeal.dot_S4096x2048_S1280x2048_S4096x1280_1_1_0_0_n_n none a b = result m c := by
  subst ha hb
  funext i
  idx_vars i
  pointwise
  rfl

end Cert.OutBwdProof

namespace Cert.InProjProof

variable (m : (ℓ : Loc InProjIdeal.nD InProjIdeal.τ InProjIdeal.sig) → Buf (Elt Ideal) ℓ) (c : Dev InProjIdeal.nD)
  (a : FVec Ideal InProjRefIdeal.S4096x2048 .f32) (b : FVec Ideal InProjRefIdeal.S2048x2816 .f32)

theorem reference_eq (ha : a = inp m c) (hb : b = wgt m c) :
    Host.dotGeneral InProjRefIdeal.dot_S4096x2048_S2048x2816_S4096x2816_1_0_0_1_n_n none a b = result m c := by
  subst ha hb
  funext i
  idx_vars i
  pointwise
  rfl

end Cert.InProjProof

namespace Cert.OutProjProof

variable (m : (ℓ : Loc OutProjIdeal.nD OutProjIdeal.τ OutProjIdeal.sig) → Buf (Elt Ideal) ℓ) (c : Dev OutProjIdeal.nD)
  (a : FVec Ideal OutProjRefIdeal.S4096x1280 .f32) (b : FVec Ideal OutProjRefIdeal.S1280x2048 .f32)

theorem reference_eq (ha : a = inp m c) (hb : b = wgt m c) :
    Host.dotGeneral OutProjRefIdeal.dot_S4096x1280_S1280x2048_S4096x2048_1_0_0_1_n_n none a b = result m c := by
  subst ha hb
  funext i
  idx_vars i
  pointwise
  rfl

end Cert.OutProjProof

end
-- ==== Proof.RowNorm.lean ====
/- The root-mean-square norm of a row and the gradient through it, at extended reals. -/
module

public import Idealize.ShloMosaic.Lib.Pointwise

@[expose] public section

noncomputable section

namespace Cert.RowNorm

open Idealize.ShloMosaic

/-- The row's length, 2048. -/
abbrev two11 : EReal := Ideal.ofBits .f32 0x45000000#32
/-- One part in 2048. -/
abbrev part11 : EReal := Ideal.ofBits .f32 0x3A000000#32
/-- One half. -/
abbrev half : EReal := Ideal.ofBits .f32 0x3F000000#32
/-- Minus one half. -/
abbrev minusHalf : EReal := Ideal.ofBits .f32 0xBF000000#32
/-- What the norm adds to the mean square. -/
abbrev eps : EReal := Ideal.ofBits .f32 0x358637BD#32

/-- The mean square of a row and `eps`. -/
def meanSq (x : Fin 2048 → EReal) : EReal := Ideal.div (∑ k, x k * x k) two11 + eps
/-- What the norm multiplies a row by. -/
def inv (x : Fin 2048 → EReal) : EReal := Ideal.rsqrt (meanSq x)
/-- The part of a row's gradient that comes through its mean square, per entry of the row. -/
def pull (x g : Fin 2048 → EReal) : EReal :=
  Ideal.div ((∑ k, x k * g k) * (minusHalf * Ideal.div (inv x) (meanSq x))) two11
/-- The gradient at a row from the gradient `g` at the normed row. -/
def back (x g : Fin 2048 → EReal) (k : Fin 2048) : EReal := g k * inv x + x k * pull x g + pull x g * x k
/-- The same, added to `a`. -/
def backFrom (a x g : Fin 2048 → EReal) (k : Fin 2048) : EReal := a k + g k * inv x + x k * pull x g + pull x g * x k

end Cert.RowNorm

end
-- ==== Proof.PreMix.lean ====
/- The gradient through the first norm and its modulation, as arrays. The kernel walks 16 tiles of 256 rows; it writes each tile's
   rows back and adds the tile's part to three sums over the rows. -/
module

public import proofs.«01_k».proof.Proof.Gen.PreMixIdeal.Value
public import proofs.«01_k».proof.Proof.RowNorm
public import Idealize.ShloMosaic.Lib.Pointwise
public import Idealize.ShloMosaic.Lib.Pipeline.ValueKit
public import Idealize.ShloMosaic.Lib.Pipeline.ReadBack

@[expose] public section

set_option maxRecDepth 16384

noncomputable section

namespace Cert.PreMixProof

open Idealize.ShloMosaic Cert.PreMixIdeal Cert.PreMixIdeal.Gen Cert.RowNorm

/-- Where each window of grid point `t` lies. -/
theorem idx : ∀ t : Fin cfg0.N, win0_0.index t = ![t.val, 0]
    ∧ win0_1.index t = ![t.val, 0]
    ∧ win0_2.index t = ![t.val, 0]
    ∧ win0_3.index t = ![0, 0]
    ∧ win0_4.index t = ![0, 0]
    ∧ win0_5.index t = ![0, 0]
    ∧ win0_6.index t = ![t.val, 0]
    ∧ win0_7.index t = ![0, 0]
    ∧ win0_8.index t = ![0, 0]
    ∧ win0_9.index t = ![0, 0] := by decide +kernel

theorem points (t : Fin cfg0.N) : t.val < 16 := t.isLt

variable (m : (ℓ : Loc nD τ sig) → Buf (Elt Ideal) ℓ) (c : Dev nD)

/-- The block's input. -/
abbrev inp : FVec Ideal S4096x2048 .f32 := m ((c.tc : Thread nD τ).loc main_arg0)
/-- The gradient that arrives at the modulated norm. -/
abbrev dOut : FVec Ideal S4096x2048 .f32 := m ((c.tc : Thread nD τ).loc main_arg1)
/-- The gradient that arrives at the input past the norm. -/
abbrev dSkip : FVec Ideal S4096x2048 .f32 := m ((c.tc : Thread nD τ).loc main_arg2)
/-- The norm's gain. -/
abbrev gain : FVec Ideal S1x2048 .f32 := m ((c.tc : Thread nD τ).loc main_arg3)
/-- The modulation's scale. -/
abbrev scale : FVec Ideal S1x2048 .f32 := m ((c.tc : Thread nD τ).loc main_arg4)
/-- The modulation's shift. -/
abbrev shift : FVec Ideal S1x2048 .f32 := m ((c.tc : Thread nD τ).loc main_arg5)

/-- Row `r` of grid point `t`'s tile. -/
def row (t : Fin cfg0.N) (r : Fin 256) : Fin 4096 := ⟨t.val * 256 + r.val, by have := points t; omega⟩

theorem inp_block (t : Fin cfg0.N) (r : Fin 256) (k : Fin 2048) : iblk m c 0 t (ix2 r k) = inp m c (ix2 (row t r) k) := by
  blk_ext [iblk, V, row, (idx t).1]
theorem dOut_block (t : Fin cfg0.N) (r : Fin 256) (k : Fin 2048) : iblk m c 1 t (ix2 r k) = dOut m c (ix2 (row t r) k) := by
  blk_ext [iblk, V, row, (idx t).2.1]
theorem dSkip_block (t : Fin cfg0.N) (r : Fin 256) (k : Fin 2048) : iblk m c 2 t (ix2 r k) = dSkip m c (ix2 (row t r) k) := by
  blk_ext [iblk, V, row, (idx t).2.2.1]
theorem gain_block (t : Fin cfg0.N) (k : Fin 2048) : iblk m c 3 t (ix2 0 k) = gain m c (ix2 0 k) := by
  blk_ext [iblk, V, (idx t).2.2.2.1]
theorem scale_block (t : Fin cfg0.N) (k : Fin 2048) : iblk m c 4 t (ix2 0 k) = scale m c (ix2 0 k) := by
  blk_ext [iblk, V, (idx t).2.2.2.2.1]
theorem shift_block (t : Fin cfg0.N) (k : Fin 2048) : iblk m c 5 t (ix2 0 k) = shift m c (ix2 0 k) := by
  blk_ext [iblk, V, (idx t).2.2.2.2.2.1]

/-- The gradient that arrives at the norm, at row `r`. -/
def dNorm (r : Fin 4096) (k : Fin 2048) : EReal := dOut m c (ix2 r k) * (1 + scale m c (ix2 0 k)) * gain m c (ix2 0 k)
/-- The gradient at the input, at row `r`. -/
def dInp (r : Fin 4096) (k : Fin 2048) : EReal := back (fun k => inp m c (ix2 r k)) (dNorm m c r) k + dSkip m c (ix2 r k)
/-- Row `r`'s term of the gradient of the gain. -/
def dGain (r : Fin 4096) (k : Fin 2048) : EReal :=
  inp m c (ix2 r k) * inv (fun k => inp m c (ix2 r k)) * (dOut m c (ix2 r k) * (1 + scale m c (ix2 0 k)))
/-- Row `r`'s term of the gradient of the scale. -/
def dScale (r : Fin 4096) (k : Fin 2048) : EReal :=
  inp m c (ix2 r k) * inv (fun k => inp m c (ix2 r k)) * gain m c (ix2 0 k) * dOut m c (ix2 r k)
/-- Row `r`'s term of the gradient of the shift. -/
def dShift (r : Fin 4096) (k : Fin 2048) : EReal := dOut m c (ix2 r k)

theorem dx_block (t : Fin cfg0.N) : (outsAt0 m c t.val t.isLt).1 = k0_pay1 (iblk m c 0 t) (iblk m c 2 t) (k0_pay7 (iblk m c 0 t))
    (k0_pay15 (iblk m c 0 t) (iblk m c 1 t) (iblk m c 3 t) (iblk m c 4 t))
    (k0_pay16 (iblk m c 0 t) (iblk m c 1 t) (iblk m c 3 t) (iblk m c 4 t)) := by
  have hp := points t
  by_cases h : t.val % 16 = 0
  · rw [outsAt0_A m c t h (by omega) h (by omega) h (by omega)]; frame_out
  · rw [outsAt0_B m c t h (by omega) h (by omega) h (by omega)]; frame_out

set_option maxHeartbeats 2000000 in
theorem dx_entry (t : Fin cfg0.N) (r : Fin 256) (k : Fin 2048) : (outsAt0 m c t.val t.isLt).1 (ix2 r k) = dInp m c (row t r) k := by
  rw [dx_block]
  unfold_payloads
  pointwise
  simp only [inp_block, dOut_block, dSkip_block, gain_block, scale_block, shift_block, Fin.sum_univ_one]
  rfl

/-- The gradient at the input. -/
def dxArr : FVec Ideal S4096x2048 .f32 := fun i => dInp m c (i 0) (i 1)

theorem dx_place (t : Fin cfg0.N) (r : Fin 256) (k : Fin 2048) : ((cfg0.win 6).blk t).view.emb (ix2 r k) = ix2 (row t r) k := by
  blk_ext [row, (idx t).2.2.2.2.2.2.1]

theorem dx_array : (dats m 0 c).arrAt 6 cfg0.N = dxArr m c := by
  refine (dats m 0 c).arrAt_eq_of_covers 6 _ (by decide +kernel) fun t hf y => ?_
  idx_vars y
  refine Eq.trans ?_ (congrArg (dxArr m c) (dx_place t y0 y1)).symm
  blk_simp
  rw [after0_6, dx_entry m c t]
  rfl

/-- Grid point `t`'s part of the sum. -/
abbrev dgainPart (t : Fin cfg0.N) : FVec Ideal S1x2048 .f32 := k0_pay13 (iblk m c 0 t) (iblk m c 1 t) (iblk m c 4 t)

theorem dgain_first (t : Fin cfg0.N) (h : t.val % 16 = 0) : (outsAt0 m c t.val t.isLt).2.1 = dgainPart m c t := by
  have hp := points t
  rw [outsAt0_A m c t h (by omega) h (by omega) h (by omega)]; frame_out

theorem dgain_next (t : Fin cfg0.N) (h : ¬t.val % 16 = 0) : (outsAt0 m c t.val t.isLt).2.1
    = k0_pay2 (dgainPart m c t) (outsAt0 m c (t.val - 1) (Nat.lt_of_le_of_lt (Nat.sub_le _ _) t.isLt)).2.1 := by
  rw [outsAt0_B m c t h (by omega) h (by omega) h (by omega)]; frame_out

set_option maxHeartbeats 2000000 in
theorem dgain_part (t : Fin cfg0.N) (k : Fin 2048) : dgainPart m c t (ix2 0 k) = ∑ r : Fin 256, dGain m c (row t r) k := by
  unfold dgainPart
  unfold_payloads
  pointwise
  simp only [inp_block, dOut_block, dSkip_block, gain_block, scale_block, shift_block, Fin.sum_univ_one]
  rfl

theorem dgain_last (t : Fin cfg0.N) (h : t.val % 16 = 15) (k : Fin 2048) :
    (outsAt0 m c t.val t.isLt).2.1 (ix2 0 k) = ∑ r : Fin 4096, dGain m c r k := by
  refine (Pipeline.eq_sum_fin_of_reset_step_apply_of_flush (fun n hn => (outsAt0 m c n hn).2.1) 16 (fun _ => (0 : EReal))
    (fun t i => (dgainPart m c t i : EReal)) (fun t h i => ?_) (fun t h i => ?_) t h (ix2 0 k)).trans ?_
  · rw [dgain_first m c t h]
    exact (zero_add _).symm
  · rw [dgain_next m c t h]
    idx_vars i
    unfold k0_pay2
    pointwise
  · rw [zero_add]
    refine Eq.trans (Finset.sum_congr rfl fun s _ => dgain_part m c _ k) ?_
    refine Fin.sum_mul_add_congr (n := 256) (fun s r hl => ?_)
    have hp := points t
    have hr : ∀ h, row ⟨16 * (t.val / 16) + s.val, h⟩ r = ⟨s.val * 256 + r.val, hl⟩ := fun _ => Fin.ext (by simp only [row]; omega)
    rw [hr]

/-- The gradient of the gain. -/
def dgainArr : FVec Ideal S1x2048 .f32 := fun i => ∑ r : Fin 4096, dGain m c r (i 1)

theorem dgain_place (t : Fin cfg0.N) (k : Fin 2048) : ((cfg0.win 7).blk t).view.emb (ix2 0 k) = ix2 0 k := by
  blk_ext [(idx t).2.2.2.2.2.2.2.1]

theorem dgain_array : (dats m 0 c).arrAt 7 cfg0.N = dgainArr m c := by
  refine (dats m 0 c).arrAt_eq_of_covers 7 _ (by decide +kernel) fun t hf y => ?_
  idx_vars y
  obtain rfl : y0 = 0 := Subsingleton.elim _ _
  refine Eq.trans ?_ (congrArg (dgainArr m c) (dgain_place t y1)).symm
  blk_simp
  rw [after0_7, dgain_last m c t ((flush0_7 t).mp hf)]
  rfl

/-- Grid point `t`'s part of the sum. -/
abbrev dscalePart (t : Fin cfg0.N) : FVec Ideal S1x2048 .f32 := k0_pay11 (iblk m c 0 t) (iblk m c 1 t) (iblk m c 3 t)

theorem dscale_first (t : Fin cfg0.N) (h : t.val % 16 = 0) : (outsAt0 m c t.val t.isLt).2.2.1 = dscalePart m c t := by
  have hp := points t
  rw [outsAt0_A m c t h (by omega) h (by omega) h (by omega)]; frame_out

theorem dscale_next (t : Fin cfg0.N) (h : ¬t.val % 16 = 0) : (outsAt0 m c t.val t.isLt).2.2.1
    = k0_pay3 (dscalePart m c t) (outsAt0 m c (t.val - 1) (Nat.lt_of_le_of_lt (Nat.sub_le _ _) t.isLt)).2.2.1 := by
  rw [outsAt0_B m c t h (by omega) h (by omega) h (by omega)]; frame_out

set_option maxHeartbeats 2000000 in
theorem dscale_part (t : Fin cfg0.N) (k : Fin 2048) : dscalePart m c t (ix2 0 k) = ∑ r : Fin 256, dScale m c (row t r) k := by
  unfold dscalePart
  unfold_payloads
  pointwise
  simp only [inp_block, dOut_block, dSkip_block, gain_block, scale_block, shift_block, Fin.sum_univ_one]
  rfl

theorem dscale_last (t : Fin cfg0.N) (h : t.val % 16 = 15) (k : Fin 2048) :
    (outsAt0 m c t.val t.isLt).2.2.1 (ix2 0 k) = ∑ r : Fin 4096, dScale m c r k := by
  refine (Pipeline.eq_sum_fin_of_reset_step_apply_of_flush (fun n hn => (outsAt0 m c n hn).2.2.1) 16 (fun _ => (0 : EReal))
    (fun t i => (dscalePart m c t i : EReal)) (fun t h i => ?_) (fun t h i => ?_) t h (ix2 0 k)).trans ?_
  · rw [dscale_first m c t h]
    exact (zero_add _).symm
  · rw [dscale_next m c t h]
    idx_vars i
    unfold k0_pay3
    pointwise
  · rw [zero_add]
    refine Eq.trans (Finset.sum_congr rfl fun s _ => dscale_part m c _ k) ?_
    refine Fin.sum_mul_add_congr (n := 256) (fun s r hl => ?_)
    have hp := points t
    have hr : ∀ h, row ⟨16 * (t.val / 16) + s.val, h⟩ r = ⟨s.val * 256 + r.val, hl⟩ := fun _ => Fin.ext (by simp only [row]; omega)
    rw [hr]

/-- The gradient of the scale. -/
def dscaleArr : FVec Ideal S1x2048 .f32 := fun i => ∑ r : Fin 4096, dScale m c r (i 1)

theorem dscale_place (t : Fin cfg0.N) (k : Fin 2048) : ((cfg0.win 8).blk t).view.emb (ix2 0 k) = ix2 0 k := by
  blk_ext [(idx t).2.2.2.2.2.2.2.2.1]

theorem dscale_array : (dats m 0 c).arrAt 8 cfg0.N = dscaleArr m c := by
  refine (dats m 0 c).arrAt_eq_of_covers 8 _ (by decide +kernel) fun t hf y => ?_
  idx_vars y
  obtain rfl : y0 = 0 := Subsingleton.elim _ _
  refine Eq.trans ?_ (congrArg (dscaleArr m c) (dscale_place t y1)).symm
  blk_simp
  rw [after0_8, dscale_last m c t ((flush0_8 t).mp hf)]
  rfl

/-- Grid point `t`'s part of the sum. -/
abbrev dshiftPart (t : Fin cfg0.N) : FVec Ideal S1x2048 .f32 := k0_pay10 (iblk m c 1 t)

theorem dshift_first (t : Fin cfg0.N) (h : t.val % 16 = 0) : (outsAt0 m c t.val t.isLt).2.2.2 = dshiftPart m c t := by
  have hp := points t
  rw [outsAt0_A m c t h (by omega) h (by omega) h (by omega)]; frame_out

theorem dshift_next (t : Fin cfg0.N) (h : ¬t.val % 16 = 0) : (outsAt0 m c t.val t.isLt).2.2.2
    = k0_pay4 (dshiftPart m c t) (outsAt0 m c (t.val - 1) (Nat.lt_of_le_of_lt (Nat.sub_le _ _) t.isLt)).2.2.2 := by
  rw [outsAt0_B m c t h (by omega) h (by omega) h (by omega)]; frame_out

set_option maxHeartbeats 2000000 in
theorem dshift_part (t : Fin cfg0.N) (k : Fin 2048) : dshiftPart m c t (ix2 0 k) = ∑ r : Fin 256, dShift m c (row t r) k := by
  unfold dshiftPart
  unfold_payloads
  pointwise
  simp only [inp_block, dOut_block, dSkip_block, gain_block, scale_block, shift_block, Fin.sum_univ_one]
  rfl

theorem dshift_last (t : Fin cfg0.N) (h : t.val % 16 = 15) (k : Fin 2048) :
    (outsAt0 m c t.val t.isLt).2.2.2 (ix2 0 k) = ∑ r : Fin 4096, dShift m c r k := by
  refine (Pipeline.eq_sum_fin_of_reset_step_apply_of_flush (fun n hn => (outsAt0 m c n hn).2.2.2) 16 (fun _ => (0 : EReal))
    (fun t i => (dshiftPart m c t i : EReal)) (fun t h i => ?_) (fun t h i => ?_) t h (ix2 0 k)).trans ?_
  · rw [dshift_first m c t h]
    exact (zero_add _).symm
  · rw [dshift_next m c t h]
    idx_vars i
    unfold k0_pay4
    pointwise
  · rw [zero_add]
    refine Eq.trans (Finset.sum_congr rfl fun s _ => dshift_part m c _ k) ?_
    refine Fin.sum_mul_add_congr (n := 256) (fun s r hl => ?_)
    have hp := points t
    have hr : ∀ h, row ⟨16 * (t.val / 16) + s.val, h⟩ r = ⟨s.val * 256 + r.val, hl⟩ := fun _ => Fin.ext (by simp only [row]; omega)
    rw [hr]

/-- The gradient of the shift. -/
def dshiftArr : FVec Ideal S1x2048 .f32 := fun i => ∑ r : Fin 4096, dShift m c r (i 1)

theorem dshift_place (t : Fin cfg0.N) (k : Fin 2048) : ((cfg0.win 9).blk t).view.emb (ix2 0 k) = ix2 0 k := by
  blk_ext [(idx t).2.2.2.2.2.2.2.2.2]

theorem dshift_array : (dats m 0 c).arrAt 9 cfg0.N = dshiftArr m c := by
  refine (dats m 0 c).arrAt_eq_of_covers 9 _ (by decide +kernel) fun t hf y => ?_
  idx_vars y
  obtain rfl : y0 = 0 := Subsingleton.elim _ _
  refine Eq.trans ?_ (congrArg (dshiftArr m c) (dshift_place t y1)).symm
  blk_simp
  rw [after0_9, dshift_last m c t ((flush0_9 t).mp hf)]
  rfl

end Cert.PreMixProof

end
-- ==== Proof.PreMixEquation.lean ====
/- The reference of the gradient through the first norm gives the arrays its kernel gives. -/
module

public import proofs.«01_k».proof.Proof.PreMix
public import proofs.«01_k».proof.Proof.Gen.PreMixRefIdeal.Run

@[expose] public section

set_option maxRecDepth 16384

noncomputable section

namespace Cert.PreMixProof

open Idealize.ShloMosaic Idealize.ShloMosaic.TcCoe Idealize.SL.Sem Cert.PreMixRefIdeal Cert.RowNorm

variable (m : (ℓ : Loc PreMixIdeal.nD PreMixIdeal.τ PreMixIdeal.sig) → Buf (Elt Ideal) ℓ)
  (m' : (ℓ : Loc nD τ sig) → Buf (Elt Ideal) ℓ)

/-- The two programs are launched on the same arguments. -/
abbrev Agree (c : Dev PreMixIdeal.nD) : Prop :=
  m' ((c.tc : Thread nD τ).loc main_arg0) = m ((c.tc : Thread PreMixIdeal.nD PreMixIdeal.τ).loc PreMixIdeal.main_arg0)
    ∧ m' ((c.tc : Thread nD τ).loc main_arg1) = m ((c.tc : Thread PreMixIdeal.nD PreMixIdeal.τ).loc PreMixIdeal.main_arg1)
    ∧ m' ((c.tc : Thread nD τ).loc main_arg2) = m ((c.tc : Thread PreMixIdeal.nD PreMixIdeal.τ).loc PreMixIdeal.main_arg2)
    ∧ m' ((c.tc : Thread nD τ).loc main_arg3) = m ((c.tc : Thread PreMixIdeal.nD PreMixIdeal.τ).loc PreMixIdeal.main_arg3)
    ∧ m' ((c.tc : Thread nD τ).loc main_arg4) = m ((c.tc : Thread PreMixIdeal.nD PreMixIdeal.τ).loc PreMixIdeal.main_arg4)
    ∧ m' ((c.tc : Thread nD τ).loc main_arg5) = m ((c.tc : Thread PreMixIdeal.nD PreMixIdeal.τ).loc PreMixIdeal.main_arg5)

theorem backFrom_eq (a x g : Fin 2048 → EReal) (k : Fin 2048) : backFrom a x g k = back x g k + a k := by
  rw [add_comm, back, ← add_assoc, ← add_assoc]
  rfl

set_option maxHeartbeats 4000000 in
/-- The reference gives these arrays. -/
theorem reference (ρ' : Dev nD → PrngReg) (agree : ∀ c, Agree m m' c) :
    θ_run defs (onTc (τ := τ) (main (F := Ideal))) ⟨m', fun _ => 0, ρ'⟩ fun r => ∀ c : Dev nD,
      r.2.mem ((c.tc : Thread nD τ).loc main_v48) = dxArr m c
      ∧ r.2.mem ((c.tc : Thread nD τ).loc main_v31) = dgainArr m c
      ∧ r.2.mem ((c.tc : Thread nD τ).loc main_v26) = dscaleArr m c
      ∧ r.2.mem ((c.tc : Thread nD τ).loc main_v23) = dshiftArr m c
      ∧ r.2.mem ((c.tc : Thread nD τ).loc main_arg0) = m' ((c.tc : Thread nD τ).loc main_arg0)
      ∧ r.2.mem ((c.tc : Thread nD τ).loc main_arg1) = m' ((c.tc : Thread nD τ).loc main_arg1)
      ∧ r.2.mem ((c.tc : Thread nD τ).loc main_arg2) = m' ((c.tc : Thread nD τ).loc main_arg2)
      ∧ r.2.mem ((c.tc : Thread nD τ).loc main_arg3) = m' ((c.tc : Thread nD τ).loc main_arg3)
      ∧ r.2.mem ((c.tc : Thread nD τ).loc main_arg4) = m' ((c.tc : Thread nD τ).loc main_arg4)
      ∧ r.2.mem ((c.tc : Thread nD τ).loc main_arg5) = m' ((c.tc : Thread nD τ).loc main_arg5) := by
  refine (θ_run _ _ _).mono (fun r h c => ?_) (Value.run m' ρ')
  obtain ⟨a0, a1, a2, a3, a4, a5⟩ := agree c
  obtain ⟨h0, h1, h2, h3, hk⟩ := h c
  refine ⟨h0.trans ?_, h1.trans ?_, h2.trans ?_, h3.trans ?_, hk⟩
  · funext i
    idx_vars i
    unfold Value.res_main_v48
    pointwise
    simp only [a0, a1, a2, a3, a4, a5, Fin.sum_univ_one]
    exact backFrom_eq (fun k => dSkip m c (ix2 i0 k)) _ (dNorm m c i0) i1
  · funext i
    idx_vars i
    pointwise
    simp only [a0, a1, a2, a3, a4, a5, Fin.sum_univ_one]
    rfl
  · funext i
    idx_vars i
    pointwise
    simp only [a0, a1, a2, a3, a4, a5, Fin.sum_univ_one]
    rfl
  · funext i
    idx_vars i
    pointwise
    simp only [a0, a1, a2, a3, a4, a5, Fin.sum_univ_one]
    rfl

end Cert.PreMixProof

end
-- ==== Proof.PostMix.lean ====
/- The gradient through the residual sum after the mixers and the norm before the MLP, as arrays. The kernel walks 16 tiles of 256 rows;
   it writes each tile's rows back and adds the tile's part to five sums over the rows. -/
module

public import proofs.«01_k».proof.Proof.Gen.PostMixIdeal.Value
public import proofs.«01_k».proof.Proof.RowNorm
public import Idealize.ShloMosaic.Lib.Pointwise
public import Idealize.ShloMosaic.Lib.Pipeline.ValueKit
public import Idealize.ShloMosaic.Lib.Pipeline.ReadBack

@[expose] public section

set_option maxRecDepth 16384

noncomputable section

namespace Cert.PostMixProof

open Idealize.ShloMosaic Cert.PostMixIdeal Cert.PostMixIdeal.Gen Cert.RowNorm

/-- Where each window of grid point `t` lies. -/
theorem idx : ∀ t : Fin cfg0.N, win0_0.index t = ![t.val, 0]
    ∧ win0_1.index t = ![t.val, 0]
    ∧ win0_2.index t = ![t.val, 0]
    ∧ win0_3.index t = ![t.val, 0]
    ∧ win0_4.index t = ![0, 0]
    ∧ win0_5.index t = ![0, 0]
    ∧ win0_6.index t = ![0, 0]
    ∧ win0_7.index t = ![0, 0]
    ∧ win0_8.index t = ![0, 0]
    ∧ win0_9.index t = ![t.val, 0]
    ∧ win0_10.index t = ![t.val, 0]
    ∧ win0_11.index t = ![0, 0]
    ∧ win0_12.index t = ![0, 0]
    ∧ win0_13.index t = ![0, 0]
    ∧ win0_14.index t = ![0, 0]
    ∧ win0_15.index t = ![0, 0] := by decide +kernel

theorem points (t : Fin cfg0.N) : t.val < 16 := t.isLt

variable (m : (ℓ : Loc nD τ sig) → Buf (Elt Ideal) ℓ) (c : Dev nD)

/-- The block's input. -/
abbrev inp : FVec Ideal S4096x2048 .f32 := m ((c.tc : Thread nD τ).loc main_arg0)
/-- The mixers' output. -/
abbrev mix : FVec Ideal S4096x2048 .f32 := m ((c.tc : Thread nD τ).loc main_arg1)
/-- The gradient that arrives at the residual sum. -/
abbrev dSum : FVec Ideal S4096x2048 .f32 := m ((c.tc : Thread nD τ).loc main_arg2)
/-- The gradient that arrives at the MLP's input. -/
abbrev dNext : FVec Ideal S4096x2048 .f32 := m ((c.tc : Thread nD τ).loc main_arg3)
/-- The gain of the norm after the mixers. -/
abbrev gPost : FVec Ideal S1x2048 .f32 := m ((c.tc : Thread nD τ).loc main_arg4)
/-- The gate. -/
abbrev gate : FVec Ideal S1x2048 .f32 := m ((c.tc : Thread nD τ).loc main_arg5)
/-- The gain of the norm before the MLP. -/
abbrev gPre : FVec Ideal S1x2048 .f32 := m ((c.tc : Thread nD τ).loc main_arg6)
/-- The modulation's scale. -/
abbrev scale : FVec Ideal S1x2048 .f32 := m ((c.tc : Thread nD τ).loc main_arg7)
/-- The modulation's shift. -/
abbrev shift : FVec Ideal S1x2048 .f32 := m ((c.tc : Thread nD τ).loc main_arg8)

/-- Row `r` of grid point `t`'s tile. -/
def row (t : Fin cfg0.N) (r : Fin 256) : Fin 4096 := ⟨t.val * 256 + r.val, by have := points t; omega⟩

theorem inp_block (t : Fin cfg0.N) (r : Fin 256) (k : Fin 2048) : iblk m c 0 t (ix2 r k) = inp m c (ix2 (row t r) k) := by
  blk_ext [iblk, V, row, (idx t).1]
theorem mix_block (t : Fin cfg0.N) (r : Fin 256) (k : Fin 2048) : iblk m c 1 t (ix2 r k) = mix m c (ix2 (row t r) k) := by
  blk_ext [iblk, V, row, (idx t).2.1]
theorem dSum_block (t : Fin cfg0.N) (r : Fin 256) (k : Fin 2048) : iblk m c 2 t (ix2 r k) = dSum m c (ix2 (row t r) k) := by
  blk_ext [iblk, V, row, (idx t).2.2.1]
theorem dNext_block (t : Fin cfg0.N) (r : Fin 256) (k : Fin 2048) : iblk m c 3 t (ix2 r k) = dNext m c (ix2 (row t r) k) := by
  blk_ext [iblk, V, row, (idx t).2.2.2.1]
theorem gPost_block (t : Fin cfg0.N) (k : Fin 2048) : iblk m c 4 t (ix2 0 k) = gPost m c (ix2 0 k) := by
  blk_ext [iblk, V, (idx t).2.2.2.2.1]
theorem gate_block (t : Fin cfg0.N) (k : Fin 2048) : iblk m c 5 t (ix2 0 k) = gate m c (ix2 0 k) := by
  blk_ext [iblk, V, (idx t).2.2.2.2.2.1]
theorem gPre_block (t : Fin cfg0.N) (k : Fin 2048) : iblk m c 6 t (ix2 0 k) = gPre m c (ix2 0 k) := by
  blk_ext [iblk, V, (idx t).2.2.2.2.2.2.1]
theorem scale_block (t : Fin cfg0.N) (k : Fin 2048) : iblk m c 7 t (ix2 0 k) = scale m c (ix2 0 k) := by
  blk_ext [iblk, V, (idx t).2.2.2.2.2.2.2.1]
theorem shift_block (t : Fin cfg0.N) (k : Fin 2048) : iblk m c 8 t (ix2 0 k) = shift m c (ix2 0 k) := by
  blk_ext [iblk, V, (idx t).2.2.2.2.2.2.2.2.1]

/-- The normed output of the mixers, at row `r`. -/
def normed (r : Fin 4096) (k : Fin 2048) : EReal := mix m c (ix2 r k) * inv (fun k => mix m c (ix2 r k)) * gPost m c (ix2 0 k)
/-- The residual sum, at row `r`. -/
def res (r : Fin 4096) (k : Fin 2048) : EReal := inp m c (ix2 r k) + gate m c (ix2 0 k) * normed m c r k
/-- The gradient that arrives at the second norm. -/
def dNorm (r : Fin 4096) (k : Fin 2048) : EReal := dNext m c (ix2 r k) * (1 + scale m c (ix2 0 k)) * gPre m c (ix2 0 k)
/-- The gradient at the residual sum. -/
def dRes (r : Fin 4096) (k : Fin 2048) : EReal := backFrom (fun k => dSum m c (ix2 r k)) (res m c r) (dNorm m c r) k
/-- The gradient at the gated norm. -/
def dGated (r : Fin 4096) (k : Fin 2048) : EReal := gate m c (ix2 0 k) * dRes m c r k
/-- The gradient at the mixers' output. -/
def dMix (r : Fin 4096) (k : Fin 2048) : EReal :=
  back (fun k => mix m c (ix2 r k)) (fun k => dGated m c r k * gPost m c (ix2 0 k)) k
/-- Row `r`'s term of the gradient of the first gain. -/
def dGPost (r : Fin 4096) (k : Fin 2048) : EReal :=
  mix m c (ix2 r k) * inv (fun k => mix m c (ix2 r k)) * dGated m c r k
/-- Row `r`'s term of the gradient of the gate. -/
def dGate (r : Fin 4096) (k : Fin 2048) : EReal := dRes m c r k * normed m c r k
/-- Row `r`'s term of the gradient of the second gain. -/
def dGPre (r : Fin 4096) (k : Fin 2048) : EReal :=
  res m c r k * inv (res m c r) * (dNext m c (ix2 r k) * (1 + scale m c (ix2 0 k)))
/-- Row `r`'s term of the gradient of the scale. -/
def dScale (r : Fin 4096) (k : Fin 2048) : EReal := res m c r k * inv (res m c r) * gPre m c (ix2 0 k) * dNext m c (ix2 r k)
/-- Row `r`'s term of the gradient of the shift. -/
def dShift (r : Fin 4096) (k : Fin 2048) : EReal := dNext m c (ix2 r k)

theorem dx_block (t : Fin cfg0.N) : (outsAt0 m c t.val t.isLt).1 = k0_pay18 (iblk m c 2 t) (iblk m c 3 t) (iblk m c 6 t) (iblk m c 7 t)
    (k0_pay8 (iblk m c 0 t) (iblk m c 1 t) (iblk m c 4 t) (iblk m c 5 t)) (k0_pay10 (iblk m c 0 t) (iblk m c 1 t) (iblk m c 4 t) (iblk m c 5 t)) (k0_pay11 (iblk m c 0 t) (iblk m c 1 t) (iblk m c 4 t) (iblk m c 5 t)) (Scalar.ofBits .f32 0xBF000000#32) := by
  have hp := points t
  by_cases h : t.val % 16 = 0
  · rw [outsAt0_A m c t h (by omega) h (by omega) h (by omega) h (by omega) h (by omega)]; frame_out
  · rw [outsAt0_B m c t h (by omega) h (by omega) h (by omega) h (by omega) h (by omega)]; frame_out

set_option maxHeartbeats 2000000 in
theorem dx_entry (t : Fin cfg0.N) (r : Fin 256) (k : Fin 2048) : (outsAt0 m c t.val t.isLt).1 (ix2 r k) = dRes m c (row t r) k := by
  rw [dx_block]
  unfold_payloads
  pointwise
  simp only [inp_block, mix_block, dSum_block, dNext_block, gPost_block, gate_block, gPre_block, scale_block, shift_block, Fin.sum_univ_one]
  rfl

/-- The gradient at the input. -/
def dxArr : FVec Ideal S4096x2048 .f32 := fun i => dRes m c (i 0) (i 1)

theorem dx_place (t : Fin cfg0.N) (r : Fin 256) (k : Fin 2048) : ((cfg0.win 9).blk t).view.emb (ix2 r k) = ix2 (row t r) k := by
  blk_ext [row, (idx t).2.2.2.2.2.2.2.2.2.1]

theorem dx_array : (dats m 0 c).arrAt 9 cfg0.N = dxArr m c := by
  refine (dats m 0 c).arrAt_eq_of_covers 9 _ (by decide +kernel) fun t hf y => ?_
  idx_vars y
  refine Eq.trans ?_ (congrArg (dxArr m c) (dx_place t y0 y1)).symm
  blk_simp
  rw [after0_9, dx_entry m c t]
  rfl

theorem dmix_block (t : Fin cfg0.N) : (outsAt0 m c t.val t.isLt).2.1 = k0_pay25 (iblk m c 1 t) (k0_pay4 (iblk m c 1 t)) (k0_pay5 (iblk m c 1 t))
    (k0_pay23 (iblk m c 2 t) (iblk m c 3 t) (iblk m c 4 t) (iblk m c 5 t) (iblk m c 6 t) (iblk m c 7 t)
      (k0_pay8 (iblk m c 0 t) (iblk m c 1 t) (iblk m c 4 t) (iblk m c 5 t)) (k0_pay10 (iblk m c 0 t) (iblk m c 1 t) (iblk m c 4 t) (iblk m c 5 t)) (k0_pay11 (iblk m c 0 t) (iblk m c 1 t) (iblk m c 4 t) (iblk m c 5 t)) (Scalar.ofBits .f32 0xBF000000#32))
    (k0_pay24 (iblk m c 1 t) (iblk m c 2 t) (iblk m c 3 t) (iblk m c 4 t) (iblk m c 5 t) (iblk m c 6 t) (iblk m c 7 t)
      (k0_pay8 (iblk m c 0 t) (iblk m c 1 t) (iblk m c 4 t) (iblk m c 5 t)) (k0_pay10 (iblk m c 0 t) (iblk m c 1 t) (iblk m c 4 t) (iblk m c 5 t)) (k0_pay11 (iblk m c 0 t) (iblk m c 1 t) (iblk m c 4 t) (iblk m c 5 t)) (Scalar.ofBits .f32 0xBF000000#32)) := by
  have hp := points t
  by_cases h : t.val % 16 = 0
  · rw [outsAt0_A m c t h (by omega) h (by omega) h (by omega) h (by omega) h (by omega)]; frame_out
  · rw [outsAt0_B m c t h (by omega) h (by omega) h (by omega) h (by omega) h (by omega)]; frame_out

set_option maxHeartbeats 2000000 in
theorem dmix_entry (t : Fin cfg0.N) (r : Fin 256) (k : Fin 2048) : (outsAt0 m c t.val t.isLt).2.1 (ix2 r k) = dMix m c (row t r) k := by
  rw [dmix_block]
  unfold_payloads
  pointwise
  simp only [inp_block, mix_block, dSum_block, dNext_block, gPost_block, gate_block, gPre_block, scale_block, shift_block, Fin.sum_univ_one]
  rfl

/-- The gradient at the mixers' output. -/
def dmixArr : FVec Ideal S4096x2048 .bf16 := fun i => dMix m c (i 0) (i 1)

theorem dmix_place (t : Fin cfg0.N) (r : Fin 256) (k : Fin 2048) : ((cfg0.win 10).blk t).view.emb (ix2 r k) = ix2 (row t r) k := by
  blk_ext [row, (idx t).2.2.2.2.2.2.2.2.2.2.1]

theorem dmix_array : (dats m 0 c).arrAt 10 cfg0.N = dmixArr m c := by
  refine (dats m 0 c).arrAt_eq_of_covers 10 _ (by decide +kernel) fun t hf y => ?_
  idx_vars y
  refine Eq.trans ?_ (congrArg (dmixArr m c) (dmix_place t y0 y1)).symm
  blk_simp
  rw [after0_10, dmix_entry m c t]
  rfl

/-- Grid point `t`'s part of the sum. -/
abbrev dgpostPart (t : Fin cfg0.N) : FVec Ideal S1x2048 .f32 := k0_pay22 (iblk m c 2 t) (iblk m c 3 t) (iblk m c 5 t) (iblk m c 6 t) (iblk m c 7 t) (k0_pay6 (iblk m c 1 t))
    (k0_pay8 (iblk m c 0 t) (iblk m c 1 t) (iblk m c 4 t) (iblk m c 5 t)) (k0_pay10 (iblk m c 0 t) (iblk m c 1 t) (iblk m c 4 t) (iblk m c 5 t)) (k0_pay11 (iblk m c 0 t) (iblk m c 1 t) (iblk m c 4 t) (iblk m c 5 t)) (Scalar.ofBits .f32 0xBF000000#32)

theorem dgpost_first (t : Fin cfg0.N) (h : t.val % 16 = 0) : (outsAt0 m c t.val t.isLt).2.2.1 = dgpostPart m c t := by
  have hp := points t
  rw [outsAt0_A m c t h (by omega) h (by omega) h (by omega) h (by omega) h (by omega)]; frame_out

theorem dgpost_next (t : Fin cfg0.N) (h : ¬t.val % 16 = 0) : (outsAt0 m c t.val t.isLt).2.2.1
    = k0_pay26 (dgpostPart m c t) (outsAt0 m c (t.val - 1) (Nat.lt_of_le_of_lt (Nat.sub_le _ _) t.isLt)).2.2.1 := by
  rw [outsAt0_B m c t h (by omega) h (by omega) h (by omega) h (by omega) h (by omega)]; frame_out

set_option maxHeartbeats 2000000 in
theorem dgpost_part (t : Fin cfg0.N) (k : Fin 2048) : dgpostPart m c t (ix2 0 k) = ∑ r : Fin 256, dGPost m c (row t r) k := by
  unfold dgpostPart
  unfold_payloads
  pointwise
  simp only [inp_block, mix_block, dSum_block, dNext_block, gPost_block, gate_block, gPre_block, scale_block, shift_block, Fin.sum_univ_one]
  rfl

theorem dgpost_last (t : Fin cfg0.N) (h : t.val % 16 = 15) (k : Fin 2048) :
    (outsAt0 m c t.val t.isLt).2.2.1 (ix2 0 k) = ∑ r : Fin 4096, dGPost m c r k := by
  refine (Pipeline.eq_sum_fin_of_reset_step_apply_of_flush (fun n hn => (outsAt0 m c n hn).2.2.1) 16 (fun _ => (0 : EReal))
    (fun t i => (dgpostPart m c t i : EReal)) (fun t h i => ?_) (fun t h i => ?_) t h (ix2 0 k)).trans ?_
  · rw [dgpost_first m c t h]
    exact (zero_add _).symm
  · rw [dgpost_next m c t h]
    idx_vars i
    unfold k0_pay26
    pointwise
  · rw [zero_add]
    refine Eq.trans (Finset.sum_congr rfl fun s _ => dgpost_part m c _ k) ?_
    refine Fin.sum_mul_add_congr (n := 256) (fun s r hl => ?_)
    have hp := points t
    have hr : ∀ h, row ⟨16 * (t.val / 16) + s.val, h⟩ r = ⟨s.val * 256 + r.val, hl⟩ := fun _ => Fin.ext (by simp only [row]; omega)
    rw [hr]

/-- The gradient of the gain after the mixers. -/
def dgpostArr : FVec Ideal S1x2048 .f32 := fun i => ∑ r : Fin 4096, dGPost m c r (i 1)

theorem dgpost_place (t : Fin cfg0.N) (k : Fin 2048) : ((cfg0.win 11).blk t).view.emb (ix2 0 k) = ix2 0 k := by
  blk_ext [(idx t).2.2.2.2.2.2.2.2.2.2.2.1]

theorem dgpost_array : (dats m 0 c).arrAt 11 cfg0.N = dgpostArr m c := by
  refine (dats m 0 c).arrAt_eq_of_covers 11 _ (by decide +kernel) fun t hf y => ?_
  idx_vars y
  obtain rfl : y0 = 0 := Subsingleton.elim _ _
  refine Eq.trans ?_ (congrArg (dgpostArr m c) (dgpost_place t y1)).symm
  blk_simp
  rw [after0_11, dgpost_last m c t ((flush0_11 t).mp hf)]
  rfl

/-- Grid point `t`'s part of the sum. -/
abbrev dgatePart (t : Fin cfg0.N) : FVec Ideal S1x2048 .f32 := k0_pay21 (iblk m c 2 t) (iblk m c 3 t) (iblk m c 6 t) (iblk m c 7 t) (k0_pay7 (iblk m c 1 t) (iblk m c 4 t))
    (k0_pay8 (iblk m c 0 t) (iblk m c 1 t) (iblk m c 4 t) (iblk m c 5 t)) (k0_pay10 (iblk m c 0 t) (iblk m c 1 t) (iblk m c 4 t) (iblk m c 5 t)) (k0_pay11 (iblk m c 0 t) (iblk m c 1 t) (iblk m c 4 t) (iblk m c 5 t)) (Scalar.ofBits .f32 0xBF000000#32)

theorem dgate_first (t : Fin cfg0.N) (h : t.val % 16 = 0) : (outsAt0 m c t.val t.isLt).2.2.2.1 = dgatePart m c t := by
  have hp := points t
  rw [outsAt0_A m c t h (by omega) h (by omega) h (by omega) h (by omega) h (by omega)]; frame_out

theorem dgate_next (t : Fin cfg0.N) (h : ¬t.val % 16 = 0) : (outsAt0 m c t.val t.isLt).2.2.2.1
    = k0_pay27 (dgatePart m c t) (outsAt0 m c (t.val - 1) (Nat.lt_of_le_of_lt (Nat.sub_le _ _) t.isLt)).2.2.2.1 := by
  rw [outsAt0_B m c t h (by omega) h (by omega) h (by omega) h (by omega) h (by omega)]; frame_out

set_option maxHeartbeats 2000000 in
theorem dgate_part (t : Fin cfg0.N) (k : Fin 2048) : dgatePart m c t (ix2 0 k) = ∑ r : Fin 256, dGate m c (row t r) k := by
  unfold dgatePart
  unfold_payloads
  pointwise
  simp only [inp_block, mix_block, dSum_block, dNext_block, gPost_block, gate_block, gPre_block, scale_block, shift_block, Fin.sum_univ_one]
  rfl

theorem dgate_last (t : Fin cfg0.N) (h : t.val % 16 = 15) (k : Fin 2048) :
    (outsAt0 m c t.val t.isLt).2.2.2.1 (ix2 0 k) = ∑ r : Fin 4096, dGate m c r k := by
  refine (Pipeline.eq_sum_fin_of_reset_step_apply_of_flush (fun n hn => (outsAt0 m c n hn).2.2.2.1) 16 (fun _ => (0 : EReal))
    (fun t i => (dgatePart m c t i : EReal)) (fun t h i => ?_) (fun t h i => ?_) t h (ix2 0 k)).trans ?_
  · rw [dgate_first m c t h]
    exact (zero_add _).symm
  · rw [dgate_next m c t h]
    idx_vars i
    unfold k0_pay27
    pointwise
  · rw [zero_add]
    refine Eq.trans (Finset.sum_congr rfl fun s _ => dgate_part m c _ k) ?_
    refine Fin.sum_mul_add_congr (n := 256) (fun s r hl => ?_)
    have hp := points t
    have hr : ∀ h, row ⟨16 * (t.val / 16) + s.val, h⟩ r = ⟨s.val * 256 + r.val, hl⟩ := fun _ => Fin.ext (by simp only [row]; omega)
    rw [hr]

/-- The gradient of the gate. -/
def dgateArr : FVec Ideal S1x2048 .f32 := fun i => ∑ r : Fin 4096, dGate m c r (i 1)

theorem dgate_place (t : Fin cfg0.N) (k : Fin 2048) : ((cfg0.win 12).blk t).view.emb (ix2 0 k) = ix2 0 k := by
  blk_ext [(idx t).2.2.2.2.2.2.2.2.2.2.2.2.1]

theorem dgate_array : (dats m 0 c).arrAt 12 cfg0.N = dgateArr m c := by
  refine (dats m 0 c).arrAt_eq_of_covers 12 _ (by decide +kernel) fun t hf y => ?_
  idx_vars y
  obtain rfl : y0 = 0 := Subsingleton.elim _ _
  refine Eq.trans ?_ (congrArg (dgateArr m c) (dgate_place t y1)).symm
  blk_simp
  rw [after0_12, dgate_last m c t ((flush0_12 t).mp hf)]
  rfl

/-- Grid point `t`'s part of the sum. -/
abbrev dgprePart (t : Fin cfg0.N) : FVec Ideal S1x2048 .f32 := k0_pay17 (iblk m c 3 t) (iblk m c 7 t) (k0_pay8 (iblk m c 0 t) (iblk m c 1 t) (iblk m c 4 t) (iblk m c 5 t)) (k0_pay10 (iblk m c 0 t) (iblk m c 1 t) (iblk m c 4 t) (iblk m c 5 t))

theorem dgpre_first (t : Fin cfg0.N) (h : t.val % 16 = 0) : (outsAt0 m c t.val t.isLt).2.2.2.2.1 = dgprePart m c t := by
  have hp := points t
  rw [outsAt0_A m c t h (by omega) h (by omega) h (by omega) h (by omega) h (by omega)]; frame_out

theorem dgpre_next (t : Fin cfg0.N) (h : ¬t.val % 16 = 0) : (outsAt0 m c t.val t.isLt).2.2.2.2.1
    = k0_pay28 (dgprePart m c t) (outsAt0 m c (t.val - 1) (Nat.lt_of_le_of_lt (Nat.sub_le _ _) t.isLt)).2.2.2.2.1 := by
  rw [outsAt0_B m c t h (by omega) h (by omega) h (by omega) h (by omega) h (by omega)]; frame_out

set_option maxHeartbeats 2000000 in
theorem dgpre_part (t : Fin cfg0.N) (k : Fin 2048) : dgprePart m c t (ix2 0 k) = ∑ r : Fin 256, dGPre m c (row t r) k := by
  unfold dgprePart
  unfold_payloads
  pointwise
  simp only [inp_block, mix_block, dSum_block, dNext_block, gPost_block, gate_block, gPre_block, scale_block, shift_block, Fin.sum_univ_one]
  rfl

theorem dgpre_last (t : Fin cfg0.N) (h : t.val % 16 = 15) (k : Fin 2048) :
    (outsAt0 m c t.val t.isLt).2.2.2.2.1 (ix2 0 k) = ∑ r : Fin 4096, dGPre m c r k := by
  refine (Pipeline.eq_sum_fin_of_reset_step_apply_of_flush (fun n hn => (outsAt0 m c n hn).2.2.2.2.1) 16 (fun _ => (0 : EReal))
    (fun t i => (dgprePart m c t i : EReal)) (fun t h i => ?_) (fun t h i => ?_) t h (ix2 0 k)).trans ?_
  · rw [dgpre_first m c t h]
    exact (zero_add _).symm
  · rw [dgpre_next m c t h]
    idx_vars i
    unfold k0_pay28
    pointwise
  · rw [zero_add]
    refine Eq.trans (Finset.sum_congr rfl fun s _ => dgpre_part m c _ k) ?_
    refine Fin.sum_mul_add_congr (n := 256) (fun s r hl => ?_)
    have hp := points t
    have hr : ∀ h, row ⟨16 * (t.val / 16) + s.val, h⟩ r = ⟨s.val * 256 + r.val, hl⟩ := fun _ => Fin.ext (by simp only [row]; omega)
    rw [hr]

/-- The gradient of the gain before the MLP. -/
def dgpreArr : FVec Ideal S1x2048 .f32 := fun i => ∑ r : Fin 4096, dGPre m c r (i 1)

theorem dgpre_place (t : Fin cfg0.N) (k : Fin 2048) : ((cfg0.win 13).blk t).view.emb (ix2 0 k) = ix2 0 k := by
  blk_ext [(idx t).2.2.2.2.2.2.2.2.2.2.2.2.2.1]

theorem dgpre_array : (dats m 0 c).arrAt 13 cfg0.N = dgpreArr m c := by
  refine (dats m 0 c).arrAt_eq_of_covers 13 _ (by decide +kernel) fun t hf y => ?_
  idx_vars y
  obtain rfl : y0 = 0 := Subsingleton.elim _ _
  refine Eq.trans ?_ (congrArg (dgpreArr m c) (dgpre_place t y1)).symm
  blk_simp
  rw [after0_13, dgpre_last m c t ((flush0_13 t).mp hf)]
  rfl

/-- Grid point `t`'s part of the sum. -/
abbrev dscalePart (t : Fin cfg0.N) : FVec Ideal S1x2048 .f32 := k0_pay15 (iblk m c 3 t) (iblk m c 6 t) (k0_pay8 (iblk m c 0 t) (iblk m c 1 t) (iblk m c 4 t) (iblk m c 5 t)) (k0_pay10 (iblk m c 0 t) (iblk m c 1 t) (iblk m c 4 t) (iblk m c 5 t))

theorem dscale_first (t : Fin cfg0.N) (h : t.val % 16 = 0) : (outsAt0 m c t.val t.isLt).2.2.2.2.2.1 = dscalePart m c t := by
  have hp := points t
  rw [outsAt0_A m c t h (by omega) h (by omega) h (by omega) h (by omega) h (by omega)]; frame_out

theorem dscale_next (t : Fin cfg0.N) (h : ¬t.val % 16 = 0) : (outsAt0 m c t.val t.isLt).2.2.2.2.2.1
    = k0_pay1 (dscalePart m c t) (outsAt0 m c (t.val - 1) (Nat.lt_of_le_of_lt (Nat.sub_le _ _) t.isLt)).2.2.2.2.2.1 := by
  rw [outsAt0_B m c t h (by omega) h (by omega) h (by omega) h (by omega) h (by omega)]; frame_out

set_option maxHeartbeats 2000000 in
theorem dscale_part (t : Fin cfg0.N) (k : Fin 2048) : dscalePart m c t (ix2 0 k) = ∑ r : Fin 256, dScale m c (row t r) k := by
  unfold dscalePart
  unfold_payloads
  pointwise
  simp only [inp_block, mix_block, dSum_block, dNext_block, gPost_block, gate_block, gPre_block, scale_block, shift_block, Fin.sum_univ_one]
  rfl

theorem dscale_last (t : Fin cfg0.N) (h : t.val % 16 = 15) (k : Fin 2048) :
    (outsAt0 m c t.val t.isLt).2.2.2.2.2.1 (ix2 0 k) = ∑ r : Fin 4096, dScale m c r k := by
  refine (Pipeline.eq_sum_fin_of_reset_step_apply_of_flush (fun n hn => (outsAt0 m c n hn).2.2.2.2.2.1) 16 (fun _ => (0 : EReal))
    (fun t i => (dscalePart m c t i : EReal)) (fun t h i => ?_) (fun t h i => ?_) t h (ix2 0 k)).trans ?_
  · rw [dscale_first m c t h]
    exact (zero_add _).symm
  · rw [dscale_next m c t h]
    idx_vars i
    unfold k0_pay1
    pointwise
  · rw [zero_add]
    refine Eq.trans (Finset.sum_congr rfl fun s _ => dscale_part m c _ k) ?_
    refine Fin.sum_mul_add_congr (n := 256) (fun s r hl => ?_)
    have hp := points t
    have hr : ∀ h, row ⟨16 * (t.val / 16) + s.val, h⟩ r = ⟨s.val * 256 + r.val, hl⟩ := fun _ => Fin.ext (by simp only [row]; omega)
    rw [hr]

/-- The gradient of the scale. -/
def dscaleArr : FVec Ideal S1x2048 .f32 := fun i => ∑ r : Fin 4096, dScale m c r (i 1)

theorem dscale_place (t : Fin cfg0.N) (k : Fin 2048) : ((cfg0.win 14).blk t).view.emb (ix2 0 k) = ix2 0 k := by
  blk_ext [(idx t).2.2.2.2.2.2.2.2.2.2.2.2.2.2.1]

theorem dscale_array : (dats m 0 c).arrAt 14 cfg0.N = dscaleArr m c := by
  refine (dats m 0 c).arrAt_eq_of_covers 14 _ (by decide +kernel) fun t hf y => ?_
  idx_vars y
  obtain rfl : y0 = 0 := Subsingleton.elim _ _
  refine Eq.trans ?_ (congrArg (dscaleArr m c) (dscale_place t y1)).symm
  blk_simp
  rw [after0_14, dscale_last m c t ((flush0_14 t).mp hf)]
  rfl

/-- Grid point `t`'s part of the sum. -/
abbrev dshiftPart (t : Fin cfg0.N) : FVec Ideal S1x2048 .f32 := k0_pay14 (iblk m c 3 t)

theorem dshift_first (t : Fin cfg0.N) (h : t.val % 16 = 0) : (outsAt0 m c t.val t.isLt).2.2.2.2.2.2 = dshiftPart m c t := by
  have hp := points t
  rw [outsAt0_A m c t h (by omega) h (by omega) h (by omega) h (by omega) h (by omega)]; frame_out

theorem dshift_next (t : Fin cfg0.N) (h : ¬t.val % 16 = 0) : (outsAt0 m c t.val t.isLt).2.2.2.2.2.2
    = k0_pay2 (dshiftPart m c t) (outsAt0 m c (t.val - 1) (Nat.lt_of_le_of_lt (Nat.sub_le _ _) t.isLt)).2.2.2.2.2.2 := by
  rw [outsAt0_B m c t h (by omega) h (by omega) h (by omega) h (by omega) h (by omega)]; frame_out

set_option maxHeartbeats 2000000 in
theorem dshift_part (t : Fin cfg0.N) (k : Fin 2048) : dshiftPart m c t (ix2 0 k) = ∑ r : Fin 256, dShift m c (row t r) k := by
  unfold dshiftPart
  unfold_payloads
  pointwise
  simp only [inp_block, mix_block, dSum_block, dNext_block, gPost_block, gate_block, gPre_block, scale_block, shift_block, Fin.sum_univ_one]
  rfl

theorem dshift_last (t : Fin cfg0.N) (h : t.val % 16 = 15) (k : Fin 2048) :
    (outsAt0 m c t.val t.isLt).2.2.2.2.2.2 (ix2 0 k) = ∑ r : Fin 4096, dShift m c r k := by
  refine (Pipeline.eq_sum_fin_of_reset_step_apply_of_flush (fun n hn => (outsAt0 m c n hn).2.2.2.2.2.2) 16 (fun _ => (0 : EReal))
    (fun t i => (dshiftPart m c t i : EReal)) (fun t h i => ?_) (fun t h i => ?_) t h (ix2 0 k)).trans ?_
  · rw [dshift_first m c t h]
    exact (zero_add _).symm
  · rw [dshift_next m c t h]
    idx_vars i
    unfold k0_pay2
    pointwise
  · rw [zero_add]
    refine Eq.trans (Finset.sum_congr rfl fun s _ => dshift_part m c _ k) ?_
    refine Fin.sum_mul_add_congr (n := 256) (fun s r hl => ?_)
    have hp := points t
    have hr : ∀ h, row ⟨16 * (t.val / 16) + s.val, h⟩ r = ⟨s.val * 256 + r.val, hl⟩ := fun _ => Fin.ext (by simp only [row]; omega)
    rw [hr]

/-- The gradient of the shift. -/
def dshiftArr : FVec Ideal S1x2048 .f32 := fun i => ∑ r : Fin 4096, dShift m c r (i 1)

theorem dshift_place (t : Fin cfg0.N) (k : Fin 2048) : ((cfg0.win 15).blk t).view.emb (ix2 0 k) = ix2 0 k := by
  blk_ext [(idx t).2.2.2.2.2.2.2.2.2.2.2.2.2.2.2]

theorem dshift_array : (dats m 0 c).arrAt 15 cfg0.N = dshiftArr m c := by
  refine (dats m 0 c).arrAt_eq_of_covers 15 _ (by decide +kernel) fun t hf y => ?_
  idx_vars y
  obtain rfl : y0 = 0 := Subsingleton.elim _ _
  refine Eq.trans ?_ (congrArg (dshiftArr m c) (dshift_place t y1)).symm
  blk_simp
  rw [after0_15, dshift_last m c t ((flush0_15 t).mp hf)]
  rfl

end Cert.PostMixProof

end
-- ==== Proof.PostMixEquation.lean ====
/- The reference of the gradient through the residual sum gives the arrays its kernel gives. -/
module

public import proofs.«01_k».proof.Proof.PostMix
public import proofs.«01_k».proof.Proof.Gen.PostMixRefIdeal.Run

@[expose] public section

set_option maxRecDepth 16384

noncomputable section

namespace Cert.PostMixProof

open Idealize.ShloMosaic Idealize.ShloMosaic.TcCoe Idealize.SL.Sem Cert.PostMixRefIdeal Cert.RowNorm

variable (m : (ℓ : Loc PostMixIdeal.nD PostMixIdeal.τ PostMixIdeal.sig) → Buf (Elt Ideal) ℓ)
  (m' : (ℓ : Loc nD τ sig) → Buf (Elt Ideal) ℓ)

/-- The two programs are launched on the same arguments. -/
abbrev Agree (c : Dev PostMixIdeal.nD) : Prop :=
  m' ((c.tc : Thread nD τ).loc main_arg0) = m ((c.tc : Thread PostMixIdeal.nD PostMixIdeal.τ).loc PostMixIdeal.main_arg0)
    ∧ m' ((c.tc : Thread nD τ).loc main_arg1) = m ((c.tc : Thread PostMixIdeal.nD PostMixIdeal.τ).loc PostMixIdeal.main_arg1)
    ∧ m' ((c.tc : Thread nD τ).loc main_arg2) = m ((c.tc : Thread PostMixIdeal.nD PostMixIdeal.τ).loc PostMixIdeal.main_arg2)
    ∧ m' ((c.tc : Thread nD τ).loc main_arg3) = m ((c.tc : Thread PostMixIdeal.nD PostMixIdeal.τ).loc PostMixIdeal.main_arg3)
    ∧ m' ((c.tc : Thread nD τ).loc main_arg4) = m ((c.tc : Thread PostMixIdeal.nD PostMixIdeal.τ).loc PostMixIdeal.main_arg4)
    ∧ m' ((c.tc : Thread nD τ).loc main_arg5) = m ((c.tc : Thread PostMixIdeal.nD PostMixIdeal.τ).loc PostMixIdeal.main_arg5)
    ∧ m' ((c.tc : Thread nD τ).loc main_arg6) = m ((c.tc : Thread PostMixIdeal.nD PostMixIdeal.τ).loc PostMixIdeal.main_arg6)
    ∧ m' ((c.tc : Thread nD τ).loc main_arg7) = m ((c.tc : Thread PostMixIdeal.nD PostMixIdeal.τ).loc PostMixIdeal.main_arg7)
    ∧ m' ((c.tc : Thread nD τ).loc main_arg8) = m ((c.tc : Thread PostMixIdeal.nD PostMixIdeal.τ).loc PostMixIdeal.main_arg8)

set_option maxHeartbeats 4000000 in
/-- The reference gives these arrays. -/
theorem reference (ρ' : Dev nD → PrngReg) (agree : ∀ c, Agree m m' c) :
    θ_run defs (onTc (τ := τ) (main (F := Ideal))) ⟨m', fun _ => 0, ρ'⟩ fun r => ∀ c : Dev nD,
      r.2.mem ((c.tc : Thread nD τ).loc main_v66) = dxArr m c
      ∧ r.2.mem ((c.tc : Thread nD τ).loc main_v92) = dmixArr m c
      ∧ r.2.mem ((c.tc : Thread nD τ).loc main_v75) = dgpostArr m c
      ∧ r.2.mem ((c.tc : Thread nD τ).loc main_v72) = dgateArr m c
      ∧ r.2.mem ((c.tc : Thread nD τ).loc main_v49) = dgpreArr m c
      ∧ r.2.mem ((c.tc : Thread nD τ).loc main_v44) = dscaleArr m c
      ∧ r.2.mem ((c.tc : Thread nD τ).loc main_v41) = dshiftArr m c
      ∧ r.2.mem ((c.tc : Thread nD τ).loc main_arg0) = m' ((c.tc : Thread nD τ).loc main_arg0)
      ∧ r.2.mem ((c.tc : Thread nD τ).loc main_arg1) = m' ((c.tc : Thread nD τ).loc main_arg1)
      ∧ r.2.mem ((c.tc : Thread nD τ).loc main_arg2) = m' ((c.tc : Thread nD τ).loc main_arg2)
      ∧ r.2.mem ((c.tc : Thread nD τ).loc main_arg3) = m' ((c.tc : Thread nD τ).loc main_arg3)
      ∧ r.2.mem ((c.tc : Thread nD τ).loc main_arg4) = m' ((c.tc : Thread nD τ).loc main_arg4)
      ∧ r.2.mem ((c.tc : Thread nD τ).loc main_arg5) = m' ((c.tc : Thread nD τ).loc main_arg5)
      ∧ r.2.mem ((c.tc : Thread nD τ).loc main_arg6) = m' ((c.tc : Thread nD τ).loc main_arg6)
      ∧ r.2.mem ((c.tc : Thread nD τ).loc main_arg7) = m' ((c.tc : Thread nD τ).loc main_arg7)
      ∧ r.2.mem ((c.tc : Thread nD τ).loc main_arg8) = m' ((c.tc : Thread nD τ).loc main_arg8) := by
  refine (θ_run _ _ _).mono (fun r h c => ?_) (Value.run m' ρ')
  obtain ⟨a0, a1, a2, a3, a4, a5, a6, a7, a8⟩ := agree c
  obtain ⟨h0, h1, h2, h3, h4, h5, h6, hk⟩ := h c
  refine ⟨h0.trans ?_, h1.trans ?_, h2.trans ?_, h3.trans ?_, h4.trans ?_, h5.trans ?_, h6.trans ?_, hk⟩
  · funext i
    idx_vars i
    unfold Value.res_main_v66
    pointwise
    simp only [a0, a1, a2, a3, a4, a5, a6, a7, a8, Fin.sum_univ_one]
    rfl
  · funext i
    idx_vars i
    unfold Value.res_main_v92
    pointwise
    simp only [a0, a1, a2, a3, a4, a5, a6, a7, a8, Fin.sum_univ_one]
    rfl
  · funext i
    idx_vars i
    unfold Value.res_main_v75
    pointwise
    simp only [a0, a1, a2, a3, a4, a5, a6, a7, a8, Fin.sum_univ_one]
    rfl
  · funext i
    idx_vars i
    unfold Value.res_main_v72
    pointwise
    simp only [a0, a1, a2, a3, a4, a5, a6, a7, a8, Fin.sum_univ_one]
    rfl
  · funext i
    idx_vars i
    pointwise
    simp only [a0, a1, a2, a3, a4, a5, a6, a7, a8, Fin.sum_univ_one]
    rfl
  · funext i
    idx_vars i
    pointwise
    simp only [a0, a1, a2, a3, a4, a5, a6, a7, a8, Fin.sum_univ_one]
    rfl
  · funext i
    idx_vars i
    pointwise
    simp only [a0, a1, a2, a3, a4, a5, a6, a7, a8, Fin.sum_univ_one]
    rfl

end Cert.PostMixProof

end
-- ==== Proof.LossSums.lean ====
/- The constants of the loss as real numbers, and the sums of squares they scale. -/
module

public import proofs.«01_k».proof.Proof.RowNorm
public import Idealize.ShloMosaic.Lib.Pointwise
public import Idealize.ShloMosaic.Lib.IdealHost

@[expose] public section

noncomputable section

namespace Cert.RowNorm

open Idealize.ShloMosaic

theorem two11_eq : two11 = ((2048 : ℝ) : EReal) := by
  simp [Ideal.ofBits, Ideal.ieee, -EReal.coe_mul]; norm_num
theorem part11_eq : part11 = ((1 / 2048 : ℝ) : EReal) := by
  simp [Ideal.ofBits, Ideal.ieee, -EReal.coe_mul]; norm_num
theorem half_eq : half = ((1 / 2 : ℝ) : EReal) := by
  simp [Ideal.ofBits, Ideal.ieee, -EReal.coe_mul]; norm_num
theorem two_eq : Ideal.ofBits .f32 0x40000000#32 = ((2 : ℝ) : EReal) := by
  simp [Ideal.ofBits, Ideal.ieee, -EReal.coe_mul]; norm_num

/-- Dividing by the row's length is taking one part of it. -/
theorem div_eq (x : EReal) : Ideal.div x two11 = x * part11 := by
  rw [two11_eq, Ideal.div_coe (by norm_num), part11_eq]

/-- The derivative of half a mean square. -/
theorem slope_eq (e : EReal) : Ideal.div half two11 * (Ideal.ofBits .f32 0x40000000#32 * e) = e * part11 := by
  rw [div_eq, ← mul_assoc, mul_comm _ e, half_eq, part11_eq, two_eq, ← EReal.coe_mul, ← EReal.coe_mul]
  norm_num

/-- A square is not negative, at extended reals too. -/
theorem square_self_nonneg (x : EReal) : 0 ≤ x * x := by
  rcases le_total 0 x with h | h
  · exact mul_nonneg h h
  · have : 0 ≤ -x := by simpa using EReal.neg_le_neg_iff.mpr h
    simpa using mul_nonneg this this

/-- A factor moves into a sum of terms that are not negative. -/
theorem mul_sum_of_nonneg {n : ℕ} (c : EReal) (f : Fin n → EReal) (h : ∀ s, 0 ≤ f s) (S : Finset (Fin n)) :
    c * ∑ s ∈ S, f s = ∑ s ∈ S, c * f s := by
  induction S using Finset.induction_on with
  | empty => simp
  | insert a S ha ih => rw [Finset.sum_insert ha, Finset.sum_insert ha, ← ih,
      EReal.left_distrib_of_nonneg (h a) (Finset.sum_nonneg fun s _ => h s)]

/-- The scaled parts of a sum add up to the scaled sum. -/
theorem sum_half {n : ℕ} (f : Fin n → EReal) (h : ∀ s, 0 ≤ f s) :
    ∑ s, half * f s * part11 = half * ((∑ s, f s) * part11) := by
  rw [mul_comm (∑ s, f s), ← mul_assoc, mul_sum_of_nonneg _ f h]
  exact Finset.sum_congr rfl fun s _ => mul_right_comm _ _ _

/-- The mean of a sum is the sum of the means. -/
theorem sum_mean {n : ℕ} (f : Fin n → EReal) (h : ∀ s, 0 ≤ f s) :
    (∑ s, f s) * part11 = ∑ s, Ideal.div (f s) two11 := by
  rw [mul_comm, mul_sum_of_nonneg _ f h]
  exact Finset.sum_congr rfl fun s _ => (mul_comm _ _).trans (div_eq _).symm

end Cert.RowNorm

end
-- ==== Proof.LossHead.lean ====
/- The loss and its gradients down to the MLP's output, as arrays. The kernel walks 16 tiles of 256 rows; it writes each tile's rows
   back and adds the tile's part to the loss and to two sums over the rows. -/
module

public import proofs.«01_k».proof.Proof.Gen.LossHeadIdeal.Value
public import proofs.«01_k».proof.Proof.LossSums
public import Idealize.ShloMosaic.Lib.Pointwise
public import Idealize.ShloMosaic.Lib.Pipeline.ValueKit
public import Idealize.ShloMosaic.Lib.Pipeline.ReadBack

@[expose] public section

set_option maxRecDepth 16384

noncomputable section

namespace Cert.LossHeadProof

open Idealize.ShloMosaic Cert.LossHeadIdeal Cert.LossHeadIdeal.Gen Cert.RowNorm

/-- Where each window of grid point `t` lies. -/
theorem idx : ∀ t : Fin cfg0.N, win0_0.index t = ![t.val, 0]
    ∧ win0_1.index t = ![t.val, 0]
    ∧ win0_2.index t = ![t.val, 0]
    ∧ win0_3.index t = ![0, 0]
    ∧ win0_4.index t = ![0, 0]
    ∧ win0_5.index t = ![t.val, 0]
    ∧ win0_6.index t = ![t.val, 0]
    ∧ win0_7.index t = ![0, 0]
    ∧ win0_8.index t = ![0, 0]
    ∧ win0_9.index t = ![0, 0] := by decide +kernel

theorem points (t : Fin cfg0.N) : t.val < 16 := t.isLt

variable (m : (ℓ : Loc nD τ sig) → Buf (Elt Ideal) ℓ) (c : Dev nD)

/-- The residual sum before the MLP. -/
abbrev inp : FVec Ideal S4096x2048 .f32 := m ((c.tc : Thread nD τ).loc main_arg0)
/-- The MLP's output. -/
abbrev mlp : FVec Ideal S4096x2048 .f32 := m ((c.tc : Thread nD τ).loc main_arg1)
/-- The target. -/
abbrev target : FVec Ideal S4096x2048 .f32 := m ((c.tc : Thread nD τ).loc main_arg2)
/-- The norm's gain. -/
abbrev gain : FVec Ideal S1x2048 .f32 := m ((c.tc : Thread nD τ).loc main_arg3)
/-- The gate. -/
abbrev gate : FVec Ideal S1x2048 .f32 := m ((c.tc : Thread nD τ).loc main_arg4)

/-- Row `r` of grid point `t`'s tile. -/
def row (t : Fin cfg0.N) (r : Fin 256) : Fin 4096 := ⟨t.val * 256 + r.val, by have := points t; omega⟩

theorem inp_block (t : Fin cfg0.N) (r : Fin 256) (k : Fin 2048) : iblk m c 0 t (ix2 r k) = inp m c (ix2 (row t r) k) := by
  blk_ext [iblk, V, row, (idx t).1]
theorem mlp_block (t : Fin cfg0.N) (r : Fin 256) (k : Fin 2048) : iblk m c 1 t (ix2 r k) = mlp m c (ix2 (row t r) k) := by
  blk_ext [iblk, V, row, (idx t).2.1]
theorem target_block (t : Fin cfg0.N) (r : Fin 256) (k : Fin 2048) : iblk m c 2 t (ix2 r k) = target m c (ix2 (row t r) k) := by
  blk_ext [iblk, V, row, (idx t).2.2.1]
theorem gain_block (t : Fin cfg0.N) (k : Fin 2048) : iblk m c 3 t (ix2 0 k) = gain m c (ix2 0 k) := by
  blk_ext [iblk, V, (idx t).2.2.2.1]
theorem gate_block (t : Fin cfg0.N) (k : Fin 2048) : iblk m c 4 t (ix2 0 k) = gate m c (ix2 0 k) := by
  blk_ext [iblk, V, (idx t).2.2.2.2.1]

/-- The normed output of the MLP, at row `r`. -/
def normed (r : Fin 4096) (k : Fin 2048) : EReal := mlp m c (ix2 r k) * inv (fun k => mlp m c (ix2 r k)) * gain m c (ix2 0 k)
/-- The output's error, at row `r`. -/
def err (r : Fin 4096) (k : Fin 2048) : EReal := inp m c (ix2 r k) + gate m c (ix2 0 k) * normed m c r k - target m c (ix2 r k)
/-- The gradient at the output. -/
def dOut (r : Fin 4096) (k : Fin 2048) : EReal := err m c r k * part11
/-- The gradient at the gated norm. -/
def dGated (r : Fin 4096) (k : Fin 2048) : EReal := gate m c (ix2 0 k) * dOut m c r k
/-- The gradient at the MLP's output. -/
def dMlp (r : Fin 4096) (k : Fin 2048) : EReal :=
  back (fun k => mlp m c (ix2 r k)) (fun k => dGated m c r k * gain m c (ix2 0 k)) k
/-- Row `r`'s term of the gradient of the gain. -/
def dGain (r : Fin 4096) (k : Fin 2048) : EReal :=
  mlp m c (ix2 r k) * inv (fun k => mlp m c (ix2 r k)) * dGated m c r k
/-- Row `r`'s term of the gradient of the gate. -/
def dGate (r : Fin 4096) (k : Fin 2048) : EReal := dOut m c r k * normed m c r k
/-- The squared error of row `r`. -/
def square (r : Fin 4096) : EReal := ∑ k : Fin 2048, err m c r k * err m c r k

theorem square_nonneg (r : Fin 4096) : 0 ≤ square m c r := Finset.sum_nonneg fun _ _ => square_self_nonneg _

theorem dx_block (t : Fin cfg0.N) : (outsAt0 m c t.val t.isLt).1 = k0_pay8 (iblk m c 0 t) (iblk m c 1 t) (iblk m c 2 t) (iblk m c 3 t) (iblk m c 4 t) := by
  have hp := points t
  by_cases h : t.val % 16 = 0
  · rw [outsAt0_A m c t h (by omega) h (by omega) h (by omega)]; frame_out
  · rw [outsAt0_B m c t h (by omega) h (by omega) h (by omega)]; frame_out

set_option maxHeartbeats 2000000 in
theorem dx_entry (t : Fin cfg0.N) (r : Fin 256) (k : Fin 2048) : (outsAt0 m c t.val t.isLt).1 (ix2 r k) = dOut m c (row t r) k := by
  rw [dx_block]
  unfold_payloads
  pointwise
  simp only [inp_block, mlp_block, target_block, gain_block, gate_block, Fin.sum_univ_one]
  rfl

/-- The gradient at the residual sum. -/
def dxArr : FVec Ideal S4096x2048 .f32 := fun i => dOut m c (i 0) (i 1)

theorem dx_place (t : Fin cfg0.N) (r : Fin 256) (k : Fin 2048) : ((cfg0.win 5).blk t).view.emb (ix2 r k) = ix2 (row t r) k := by
  blk_ext [row, (idx t).2.2.2.2.2.1]

theorem dx_array : (dats m 0 c).arrAt 5 cfg0.N = dxArr m c := by
  refine (dats m 0 c).arrAt_eq_of_covers 5 _ (by decide +kernel) fun t hf y => ?_
  idx_vars y
  refine Eq.trans ?_ (congrArg (dxArr m c) (dx_place t y0 y1)).symm
  blk_simp
  rw [after0_5, dx_entry m c t]
  rfl

theorem dy_block (t : Fin cfg0.N) : (outsAt0 m c t.val t.isLt).2.1 = k0_pay16 (iblk m c 1 t) (k0_pay4 (iblk m c 1 t))
    (k0_pay13 (iblk m c 0 t) (iblk m c 1 t) (iblk m c 2 t) (iblk m c 3 t) (iblk m c 4 t))
    (k0_pay14 (iblk m c 0 t) (iblk m c 1 t) (iblk m c 2 t) (iblk m c 3 t) (iblk m c 4 t)) := by
  have hp := points t
  by_cases h : t.val % 16 = 0
  · rw [outsAt0_A m c t h (by omega) h (by omega) h (by omega)]; frame_out
  · rw [outsAt0_B m c t h (by omega) h (by omega) h (by omega)]; frame_out

set_option maxHeartbeats 2000000 in
theorem dy_entry (t : Fin cfg0.N) (r : Fin 256) (k : Fin 2048) : (outsAt0 m c t.val t.isLt).2.1 (ix2 r k) = dMlp m c (row t r) k := by
  rw [dy_block]
  unfold_payloads
  pointwise
  simp only [inp_block, mlp_block, target_block, gain_block, gate_block, Fin.sum_univ_one]
  rfl

/-- The gradient at the MLP's output. -/
def dyArr : FVec Ideal S4096x2048 .bf16 := fun i => dMlp m c (i 0) (i 1)

theorem dy_place (t : Fin cfg0.N) (r : Fin 256) (k : Fin 2048) : ((cfg0.win 6).blk t).view.emb (ix2 r k) = ix2 (row t r) k := by
  blk_ext [row, (idx t).2.2.2.2.2.2.1]

theorem dy_array : (dats m 0 c).arrAt 6 cfg0.N = dyArr m c := by
  refine (dats m 0 c).arrAt_eq_of_covers 6 _ (by decide +kernel) fun t hf y => ?_
  idx_vars y
  refine Eq.trans ?_ (congrArg (dyArr m c) (dy_place t y0 y1)).symm
  blk_simp
  rw [after0_6, dy_entry m c t]
  rfl

/-- Grid point `t`'s part of the loss. -/
abbrev lossPart (t : Fin cfg0.N) : FVec Ideal S1x1 .f32 :=
  k0_pay15 (k0_pay7 (iblk m c 0 t) (iblk m c 1 t) (iblk m c 2 t) (iblk m c 3 t) (iblk m c 4 t))

theorem loss_first (t : Fin cfg0.N) (h : t.val % 16 = 0) : (outsAt0 m c t.val t.isLt).2.2.1 = lossPart m c t := by
  have hp := points t
  rw [outsAt0_A m c t h (by omega) h (by omega) h (by omega)]; frame_out

theorem loss_next (t : Fin cfg0.N) (h : ¬t.val % 16 = 0) : (outsAt0 m c t.val t.isLt).2.2.1
    = k0_pay17 (k0_pay7 (iblk m c 0 t) (iblk m c 1 t) (iblk m c 2 t) (iblk m c 3 t) (iblk m c 4 t))
      (outsAt0 m c (t.val - 1) (Nat.lt_of_le_of_lt (Nat.sub_le _ _) t.isLt)).2.2.1 := by
  rw [outsAt0_B m c t h (by omega) h (by omega) h (by omega)]; frame_out

theorem loss_part (t : Fin cfg0.N) : lossPart m c t (ix2 0 0) = half * (∑ r : Fin 256, square m c (row t r)) * part11 := by
  unfold lossPart
  unfold_payloads
  pointwise
  simp only [inp_block, mlp_block, target_block, gain_block, gate_block, Fin.sum_univ_one]
  rfl

/-- Half of the sum of the rows' mean squared errors. -/
def total : EReal := half * ∑ r : Fin 4096, Ideal.div (square m c r) two11

theorem loss_last (t : Fin cfg0.N) (h : t.val % 16 = 15) : (outsAt0 m c t.val t.isLt).2.2.1 (ix2 0 0) = total m c := by
  refine (Pipeline.eq_sum_fin_of_reset_step_apply_of_flush (fun n hn => (outsAt0 m c n hn).2.2.1) 16 (fun _ => (0 : EReal))
    (fun t i => (lossPart m c t i : EReal)) (fun t h i => ?_) (fun t h i => ?_) t h (ix2 0 0)).trans ?_
  · rw [loss_first m c t h]
    exact (zero_add _).symm
  · rw [loss_next m c t h]
    idx_vars i
    unfold k0_pay17
    pointwise
  · rw [zero_add]
    refine Eq.trans (Finset.sum_congr rfl fun s _ => loss_part m c _) ?_
    refine (sum_half _ fun s => Finset.sum_nonneg fun r _ => square_nonneg m c _).trans ?_
    refine congrArg (fun v => half * v) ?_
    rw [← sum_mean _ fun r => square_nonneg m c r]
    refine congrArg (fun v => v * part11) ?_
    refine Fin.sum_mul_add_congr (n := 256) (fun s r hl => ?_)
    have hp := points t
    have hr : ∀ h, row ⟨16 * (t.val / 16) + s.val, h⟩ r = ⟨s.val * 256 + r.val, hl⟩ := fun _ => Fin.ext (by simp only [row]; omega)
    rw [hr]

/-- The loss as an array. -/
def lossArr : FVec Ideal S1x1 .f32 := fun _ => total m c

theorem loss_place (t : Fin cfg0.N) : ((cfg0.win 7).blk t).view.emb (ix2 0 0) = ix2 0 0 := by
  blk_ext [(idx t).2.2.2.2.2.2.2.1]

theorem loss_array : (dats m 0 c).arrAt 7 cfg0.N = lossArr m c := by
  refine (dats m 0 c).arrAt_eq_of_covers 7 _ (by decide +kernel) fun t hf y => ?_
  idx_vars y
  obtain rfl : y0 = 0 := Subsingleton.elim _ _
  obtain rfl : y1 = 0 := Subsingleton.elim _ _
  refine Eq.trans ?_ (congrArg (lossArr m c) (loss_place t)).symm
  blk_simp
  rw [after0_7, loss_last m c t ((flush0_7 t).mp hf)]
  rfl

/-- Grid point `t`'s part of the sum. -/
abbrev dgainPart (t : Fin cfg0.N) : FVec Ideal S1x2048 .f32 := k0_pay11 (iblk m c 0 t) (iblk m c 1 t) (iblk m c 2 t) (iblk m c 3 t) (iblk m c 4 t)

theorem dgain_first (t : Fin cfg0.N) (h : t.val % 16 = 0) : (outsAt0 m c t.val t.isLt).2.2.2.1 = dgainPart m c t := by
  have hp := points t
  rw [outsAt0_A m c t h (by omega) h (by omega) h (by omega)]; frame_out

theorem dgain_next (t : Fin cfg0.N) (h : ¬t.val % 16 = 0) : (outsAt0 m c t.val t.isLt).2.2.2.1
    = k0_pay18 (dgainPart m c t) (outsAt0 m c (t.val - 1) (Nat.lt_of_le_of_lt (Nat.sub_le _ _) t.isLt)).2.2.2.1 := by
  rw [outsAt0_B m c t h (by omega) h (by omega) h (by omega)]; frame_out

set_option maxHeartbeats 2000000 in
theorem dgain_part (t : Fin cfg0.N) (k : Fin 2048) : dgainPart m c t (ix2 0 k) = ∑ r : Fin 256, dGain m c (row t r) k := by
  unfold dgainPart
  unfold_payloads
  pointwise
  simp only [inp_block, mlp_block, target_block, gain_block, gate_block, Fin.sum_univ_one]
  rfl

theorem dgain_last (t : Fin cfg0.N) (h : t.val % 16 = 15) (k : Fin 2048) :
    (outsAt0 m c t.val t.isLt).2.2.2.1 (ix2 0 k) = ∑ r : Fin 4096, dGain m c r k := by
  refine (Pipeline.eq_sum_fin_of_reset_step_apply_of_flush (fun n hn => (outsAt0 m c n hn).2.2.2.1) 16 (fun _ => (0 : EReal))
    (fun t i => (dgainPart m c t i : EReal)) (fun t h i => ?_) (fun t h i => ?_) t h (ix2 0 k)).trans ?_
  · rw [dgain_first m c t h]
    exact (zero_add _).symm
  · rw [dgain_next m c t h]
    idx_vars i
    unfold k0_pay18
    pointwise
  · rw [zero_add]
    refine Eq.trans (Finset.sum_congr rfl fun s _ => dgain_part m c _ k) ?_
    refine Fin.sum_mul_add_congr (n := 256) (fun s r hl => ?_)
    have hp := points t
    have hr : ∀ h, row ⟨16 * (t.val / 16) + s.val, h⟩ r = ⟨s.val * 256 + r.val, hl⟩ := fun _ => Fin.ext (by simp only [row]; omega)
    rw [hr]

/-- The gradient of the gain. -/
def dgainArr : FVec Ideal S1x2048 .f32 := fun i => ∑ r : Fin 4096, dGain m c r (i 1)

theorem dgain_place (t : Fin cfg0.N) (k : Fin 2048) : ((cfg0.win 8).blk t).view.emb (ix2 0 k) = ix2 0 k := by
  blk_ext [(idx t).2.2.2.2.2.2.2.2.1]

theorem dgain_array : (dats m 0 c).arrAt 8 cfg0.N = dgainArr m c := by
  refine (dats m 0 c).arrAt_eq_of_covers 8 _ (by decide +kernel) fun t hf y => ?_
  idx_vars y
  obtain rfl : y0 = 0 := Subsingleton.elim _ _
  refine Eq.trans ?_ (congrArg (dgainArr m c) (dgain_place t y1)).symm
  blk_simp
  rw [after0_8, dgain_last m c t ((flush0_8 t).mp hf)]
  rfl

/-- Grid point `t`'s part of the sum. -/
abbrev dgatePart (t : Fin cfg0.N) : FVec Ideal S1x2048 .f32 := k0_pay10 (iblk m c 0 t) (iblk m c 1 t) (iblk m c 2 t) (iblk m c 3 t) (iblk m c 4 t)

theorem dgate_first (t : Fin cfg0.N) (h : t.val % 16 = 0) : (outsAt0 m c t.val t.isLt).2.2.2.2 = dgatePart m c t := by
  have hp := points t
  rw [outsAt0_A m c t h (by omega) h (by omega) h (by omega)]; frame_out

theorem dgate_next (t : Fin cfg0.N) (h : ¬t.val % 16 = 0) : (outsAt0 m c t.val t.isLt).2.2.2.2
    = k0_pay1 (dgatePart m c t) (outsAt0 m c (t.val - 1) (Nat.lt_of_le_of_lt (Nat.sub_le _ _) t.isLt)).2.2.2.2 := by
  rw [outsAt0_B m c t h (by omega) h (by omega) h (by omega)]; frame_out

set_option maxHeartbeats 2000000 in
theorem dgate_part (t : Fin cfg0.N) (k : Fin 2048) : dgatePart m c t (ix2 0 k) = ∑ r : Fin 256, dGate m c (row t r) k := by
  unfold dgatePart
  unfold_payloads
  pointwise
  simp only [inp_block, mlp_block, target_block, gain_block, gate_block, Fin.sum_univ_one]
  rfl

theorem dgate_last (t : Fin cfg0.N) (h : t.val % 16 = 15) (k : Fin 2048) :
    (outsAt0 m c t.val t.isLt).2.2.2.2 (ix2 0 k) = ∑ r : Fin 4096, dGate m c r k := by
  refine (Pipeline.eq_sum_fin_of_reset_step_apply_of_flush (fun n hn => (outsAt0 m c n hn).2.2.2.2) 16 (fun _ => (0 : EReal))
    (fun t i => (dgatePart m c t i : EReal)) (fun t h i => ?_) (fun t h i => ?_) t h (ix2 0 k)).trans ?_
  · rw [dgate_first m c t h]
    exact (zero_add _).symm
  · rw [dgate_next m c t h]
    idx_vars i
    unfold k0_pay1
    pointwise
  · rw [zero_add]
    refine Eq.trans (Finset.sum_congr rfl fun s _ => dgate_part m c _ k) ?_
    refine Fin.sum_mul_add_congr (n := 256) (fun s r hl => ?_)
    have hp := points t
    have hr : ∀ h, row ⟨16 * (t.val / 16) + s.val, h⟩ r = ⟨s.val * 256 + r.val, hl⟩ := fun _ => Fin.ext (by simp only [row]; omega)
    rw [hr]

/-- The gradient of the gate. -/
def dgateArr : FVec Ideal S1x2048 .f32 := fun i => ∑ r : Fin 4096, dGate m c r (i 1)

theorem dgate_place (t : Fin cfg0.N) (k : Fin 2048) : ((cfg0.win 9).blk t).view.emb (ix2 0 k) = ix2 0 k := by
  blk_ext [(idx t).2.2.2.2.2.2.2.2.2]

theorem dgate_array : (dats m 0 c).arrAt 9 cfg0.N = dgateArr m c := by
  refine (dats m 0 c).arrAt_eq_of_covers 9 _ (by decide +kernel) fun t hf y => ?_
  idx_vars y
  obtain rfl : y0 = 0 := Subsingleton.elim _ _
  refine Eq.trans ?_ (congrArg (dgateArr m c) (dgate_place t y1)).symm
  blk_simp
  rw [after0_9, dgate_last m c t ((flush0_9 t).mp hf)]
  rfl

end Cert.LossHeadProof

end
-- ==== Proof.LossHeadEquation.lean ====
/- The reference of the loss and its gradients gives the arrays its kernel gives. -/
module

public import proofs.«01_k».proof.Proof.LossHead
public import proofs.«01_k».proof.Proof.Gen.LossHeadRefIdeal.Run

@[expose] public section

set_option maxRecDepth 16384

noncomputable section

namespace Cert.LossHeadProof

open Idealize.ShloMosaic Idealize.ShloMosaic.TcCoe Idealize.SL.Sem Cert.LossHeadRefIdeal Cert.RowNorm

variable (m : (ℓ : Loc LossHeadIdeal.nD LossHeadIdeal.τ LossHeadIdeal.sig) → Buf (Elt Ideal) ℓ)
  (m' : (ℓ : Loc nD τ sig) → Buf (Elt Ideal) ℓ)

/-- The two programs are launched on the same arguments. -/
abbrev Agree (c : Dev LossHeadIdeal.nD) : Prop :=
  m' ((c.tc : Thread nD τ).loc main_arg0) = m ((c.tc : Thread LossHeadIdeal.nD LossHeadIdeal.τ).loc LossHeadIdeal.main_arg0)
    ∧ m' ((c.tc : Thread nD τ).loc main_arg1) = m ((c.tc : Thread LossHeadIdeal.nD LossHeadIdeal.τ).loc LossHeadIdeal.main_arg1)
    ∧ m' ((c.tc : Thread nD τ).loc main_arg2) = m ((c.tc : Thread LossHeadIdeal.nD LossHeadIdeal.τ).loc LossHeadIdeal.main_arg2)
    ∧ m' ((c.tc : Thread nD τ).loc main_arg3) = m ((c.tc : Thread LossHeadIdeal.nD LossHeadIdeal.τ).loc LossHeadIdeal.main_arg3)
    ∧ m' ((c.tc : Thread nD τ).loc main_arg4) = m ((c.tc : Thread LossHeadIdeal.nD LossHeadIdeal.τ).loc LossHeadIdeal.main_arg4)

set_option maxHeartbeats 4000000 in
/-- The reference gives these arrays. -/
theorem reference (ρ' : Dev nD → PrngReg) (agree : ∀ c, Agree m m' c) :
    θ_run defs (onTc (τ := τ) (main (F := Ideal))) ⟨m', fun _ => 0, ρ'⟩ fun r => ∀ c : Dev nD,
      r.2.mem ((c.tc : Thread nD τ).loc main_v32) = dxArr m c
      ∧ r.2.mem ((c.tc : Thread nD τ).loc main_v57) = dyArr m c
      ∧ r.2.mem ((c.tc : Thread nD τ).loc main_v58) = lossArr m c
      ∧ r.2.mem ((c.tc : Thread nD τ).loc main_v40) = dgainArr m c
      ∧ r.2.mem ((c.tc : Thread nD τ).loc main_v37) = dgateArr m c
      ∧ r.2.mem ((c.tc : Thread nD τ).loc main_arg0) = m' ((c.tc : Thread nD τ).loc main_arg0)
      ∧ r.2.mem ((c.tc : Thread nD τ).loc main_arg1) = m' ((c.tc : Thread nD τ).loc main_arg1)
      ∧ r.2.mem ((c.tc : Thread nD τ).loc main_arg2) = m' ((c.tc : Thread nD τ).loc main_arg2)
      ∧ r.2.mem ((c.tc : Thread nD τ).loc main_arg3) = m' ((c.tc : Thread nD τ).loc main_arg3)
      ∧ r.2.mem ((c.tc : Thread nD τ).loc main_arg4) = m' ((c.tc : Thread nD τ).loc main_arg4) := by
  refine (θ_run _ _ _).mono (fun r h c => ?_) (Value.run m' ρ')
  obtain ⟨a0, a1, a2, a3, a4⟩ := agree c
  obtain ⟨h0, h1, h2, h3, h4, hk⟩ := h c
  refine ⟨h0.trans ?_, h1.trans ?_, h2.trans ?_, h3.trans ?_, h4.trans ?_, hk⟩
  · funext i
    idx_vars i
    pointwise
    simp only [a0, a1, a2, a3, a4, Fin.sum_univ_one, mul_one, slope_eq]
    rfl
  · funext i
    idx_vars i
    unfold Value.res_main_v57
    pointwise
    simp only [a0, a1, a2, a3, a4, Fin.sum_univ_one, mul_one, slope_eq]
    rfl
  · funext i
    idx_vars i
    pointwise
    simp only [a0, a1, a2, a3, a4, Fin.sum_univ_one]
    rfl
  · funext i
    idx_vars i
    pointwise
    simp only [a0, a1, a2, a3, a4, Fin.sum_univ_one, mul_one, slope_eq]
    rfl
  · funext i
    idx_vars i
    pointwise
    simp only [a0, a1, a2, a3, a4, Fin.sum_univ_one, mul_one, slope_eq]
    rfl

end Cert.LossHeadProof

end
-- ==== Proof.AdamEquations.lean ====
/- The optimiser's references give the arrays their kernels give: the kernels' tiles cover each array, and at every entry
   the step and the two moments are the same formulas. -/
module

public import proofs.«01_k».proof.Proof.Gen.AdamInIdeal.Value
public import proofs.«01_k».proof.Proof.Gen.AdamInRefIdeal.Run
public import proofs.«01_k».proof.Proof.Gen.AdamOutIdeal.Value
public import proofs.«01_k».proof.Proof.Gen.AdamOutRefIdeal.Run
public import proofs.«01_k».proof.Proof.Gen.AdamMlpInIdeal.Value
public import proofs.«01_k».proof.Proof.Gen.AdamMlpInRefIdeal.Run
public import proofs.«01_k».proof.Proof.Gen.AdamMlpOutIdeal.Value
public import proofs.«01_k».proof.Proof.Gen.AdamMlpOutRefIdeal.Run
public import proofs.«01_k».proof.Proof.Gen.AdamGluIdeal.Value
public import proofs.«01_k».proof.Proof.Gen.AdamGluRefIdeal.Run
public import proofs.«01_k».proof.Proof.Gen.AdamSmallIdeal.Value
public import proofs.«01_k».proof.Proof.Gen.AdamSmallRefIdeal.Run
public import Idealize.ShloMosaic.Lib.Pointwise
public import Idealize.ShloMosaic.Lib.Pipeline.ValueKit

@[expose] public section

set_option maxRecDepth 16384

noncomputable section

open Idealize.ShloMosaic

namespace Cert.AdamInProof

open Cert.AdamInRefIdeal

variable (w g μ ν : FVec Ideal S2048x704 .f32)

/-- The new first moment. -/
theorem mean_eq : addf (mulf (broadcastInDim S2048x704 ![] Facts₀.bcast_S_S2048x704 (constant S_ .f32 0x3F666666#32)) μ) (mulf (broadcastInDim S2048x704 ![] Facts₀.bcast_S_S2048x704 (constant S_ .f32 0x3DCCCCCD#32)) g)
    = AdamInIdeal.Value.G5 (F := Ideal) g μ := by
  funext i
  unfold AdamInIdeal.Value.G5
  pointwise

/-- The new second moment. -/
theorem square_eq : addf (mulf (broadcastInDim S2048x704 ![] Facts₀.bcast_S_S2048x704 (constant S_ .f32 0x3F7FBE77#32)) ν)
      (mulf (broadcastInDim S2048x704 ![] Facts₀.bcast_S_S2048x704 (constant S_ .f32 0x3A83126F#32)) (mulf g g))
    = AdamInIdeal.Value.G6 (F := Ideal) g ν := by
  funext i
  unfold AdamInIdeal.Value.G6
  pointwise

/-- The step. -/
theorem step_eq : mulf (broadcastInDim S2048x704 ![] Facts₀.bcast_S_S2048x704 (constant S_ .f32 0xBA83126F#32)) (addf (Host.divf (Host.divf
      (addf (mulf (broadcastInDim S2048x704 ![] Facts₀.bcast_S_S2048x704 (constant S_ .f32 0x3F666666#32)) μ) (mulf (broadcastInDim S2048x704 ![] Facts₀.bcast_S_S2048x704 (constant S_ .f32 0x3DCCCCCD#32)) g))
      (broadcastInDim S2048x704 ![] Facts₀.bcast_S_S2048x704 (constant S_ .f32 0x3F26BD02#32)))
      (addf (Host.sqrt (Host.divf (addf (mulf (broadcastInDim S2048x704 ![] Facts₀.bcast_S_S2048x704 (constant S_ .f32 0x3F7FBE77#32)) ν)
        (mulf (broadcastInDim S2048x704 ![] Facts₀.bcast_S_S2048x704 (constant S_ .f32 0x3A83126F#32)) (mulf g g)))
        (broadcastInDim S2048x704 ![] Facts₀.bcast_S_S2048x704 (constant S_ .f32 0x3C231ACC#32))))
        (broadcastInDim S2048x704 ![] Facts₀.bcast_S_S2048x704 (constant S_ .f32 0x322BCC77#32))))
      (mulf (broadcastInDim S2048x704 ![] Facts₀.bcast_S_S2048x704 (constant S_ .f32 0x3C23D70A#32)) w))
    = AdamInIdeal.Value.G4 (F := Ideal) w g μ ν := by
  funext i
  unfold AdamInIdeal.Value.G4
  pointwise

end Cert.AdamInProof

namespace Cert.AdamOutProof

open Cert.AdamOutRefIdeal

variable (w g μ ν : FVec Ideal S1280x512 .f32)

/-- The new first moment. -/
theorem mean_eq : addf (mulf (broadcastInDim S1280x512 ![] Facts₀.bcast_S_S1280x512 (constant S_ .f32 0x3F666666#32)) μ) (mulf (broadcastInDim S1280x512 ![] Facts₀.bcast_S_S1280x512 (constant S_ .f32 0x3DCCCCCD#32)) g)
    = AdamOutIdeal.Value.G5 (F := Ideal) g μ := by
  funext i
  unfold AdamOutIdeal.Value.G5
  pointwise

/-- The new second moment. -/
theorem square_eq : addf (mulf (broadcastInDim S1280x512 ![] Facts₀.bcast_S_S1280x512 (constant S_ .f32 0x3F7FBE77#32)) ν)
      (mulf (broadcastInDim S1280x512 ![] Facts₀.bcast_S_S1280x512 (constant S_ .f32 0x3A83126F#32)) (mulf g g))
    = AdamOutIdeal.Value.G6 (F := Ideal) g ν := by
  funext i
  unfold AdamOutIdeal.Value.G6
  pointwise

/-- The step. -/
theorem step_eq : mulf (broadcastInDim S1280x512 ![] Facts₀.bcast_S_S1280x512 (constant S_ .f32 0xBA83126F#32)) (addf (Host.divf (Host.divf
      (addf (mulf (broadcastInDim S1280x512 ![] Facts₀.bcast_S_S1280x512 (constant S_ .f32 0x3F666666#32)) μ) (mulf (broadcastInDim S1280x512 ![] Facts₀.bcast_S_S1280x512 (constant S_ .f32 0x3DCCCCCD#32)) g))
      (broadcastInDim S1280x512 ![] Facts₀.bcast_S_S1280x512 (constant S_ .f32 0x3F26BD02#32)))
      (addf (Host.sqrt (Host.divf (addf (mulf (broadcastInDim S1280x512 ![] Facts₀.bcast_S_S1280x512 (constant S_ .f32 0x3F7FBE77#32)) ν)
        (mulf (broadcastInDim S1280x512 ![] Facts₀.bcast_S_S1280x512 (constant S_ .f32 0x3A83126F#32)) (mulf g g)))
        (broadcastInDim S1280x512 ![] Facts₀.bcast_S_S1280x512 (constant S_ .f32 0x3C231ACC#32))))
        (broadcastInDim S1280x512 ![] Facts₀.bcast_S_S1280x512 (constant S_ .f32 0x322BCC77#32))))
      (mulf (broadcastInDim S1280x512 ![] Facts₀.bcast_S_S1280x512 (constant S_ .f32 0x3C23D70A#32)) w))
    = AdamOutIdeal.Value.G4 (F := Ideal) w g μ ν := by
  funext i
  unfold AdamOutIdeal.Value.G4
  pointwise

end Cert.AdamOutProof

namespace Cert.AdamMlpInProof

open Cert.AdamMlpInRefIdeal

variable (w g μ ν : FVec Ideal S2048x2048 .f32)

/-- The new first moment. -/
theorem mean_eq : addf (mulf (broadcastInDim S2048x2048 ![] Facts₀.bcast_S_S2048x2048 (constant S_ .f32 0x3F666666#32)) μ) (mulf (broadcastInDim S2048x2048 ![] Facts₀.bcast_S_S2048x2048 (constant S_ .f32 0x3DCCCCCD#32)) g)
    = AdamMlpInIdeal.Value.G5 (F := Ideal) g μ := by
  funext i
  unfold AdamMlpInIdeal.Value.G5
  pointwise

/-- The new second moment. -/
theorem square_eq : addf (mulf (broadcastInDim S2048x2048 ![] Facts₀.bcast_S_S2048x2048 (constant S_ .f32 0x3F7FBE77#32)) ν)
      (mulf (broadcastInDim S2048x2048 ![] Facts₀.bcast_S_S2048x2048 (constant S_ .f32 0x3A83126F#32)) (mulf g g))
    = AdamMlpInIdeal.Value.G6 (F := Ideal) g ν := by
  funext i
  unfold AdamMlpInIdeal.Value.G6
  pointwise

/-- The step. -/
theorem step_eq : mulf (broadcastInDim S2048x2048 ![] Facts₀.bcast_S_S2048x2048 (constant S_ .f32 0xBA83126F#32)) (addf (Host.divf (Host.divf
      (addf (mulf (broadcastInDim S2048x2048 ![] Facts₀.bcast_S_S2048x2048 (constant S_ .f32 0x3F666666#32)) μ) (mulf (broadcastInDim S2048x2048 ![] Facts₀.bcast_S_S2048x2048 (constant S_ .f32 0x3DCCCCCD#32)) g))
      (broadcastInDim S2048x2048 ![] Facts₀.bcast_S_S2048x2048 (constant S_ .f32 0x3F26BD02#32)))
      (addf (Host.sqrt (Host.divf (addf (mulf (broadcastInDim S2048x2048 ![] Facts₀.bcast_S_S2048x2048 (constant S_ .f32 0x3F7FBE77#32)) ν)
        (mulf (broadcastInDim S2048x2048 ![] Facts₀.bcast_S_S2048x2048 (constant S_ .f32 0x3A83126F#32)) (mulf g g)))
        (broadcastInDim S2048x2048 ![] Facts₀.bcast_S_S2048x2048 (constant S_ .f32 0x3C231ACC#32))))
        (broadcastInDim S2048x2048 ![] Facts₀.bcast_S_S2048x2048 (constant S_ .f32 0x322BCC77#32))))
      (mulf (broadcastInDim S2048x2048 ![] Facts₀.bcast_S_S2048x2048 (constant S_ .f32 0x3C23D70A#32)) w))
    = AdamMlpInIdeal.Value.G4 (F := Ideal) w g μ ν := by
  funext i
  unfold AdamMlpInIdeal.Value.G4
  pointwise

end Cert.AdamMlpInProof

namespace Cert.AdamMlpOutProof

open Cert.AdamMlpOutRefIdeal

variable (w g μ ν : FVec Ideal S2048x2048 .f32)

/-- The new first moment. -/
theorem mean_eq : addf (mulf (broadcastInDim S2048x2048 ![] Facts₀.bcast_S_S2048x2048 (constant S_ .f32 0x3F666666#32)) μ) (mulf (broadcastInDim S2048x2048 ![] Facts₀.bcast_S_S2048x2048 (constant S_ .f32 0x3DCCCCCD#32)) g)
    = AdamMlpOutIdeal.Value.G5 (F := Ideal) g μ := by
  funext i
  unfold AdamMlpOutIdeal.Value.G5
  pointwise

/-- The new second moment. -/
theorem square_eq : addf (mulf (broadcastInDim S2048x2048 ![] Facts₀.bcast_S_S2048x2048 (constant S_ .f32 0x3F7FBE77#32)) ν)
      (mulf (broadcastInDim S2048x2048 ![] Facts₀.bcast_S_S2048x2048 (constant S_ .f32 0x3A83126F#32)) (mulf g g))
    = AdamMlpOutIdeal.Value.G6 (F := Ideal) g ν := by
  funext i
  unfold AdamMlpOutIdeal.Value.G6
  pointwise

/-- The step. -/
theorem step_eq : mulf (broadcastInDim S2048x2048 ![] Facts₀.bcast_S_S2048x2048 (constant S_ .f32 0xBA83126F#32)) (addf (Host.divf (Host.divf
      (addf (mulf (broadcastInDim S2048x2048 ![] Facts₀.bcast_S_S2048x2048 (constant S_ .f32 0x3F666666#32)) μ) (mulf (broadcastInDim S2048x2048 ![] Facts₀.bcast_S_S2048x2048 (constant S_ .f32 0x3DCCCCCD#32)) g))
      (broadcastInDim S2048x2048 ![] Facts₀.bcast_S_S2048x2048 (constant S_ .f32 0x3F26BD02#32)))
      (addf (Host.sqrt (Host.divf (addf (mulf (broadcastInDim S2048x2048 ![] Facts₀.bcast_S_S2048x2048 (constant S_ .f32 0x3F7FBE77#32)) ν)
        (mulf (broadcastInDim S2048x2048 ![] Facts₀.bcast_S_S2048x2048 (constant S_ .f32 0x3A83126F#32)) (mulf g g)))
        (broadcastInDim S2048x2048 ![] Facts₀.bcast_S_S2048x2048 (constant S_ .f32 0x3C231ACC#32))))
        (broadcastInDim S2048x2048 ![] Facts₀.bcast_S_S2048x2048 (constant S_ .f32 0x322BCC77#32))))
      (mulf (broadcastInDim S2048x2048 ![] Facts₀.bcast_S_S2048x2048 (constant S_ .f32 0x3C23D70A#32)) w))
    = AdamMlpOutIdeal.Value.G4 (F := Ideal) w g μ ν := by
  funext i
  unfold AdamMlpOutIdeal.Value.G4
  pointwise

end Cert.AdamMlpOutProof

namespace Cert.AdamGluProof

open Cert.AdamGluRefIdeal

variable (w g μ ν : FVec Ideal S224x896 .f32)

/-- The new first moment. -/
theorem mean_eq : addf (mulf (broadcastInDim S224x896 ![] Facts₀.bcast_S_S224x896 (constant S_ .f32 0x3F666666#32)) μ) (mulf (broadcastInDim S224x896 ![] Facts₀.bcast_S_S224x896 (constant S_ .f32 0x3DCCCCCD#32)) g)
    = AdamGluIdeal.Value.G5 (F := Ideal) g μ := by
  funext i
  unfold AdamGluIdeal.Value.G5
  pointwise

/-- The new second moment. -/
theorem square_eq : addf (mulf (broadcastInDim S224x896 ![] Facts₀.bcast_S_S224x896 (constant S_ .f32 0x3F7FBE77#32)) ν)
      (mulf (broadcastInDim S224x896 ![] Facts₀.bcast_S_S224x896 (constant S_ .f32 0x3A83126F#32)) (mulf g g))
    = AdamGluIdeal.Value.G6 (F := Ideal) g ν := by
  funext i
  unfold AdamGluIdeal.Value.G6
  pointwise

/-- The step. -/
theorem step_eq : mulf (broadcastInDim S224x896 ![] Facts₀.bcast_S_S224x896 (constant S_ .f32 0xBA83126F#32)) (addf (Host.divf (Host.divf
      (addf (mulf (broadcastInDim S224x896 ![] Facts₀.bcast_S_S224x896 (constant S_ .f32 0x3F666666#32)) μ) (mulf (broadcastInDim S224x896 ![] Facts₀.bcast_S_S224x896 (constant S_ .f32 0x3DCCCCCD#32)) g))
      (broadcastInDim S224x896 ![] Facts₀.bcast_S_S224x896 (constant S_ .f32 0x3F26BD02#32)))
      (addf (Host.sqrt (Host.divf (addf (mulf (broadcastInDim S224x896 ![] Facts₀.bcast_S_S224x896 (constant S_ .f32 0x3F7FBE77#32)) ν)
        (mulf (broadcastInDim S224x896 ![] Facts₀.bcast_S_S224x896 (constant S_ .f32 0x3A83126F#32)) (mulf g g)))
        (broadcastInDim S224x896 ![] Facts₀.bcast_S_S224x896 (constant S_ .f32 0x3C231ACC#32))))
        (broadcastInDim S224x896 ![] Facts₀.bcast_S_S224x896 (constant S_ .f32 0x322BCC77#32))))
      (mulf (broadcastInDim S224x896 ![] Facts₀.bcast_S_S224x896 (constant S_ .f32 0x3C23D70A#32)) w))
    = AdamGluIdeal.Value.G4 (F := Ideal) w g μ ν := by
  funext i
  unfold AdamGluIdeal.Value.G4
  pointwise

end Cert.AdamGluProof

namespace Cert.AdamSmallProof

open Cert.AdamSmallRefIdeal

variable (w g μ ν : FVec Ideal S256x1024 .f32)

/-- The new first moment. -/
theorem mean_eq : addf (mulf (broadcastInDim S256x1024 ![] Facts₀.bcast_S_S256x1024 (constant S_ .f32 0x3F666666#32)) μ) (mulf (broadcastInDim S256x1024 ![] Facts₀.bcast_S_S256x1024 (constant S_ .f32 0x3DCCCCCD#32)) g)
    = AdamSmallIdeal.Value.G5 (F := Ideal) g μ := by
  funext i
  unfold AdamSmallIdeal.Value.G5
  pointwise

/-- The new second moment. -/
theorem square_eq : addf (mulf (broadcastInDim S256x1024 ![] Facts₀.bcast_S_S256x1024 (constant S_ .f32 0x3F7FBE77#32)) ν)
      (mulf (broadcastInDim S256x1024 ![] Facts₀.bcast_S_S256x1024 (constant S_ .f32 0x3A83126F#32)) (mulf g g))
    = AdamSmallIdeal.Value.G6 (F := Ideal) g ν := by
  funext i
  unfold AdamSmallIdeal.Value.G6
  pointwise

/-- The step. -/
theorem step_eq : mulf (broadcastInDim S256x1024 ![] Facts₀.bcast_S_S256x1024 (constant S_ .f32 0xBA83126F#32)) (addf (Host.divf (Host.divf
      (addf (mulf (broadcastInDim S256x1024 ![] Facts₀.bcast_S_S256x1024 (constant S_ .f32 0x3F666666#32)) μ) (mulf (broadcastInDim S256x1024 ![] Facts₀.bcast_S_S256x1024 (constant S_ .f32 0x3DCCCCCD#32)) g))
      (broadcastInDim S256x1024 ![] Facts₀.bcast_S_S256x1024 (constant S_ .f32 0x3F26BD02#32)))
      (addf (Host.sqrt (Host.divf (addf (mulf (broadcastInDim S256x1024 ![] Facts₀.bcast_S_S256x1024 (constant S_ .f32 0x3F7FBE77#32)) ν)
        (mulf (broadcastInDim S256x1024 ![] Facts₀.bcast_S_S256x1024 (constant S_ .f32 0x3A83126F#32)) (mulf g g)))
        (broadcastInDim S256x1024 ![] Facts₀.bcast_S_S256x1024 (constant S_ .f32 0x3C231ACC#32))))
        (broadcastInDim S256x1024 ![] Facts₀.bcast_S_S256x1024 (constant S_ .f32 0x322BCC77#32))))
      (mulf (broadcastInDim S256x1024 ![] Facts₀.bcast_S_S256x1024 (constant S_ .f32 0x3C23D70A#32)) w))
    = AdamSmallIdeal.Value.G4 (F := Ideal) w g μ ν := by
  funext i
  unfold AdamSmallIdeal.Value.G4
  pointwise

end Cert.AdamSmallProof

end
-- ==== Proof.AdaBwd.lean ====
/- The gradient of the modulation's weight and its optimiser step, as arrays. The kernel walks 4 by 6 tiles of the weight; at each it
   contracts the batch's 16 rows and steps the tile. -/
module

public import proofs.«01_k».proof.Proof.Gen.AdaBwdIdeal.Value
public import Idealize.ShloMosaic.Lib.Pointwise
public import Idealize.ShloMosaic.Lib.Pipeline.ValueKit
public import Idealize.ShloMosaic.Lib.Pipeline.ReadBack

@[expose] public section

set_option maxRecDepth 16384

noncomputable section

namespace Cert.AdaBwdProof

open Idealize.ShloMosaic Cert.AdaBwdIdeal Cert.AdaBwdIdeal.Gen

/-- Where each window of grid point `t` lies. -/
theorem idx : ∀ t : Fin cfg0.N, win0_0.index t = ![0, t.val / 6] ∧ win0_1.index t = ![0, t.val % 6]
    ∧ win0_2.index t = ![t.val / 6, t.val % 6] ∧ win0_3.index t = ![t.val / 6, t.val % 6]
    ∧ win0_4.index t = ![t.val / 6, t.val % 6] ∧ win0_5.index t = ![t.val / 6, t.val % 6]
    ∧ win0_6.index t = ![t.val / 6, t.val % 6] ∧ win0_7.index t = ![t.val / 6, t.val % 6]
    ∧ win0_8.index t = ![t.val / 6, t.val % 6] := by decide +kernel

theorem points (t : Fin cfg0.N) : t.val < 24 := t.isLt

variable (m : (ℓ : Loc nD τ sig) → Buf (Elt Ideal) ℓ) (c : Dev nD)

/-- The conditioning rows. -/
abbrev cond : FVec Ideal S16x2048 .f32 := m ((c.tc : Thread nD τ).loc main_arg0)
/-- The gradient that arrives at the modulation. -/
abbrev dMod : FVec Ideal S16x3072 .f32 := m ((c.tc : Thread nD τ).loc main_arg1)
/-- The weight. -/
abbrev wgt : FVec Ideal S2048x3072 .f32 := m ((c.tc : Thread nD τ).loc main_arg2)
/-- Its first moment. -/
abbrev mom : FVec Ideal S2048x3072 .f32 := m ((c.tc : Thread nD τ).loc main_arg3)
/-- Its second moment. -/
abbrev sqr : FVec Ideal S2048x3072 .f32 := m ((c.tc : Thread nD τ).loc main_arg4)

/-- The weight's row `r` of grid point `t`'s tile. -/
def row (t : Fin cfg0.N) (r : Fin 512) : Fin 2048 := ⟨t.val / 6 * 512 + r.val, by have := points t; omega⟩
/-- The weight's column `d` of that tile. -/
def col (t : Fin cfg0.N) (d : Fin 512) : Fin 3072 := ⟨t.val % 6 * 512 + d.val, by omega⟩

theorem cond_block (t : Fin cfg0.N) (k : Fin 16) (r : Fin 512) : iblk m c 0 t (ix2 k r) = cond m c (ix2 k (row t r)) := by
  blk_ext [iblk, V, row, (idx t).1]

theorem dmod_block (t : Fin cfg0.N) (k : Fin 16) (d : Fin 512) : iblk m c 1 t (ix2 k d) = dMod m c (ix2 k (col t d)) := by
  blk_ext [iblk, V, col, (idx t).2.1]

theorem wgt_block (t : Fin cfg0.N) (r d : Fin 512) : iblk m c 2 t (ix2 r d) = wgt m c (ix2 (row t r) (col t d)) := by
  blk_ext [iblk, V, row, col, (idx t).2.2.1]

theorem mom_block (t : Fin cfg0.N) (r d : Fin 512) : iblk m c 3 t (ix2 r d) = mom m c (ix2 (row t r) (col t d)) := by
  blk_ext [iblk, V, row, col, (idx t).2.2.2.1]

theorem sqr_block (t : Fin cfg0.N) (r d : Fin 512) : iblk m c 4 t (ix2 r d) = sqr m c (ix2 (row t r) (col t d)) := by
  blk_ext [iblk, V, row, col, (idx t).2.2.2.2.1]

/-- The activation of a conditioning entry. -/
def act (x : EReal) : EReal := x * Ideal.div 1 (1 + Ideal.exp (-x))

/-- The gradient of the weight at row `r` and column `d`. -/
def dW (r : Fin 2048) (d : Fin 3072) : EReal := ∑ k : Fin 16, act (cond m c (ix2 k r)) * dMod m c (ix2 k d)

/-- The new first moment of an entry. -/
def mean {F : FTy → Type} [FloatOps F] (g μ : F .f32) : F .f32 :=
  FloatOps.addf (FloatOps.mulf (Scalar.ofBits .f32 0x3F666666#32) μ) (FloatOps.mulf (Scalar.ofBits .f32 0x3DCCCCCD#32) g)
/-- The new second moment of an entry. -/
def square {F : FTy → Type} [FloatOps F] (g ν : F .f32) : F .f32 :=
  FloatOps.addf (FloatOps.mulf (Scalar.ofBits .f32 0x3F7FBE77#32) ν) (FloatOps.mulf (Scalar.ofBits .f32 0x3A83126F#32) (FloatOps.mulf g g))
/-- The step of an entry. -/
def step {F : FTy → Type} [FloatOps F] (w g μ ν : F .f32) : F .f32 :=
  FloatOps.mulf (Scalar.ofBits .f32 0xBA83126F#32) (FloatOps.addf
    (FloatOps.divf (FloatOps.divf (mean g μ) (Scalar.ofBits .f32 0x3F26BD02#32))
      (FloatOps.addf (FloatOps.sqrt (FloatOps.divf (square g ν) (Scalar.ofBits .f32 0x3C231ACC#32))) (Scalar.ofBits .f32 0x322BCC77#32)))
    (FloatOps.mulf (Scalar.ofBits .f32 0x3C23D70A#32) w))

theorem grad_entry (t : Fin cfg0.N) (r d : Fin 512) :
    k0_pay2 (iblk m c 0 t) (iblk m c 1 t) (ix2 r d) = dW m c (row t r) (col t d) := by
  unfold k0_pay2
  pointwise
  simp only [cond_block, dmod_block]
  simp only [dW, act, zero_sub]

theorem mean_entry (t : Fin cfg0.N) (r d : Fin 512) : k0_pay3 (iblk m c 0 t) (iblk m c 1 t) (iblk m c 3 t) (ix2 r d)
    = mean (F := Ideal) (dW m c (row t r) (col t d)) (mom m c (ix2 (row t r) (col t d))) := by
  rw [← grad_entry, ← mom_block]; rfl

theorem square_entry (t : Fin cfg0.N) (r d : Fin 512) : k0_pay4 (iblk m c 0 t) (iblk m c 1 t) (iblk m c 4 t) (ix2 r d)
    = square (F := Ideal) (dW m c (row t r) (col t d)) (sqr m c (ix2 (row t r) (col t d))) := by
  rw [← grad_entry, ← sqr_block]; rfl

theorem step_entry (t : Fin cfg0.N) (r d : Fin 512) :
    k0_pay1 (iblk m c 2 t) (k0_pay5 (iblk m c 0 t) (iblk m c 1 t) (iblk m c 3 t))
      (k0_pay6 (iblk m c 0 t) (iblk m c 1 t) (iblk m c 4 t)) k0_pay7 (ix2 r d)
    = step (F := Ideal) (wgt m c (ix2 (row t r) (col t d))) (dW m c (row t r) (col t d)) (mom m c (ix2 (row t r) (col t d)))
        (sqr m c (ix2 (row t r) (col t d))) := by
  unfold step
  rw [← mean_entry, ← square_entry, ← wgt_block]; rfl

/-- The gradient as an array. -/
def grad : FVec Ideal S2048x3072 .f32 := fun i => dW m c (i 0) (i 1)
/-- The step as an array. -/
def stepArr : FVec Ideal S2048x3072 .f32 := fun i => step (F := Ideal) (wgt m c i) (grad m c i) (mom m c i) (sqr m c i)
/-- The new first moment as an array. -/
def meanArr : FVec Ideal S2048x3072 .f32 := fun i => mean (F := Ideal) (grad m c i) (mom m c i)
/-- The new second moment as an array. -/
def squareArr : FVec Ideal S2048x3072 .f32 := fun i => square (F := Ideal) (grad m c i) (sqr m c i)

theorem place5 (t : Fin cfg0.N) (r d : Fin 512) : ((cfg0.win 5).blk t).view.emb (ix2 r d) = ix2 (row t r) (col t d) := by
  blk_ext [row, col, (idx t).2.2.2.2.2.1]
theorem place6 (t : Fin cfg0.N) (r d : Fin 512) : ((cfg0.win 6).blk t).view.emb (ix2 r d) = ix2 (row t r) (col t d) := by
  blk_ext [row, col, (idx t).2.2.2.2.2.2.1]
theorem place7 (t : Fin cfg0.N) (r d : Fin 512) : ((cfg0.win 7).blk t).view.emb (ix2 r d) = ix2 (row t r) (col t d) := by
  blk_ext [row, col, (idx t).2.2.2.2.2.2.2.1]
theorem place8 (t : Fin cfg0.N) (r d : Fin 512) : ((cfg0.win 8).blk t).view.emb (ix2 r d) = ix2 (row t r) (col t d) := by
  blk_ext [row, col, (idx t).2.2.2.2.2.2.2.2]

theorem grad_array : (dats m 0 c).arrAt 5 cfg0.N = grad m c := by
  refine (dats m 0 c).arrAt_eq_of_covers 5 _ (by decide +kernel) fun t hf y => ?_
  idx_vars y
  refine Eq.trans ?_ (congrArg (grad m c) (place5 t y0 y1)).symm
  blk_simp
  rw [after0_5]
  unfold out0_5
  frame_out
  exact grad_entry m c t y0 y1

theorem step_array : (dats m 0 c).arrAt 6 cfg0.N = stepArr m c := by
  refine (dats m 0 c).arrAt_eq_of_covers 6 _ (by decide +kernel) fun t hf y => ?_
  idx_vars y
  refine Eq.trans ?_ (congrArg (stepArr m c) (place6 t y0 y1)).symm
  blk_simp
  rw [after0_6]
  unfold out0_6
  frame_out
  exact step_entry m c t y0 y1

theorem mean_array : (dats m 0 c).arrAt 7 cfg0.N = meanArr m c := by
  refine (dats m 0 c).arrAt_eq_of_covers 7 _ (by decide +kernel) fun t hf y => ?_
  idx_vars y
  refine Eq.trans ?_ (congrArg (meanArr m c) (place7 t y0 y1)).symm
  blk_simp
  rw [after0_7]
  unfold out0_7
  frame_out
  exact mean_entry m c t y0 y1

theorem square_array : (dats m 0 c).arrAt 8 cfg0.N = squareArr m c := by
  refine (dats m 0 c).arrAt_eq_of_covers 8 _ (by decide +kernel) fun t hf y => ?_
  idx_vars y
  refine Eq.trans ?_ (congrArg (squareArr m c) (place8 t y0 y1)).symm
  blk_simp
  rw [after0_8]
  unfold out0_8
  frame_out
  exact square_entry m c t y0 y1

end Cert.AdaBwdProof

end
-- ==== Proof.AdaBwdEquation.lean ====
/- The reference of the modulation weight's gradient and optimiser step gives the arrays its kernel gives. -/
module

public import proofs.«01_k».proof.Proof.AdaBwd
public import proofs.«01_k».proof.Proof.Gen.AdaBwdRefIdeal.Run

@[expose] public section

set_option maxRecDepth 16384

noncomputable section

namespace Cert.AdaBwdProof

open Idealize.ShloMosaic Idealize.ShloMosaic.TcCoe Idealize.SL.Sem Cert.AdaBwdRefIdeal

variable (m : (ℓ : Loc AdaBwdIdeal.nD AdaBwdIdeal.τ AdaBwdIdeal.sig) → Buf (Elt Ideal) ℓ)
  (m' : (ℓ : Loc nD τ sig) → Buf (Elt Ideal) ℓ)

/-- The two programs are launched on the same arguments. -/
abbrev Agree (c : Dev AdaBwdIdeal.nD) : Prop :=
  m' ((c.tc : Thread nD τ).loc main_arg0) = m ((c.tc : Thread AdaBwdIdeal.nD AdaBwdIdeal.τ).loc AdaBwdIdeal.main_arg0)
    ∧ m' ((c.tc : Thread nD τ).loc main_arg1) = m ((c.tc : Thread AdaBwdIdeal.nD AdaBwdIdeal.τ).loc AdaBwdIdeal.main_arg1)
    ∧ m' ((c.tc : Thread nD τ).loc main_arg2) = m ((c.tc : Thread AdaBwdIdeal.nD AdaBwdIdeal.τ).loc AdaBwdIdeal.main_arg2)
    ∧ m' ((c.tc : Thread nD τ).loc main_arg3) = m ((c.tc : Thread AdaBwdIdeal.nD AdaBwdIdeal.τ).loc AdaBwdIdeal.main_arg3)
    ∧ m' ((c.tc : Thread nD τ).loc main_arg4) = m ((c.tc : Thread AdaBwdIdeal.nD AdaBwdIdeal.τ).loc AdaBwdIdeal.main_arg4)

/-- The reference's gradient, a transposed product, is the kernel's: only the two factors of each summand change places. -/
theorem grad_eq (c : Dev AdaBwdIdeal.nD) : transpose S2048x3072 [1, 0]
      (Host.dotGeneral (F := Ideal) dot_S16x3072_S16x2048_S3072x2048_0_0_1_1_n_n none (dMod m c) (mulf (cond m c)
        (Host.divf (broadcastInDim S16x2048 ![] Facts₀.bcast_S_S16x2048 (constant S_ .f32 0x3F800000#32))
          (addf (broadcastInDim S16x2048 ![] Facts₀.bcast_S_S16x2048 (constant S_ .f32 0x3F800000#32))
            (Host.exp (Host.negf (cond m c))))))) Facts₀.transposes_S3072x2048_S2048x3072_1_0 = grad m c := by
  funext i
  idx_vars i
  pointwise
  exact Finset.sum_congr rfl fun k _ => mul_comm _ _

set_option maxHeartbeats 4000000 in
/-- The reference gives these arrays. -/
theorem reference (ρ' : Dev nD → PrngReg) (agree : ∀ c, Agree m m' c) :
    θ_run defs (onTc (τ := τ) (main (F := Ideal))) ⟨m', fun _ => 0, ρ'⟩ fun r => ∀ c : Dev nD,
      r.2.mem ((c.tc : Thread nD τ).loc main_v3) = grad m c
      ∧ r.2.mem ((c.tc : Thread nD τ).loc main_v27) = stepArr m c
      ∧ r.2.mem ((c.tc : Thread nD τ).loc main_v8) = meanArr m c
      ∧ r.2.mem ((c.tc : Thread nD τ).loc main_v14) = squareArr m c
      ∧ r.2.mem ((c.tc : Thread nD τ).loc main_arg0) = m' ((c.tc : Thread nD τ).loc main_arg0)
      ∧ r.2.mem ((c.tc : Thread nD τ).loc main_arg1) = m' ((c.tc : Thread nD τ).loc main_arg1)
      ∧ r.2.mem ((c.tc : Thread nD τ).loc main_arg2) = m' ((c.tc : Thread nD τ).loc main_arg2)
      ∧ r.2.mem ((c.tc : Thread nD τ).loc main_arg3) = m' ((c.tc : Thread nD τ).loc main_arg3)
      ∧ r.2.mem ((c.tc : Thread nD τ).loc main_arg4) = m' ((c.tc : Thread nD τ).loc main_arg4) := by
  refine (θ_run _ _ _).mono (fun r h c => ?_) (Value.run m' ρ')
  obtain ⟨a0, a1, a2, a3, a4⟩ := agree c
  obtain ⟨h0, h1, h2, h3, hk⟩ := h c
  have e0 : r.2.mem ((c.tc : Thread nD τ).loc main_v3) = grad m c := by
    rw [h0, a0, a1]
    exact grad_eq m c
  rw [← h0, e0] at h1 h2 h3
  refine ⟨e0, h1.trans ?_, h2.trans ?_, h3.trans ?_, hk⟩
  · rw [a2, a3, a4]
    rfl
  · rw [a3]
    rfl
  · rw [a4]
    rfl

end Cert.AdaBwdProof

end
-- ==== Proof.SmallSumEquation.lean ====
/- The sum over the devices' parts of the small gradients: adding the parts one after another is the sum over the devices. -/
module

public import proofs.«01_k».proof.Proof.Gen.SmallSumIdeal.Value
public import proofs.«01_k».proof.Proof.Gen.SmallSumRefIdeal.Run
public import Idealize.ShloMosaic.Lib.Pointwise
public import Idealize.ShloMosaic.Lib.IdealHost

@[expose] public section

noncomputable section

namespace Cert.SmallSumEq

open Idealize.ShloMosaic SmallSumRefIdeal SmallSumRefIdeal.Gen

variable (x : FVec Ideal SmallSumIdeal.S2048x1024 .f32)

/-- The sum over the devices, of parts stacked by device, is the kernel's chain of seven additions. -/
theorem sum_eq : Host.reduceAdd (shapeCast _ x shapeCasts_S2048x1024_S8x256x1024)
      (constant S_ .f32 0x00000000#32) reducesTo_S8x256x1024_S256x1024_d0 h_S_
    = SmallSumIdeal.Value.G1 (F := Ideal) x := by
  funext i
  idx_vars i
  unfold SmallSumIdeal.Value.G1
  unfold_payloads
  pointwise
  simp only [Fin.sum_univ_eight]
  congr <;> simp

end Cert.SmallSumEq

end
-- ==== Proof.lean ====
/- The claims of this directory, assembled: each `theorem` below is one conjunct of `Cert.Claim`. -/
module

public import proofs.«01_k».proof.Defs
public import proofs.«01_k».proof.Proof.Gen.MlpBwd
public import proofs.«01_k».proof.Proof.Gen.MlpBwd.Skeleton
public import proofs.«01_k».proof.Proof.Gen.MlpBwd.Launch
public import proofs.«01_k».proof.Proof.Gen.MlpBwd.Points
public import proofs.«01_k».proof.Proof.Gen.MlpBwd.Frame
public import proofs.«01_k».proof.Proof.Gen.MlpBwdIdeal
public import proofs.«01_k».proof.Proof.Gen.MlpBwdIdeal.Skeleton
public import proofs.«01_k».proof.Proof.Gen.MlpBwdIdeal.Launch
public import proofs.«01_k».proof.Proof.Gen.MlpBwdIdeal.Points
public import proofs.«01_k».proof.Proof.Gen.MlpBwdIdeal.Frame
public import proofs.«01_k».proof.Proof.Gen.MlpBwdRefIdeal
public import proofs.«01_k».proof.Proof.Gen.MlpBwdIdeal.Value
public import proofs.«01_k».proof.Proof.Gen.MlpBwdRefIdeal.Run
public import proofs.«01_k».proof.Proof.Gen.MlpFwd
public import proofs.«01_k».proof.Proof.Gen.MlpFwd.Skeleton
public import proofs.«01_k».proof.Proof.Gen.MlpFwd.Launch
public import proofs.«01_k».proof.Proof.Gen.MlpFwd.Points
public import proofs.«01_k».proof.Proof.Gen.MlpFwd.Frame
public import proofs.«01_k».proof.Proof.Gen.MlpFwdIdeal
public import proofs.«01_k».proof.Proof.Gen.MlpFwdIdeal.Skeleton
public import proofs.«01_k».proof.Proof.Gen.MlpFwdIdeal.Launch
public import proofs.«01_k».proof.Proof.Gen.MlpFwdIdeal.Points
public import proofs.«01_k».proof.Proof.Gen.MlpFwdIdeal.Frame
public import proofs.«01_k».proof.Proof.Gen.MlpFwdRefIdeal
public import proofs.«01_k».proof.Proof.Gen.MlpFwdIdeal.Value
public import proofs.«01_k».proof.Proof.Gen.MlpFwdRefIdeal.Run
public import proofs.«01_k».proof.Proof.Gen.MlpInBwd
public import proofs.«01_k».proof.Proof.Gen.MlpInBwd.Skeleton
public import proofs.«01_k».proof.Proof.Gen.MlpInBwd.Launch
public import proofs.«01_k».proof.Proof.Gen.MlpInBwd.Points
public import proofs.«01_k».proof.Proof.Gen.MlpInBwd.Frame
public import proofs.«01_k».proof.Proof.Gen.MlpInBwdIdeal
public import proofs.«01_k».proof.Proof.Gen.MlpInBwdIdeal.Skeleton
public import proofs.«01_k».proof.Proof.Gen.MlpInBwdIdeal.Launch
public import proofs.«01_k».proof.Proof.Gen.MlpInBwdIdeal.Points
public import proofs.«01_k».proof.Proof.Gen.MlpInBwdIdeal.Frame
public import proofs.«01_k».proof.Proof.Gen.MlpInBwdRefIdeal
public import proofs.«01_k».proof.Proof.Gen.MlpInBwdIdeal.Value
public import proofs.«01_k».proof.Proof.Gen.MlpInBwdRefIdeal.Run
public import proofs.«01_k».proof.Proof.Gen.InWgrad
public import proofs.«01_k».proof.Proof.Gen.InWgrad.Skeleton
public import proofs.«01_k».proof.Proof.Gen.InWgrad.Launch
public import proofs.«01_k».proof.Proof.Gen.InWgrad.Points
public import proofs.«01_k».proof.Proof.Gen.InWgrad.Frame
public import proofs.«01_k».proof.Proof.Gen.InWgradIdeal
public import proofs.«01_k».proof.Proof.Gen.InWgradIdeal.Skeleton
public import proofs.«01_k».proof.Proof.Gen.InWgradIdeal.Launch
public import proofs.«01_k».proof.Proof.Gen.InWgradIdeal.Points
public import proofs.«01_k».proof.Proof.Gen.InWgradIdeal.Frame
public import proofs.«01_k».proof.Proof.Gen.InWgradRefIdeal
public import proofs.«01_k».proof.Proof.Gen.InWgradIdeal.Value
public import proofs.«01_k».proof.Proof.Gen.InWgradRefIdeal.Run
public import proofs.«01_k».proof.Proof.Gen.OutWgrad
public import proofs.«01_k».proof.Proof.Gen.OutWgrad.Skeleton
public import proofs.«01_k».proof.Proof.Gen.OutWgrad.Launch
public import proofs.«01_k».proof.Proof.Gen.OutWgrad.Points
public import proofs.«01_k».proof.Proof.Gen.OutWgrad.Frame
public import proofs.«01_k».proof.Proof.Gen.OutWgradIdeal
public import proofs.«01_k».proof.Proof.Gen.OutWgradIdeal.Skeleton
public import proofs.«01_k».proof.Proof.Gen.OutWgradIdeal.Launch
public import proofs.«01_k».proof.Proof.Gen.OutWgradIdeal.Points
public import proofs.«01_k».proof.Proof.Gen.OutWgradIdeal.Frame
public import proofs.«01_k».proof.Proof.Gen.OutWgradRefIdeal
public import proofs.«01_k».proof.Proof.Gen.OutWgradIdeal.Value
public import proofs.«01_k».proof.Proof.Gen.OutWgradRefIdeal.Run
public import proofs.«01_k».proof.Proof.Gen.InBwd
public import proofs.«01_k».proof.Proof.Gen.InBwd.Skeleton
public import proofs.«01_k».proof.Proof.Gen.InBwd.Launch
public import proofs.«01_k».proof.Proof.Gen.InBwd.Points
public import proofs.«01_k».proof.Proof.Gen.InBwd.Frame
public import proofs.«01_k».proof.Proof.Gen.InBwdIdeal
public import proofs.«01_k».proof.Proof.Gen.InBwdIdeal.Skeleton
public import proofs.«01_k».proof.Proof.Gen.InBwdIdeal.Launch
public import proofs.«01_k».proof.Proof.Gen.InBwdIdeal.Points
public import proofs.«01_k».proof.Proof.Gen.InBwdIdeal.Frame
public import proofs.«01_k».proof.Proof.Gen.InBwdRefIdeal
public import proofs.«01_k».proof.Proof.Gen.InBwdIdeal.Value
public import proofs.«01_k».proof.Proof.Gen.InBwdRefIdeal.Run
public import proofs.«01_k».proof.Proof.Gen.OutBwd
public import proofs.«01_k».proof.Proof.Gen.OutBwd.Skeleton
public import proofs.«01_k».proof.Proof.Gen.OutBwd.Launch
public import proofs.«01_k».proof.Proof.Gen.OutBwd.Points
public import proofs.«01_k».proof.Proof.Gen.OutBwd.Frame
public import proofs.«01_k».proof.Proof.Gen.OutBwdIdeal
public import proofs.«01_k».proof.Proof.Gen.OutBwdIdeal.Skeleton
public import proofs.«01_k».proof.Proof.Gen.OutBwdIdeal.Launch
public import proofs.«01_k».proof.Proof.Gen.OutBwdIdeal.Points
public import proofs.«01_k».proof.Proof.Gen.OutBwdIdeal.Frame
public import proofs.«01_k».proof.Proof.Gen.OutBwdRefIdeal
public import proofs.«01_k».proof.Proof.Gen.OutBwdIdeal.Value
public import proofs.«01_k».proof.Proof.Gen.OutBwdRefIdeal.Run
public import proofs.«01_k».proof.Proof.Gen.InProj
public import proofs.«01_k».proof.Proof.Gen.InProj.Skeleton
public import proofs.«01_k».proof.Proof.Gen.InProj.Launch
public import proofs.«01_k».proof.Proof.Gen.InProj.Points
public import proofs.«01_k».proof.Proof.Gen.InProj.Frame
public import proofs.«01_k».proof.Proof.Gen.InProjIdeal
public import proofs.«01_k».proof.Proof.Gen.InProjIdeal.Skeleton
public import proofs.«01_k».proof.Proof.Gen.InProjIdeal.Launch
public import proofs.«01_k».proof.Proof.Gen.InProjIdeal.Points
public import proofs.«01_k».proof.Proof.Gen.InProjIdeal.Frame
public import proofs.«01_k».proof.Proof.Gen.InProjRefIdeal
public import proofs.«01_k».proof.Proof.Gen.InProjIdeal.Value
public import proofs.«01_k».proof.Proof.Gen.InProjRefIdeal.Run
public import proofs.«01_k».proof.Proof.Gen.OutProj
public import proofs.«01_k».proof.Proof.Gen.OutProj.Skeleton
public import proofs.«01_k».proof.Proof.Gen.OutProj.Launch
public import proofs.«01_k».proof.Proof.Gen.OutProj.Points
public import proofs.«01_k».proof.Proof.Gen.OutProj.Frame
public import proofs.«01_k».proof.Proof.Gen.OutProjIdeal
public import proofs.«01_k».proof.Proof.Gen.OutProjIdeal.Skeleton
public import proofs.«01_k».proof.Proof.Gen.OutProjIdeal.Launch
public import proofs.«01_k».proof.Proof.Gen.OutProjIdeal.Points
public import proofs.«01_k».proof.Proof.Gen.OutProjIdeal.Frame
public import proofs.«01_k».proof.Proof.Gen.OutProjRefIdeal
public import proofs.«01_k».proof.Proof.Gen.OutProjIdeal.Value
public import proofs.«01_k».proof.Proof.Gen.OutProjRefIdeal.Run
public import proofs.«01_k».proof.Proof.Gen.PreMix
public import proofs.«01_k».proof.Proof.Gen.PreMix.Skeleton
public import proofs.«01_k».proof.Proof.Gen.PreMix.Launch
public import proofs.«01_k».proof.Proof.Gen.PreMix.Points
public import proofs.«01_k».proof.Proof.Gen.PreMix.Frame
public import proofs.«01_k».proof.Proof.Gen.PreMixIdeal
public import proofs.«01_k».proof.Proof.Gen.PreMixIdeal.Skeleton
public import proofs.«01_k».proof.Proof.Gen.PreMixIdeal.Launch
public import proofs.«01_k».proof.Proof.Gen.PreMixIdeal.Points
public import proofs.«01_k».proof.Proof.Gen.PreMixIdeal.Frame
public import proofs.«01_k».proof.Proof.Gen.PreMixRefIdeal
public import proofs.«01_k».proof.Proof.Gen.PreMixIdeal.Value
public import proofs.«01_k».proof.Proof.Gen.PreMixRefIdeal.Run
public import proofs.«01_k».proof.Proof.Gen.PostMix
public import proofs.«01_k».proof.Proof.Gen.PostMix.Skeleton
public import proofs.«01_k».proof.Proof.Gen.PostMix.Launch
public import proofs.«01_k».proof.Proof.Gen.PostMix.Points
public import proofs.«01_k».proof.Proof.Gen.PostMix.Frame
public import proofs.«01_k».proof.Proof.Gen.PostMixIdeal
public import proofs.«01_k».proof.Proof.Gen.PostMixIdeal.Skeleton
public import proofs.«01_k».proof.Proof.Gen.PostMixIdeal.Launch
public import proofs.«01_k».proof.Proof.Gen.PostMixIdeal.Points
public import proofs.«01_k».proof.Proof.Gen.PostMixIdeal.Frame
public import proofs.«01_k».proof.Proof.Gen.PostMixRefIdeal
public import proofs.«01_k».proof.Proof.Gen.PostMixIdeal.Value
public import proofs.«01_k».proof.Proof.Gen.PostMixRefIdeal.Run
public import proofs.«01_k».proof.Proof.Gen.LossHead
public import proofs.«01_k».proof.Proof.Gen.LossHead.Skeleton
public import proofs.«01_k».proof.Proof.Gen.LossHead.Launch
public import proofs.«01_k».proof.Proof.Gen.LossHead.Points
public import proofs.«01_k».proof.Proof.Gen.LossHead.Frame
public import proofs.«01_k».proof.Proof.Gen.LossHeadIdeal
public import proofs.«01_k».proof.Proof.Gen.LossHeadIdeal.Skeleton
public import proofs.«01_k».proof.Proof.Gen.LossHeadIdeal.Launch
public import proofs.«01_k».proof.Proof.Gen.LossHeadIdeal.Points
public import proofs.«01_k».proof.Proof.Gen.LossHeadIdeal.Frame
public import proofs.«01_k».proof.Proof.Gen.LossHeadRefIdeal
public import proofs.«01_k».proof.Proof.Gen.LossHeadIdeal.Value
public import proofs.«01_k».proof.Proof.Gen.LossHeadRefIdeal.Run
public import proofs.«01_k».proof.Proof.Gen.AdamIn
public import proofs.«01_k».proof.Proof.Gen.AdamIn.Skeleton
public import proofs.«01_k».proof.Proof.Gen.AdamIn.Launch
public import proofs.«01_k».proof.Proof.Gen.AdamIn.Points
public import proofs.«01_k».proof.Proof.Gen.AdamIn.Frame
public import proofs.«01_k».proof.Proof.Gen.AdamInIdeal
public import proofs.«01_k».proof.Proof.Gen.AdamInIdeal.Skeleton
public import proofs.«01_k».proof.Proof.Gen.AdamInIdeal.Launch
public import proofs.«01_k».proof.Proof.Gen.AdamInIdeal.Points
public import proofs.«01_k».proof.Proof.Gen.AdamInIdeal.Frame
public import proofs.«01_k».proof.Proof.Gen.AdamInRefIdeal
public import proofs.«01_k».proof.Proof.Gen.AdamInIdeal.Value
public import proofs.«01_k».proof.Proof.Gen.AdamInRefIdeal.Run
public import proofs.«01_k».proof.Proof.Gen.AdamOut
public import proofs.«01_k».proof.Proof.Gen.AdamOut.Skeleton
public import proofs.«01_k».proof.Proof.Gen.AdamOut.Launch
public import proofs.«01_k».proof.Proof.Gen.AdamOut.Points
public import proofs.«01_k».proof.Proof.Gen.AdamOut.Frame
public import proofs.«01_k».proof.Proof.Gen.AdamOutIdeal
public import proofs.«01_k».proof.Proof.Gen.AdamOutIdeal.Skeleton
public import proofs.«01_k».proof.Proof.Gen.AdamOutIdeal.Launch
public import proofs.«01_k».proof.Proof.Gen.AdamOutIdeal.Points
public import proofs.«01_k».proof.Proof.Gen.AdamOutIdeal.Frame
public import proofs.«01_k».proof.Proof.Gen.AdamOutRefIdeal
public import proofs.«01_k».proof.Proof.Gen.AdamOutIdeal.Value
public import proofs.«01_k».proof.Proof.Gen.AdamOutRefIdeal.Run
public import proofs.«01_k».proof.Proof.Gen.AdamMlpIn
public import proofs.«01_k».proof.Proof.Gen.AdamMlpIn.Skeleton
public import proofs.«01_k».proof.Proof.Gen.AdamMlpIn.Launch
public import proofs.«01_k».proof.Proof.Gen.AdamMlpIn.Points
public import proofs.«01_k».proof.Proof.Gen.AdamMlpIn.Frame
public import proofs.«01_k».proof.Proof.Gen.AdamMlpInIdeal
public import proofs.«01_k».proof.Proof.Gen.AdamMlpInIdeal.Skeleton
public import proofs.«01_k».proof.Proof.Gen.AdamMlpInIdeal.Launch
public import proofs.«01_k».proof.Proof.Gen.AdamMlpInIdeal.Points
public import proofs.«01_k».proof.Proof.Gen.AdamMlpInIdeal.Frame
public import proofs.«01_k».proof.Proof.Gen.AdamMlpInRefIdeal
public import proofs.«01_k».proof.Proof.Gen.AdamMlpInIdeal.Value
public import proofs.«01_k».proof.Proof.Gen.AdamMlpInRefIdeal.Run
public import proofs.«01_k».proof.Proof.Gen.AdamMlpOut
public import proofs.«01_k».proof.Proof.Gen.AdamMlpOut.Skeleton
public import proofs.«01_k».proof.Proof.Gen.AdamMlpOut.Launch
public import proofs.«01_k».proof.Proof.Gen.AdamMlpOut.Points
public import proofs.«01_k».proof.Proof.Gen.AdamMlpOut.Frame
public import proofs.«01_k».proof.Proof.Gen.AdamMlpOutIdeal
public import proofs.«01_k».proof.Proof.Gen.AdamMlpOutIdeal.Skeleton
public import proofs.«01_k».proof.Proof.Gen.AdamMlpOutIdeal.Launch
public import proofs.«01_k».proof.Proof.Gen.AdamMlpOutIdeal.Points
public import proofs.«01_k».proof.Proof.Gen.AdamMlpOutIdeal.Frame
public import proofs.«01_k».proof.Proof.Gen.AdamMlpOutRefIdeal
public import proofs.«01_k».proof.Proof.Gen.AdamMlpOutIdeal.Value
public import proofs.«01_k».proof.Proof.Gen.AdamMlpOutRefIdeal.Run
public import proofs.«01_k».proof.Proof.Gen.AdamGlu
public import proofs.«01_k».proof.Proof.Gen.AdamGlu.Skeleton
public import proofs.«01_k».proof.Proof.Gen.AdamGlu.Launch
public import proofs.«01_k».proof.Proof.Gen.AdamGlu.Points
public import proofs.«01_k».proof.Proof.Gen.AdamGlu.Frame
public import proofs.«01_k».proof.Proof.Gen.AdamGluIdeal
public import proofs.«01_k».proof.Proof.Gen.AdamGluIdeal.Skeleton
public import proofs.«01_k».proof.Proof.Gen.AdamGluIdeal.Launch
public import proofs.«01_k».proof.Proof.Gen.AdamGluIdeal.Points
public import proofs.«01_k».proof.Proof.Gen.AdamGluIdeal.Frame
public import proofs.«01_k».proof.Proof.Gen.AdamGluRefIdeal
public import proofs.«01_k».proof.Proof.Gen.AdamGluIdeal.Value
public import proofs.«01_k».proof.Proof.Gen.AdamGluRefIdeal.Run
public import proofs.«01_k».proof.Proof.Gen.AdamSmall
public import proofs.«01_k».proof.Proof.Gen.AdamSmall.Skeleton
public import proofs.«01_k».proof.Proof.Gen.AdamSmall.Launch
public import proofs.«01_k».proof.Proof.Gen.AdamSmall.Points
public import proofs.«01_k».proof.Proof.Gen.AdamSmall.Frame
public import proofs.«01_k».proof.Proof.Gen.AdamSmallIdeal
public import proofs.«01_k».proof.Proof.Gen.AdamSmallIdeal.Skeleton
public import proofs.«01_k».proof.Proof.Gen.AdamSmallIdeal.Launch
public import proofs.«01_k».proof.Proof.Gen.AdamSmallIdeal.Points
public import proofs.«01_k».proof.Proof.Gen.AdamSmallIdeal.Frame
public import proofs.«01_k».proof.Proof.Gen.AdamSmallRefIdeal
public import proofs.«01_k».proof.Proof.Gen.AdamSmallIdeal.Value
public import proofs.«01_k».proof.Proof.Gen.AdamSmallRefIdeal.Run
public import proofs.«01_k».proof.Proof.Gen.AdaBwd
public import proofs.«01_k».proof.Proof.Gen.AdaBwd.Skeleton
public import proofs.«01_k».proof.Proof.Gen.AdaBwd.Launch
public import proofs.«01_k».proof.Proof.Gen.AdaBwd.Points
public import proofs.«01_k».proof.Proof.Gen.AdaBwd.Frame
public import proofs.«01_k».proof.Proof.Gen.AdaBwdIdeal
public import proofs.«01_k».proof.Proof.Gen.AdaBwdIdeal.Skeleton
public import proofs.«01_k».proof.Proof.Gen.AdaBwdIdeal.Launch
public import proofs.«01_k».proof.Proof.Gen.AdaBwdIdeal.Points
public import proofs.«01_k».proof.Proof.Gen.AdaBwdIdeal.Frame
public import proofs.«01_k».proof.Proof.Gen.AdaBwdRefIdeal
public import proofs.«01_k».proof.Proof.Gen.AdaBwdIdeal.Value
public import proofs.«01_k».proof.Proof.Gen.AdaBwdRefIdeal.Run
public import proofs.«01_k».proof.Proof.Gen.SmallSum
public import proofs.«01_k».proof.Proof.Gen.SmallSum.Skeleton
public import proofs.«01_k».proof.Proof.Gen.SmallSum.Launch
public import proofs.«01_k».proof.Proof.Gen.SmallSum.Points
public import proofs.«01_k».proof.Proof.Gen.SmallSum.Frame
public import proofs.«01_k».proof.Proof.Gen.SmallSumIdeal
public import proofs.«01_k».proof.Proof.Gen.SmallSumIdeal.Skeleton
public import proofs.«01_k».proof.Proof.Gen.SmallSumIdeal.Launch
public import proofs.«01_k».proof.Proof.Gen.SmallSumIdeal.Points
public import proofs.«01_k».proof.Proof.Gen.SmallSumIdeal.Frame
public import proofs.«01_k».proof.Proof.Gen.SmallSumRefIdeal
public import proofs.«01_k».proof.Proof.Gen.SmallSumIdeal.Value
public import proofs.«01_k».proof.Proof.Gen.SmallSumRefIdeal.Run
public import proofs.«01_k».proof.Proof.MlpEquation
public import proofs.«01_k».proof.Proof.ProductEquations
public import proofs.«01_k».proof.Proof.PreMixEquation
public import proofs.«01_k».proof.Proof.PostMixEquation
public import proofs.«01_k».proof.Proof.LossHeadEquation
public import proofs.«01_k».proof.Proof.AdamEquations
public import proofs.«01_k».proof.Proof.AdaBwdEquation
public import proofs.«01_k».proof.Proof.SmallSumEquation
public import Idealize.ShloMosaic.Adequacy
public import Idealize.ShloMosaic.Init

@[expose] public section

noncomputable section

namespace Cert.Proof

open Idealize.ShloMosaic Idealize.SL.Sem

/-- The MLP reference runs, keeps its arguments and leaves no signal behind: it is a host program. -/
theorem mlp_ref_frame : Cert.quiescent_MlpBwdRefIdeal (hMlpBwdRefIdeal := Cert.MlpBwdRefIdeal.Gen.facts) := fun m ρ _ =>
  (θ_run Cert.MlpBwdRefIdeal.defs _ _).mono
    (fun r h => ⟨fun c => (h c).2.2.2, Idealize.ShloMosaic.sem_eq_zero_of_no_sems (by decide) r.2⟩)
    (Cert.MlpBwdRefIdeal.Value.run m ρ)

/-- The MLP gradient kernel gives the gradients that the chain rule gives, at extended reals. -/
theorem mlp_algebraic : Cert.algebraic_MlpBwdIdeal_MlpBwdRefIdeal (hMlpBwdIdeal := Cert.MlpBwdIdeal.Gen.facts)
    (hMlpBwdRefIdeal := Cert.MlpBwdRefIdeal.Gen.facts) := by
  intro m ρ m' ρ' _ hagree
  refine ⟨fun c => Cert.MlpProof.daArr m c, fun c => Cert.MlpProof.dw2Arr m c, fun c => Cert.MlpProof.dw1Arr m c, ?_, ?_⟩
  · refine (θ_run _ _ _).mono (fun r h c => ?_) (Cert.MlpBwdIdeal.Value.run_blocks m ρ)
    obtain ⟨h4, h5, h6, hk⟩ := h c
    exact ⟨h4.trans (Cert.MlpProof.da_array m c), h5.trans (Cert.MlpProof.dw2_array m c),
      h6.trans (Cert.MlpProof.dw1_array m c), hk⟩
  · refine (θ_run _ _ _).mono (fun r h c => ?_) (Cert.MlpProof.Ref.run m' ρ')
    have ha : Cert.MlpProof.Agree m m' c := hagree c
    obtain ⟨h4, h5, h6, hk⟩ := h c
    exact ⟨h4.trans (Cert.MlpProof.da_eq ha), h5.trans (Cert.MlpProof.dw2_eq ha), h6.trans (Cert.MlpProof.dw1_eq ha), hk⟩

/-- The reference of the MLP's forward pass is a host program too. -/
theorem mlp_fwd_ref_frame : Cert.quiescent_MlpFwdRefIdeal (hMlpFwdRefIdeal := Cert.MlpFwdRefIdeal.Gen.facts) := fun m ρ _ =>
  (θ_run Cert.MlpFwdRefIdeal.defs _ _).mono
    (fun r h => ⟨fun c => (h c).2.2, Idealize.ShloMosaic.sem_eq_zero_of_no_sems (by decide) r.2⟩)
    (Cert.MlpFwdRefIdeal.Value.run m ρ)

/-- The MLP's forward kernel gives the pre-activation and the output, at extended reals. -/
theorem mlp_fwd_algebraic : Cert.algebraic_MlpFwdIdeal_MlpFwdRefIdeal (hMlpFwdIdeal := Cert.MlpFwdIdeal.Gen.facts)
    (hMlpFwdRefIdeal := Cert.MlpFwdRefIdeal.Gen.facts) := by
  intro m ρ m' ρ' _ hagree
  refine ⟨fun c => Cert.MlpFwdProof.preArr m c, fun c => Cert.MlpFwdProof.outArr m c, ?_, ?_⟩
  · refine (θ_run _ _ _).mono (fun r h c => ?_) (Cert.MlpFwdIdeal.Value.run_blocks m ρ)
    obtain ⟨h3, h4, hk⟩ := h c
    exact ⟨h3.trans (Cert.MlpFwdProof.pre_array m c), h4.trans (Cert.MlpFwdProof.out_array m c), hk⟩
  · refine (θ_run _ _ _).mono (fun r h c => ?_) (Cert.MlpFwdRefIdeal.Value.run m' ρ')
    obtain ⟨a0, a1, a2⟩ := hagree c
    obtain ⟨h3, h4, hk⟩ := h c
    exact ⟨h3.trans (Cert.MlpFwdProof.pre_eq m _ _ c a0 a1), h4.trans (Cert.MlpFwdProof.out_eq m _ _ _ c a0 a1 a2), hk⟩

/-- The reference of the gradient at the MLP's input is a host program too. -/
theorem mlp_in_bwd_ref_frame : Cert.quiescent_MlpInBwdRefIdeal (hMlpInBwdRefIdeal := Cert.MlpInBwdRefIdeal.Gen.facts) := fun m ρ _ =>
  (θ_run Cert.MlpInBwdRefIdeal.defs _ _).mono
    (fun r h => ⟨fun c => (h c).2, Idealize.ShloMosaic.sem_eq_zero_of_no_sems (by decide) r.2⟩)
    (Cert.MlpInBwdRefIdeal.Value.run m ρ)

/-- The kernel of the gradient at the MLP's input gives the derivative of the projection, at extended reals. -/
theorem mlp_in_bwd_algebraic : Cert.algebraic_MlpInBwdIdeal_MlpInBwdRefIdeal (hMlpInBwdIdeal := Cert.MlpInBwdIdeal.Gen.facts)
    (hMlpInBwdRefIdeal := Cert.MlpInBwdRefIdeal.Gen.facts) := by
  intro m ρ m' ρ' _ hagree
  refine ⟨fun c => Cert.MlpInBwdProof.result m c, ?_, ?_⟩
  · refine (θ_run _ _ _).mono (fun r h c => ?_) (Cert.MlpInBwdIdeal.Value.run_blocks m ρ)
    exact ⟨(h c).1.trans (Cert.MlpInBwdProof.array m c), (h c).2⟩
  · refine (θ_run _ _ _).mono (fun r h c => ?_) (Cert.MlpInBwdRefIdeal.Value.run m' ρ')
    obtain ⟨a0, a1⟩ := hagree c
    exact ⟨(h c).1.trans (Cert.MlpInBwdProof.reference_eq m c _ _ a0 a1), (h c).2⟩

/-- The reference of the gradient of the input projection's weight is a host program too. -/
theorem in_wgrad_ref_frame : Cert.quiescent_InWgradRefIdeal (hInWgradRefIdeal := Cert.InWgradRefIdeal.Gen.facts) := fun m ρ _ =>
  (θ_run Cert.InWgradRefIdeal.defs _ _).mono
    (fun r h => ⟨fun c => (h c).2, Idealize.ShloMosaic.sem_eq_zero_of_no_sems (by decide) r.2⟩)
    (Cert.InWgradRefIdeal.Value.run m ρ)

/-- The kernel of the gradient of the input projection's weight gives the derivative of the projection, at extended reals. -/
theorem in_wgrad_algebraic : Cert.algebraic_InWgradIdeal_InWgradRefIdeal (hInWgradIdeal := Cert.InWgradIdeal.Gen.facts)
    (hInWgradRefIdeal := Cert.InWgradRefIdeal.Gen.facts) := by
  intro m ρ m' ρ' _ hagree
  refine ⟨fun c => Cert.InWgradProof.result m c, ?_, ?_⟩
  · refine (θ_run _ _ _).mono (fun r h c => ?_) (Cert.InWgradIdeal.Value.run_blocks m ρ)
    exact ⟨(h c).1.trans (Cert.InWgradProof.array m c), (h c).2⟩
  · refine (θ_run _ _ _).mono (fun r h c => ?_) (Cert.InWgradRefIdeal.Value.run m' ρ')
    obtain ⟨a0, a1⟩ := hagree c
    exact ⟨(h c).1.trans (Cert.InWgradProof.reference_eq m c _ _ a0 a1), (h c).2⟩

/-- The reference of the gradient of the output projection's weight is a host program too. -/
theorem out_wgrad_ref_frame : Cert.quiescent_OutWgradRefIdeal (hOutWgradRefIdeal := Cert.OutWgradRefIdeal.Gen.facts) := fun m ρ _ =>
  (θ_run Cert.OutWgradRefIdeal.defs _ _).mono
    (fun r h => ⟨fun c => (h c).2, Idealize.ShloMosaic.sem_eq_zero_of_no_sems (by decide) r.2⟩)
    (Cert.OutWgradRefIdeal.Value.run m ρ)

/-- The kernel of the gradient of the output projection's weight gives the derivative of the projection, at extended reals. -/
theorem out_wgrad_algebraic : Cert.algebraic_OutWgradIdeal_OutWgradRefIdeal (hOutWgradIdeal := Cert.OutWgradIdeal.Gen.facts)
    (hOutWgradRefIdeal := Cert.OutWgradRefIdeal.Gen.facts) := by
  intro m ρ m' ρ' _ hagree
  refine ⟨fun c => Cert.OutWgradProof.result m c, ?_, ?_⟩
  · refine (θ_run _ _ _).mono (fun r h c => ?_) (Cert.OutWgradIdeal.Value.run_blocks m ρ)
    exact ⟨(h c).1.trans (Cert.OutWgradProof.array m c), (h c).2⟩
  · refine (θ_run _ _ _).mono (fun r h c => ?_) (Cert.OutWgradRefIdeal.Value.run m' ρ')
    obtain ⟨a0, a1⟩ := hagree c
    exact ⟨(h c).1.trans (Cert.OutWgradProof.reference_eq m c _ _ a0 a1), (h c).2⟩

/-- The reference of the gradient at the input projection's input is a host program too. -/
theorem in_bwd_ref_frame : Cert.quiescent_InBwdRefIdeal (hInBwdRefIdeal := Cert.InBwdRefIdeal.Gen.facts) := fun m ρ _ =>
  (θ_run Cert.InBwdRefIdeal.defs _ _).mono
    (fun r h => ⟨fun c => (h c).2, Idealize.ShloMosaic.sem_eq_zero_of_no_sems (by decide) r.2⟩)
    (Cert.InBwdRefIdeal.Value.run m ρ)

/-- The kernel of the gradient at the input projection's input gives the derivative of the projection, at extended reals. -/
theorem in_bwd_algebraic : Cert.algebraic_InBwdIdeal_InBwdRefIdeal (hInBwdIdeal := Cert.InBwdIdeal.Gen.facts)
    (hInBwdRefIdeal := Cert.InBwdRefIdeal.Gen.facts) := by
  intro m ρ m' ρ' _ hagree
  refine ⟨fun c => Cert.InBwdProof.result m c, ?_, ?_⟩
  · refine (θ_run _ _ _).mono (fun r h c => ?_) (Cert.InBwdIdeal.Value.run_blocks m ρ)
    exact ⟨(h c).1.trans (Cert.InBwdProof.array m c), (h c).2⟩
  · refine (θ_run _ _ _).mono (fun r h c => ?_) (Cert.InBwdRefIdeal.Value.run m' ρ')
    obtain ⟨a0, a1⟩ := hagree c
    exact ⟨(h c).1.trans (Cert.InBwdProof.reference_eq m c _ _ a0 a1), (h c).2⟩

/-- The reference of the gradient at the output projection's input is a host program too. -/
theorem out_bwd_ref_frame : Cert.quiescent_OutBwdRefIdeal (hOutBwdRefIdeal := Cert.OutBwdRefIdeal.Gen.facts) := fun m ρ _ =>
  (θ_run Cert.OutBwdRefIdeal.defs _ _).mono
    (fun r h => ⟨fun c => (h c).2, Idealize.ShloMosaic.sem_eq_zero_of_no_sems (by decide) r.2⟩)
    (Cert.OutBwdRefIdeal.Value.run m ρ)

/-- The kernel of the gradient at the output projection's input gives the derivative of the projection, at extended reals. -/
theorem out_bwd_algebraic : Cert.algebraic_OutBwdIdeal_OutBwdRefIdeal (hOutBwdIdeal := Cert.OutBwdIdeal.Gen.facts)
    (hOutBwdRefIdeal := Cert.OutBwdRefIdeal.Gen.facts) := by
  intro m ρ m' ρ' _ hagree
  refine ⟨fun c => Cert.OutBwdProof.result m c, ?_, ?_⟩
  · refine (θ_run _ _ _).mono (fun r h c => ?_) (Cert.OutBwdIdeal.Value.run_blocks m ρ)
    exact ⟨(h c).1.trans (Cert.OutBwdProof.array m c), (h c).2⟩
  · refine (θ_run _ _ _).mono (fun r h c => ?_) (Cert.OutBwdRefIdeal.Value.run m' ρ')
    obtain ⟨a0, a1⟩ := hagree c
    exact ⟨(h c).1.trans (Cert.OutBwdProof.reference_eq m c _ _ a0 a1), (h c).2⟩

/-- The reference of the input projection is a host program too. -/
theorem in_proj_ref_frame : Cert.quiescent_InProjRefIdeal (hInProjRefIdeal := Cert.InProjRefIdeal.Gen.facts) := fun m ρ _ =>
  (θ_run Cert.InProjRefIdeal.defs _ _).mono
    (fun r h => ⟨fun c => (h c).2, Idealize.ShloMosaic.sem_eq_zero_of_no_sems (by decide) r.2⟩)
    (Cert.InProjRefIdeal.Value.run m ρ)

/-- The kernel of the input projection gives the product, at extended reals. -/
theorem in_proj_algebraic : Cert.algebraic_InProjIdeal_InProjRefIdeal (hInProjIdeal := Cert.InProjIdeal.Gen.facts)
    (hInProjRefIdeal := Cert.InProjRefIdeal.Gen.facts) := by
  intro m ρ m' ρ' _ hagree
  refine ⟨fun c => Cert.InProjProof.result m c, ?_, ?_⟩
  · refine (θ_run _ _ _).mono (fun r h c => ?_) (Cert.InProjIdeal.Value.run_blocks m ρ)
    exact ⟨(h c).1.trans (Cert.InProjProof.array m c), (h c).2⟩
  · refine (θ_run _ _ _).mono (fun r h c => ?_) (Cert.InProjRefIdeal.Value.run m' ρ')
    obtain ⟨a0, a1⟩ := hagree c
    exact ⟨(h c).1.trans (Cert.InProjProof.reference_eq m c _ _ a0 a1), (h c).2⟩

/-- The reference of the output projection is a host program too. -/
theorem out_proj_ref_frame : Cert.quiescent_OutProjRefIdeal (hOutProjRefIdeal := Cert.OutProjRefIdeal.Gen.facts) := fun m ρ _ =>
  (θ_run Cert.OutProjRefIdeal.defs _ _).mono
    (fun r h => ⟨fun c => (h c).2, Idealize.ShloMosaic.sem_eq_zero_of_no_sems (by decide) r.2⟩)
    (Cert.OutProjRefIdeal.Value.run m ρ)

/-- The kernel of the output projection gives the product, at extended reals. -/
theorem out_proj_algebraic : Cert.algebraic_OutProjIdeal_OutProjRefIdeal (hOutProjIdeal := Cert.OutProjIdeal.Gen.facts)
    (hOutProjRefIdeal := Cert.OutProjRefIdeal.Gen.facts) := by
  intro m ρ m' ρ' _ hagree
  refine ⟨fun c => Cert.OutProjProof.result m c, ?_, ?_⟩
  · refine (θ_run _ _ _).mono (fun r h c => ?_) (Cert.OutProjIdeal.Value.run_blocks m ρ)
    exact ⟨(h c).1.trans (Cert.OutProjProof.array m c), (h c).2⟩
  · refine (θ_run _ _ _).mono (fun r h c => ?_) (Cert.OutProjRefIdeal.Value.run m' ρ')
    obtain ⟨a0, a1⟩ := hagree c
    exact ⟨(h c).1.trans (Cert.OutProjProof.reference_eq m c _ _ a0 a1), (h c).2⟩

/-- The reference of the gradient through the first norm is a host program too. -/
theorem pre_mix_ref_frame : Cert.quiescent_PreMixRefIdeal (hPreMixRefIdeal := Cert.PreMixRefIdeal.Gen.facts) := fun m ρ _ =>
  (θ_run Cert.PreMixRefIdeal.defs _ _).mono
    (fun r h => ⟨fun c => (h c).2.2.2.2, Idealize.ShloMosaic.sem_eq_zero_of_no_sems (by decide) r.2⟩)
    (Cert.PreMixRefIdeal.Value.run m ρ)

/-- The kernel of the gradient through the first norm gives the chain rule's derivatives, at extended reals. -/
theorem pre_mix_algebraic : Cert.algebraic_PreMixIdeal_PreMixRefIdeal (hPreMixIdeal := Cert.PreMixIdeal.Gen.facts)
    (hPreMixRefIdeal := Cert.PreMixRefIdeal.Gen.facts) := by
  intro m ρ m' ρ' _ hagree
  refine ⟨fun c => Cert.PreMixProof.dxArr m c, fun c => Cert.PreMixProof.dgainArr m c,
    fun c => Cert.PreMixProof.dscaleArr m c, fun c => Cert.PreMixProof.dshiftArr m c, ?_, ?_⟩
  · refine (θ_run _ _ _).mono (fun r h c => ?_) (Cert.PreMixIdeal.Value.run_blocks m ρ)
    obtain ⟨h0, h1, h2, h3, hk⟩ := h c
    exact ⟨h0.trans (Cert.PreMixProof.dx_array m c), h1.trans (Cert.PreMixProof.dgain_array m c),
      h2.trans (Cert.PreMixProof.dscale_array m c), h3.trans (Cert.PreMixProof.dshift_array m c), hk⟩
  · exact Cert.PreMixProof.reference m m' ρ' hagree

/-- The reference of the gradient through the residual sum is a host program too. -/
theorem post_mix_ref_frame : Cert.quiescent_PostMixRefIdeal (hPostMixRefIdeal := Cert.PostMixRefIdeal.Gen.facts) := fun m ρ _ =>
  (θ_run Cert.PostMixRefIdeal.defs _ _).mono
    (fun r h => ⟨fun c => (h c).2.2.2.2.2.2.2, Idealize.ShloMosaic.sem_eq_zero_of_no_sems (by decide) r.2⟩)
    (Cert.PostMixRefIdeal.Value.run m ρ)

/-- The kernel of the gradient through the residual sum gives the chain rule's derivatives, at extended reals. -/
theorem post_mix_algebraic : Cert.algebraic_PostMixIdeal_PostMixRefIdeal (hPostMixIdeal := Cert.PostMixIdeal.Gen.facts)
    (hPostMixRefIdeal := Cert.PostMixRefIdeal.Gen.facts) := by
  intro m ρ m' ρ' _ hagree
  refine ⟨fun c => Cert.PostMixProof.dxArr m c, fun c => Cert.PostMixProof.dmixArr m c,
    fun c => Cert.PostMixProof.dgpostArr m c, fun c => Cert.PostMixProof.dgateArr m c,
    fun c => Cert.PostMixProof.dgpreArr m c, fun c => Cert.PostMixProof.dscaleArr m c,
    fun c => Cert.PostMixProof.dshiftArr m c, ?_, ?_⟩
  · refine (θ_run _ _ _).mono (fun r h c => ?_) (Cert.PostMixIdeal.Value.run_blocks m ρ)
    obtain ⟨h0, h1, h2, h3, h4, h5, h6, hk⟩ := h c
    exact ⟨h0.trans (Cert.PostMixProof.dx_array m c), h1.trans (Cert.PostMixProof.dmix_array m c),
      h2.trans (Cert.PostMixProof.dgpost_array m c), h3.trans (Cert.PostMixProof.dgate_array m c),
      h4.trans (Cert.PostMixProof.dgpre_array m c), h5.trans (Cert.PostMixProof.dscale_array m c),
      h6.trans (Cert.PostMixProof.dshift_array m c), hk⟩
  · exact Cert.PostMixProof.reference m m' ρ' hagree

/-- The reference of the loss and its gradients is a host program too. -/
theorem loss_head_ref_frame : Cert.quiescent_LossHeadRefIdeal (hLossHeadRefIdeal := Cert.LossHeadRefIdeal.Gen.facts) := fun m ρ _ =>
  (θ_run Cert.LossHeadRefIdeal.defs _ _).mono
    (fun r h => ⟨fun c => (h c).2.2.2.2.2, Idealize.ShloMosaic.sem_eq_zero_of_no_sems (by decide) r.2⟩)
    (Cert.LossHeadRefIdeal.Value.run m ρ)

/-- The loss kernel gives the loss and its derivatives, at extended reals. -/
theorem loss_head_algebraic : Cert.algebraic_LossHeadIdeal_LossHeadRefIdeal (hLossHeadIdeal := Cert.LossHeadIdeal.Gen.facts)
    (hLossHeadRefIdeal := Cert.LossHeadRefIdeal.Gen.facts) := by
  intro m ρ m' ρ' _ hagree
  refine ⟨fun c => Cert.LossHeadProof.dxArr m c, fun c => Cert.LossHeadProof.dyArr m c,
    fun c => Cert.LossHeadProof.lossArr m c, fun c => Cert.LossHeadProof.dgainArr m c,
    fun c => Cert.LossHeadProof.dgateArr m c, ?_, ?_⟩
  · refine (θ_run _ _ _).mono (fun r h c => ?_) (Cert.LossHeadIdeal.Value.run_blocks m ρ)
    obtain ⟨h0, h1, h2, h3, h4, hk⟩ := h c
    exact ⟨h0.trans (Cert.LossHeadProof.dx_array m c), h1.trans (Cert.LossHeadProof.dy_array m c),
      h2.trans (Cert.LossHeadProof.loss_array m c), h3.trans (Cert.LossHeadProof.dgain_array m c),
      h4.trans (Cert.LossHeadProof.dgate_array m c), hk⟩
  · exact Cert.LossHeadProof.reference m m' ρ' hagree

/-- The reference of the optimiser's step of the input projection's weight is a host program too. -/
theorem adam_in_ref_frame : Cert.quiescent_AdamInRefIdeal (hAdamInRefIdeal := Cert.AdamInRefIdeal.Gen.facts) := fun m ρ _ =>
  (θ_run Cert.AdamInRefIdeal.defs _ _).mono
    (fun r h => ⟨fun c => (h c).2.2.2, Idealize.ShloMosaic.sem_eq_zero_of_no_sems (by decide) r.2⟩)
    (Cert.AdamInRefIdeal.Value.run m ρ)

/-- The optimiser's kernel gives the step and the moments of the input projection's weight, at extended reals. -/
theorem adam_in_algebraic : Cert.algebraic_AdamInIdeal_AdamInRefIdeal (hAdamInIdeal := Cert.AdamInIdeal.Gen.facts)
    (hAdamInRefIdeal := Cert.AdamInRefIdeal.Gen.facts) := by
  intro m ρ m' ρ' _ hagree
  refine ⟨fun c => Cert.AdamInIdeal.Value.G4 (m ((c.tc : Thread Cert.AdamInIdeal.nD Cert.AdamInIdeal.τ).loc Cert.AdamInIdeal.main_arg0))
      (m ((c.tc : Thread Cert.AdamInIdeal.nD Cert.AdamInIdeal.τ).loc Cert.AdamInIdeal.main_arg1))
      (m ((c.tc : Thread Cert.AdamInIdeal.nD Cert.AdamInIdeal.τ).loc Cert.AdamInIdeal.main_arg2))
      (m ((c.tc : Thread Cert.AdamInIdeal.nD Cert.AdamInIdeal.τ).loc Cert.AdamInIdeal.main_arg3)),
    fun c => Cert.AdamInIdeal.Value.G5 (m ((c.tc : Thread Cert.AdamInIdeal.nD Cert.AdamInIdeal.τ).loc Cert.AdamInIdeal.main_arg1))
      (m ((c.tc : Thread Cert.AdamInIdeal.nD Cert.AdamInIdeal.τ).loc Cert.AdamInIdeal.main_arg2)),
    fun c => Cert.AdamInIdeal.Value.G6 (m ((c.tc : Thread Cert.AdamInIdeal.nD Cert.AdamInIdeal.τ).loc Cert.AdamInIdeal.main_arg1))
      (m ((c.tc : Thread Cert.AdamInIdeal.nD Cert.AdamInIdeal.τ).loc Cert.AdamInIdeal.main_arg3)),
    Cert.AdamInIdeal.Value.run m ρ, ?_⟩
  refine (θ_run _ _ _).mono (fun r h c => ?_) (Cert.AdamInRefIdeal.Value.run m' ρ')
  obtain ⟨a0, a1, a2, a3⟩ := hagree c
  obtain ⟨h0, h1, h2, hk⟩ := h c
  rw [a0, a1, a2, a3] at h0
  rw [a1, a2] at h1
  rw [a1, a3] at h2
  exact ⟨h0.trans (Cert.AdamInProof.step_eq _ _ _ _), h1.trans (Cert.AdamInProof.mean_eq _ _),
    h2.trans (Cert.AdamInProof.square_eq _ _), hk⟩

/-- The reference of the optimiser's step of the output projection's weight is a host program too. -/
theorem adam_out_ref_frame : Cert.quiescent_AdamOutRefIdeal (hAdamOutRefIdeal := Cert.AdamOutRefIdeal.Gen.facts) := fun m ρ _ =>
  (θ_run Cert.AdamOutRefIdeal.defs _ _).mono
    (fun r h => ⟨fun c => (h c).2.2.2, Idealize.ShloMosaic.sem_eq_zero_of_no_sems (by decide) r.2⟩)
    (Cert.AdamOutRefIdeal.Value.run m ρ)

/-- The optimiser's kernel gives the step and the moments of the output projection's weight, at extended reals. -/
theorem adam_out_algebraic : Cert.algebraic_AdamOutIdeal_AdamOutRefIdeal (hAdamOutIdeal := Cert.AdamOutIdeal.Gen.facts)
    (hAdamOutRefIdeal := Cert.AdamOutRefIdeal.Gen.facts) := by
  intro m ρ m' ρ' _ hagree
  refine ⟨fun c => Cert.AdamOutIdeal.Value.G4 (m ((c.tc : Thread Cert.AdamOutIdeal.nD Cert.AdamOutIdeal.τ).loc Cert.AdamOutIdeal.main_arg0))
      (m ((c.tc : Thread Cert.AdamOutIdeal.nD Cert.AdamOutIdeal.τ).loc Cert.AdamOutIdeal.main_arg1))
      (m ((c.tc : Thread Cert.AdamOutIdeal.nD Cert.AdamOutIdeal.τ).loc Cert.AdamOutIdeal.main_arg2))
      (m ((c.tc : Thread Cert.AdamOutIdeal.nD Cert.AdamOutIdeal.τ).loc Cert.AdamOutIdeal.main_arg3)),
    fun c => Cert.AdamOutIdeal.Value.G5 (m ((c.tc : Thread Cert.AdamOutIdeal.nD Cert.AdamOutIdeal.τ).loc Cert.AdamOutIdeal.main_arg1))
      (m ((c.tc : Thread Cert.AdamOutIdeal.nD Cert.AdamOutIdeal.τ).loc Cert.AdamOutIdeal.main_arg2)),
    fun c => Cert.AdamOutIdeal.Value.G6 (m ((c.tc : Thread Cert.AdamOutIdeal.nD Cert.AdamOutIdeal.τ).loc Cert.AdamOutIdeal.main_arg1))
      (m ((c.tc : Thread Cert.AdamOutIdeal.nD Cert.AdamOutIdeal.τ).loc Cert.AdamOutIdeal.main_arg3)),
    Cert.AdamOutIdeal.Value.run m ρ, ?_⟩
  refine (θ_run _ _ _).mono (fun r h c => ?_) (Cert.AdamOutRefIdeal.Value.run m' ρ')
  obtain ⟨a0, a1, a2, a3⟩ := hagree c
  obtain ⟨h0, h1, h2, hk⟩ := h c
  rw [a0, a1, a2, a3] at h0
  rw [a1, a2] at h1
  rw [a1, a3] at h2
  exact ⟨h0.trans (Cert.AdamOutProof.step_eq _ _ _ _), h1.trans (Cert.AdamOutProof.mean_eq _ _),
    h2.trans (Cert.AdamOutProof.square_eq _ _), hk⟩

/-- The reference of the optimiser's step of the MLP's first weight is a host program too. -/
theorem adam_mlp_in_ref_frame : Cert.quiescent_AdamMlpInRefIdeal (hAdamMlpInRefIdeal := Cert.AdamMlpInRefIdeal.Gen.facts) := fun m ρ _ =>
  (θ_run Cert.AdamMlpInRefIdeal.defs _ _).mono
    (fun r h => ⟨fun c => (h c).2.2.2, Idealize.ShloMosaic.sem_eq_zero_of_no_sems (by decide) r.2⟩)
    (Cert.AdamMlpInRefIdeal.Value.run m ρ)

/-- The optimiser's kernel gives the step and the moments of the MLP's first weight, at extended reals. -/
theorem adam_mlp_in_algebraic : Cert.algebraic_AdamMlpInIdeal_AdamMlpInRefIdeal (hAdamMlpInIdeal := Cert.AdamMlpInIdeal.Gen.facts)
    (hAdamMlpInRefIdeal := Cert.AdamMlpInRefIdeal.Gen.facts) := by
  intro m ρ m' ρ' _ hagree
  refine ⟨fun c => Cert.AdamMlpInIdeal.Value.G4 (m ((c.tc : Thread Cert.AdamMlpInIdeal.nD Cert.AdamMlpInIdeal.τ).loc Cert.AdamMlpInIdeal.main_arg0))
      (m ((c.tc : Thread Cert.AdamMlpInIdeal.nD Cert.AdamMlpInIdeal.τ).loc Cert.AdamMlpInIdeal.main_arg1))
      (m ((c.tc : Thread Cert.AdamMlpInIdeal.nD Cert.AdamMlpInIdeal.τ).loc Cert.AdamMlpInIdeal.main_arg2))
      (m ((c.tc : Thread Cert.AdamMlpInIdeal.nD Cert.AdamMlpInIdeal.τ).loc Cert.AdamMlpInIdeal.main_arg3)),
    fun c => Cert.AdamMlpInIdeal.Value.G5 (m ((c.tc : Thread Cert.AdamMlpInIdeal.nD Cert.AdamMlpInIdeal.τ).loc Cert.AdamMlpInIdeal.main_arg1))
      (m ((c.tc : Thread Cert.AdamMlpInIdeal.nD Cert.AdamMlpInIdeal.τ).loc Cert.AdamMlpInIdeal.main_arg2)),
    fun c => Cert.AdamMlpInIdeal.Value.G6 (m ((c.tc : Thread Cert.AdamMlpInIdeal.nD Cert.AdamMlpInIdeal.τ).loc Cert.AdamMlpInIdeal.main_arg1))
      (m ((c.tc : Thread Cert.AdamMlpInIdeal.nD Cert.AdamMlpInIdeal.τ).loc Cert.AdamMlpInIdeal.main_arg3)),
    Cert.AdamMlpInIdeal.Value.run m ρ, ?_⟩
  refine (θ_run _ _ _).mono (fun r h c => ?_) (Cert.AdamMlpInRefIdeal.Value.run m' ρ')
  obtain ⟨a0, a1, a2, a3⟩ := hagree c
  obtain ⟨h0, h1, h2, hk⟩ := h c
  rw [a0, a1, a2, a3] at h0
  rw [a1, a2] at h1
  rw [a1, a3] at h2
  exact ⟨h0.trans (Cert.AdamMlpInProof.step_eq _ _ _ _), h1.trans (Cert.AdamMlpInProof.mean_eq _ _),
    h2.trans (Cert.AdamMlpInProof.square_eq _ _), hk⟩

/-- The reference of the optimiser's step of the MLP's second weight is a host program too. -/
theorem adam_mlp_out_ref_frame : Cert.quiescent_AdamMlpOutRefIdeal (hAdamMlpOutRefIdeal := Cert.AdamMlpOutRefIdeal.Gen.facts) := fun m ρ _ =>
  (θ_run Cert.AdamMlpOutRefIdeal.defs _ _).mono
    (fun r h => ⟨fun c => (h c).2.2.2, Idealize.ShloMosaic.sem_eq_zero_of_no_sems (by decide) r.2⟩)
    (Cert.AdamMlpOutRefIdeal.Value.run m ρ)

/-- The optimiser's kernel gives the step and the moments of the MLP's second weight, at extended reals. -/
theorem adam_mlp_out_algebraic : Cert.algebraic_AdamMlpOutIdeal_AdamMlpOutRefIdeal (hAdamMlpOutIdeal := Cert.AdamMlpOutIdeal.Gen.facts)
    (hAdamMlpOutRefIdeal := Cert.AdamMlpOutRefIdeal.Gen.facts) := by
  intro m ρ m' ρ' _ hagree
  refine ⟨fun c => Cert.AdamMlpOutIdeal.Value.G4 (m ((c.tc : Thread Cert.AdamMlpOutIdeal.nD Cert.AdamMlpOutIdeal.τ).loc Cert.AdamMlpOutIdeal.main_arg0))
      (m ((c.tc : Thread Cert.AdamMlpOutIdeal.nD Cert.AdamMlpOutIdeal.τ).loc Cert.AdamMlpOutIdeal.main_arg1))
      (m ((c.tc : Thread Cert.AdamMlpOutIdeal.nD Cert.AdamMlpOutIdeal.τ).loc Cert.AdamMlpOutIdeal.main_arg2))
      (m ((c.tc : Thread Cert.AdamMlpOutIdeal.nD Cert.AdamMlpOutIdeal.τ).loc Cert.AdamMlpOutIdeal.main_arg3)),
    fun c => Cert.AdamMlpOutIdeal.Value.G5 (m ((c.tc : Thread Cert.AdamMlpOutIdeal.nD Cert.AdamMlpOutIdeal.τ).loc Cert.AdamMlpOutIdeal.main_arg1))
      (m ((c.tc : Thread Cert.AdamMlpOutIdeal.nD Cert.AdamMlpOutIdeal.τ).loc Cert.AdamMlpOutIdeal.main_arg2)),
    fun c => Cert.AdamMlpOutIdeal.Value.G6 (m ((c.tc : Thread Cert.AdamMlpOutIdeal.nD Cert.AdamMlpOutIdeal.τ).loc Cert.AdamMlpOutIdeal.main_arg1))
      (m ((c.tc : Thread Cert.AdamMlpOutIdeal.nD Cert.AdamMlpOutIdeal.τ).loc Cert.AdamMlpOutIdeal.main_arg3)),
    Cert.AdamMlpOutIdeal.Value.run m ρ, ?_⟩
  refine (θ_run _ _ _).mono (fun r h c => ?_) (Cert.AdamMlpOutRefIdeal.Value.run m' ρ')
  obtain ⟨a0, a1, a2, a3⟩ := hagree c
  obtain ⟨h0, h1, h2, hk⟩ := h c
  rw [a0, a1, a2, a3] at h0
  rw [a1, a2] at h1
  rw [a1, a3] at h2
  exact ⟨h0.trans (Cert.AdamMlpOutProof.step_eq _ _ _ _), h1.trans (Cert.AdamMlpOutProof.mean_eq _ _),
    h2.trans (Cert.AdamMlpOutProof.square_eq _ _), hk⟩

/-- The reference of the optimiser's step of the gated unit's weight is a host program too. -/
theorem adam_glu_ref_frame : Cert.quiescent_AdamGluRefIdeal (hAdamGluRefIdeal := Cert.AdamGluRefIdeal.Gen.facts) := fun m ρ _ =>
  (θ_run Cert.AdamGluRefIdeal.defs _ _).mono
    (fun r h => ⟨fun c => (h c).2.2.2, Idealize.ShloMosaic.sem_eq_zero_of_no_sems (by decide) r.2⟩)
    (Cert.AdamGluRefIdeal.Value.run m ρ)

/-- The optimiser's kernel gives the step and the moments of the gated unit's weight, at extended reals. -/
theorem adam_glu_algebraic : Cert.algebraic_AdamGluIdeal_AdamGluRefIdeal (hAdamGluIdeal := Cert.AdamGluIdeal.Gen.facts)
    (hAdamGluRefIdeal := Cert.AdamGluRefIdeal.Gen.facts) := by
  intro m ρ m' ρ' _ hagree
  refine ⟨fun c => Cert.AdamGluIdeal.Value.G4 (m ((c.tc : Thread Cert.AdamGluIdeal.nD Cert.AdamGluIdeal.τ).loc Cert.AdamGluIdeal.main_arg0))
      (m ((c.tc : Thread Cert.AdamGluIdeal.nD Cert.AdamGluIdeal.τ).loc Cert.AdamGluIdeal.main_arg1))
      (m ((c.tc : Thread Cert.AdamGluIdeal.nD Cert.AdamGluIdeal.τ).loc Cert.AdamGluIdeal.main_arg2))
      (m ((c.tc : Thread Cert.AdamGluIdeal.nD Cert.AdamGluIdeal.τ).loc Cert.AdamGluIdeal.main_arg3)),
    fun c => Cert.AdamGluIdeal.Value.G5 (m ((c.tc : Thread Cert.AdamGluIdeal.nD Cert.AdamGluIdeal.τ).loc Cert.AdamGluIdeal.main_arg1))
      (m ((c.tc : Thread Cert.AdamGluIdeal.nD Cert.AdamGluIdeal.τ).loc Cert.AdamGluIdeal.main_arg2)),
    fun c => Cert.AdamGluIdeal.Value.G6 (m ((c.tc : Thread Cert.AdamGluIdeal.nD Cert.AdamGluIdeal.τ).loc Cert.AdamGluIdeal.main_arg1))
      (m ((c.tc : Thread Cert.AdamGluIdeal.nD Cert.AdamGluIdeal.τ).loc Cert.AdamGluIdeal.main_arg3)),
    Cert.AdamGluIdeal.Value.run m ρ, ?_⟩
  refine (θ_run _ _ _).mono (fun r h c => ?_) (Cert.AdamGluRefIdeal.Value.run m' ρ')
  obtain ⟨a0, a1, a2, a3⟩ := hagree c
  obtain ⟨h0, h1, h2, hk⟩ := h c
  rw [a0, a1, a2, a3] at h0
  rw [a1, a2] at h1
  rw [a1, a3] at h2
  exact ⟨h0.trans (Cert.AdamGluProof.step_eq _ _ _ _), h1.trans (Cert.AdamGluProof.mean_eq _ _),
    h2.trans (Cert.AdamGluProof.square_eq _ _), hk⟩

/-- The reference of the optimiser's step of the packed small parameters is a host program too. -/
theorem adam_small_ref_frame : Cert.quiescent_AdamSmallRefIdeal (hAdamSmallRefIdeal := Cert.AdamSmallRefIdeal.Gen.facts) := fun m ρ _ =>
  (θ_run Cert.AdamSmallRefIdeal.defs _ _).mono
    (fun r h => ⟨fun c => (h c).2.2.2, Idealize.ShloMosaic.sem_eq_zero_of_no_sems (by decide) r.2⟩)
    (Cert.AdamSmallRefIdeal.Value.run m ρ)

/-- The optimiser's kernel gives the step and the moments of the packed small parameters, at extended reals. -/
theorem adam_small_algebraic : Cert.algebraic_AdamSmallIdeal_AdamSmallRefIdeal (hAdamSmallIdeal := Cert.AdamSmallIdeal.Gen.facts)
    (hAdamSmallRefIdeal := Cert.AdamSmallRefIdeal.Gen.facts) := by
  intro m ρ m' ρ' _ hagree
  refine ⟨fun c => Cert.AdamSmallIdeal.Value.G4 (m ((c.tc : Thread Cert.AdamSmallIdeal.nD Cert.AdamSmallIdeal.τ).loc Cert.AdamSmallIdeal.main_arg0))
      (m ((c.tc : Thread Cert.AdamSmallIdeal.nD Cert.AdamSmallIdeal.τ).loc Cert.AdamSmallIdeal.main_arg1))
      (m ((c.tc : Thread Cert.AdamSmallIdeal.nD Cert.AdamSmallIdeal.τ).loc Cert.AdamSmallIdeal.main_arg2))
      (m ((c.tc : Thread Cert.AdamSmallIdeal.nD Cert.AdamSmallIdeal.τ).loc Cert.AdamSmallIdeal.main_arg3)),
    fun c => Cert.AdamSmallIdeal.Value.G5 (m ((c.tc : Thread Cert.AdamSmallIdeal.nD Cert.AdamSmallIdeal.τ).loc Cert.AdamSmallIdeal.main_arg1))
      (m ((c.tc : Thread Cert.AdamSmallIdeal.nD Cert.AdamSmallIdeal.τ).loc Cert.AdamSmallIdeal.main_arg2)),
    fun c => Cert.AdamSmallIdeal.Value.G6 (m ((c.tc : Thread Cert.AdamSmallIdeal.nD Cert.AdamSmallIdeal.τ).loc Cert.AdamSmallIdeal.main_arg1))
      (m ((c.tc : Thread Cert.AdamSmallIdeal.nD Cert.AdamSmallIdeal.τ).loc Cert.AdamSmallIdeal.main_arg3)),
    Cert.AdamSmallIdeal.Value.run m ρ, ?_⟩
  refine (θ_run _ _ _).mono (fun r h c => ?_) (Cert.AdamSmallRefIdeal.Value.run m' ρ')
  obtain ⟨a0, a1, a2, a3⟩ := hagree c
  obtain ⟨h0, h1, h2, hk⟩ := h c
  rw [a0, a1, a2, a3] at h0
  rw [a1, a2] at h1
  rw [a1, a3] at h2
  exact ⟨h0.trans (Cert.AdamSmallProof.step_eq _ _ _ _), h1.trans (Cert.AdamSmallProof.mean_eq _ _),
    h2.trans (Cert.AdamSmallProof.square_eq _ _), hk⟩

/-- The reference of the gradient and the optimiser's step of the modulation's weight is a host program too. -/
theorem ada_bwd_ref_frame : Cert.quiescent_AdaBwdRefIdeal (hAdaBwdRefIdeal := Cert.AdaBwdRefIdeal.Gen.facts) := fun m ρ _ =>
  (θ_run Cert.AdaBwdRefIdeal.defs _ _).mono
    (fun r h => ⟨fun c => (h c).2.2.2.2, Idealize.ShloMosaic.sem_eq_zero_of_no_sems (by decide) r.2⟩)
    (Cert.AdaBwdRefIdeal.Value.run m ρ)

/-- The kernel of the modulation's weight gives its gradient, its step and its moments, at extended reals. -/
theorem ada_bwd_algebraic : Cert.algebraic_AdaBwdIdeal_AdaBwdRefIdeal (hAdaBwdIdeal := Cert.AdaBwdIdeal.Gen.facts)
    (hAdaBwdRefIdeal := Cert.AdaBwdRefIdeal.Gen.facts) := by
  intro m ρ m' ρ' _ hagree
  refine ⟨fun c => Cert.AdaBwdProof.grad m c, fun c => Cert.AdaBwdProof.stepArr m c, fun c => Cert.AdaBwdProof.meanArr m c,
    fun c => Cert.AdaBwdProof.squareArr m c, ?_, ?_⟩
  · refine (θ_run _ _ _).mono (fun r h c => ?_) (Cert.AdaBwdIdeal.Value.run_blocks m ρ)
    obtain ⟨h0, h1, h2, h3, hk⟩ := h c
    exact ⟨h0.trans (Cert.AdaBwdProof.grad_array m c), h1.trans (Cert.AdaBwdProof.step_array m c),
      h2.trans (Cert.AdaBwdProof.mean_array m c), h3.trans (Cert.AdaBwdProof.square_array m c), hk⟩
  · exact Cert.AdaBwdProof.reference m m' ρ' hagree

/-- The reference of the devices' sum of the small gradients is a host program too. -/
theorem small_sum_ref_frame : Cert.quiescent_SmallSumRefIdeal (hSmallSumRefIdeal := Cert.SmallSumRefIdeal.Gen.facts) := fun m ρ _ =>
  (θ_run Cert.SmallSumRefIdeal.defs _ _).mono
    (fun r h => ⟨fun c => (h c).2, Idealize.ShloMosaic.sem_eq_zero_of_no_sems (by decide) r.2⟩)
    (Cert.SmallSumRefIdeal.Value.run m ρ)

/-- The kernel that adds the devices' parts of the small gradients gives their sum, at extended reals. -/
theorem small_sum_algebraic : Cert.algebraic_SmallSumIdeal_SmallSumRefIdeal (hSmallSumIdeal := Cert.SmallSumIdeal.Gen.facts)
    (hSmallSumRefIdeal := Cert.SmallSumRefIdeal.Gen.facts) := by
  intro m ρ m' ρ' _ hagree
  refine ⟨fun c => Cert.SmallSumIdeal.Value.G1 (m ((c.tc : Thread Cert.SmallSumIdeal.nD Cert.SmallSumIdeal.τ).loc Cert.SmallSumIdeal.main_arg0)),
    Cert.SmallSumIdeal.Value.run m ρ, ?_⟩
  refine (θ_run _ _ _).mono (fun r h c => ?_) (Cert.SmallSumRefIdeal.Value.run m' ρ')
  obtain ⟨h0, hk⟩ := h c
  rw [hagree c] at h0
  exact ⟨h0.trans (Cert.SmallSumEq.sum_eq _), hk⟩

theorem claim : Cert.Claim := ⟨Cert.MlpBwd.Gen.facts, Cert.MlpBwdIdeal.Gen.facts, Cert.MlpBwdRefIdeal.Gen.facts,
  Cert.MlpFwd.Gen.facts, Cert.MlpFwdIdeal.Gen.facts, Cert.MlpFwdRefIdeal.Gen.facts,
  Cert.MlpInBwd.Gen.facts, Cert.MlpInBwdIdeal.Gen.facts, Cert.MlpInBwdRefIdeal.Gen.facts,
  Cert.InWgrad.Gen.facts, Cert.InWgradIdeal.Gen.facts, Cert.InWgradRefIdeal.Gen.facts,
  Cert.OutWgrad.Gen.facts, Cert.OutWgradIdeal.Gen.facts, Cert.OutWgradRefIdeal.Gen.facts,
  Cert.InBwd.Gen.facts, Cert.InBwdIdeal.Gen.facts, Cert.InBwdRefIdeal.Gen.facts,
  Cert.OutBwd.Gen.facts, Cert.OutBwdIdeal.Gen.facts, Cert.OutBwdRefIdeal.Gen.facts,
  Cert.InProj.Gen.facts, Cert.InProjIdeal.Gen.facts, Cert.InProjRefIdeal.Gen.facts,
  Cert.OutProj.Gen.facts, Cert.OutProjIdeal.Gen.facts, Cert.OutProjRefIdeal.Gen.facts,
  Cert.PreMix.Gen.facts, Cert.PreMixIdeal.Gen.facts, Cert.PreMixRefIdeal.Gen.facts,
  Cert.PostMix.Gen.facts, Cert.PostMixIdeal.Gen.facts, Cert.PostMixRefIdeal.Gen.facts,
  Cert.LossHead.Gen.facts, Cert.LossHeadIdeal.Gen.facts, Cert.LossHeadRefIdeal.Gen.facts,
  Cert.AdamIn.Gen.facts, Cert.AdamInIdeal.Gen.facts, Cert.AdamInRefIdeal.Gen.facts,
  Cert.AdamOut.Gen.facts, Cert.AdamOutIdeal.Gen.facts, Cert.AdamOutRefIdeal.Gen.facts,
  Cert.AdamMlpIn.Gen.facts, Cert.AdamMlpInIdeal.Gen.facts, Cert.AdamMlpInRefIdeal.Gen.facts,
  Cert.AdamMlpOut.Gen.facts, Cert.AdamMlpOutIdeal.Gen.facts, Cert.AdamMlpOutRefIdeal.Gen.facts,
  Cert.AdamGlu.Gen.facts, Cert.AdamGluIdeal.Gen.facts, Cert.AdamGluRefIdeal.Gen.facts,
  Cert.AdamSmall.Gen.facts, Cert.AdamSmallIdeal.Gen.facts, Cert.AdamSmallRefIdeal.Gen.facts,
  Cert.AdaBwd.Gen.facts, Cert.AdaBwdIdeal.Gen.facts, Cert.AdaBwdRefIdeal.Gen.facts,
  Cert.SmallSum.Gen.facts, Cert.SmallSumIdeal.Gen.facts, Cert.SmallSumRefIdeal.Gen.facts,
  fun m ρ _ => Cert.MlpBwd.Gen.frame m ρ, fun m ρ _ => Cert.MlpBwdIdeal.Gen.frame m ρ, mlp_ref_frame,
  fun m ρ _ => Cert.MlpFwd.Gen.frame m ρ, fun m ρ _ => Cert.MlpFwdIdeal.Gen.frame m ρ, mlp_fwd_ref_frame,
  fun m ρ _ => Cert.MlpInBwd.Gen.frame m ρ, fun m ρ _ => Cert.MlpInBwdIdeal.Gen.frame m ρ, mlp_in_bwd_ref_frame,
  fun m ρ _ => Cert.InWgrad.Gen.frame m ρ, fun m ρ _ => Cert.InWgradIdeal.Gen.frame m ρ, in_wgrad_ref_frame,
  fun m ρ _ => Cert.OutWgrad.Gen.frame m ρ, fun m ρ _ => Cert.OutWgradIdeal.Gen.frame m ρ, out_wgrad_ref_frame,
  fun m ρ _ => Cert.InBwd.Gen.frame m ρ, fun m ρ _ => Cert.InBwdIdeal.Gen.frame m ρ, in_bwd_ref_frame,
  fun m ρ _ => Cert.OutBwd.Gen.frame m ρ, fun m ρ _ => Cert.OutBwdIdeal.Gen.frame m ρ, out_bwd_ref_frame,
  fun m ρ _ => Cert.InProj.Gen.frame m ρ, fun m ρ _ => Cert.InProjIdeal.Gen.frame m ρ, in_proj_ref_frame,
  fun m ρ _ => Cert.OutProj.Gen.frame m ρ, fun m ρ _ => Cert.OutProjIdeal.Gen.frame m ρ, out_proj_ref_frame,
  fun m ρ _ => Cert.PreMix.Gen.frame m ρ, fun m ρ _ => Cert.PreMixIdeal.Gen.frame m ρ, pre_mix_ref_frame,
  fun m ρ _ => Cert.PostMix.Gen.frame m ρ, fun m ρ _ => Cert.PostMixIdeal.Gen.frame m ρ, post_mix_ref_frame,
  fun m ρ _ => Cert.LossHead.Gen.frame m ρ, fun m ρ _ => Cert.LossHeadIdeal.Gen.frame m ρ, loss_head_ref_frame,
  fun m ρ _ => Cert.AdamIn.Gen.frame m ρ, fun m ρ _ => Cert.AdamInIdeal.Gen.frame m ρ, adam_in_ref_frame,
  fun m ρ _ => Cert.AdamOut.Gen.frame m ρ, fun m ρ _ => Cert.AdamOutIdeal.Gen.frame m ρ, adam_out_ref_frame,
  fun m ρ _ => Cert.AdamMlpIn.Gen.frame m ρ, fun m ρ _ => Cert.AdamMlpInIdeal.Gen.frame m ρ, adam_mlp_in_ref_frame,
  fun m ρ _ => Cert.AdamMlpOut.Gen.frame m ρ, fun m ρ _ => Cert.AdamMlpOutIdeal.Gen.frame m ρ, adam_mlp_out_ref_frame,
  fun m ρ _ => Cert.AdamGlu.Gen.frame m ρ, fun m ρ _ => Cert.AdamGluIdeal.Gen.frame m ρ, adam_glu_ref_frame,
  fun m ρ _ => Cert.AdamSmall.Gen.frame m ρ, fun m ρ _ => Cert.AdamSmallIdeal.Gen.frame m ρ, adam_small_ref_frame,
  fun m ρ _ => Cert.AdaBwd.Gen.frame m ρ, fun m ρ _ => Cert.AdaBwdIdeal.Gen.frame m ρ, ada_bwd_ref_frame,
  fun m ρ _ => Cert.SmallSum.Gen.frame m ρ, fun m ρ _ => Cert.SmallSumIdeal.Gen.frame m ρ, small_sum_ref_frame,
  trivial, mlp_algebraic,
  trivial, mlp_fwd_algebraic,
  trivial, mlp_in_bwd_algebraic,
  trivial, in_wgrad_algebraic,
  trivial, out_wgrad_algebraic,
  trivial, in_bwd_algebraic,
  trivial, out_bwd_algebraic,
  trivial, in_proj_algebraic,
  trivial, out_proj_algebraic,
  trivial, pre_mix_algebraic,
  trivial, post_mix_algebraic,
  trivial, loss_head_algebraic,
  trivial, adam_in_algebraic,
  trivial, adam_out_algebraic,
  trivial, adam_mlp_in_algebraic,
  trivial, adam_mlp_out_algebraic,
  trivial, adam_glu_algebraic,
  trivial, adam_small_algebraic,
  trivial, ada_bwd_algebraic,
  trivial, small_sum_algebraic⟩

end Cert.Proof

end
